-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_Glu (m : (ℓ : Loc Cert.Glu.nD Cert.Glu.τ Cert.Glu.sig) → Buf (Elt Bits) ℓ) : Prop :=
  True

def Pre_GluIdeal (m : (ℓ : Loc Cert.GluIdeal.nD Cert.GluIdeal.τ Cert.GluIdeal.sig) → Buf (Elt Ideal) ℓ) : Prop :=
  True

def Pre_GluRefIdeal (m : (ℓ : Loc Cert.GluRefIdeal.nD Cert.GluRefIdeal.τ Cert.GluRefIdeal.sig) → Buf (Elt Ideal) ℓ) : Prop :=
  True

def Pre_MemKv (m : (ℓ : Loc Cert.MemKv.nD Cert.MemKv.τ Cert.MemKv.sig) → Buf (Elt Bits) ℓ) : Prop :=
  True

def Pre_MemKvIdeal (m : (ℓ : Loc Cert.MemKvIdeal.nD Cert.MemKvIdeal.τ Cert.MemKvIdeal.sig) → Buf (Elt Ideal) ℓ) : Prop :=
  True

def Pre_MemKvRefIdeal (m : (ℓ : Loc Cert.MemKvRefIdeal.nD Cert.MemKvRefIdeal.τ Cert.MemKvRefIdeal.sig) → Buf (Elt Ideal) ℓ) : Prop :=
  True

def Pre_OddOut (m : (ℓ : Loc Cert.OddOut.nD Cert.OddOut.τ Cert.OddOut.sig) → Buf (Elt Bits) ℓ) : Prop :=
  True

def Pre_OddOutIdeal (m : (ℓ : Loc Cert.OddOutIdeal.nD Cert.OddOutIdeal.τ Cert.OddOutIdeal.sig) → Buf (Elt Ideal) ℓ) : Prop :=
  True

def Pre_OddOutIdeal_finite_memory_scores [hPre_finite_memory_scores : Cert.Pre_finite_memory_scores.Facts] (m : (ℓ : Loc Cert.OddOutIdeal.nD Cert.OddOutIdeal.τ Cert.OddOutIdeal.sig) → Buf (Elt Ideal) ℓ) : Prop :=
  ∀ c : Dev Cert.OddOutIdeal.nD,
    (Cert.Pre_finite_memory_scores.fn (F := Ideal) (m ((c.tc : Thread Cert.OddOutIdeal.nD Cert.OddOutIdeal.τ).loc Cert.OddOutIdeal.main_arg0)) (m ((c.tc : Thread Cert.OddOutIdeal.nD Cert.OddOutIdeal.τ).loc Cert.OddOutIdeal.main_arg1)) (m ((c.tc : Thread Cert.OddOutIdeal.nD Cert.OddOutIdeal.τ).loc Cert.OddOutIdeal.main_arg2)) (m ((c.tc : Thread Cert.OddOutIdeal.nD Cert.OddOutIdeal.τ).loc Cert.OddOutIdeal.main_arg3)) (m ((c.tc : Thread Cert.OddOutIdeal.nD Cert.OddOutIdeal.τ).loc Cert.OddOutIdeal.main_arg4)) (m ((c.tc : Thread Cert.OddOutIdeal.nD Cert.OddOutIdeal.τ).loc Cert.OddOutIdeal.main_arg5)) (m ((c.tc : Thread Cert.OddOutIdeal.nD Cert.OddOutIdeal.τ).loc Cert.OddOutIdeal.main_arg6))) = (fun _ => 1#1)

def Pre_OddOutRefIdeal (m : (ℓ : Loc Cert.OddOutRefIdeal.nD Cert.OddOutRefIdeal.τ Cert.OddOutRefIdeal.sig) → Buf (Elt Ideal) ℓ) : Prop :=
  True

def Pre_OddOutRefIdeal_finite_memory_scores [hPre_finite_memory_scores : Cert.Pre_finite_memory_scores.Facts] (m : (ℓ : Loc Cert.OddOutRefIdeal.nD Cert.OddOutRefIdeal.τ Cert.OddOutRefIdeal.sig) → Buf (Elt Ideal) ℓ) : Prop :=
  ∀ c : Dev Cert.OddOutRefIdeal.nD,
    (Cert.Pre_finite_memory_scores.fn (F := Ideal) (m ((c.tc : Thread Cert.OddOutRefIdeal.nD Cert.OddOutRefIdeal.τ).loc Cert.OddOutRefIdeal.main_arg0)) (m ((c.tc : Thread Cert.OddOutRefIdeal.nD Cert.OddOutRefIdeal.τ).loc Cert.OddOutRefIdeal.main_arg1)) (m ((c.tc : Thread Cert.OddOutRefIdeal.nD Cert.OddOutRefIdeal.τ).loc Cert.OddOutRefIdeal.main_arg2)) (m ((c.tc : Thread Cert.OddOutRefIdeal.nD Cert.OddOutRefIdeal.τ).loc Cert.OddOutRefIdeal.main_arg3)) (m ((c.tc : Thread Cert.OddOutRefIdeal.nD Cert.OddOutRefIdeal.τ).loc Cert.OddOutRefIdeal.main_arg4)) (m ((c.tc : Thread Cert.OddOutRefIdeal.nD Cert.OddOutRefIdeal.τ).loc Cert.OddOutRefIdeal.main_arg5)) (m ((c.tc : Thread Cert.OddOutRefIdeal.nD Cert.OddOutRefIdeal.τ).loc Cert.OddOutRefIdeal.main_arg6))) = (fun _ => 1#1)

def Pre_EvenOut (m : (ℓ : Loc Cert.EvenOut.nD Cert.EvenOut.τ Cert.EvenOut.sig) → Buf (Elt Bits) ℓ) : Prop :=
  True

def Pre_EvenOutIdeal (m : (ℓ : Loc Cert.EvenOutIdeal.nD Cert.EvenOutIdeal.τ Cert.EvenOutIdeal.sig) → Buf (Elt Ideal) ℓ) : Prop :=
  True

def Pre_EvenOutIdeal_finite_memory_scores_even [hPre_finite_memory_scores_even : Cert.Pre_finite_memory_scores_even.Facts] (m : (ℓ : Loc Cert.EvenOutIdeal.nD Cert.EvenOutIdeal.τ Cert.EvenOutIdeal.sig) → Buf (Elt Ideal) ℓ) : Prop :=
  ∀ c : Dev Cert.EvenOutIdeal.nD,
    (Cert.Pre_finite_memory_scores_even.fn (F := Ideal) (m ((c.tc : Thread Cert.EvenOutIdeal.nD Cert.EvenOutIdeal.τ).loc Cert.EvenOutIdeal.main_arg0)) (m ((c.tc : Thread Cert.EvenOutIdeal.nD Cert.EvenOutIdeal.τ).loc Cert.EvenOutIdeal.main_arg1)) (m ((c.tc : Thread Cert.EvenOutIdeal.nD Cert.EvenOutIdeal.τ).loc Cert.EvenOutIdeal.main_arg2)) (m ((c.tc : Thread Cert.EvenOutIdeal.nD Cert.EvenOutIdeal.τ).loc Cert.EvenOutIdeal.main_arg3)) (m ((c.tc : Thread Cert.EvenOutIdeal.nD Cert.EvenOutIdeal.τ).loc Cert.EvenOutIdeal.main_arg4)) (m ((c.tc : Thread Cert.EvenOutIdeal.nD Cert.EvenOutIdeal.τ).loc Cert.EvenOutIdeal.main_arg5)) (m ((c.tc : Thread Cert.EvenOutIdeal.nD Cert.EvenOutIdeal.τ).loc Cert.EvenOutIdeal.main_arg6)) (m ((c.tc : Thread Cert.EvenOutIdeal.nD Cert.EvenOutIdeal.τ).loc Cert.EvenOutIdeal.main_arg7))) = (fun _ => 1#1)

def Pre_EvenOutRefIdeal (m : (ℓ : Loc Cert.EvenOutRefIdeal.nD Cert.EvenOutRefIdeal.τ Cert.EvenOutRefIdeal.sig) → Buf (Elt Ideal) ℓ) : Prop :=
  True

def Pre_EvenOutRefIdeal_finite_memory_scores_even [hPre_finite_memory_scores_even : Cert.Pre_finite_memory_scores_even.Facts] (m : (ℓ : Loc Cert.EvenOutRefIdeal.nD Cert.EvenOutRefIdeal.τ Cert.EvenOutRefIdeal.sig) → Buf (Elt Ideal) ℓ) : Prop :=
  ∀ c : Dev Cert.EvenOutRefIdeal.nD,
    (Cert.Pre_finite_memory_scores_even.fn (F := Ideal) (m ((c.tc : Thread Cert.EvenOutRefIdeal.nD Cert.EvenOutRefIdeal.τ).loc Cert.EvenOutRefIdeal.main_arg0)) (m ((c.tc : Thread Cert.EvenOutRefIdeal.nD Cert.EvenOutRefIdeal.τ).loc Cert.EvenOutRefIdeal.main_arg1)) (m ((c.tc : Thread Cert.EvenOutRefIdeal.nD Cert.EvenOutRefIdeal.τ).loc Cert.EvenOutRefIdeal.main_arg2)) (m ((c.tc : Thread Cert.EvenOutRefIdeal.nD Cert.EvenOutRefIdeal.τ).loc Cert.EvenOutRefIdeal.main_arg3)) (m ((c.tc : Thread Cert.EvenOutRefIdeal.nD Cert.EvenOutRefIdeal.τ).loc Cert.EvenOutRefIdeal.main_arg4)) (m ((c.tc : Thread Cert.EvenOutRefIdeal.nD Cert.EvenOutRefIdeal.τ).loc Cert.EvenOutRefIdeal.main_arg5)) (m ((c.tc : Thread Cert.EvenOutRefIdeal.nD Cert.EvenOutRefIdeal.τ).loc Cert.EvenOutRefIdeal.main_arg6)) (m ((c.tc : Thread Cert.EvenOutRefIdeal.nD Cert.EvenOutRefIdeal.τ).loc Cert.EvenOutRefIdeal.main_arg7))) = (fun _ => 1#1)

def Pre_MlaProj (m : (ℓ : Loc Cert.MlaProj.nD Cert.MlaProj.τ Cert.MlaProj.sig) → Buf (Elt Bits) ℓ) : Prop :=
  True

def Pre_MlaProjIdeal (m : (ℓ : Loc Cert.MlaProjIdeal.nD Cert.MlaProjIdeal.τ Cert.MlaProjIdeal.sig) → Buf (Elt Ideal) ℓ) : Prop :=
  True

def Pre_MlaProjIdeal_zero_padding [hPre_zero_padding : Cert.Pre_zero_padding.Facts] (m : (ℓ : Loc Cert.MlaProjIdeal.nD Cert.MlaProjIdeal.τ Cert.MlaProjIdeal.sig) → Buf (Elt Ideal) ℓ) : Prop :=
  ∀ c : Dev Cert.MlaProjIdeal.nD,
    (Cert.Pre_zero_padding.fn (F := Ideal) (m ((c.tc : Thread Cert.MlaProjIdeal.nD Cert.MlaProjIdeal.τ).loc Cert.MlaProjIdeal.main_arg0)) (m ((c.tc : Thread Cert.MlaProjIdeal.nD Cert.MlaProjIdeal.τ).loc Cert.MlaProjIdeal.main_arg1)) (m ((c.tc : Thread Cert.MlaProjIdeal.nD Cert.MlaProjIdeal.τ).loc Cert.MlaProjIdeal.main_arg2)) (m ((c.tc : Thread Cert.MlaProjIdeal.nD Cert.MlaProjIdeal.τ).loc Cert.MlaProjIdeal.main_arg3)) (m ((c.tc : Thread Cert.MlaProjIdeal.nD Cert.MlaProjIdeal.τ).loc Cert.MlaProjIdeal.main_arg4)) (m ((c.tc : Thread Cert.MlaProjIdeal.nD Cert.MlaProjIdeal.τ).loc Cert.MlaProjIdeal.main_arg5))) = (fun _ => 1#1)

def Pre_MlaProjRefIdeal (m : (ℓ : Loc Cert.MlaProjRefIdeal.nD Cert.MlaProjRefIdeal.τ Cert.MlaProjRefIdeal.sig) → Buf (Elt Ideal) ℓ) : Prop :=
  True

def Pre_MlaProjRefIdeal_zero_padding [hPre_zero_padding : Cert.Pre_zero_padding.Facts] (m : (ℓ : Loc Cert.MlaProjRefIdeal.nD Cert.MlaProjRefIdeal.τ Cert.MlaProjRefIdeal.sig) → Buf (Elt Ideal) ℓ) : Prop :=
  ∀ c : Dev Cert.MlaProjRefIdeal.nD,
    (Cert.Pre_zero_padding.fn (F := Ideal) (m ((c.tc : Thread Cert.MlaProjRefIdeal.nD Cert.MlaProjRefIdeal.τ).loc Cert.MlaProjRefIdeal.main_arg0)) (m ((c.tc : Thread Cert.MlaProjRefIdeal.nD Cert.MlaProjRefIdeal.τ).loc Cert.MlaProjRefIdeal.main_arg1)) (m ((c.tc : Thread Cert.MlaProjRefIdeal.nD Cert.MlaProjRefIdeal.τ).loc Cert.MlaProjRefIdeal.main_arg2)) (m ((c.tc : Thread Cert.MlaProjRefIdeal.nD Cert.MlaProjRefIdeal.τ).loc Cert.MlaProjRefIdeal.main_arg3)) (m ((c.tc : Thread Cert.MlaProjRefIdeal.nD Cert.MlaProjRefIdeal.τ).loc Cert.MlaProjRefIdeal.main_arg4)) (m ((c.tc : Thread Cert.MlaProjRefIdeal.nD Cert.MlaProjRefIdeal.τ).loc Cert.MlaProjRefIdeal.main_arg5))) = (fun _ => 1#1)

def Pre_InConv (m : (ℓ : Loc Cert.InConv.nD Cert.InConv.τ Cert.InConv.sig) → Buf (Elt Bits) ℓ) : Prop :=
  True

def Pre_InConvIdeal (m : (ℓ : Loc Cert.InConvIdeal.nD Cert.InConvIdeal.τ Cert.InConvIdeal.sig) → Buf (Elt Ideal) ℓ) : Prop :=
  True

def Pre_InConvRefIdeal (m : (ℓ : Loc Cert.InConvRefIdeal.nD Cert.InConvRefIdeal.τ Cert.InConvRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1))
      ∧ r.2.sem = fun _ => 0)

def quiescent_Glu [hGlu : Cert.Glu.Facts] : Prop :=
  ∀ (m : (ℓ : Loc Cert.Glu.nD Cert.Glu.τ Cert.Glu.sig) → Buf (Elt Bits) ℓ) (g : Dev Cert.Glu.nD → PrngReg), Pre_Glu m →
    θ_run (Cert.Glu.defs (F := Bits)) (onTc (τ := Cert.Glu.τ) (Cert.Glu.main (F := Bits))) ⟨m, fun _ => 0, g⟩ (fun r => (∀ c : Dev Cert.Glu.nD,
      r.2.mem ((c.tc : Thread Cert.Glu.nD Cert.Glu.τ).loc Cert.Glu.main_arg0) = m ((c.tc : Thread Cert.Glu.nD Cert.Glu.τ).loc Cert.Glu.main_arg0)
      ∧ r.2.mem ((c.tc : Thread Cert.Glu.nD Cert.Glu.τ).loc Cert.Glu.main_arg1) = m ((c.tc : Thread Cert.Glu.nD Cert.Glu.τ).loc Cert.Glu.main_arg1)
      ∧ r.2.mem ((c.tc : Thread Cert.Glu.nD Cert.Glu.τ).loc Cert.Glu.main_arg2) = m ((c.tc : Thread Cert.Glu.nD Cert.Glu.τ).loc Cert.Glu.main_arg2))
      ∧ r.2.sem = fun _ => 0)

def quiescent_GluIdeal [hGluIdeal : Cert.GluIdeal.Facts] : Prop :=
  ∀ (m : (ℓ : Loc Cert.GluIdeal.nD Cert.GluIdeal.τ Cert.GluIdeal.sig) → Buf (Elt Ideal) ℓ) (g : Dev Cert.GluIdeal.nD → PrngReg), Pre_GluIdeal m →
    θ_run (Cert.GluIdeal.defs (F := Ideal)) (onTc (τ := Cert.GluIdeal.τ) (Cert.GluIdeal.main (F := Ideal))) ⟨m, fun _ => 0, g⟩ (fun r => (∀ c : Dev Cert.GluIdeal.nD,
      r.2.mem ((c.tc : Thread Cert.GluIdeal.nD Cert.GluIdeal.τ).loc Cert.GluIdeal.main_arg0) = m ((c.tc : Thread Cert.GluIdeal.nD Cert.GluIdeal.τ).loc Cert.GluIdeal.main_arg0)
      ∧ r.2.mem ((c.tc : Thread Cert.GluIdeal.nD Cert.GluIdeal.τ).loc Cert.GluIdeal.main_arg1) = m ((c.tc : Thread Cert.GluIdeal.nD Cert.GluIdeal.τ).loc Cert.GluIdeal.main_arg1)
      ∧ r.2.mem ((c.tc : Thread Cert.GluIdeal.nD Cert.GluIdeal.τ).loc Cert.GluIdeal.main_arg2) = m ((c.tc : Thread Cert.GluIdeal.nD Cert.GluIdeal.τ).loc Cert.GluIdeal.main_arg2))
      ∧ r.2.sem = fun _ => 0)

def quiescent_GluRefIdeal [hGluRefIdeal : Cert.GluRefIdeal.Facts] : Prop :=
  ∀ (m : (ℓ : Loc Cert.GluRefIdeal.nD Cert.GluRefIdeal.τ Cert.GluRefIdeal.sig) → Buf (Elt Ideal) ℓ) (g : Dev Cert.GluRefIdeal.nD → PrngReg), Pre_GluRefIdeal m →
    θ_run (Cert.GluRefIdeal.defs (F := Ideal)) (onTc (τ := Cert.GluRefIdeal.τ) (Cert.GluRefIdeal.main (F := Ideal))) ⟨m, fun _ => 0, g⟩ (fun r => (∀ c : Dev Cert.GluRefIdeal.nD,
      r.2.mem ((c.tc : Thread Cert.GluRefIdeal.nD Cert.GluRefIdeal.τ).loc Cert.GluRefIdeal.main_arg0) = m ((c.tc : Thread Cert.GluRefIdeal.nD Cert.GluRefIdeal.τ).loc Cert.GluRefIdeal.main_arg0)
      ∧ r.2.mem ((c.tc : Thread Cert.GluRefIdeal.nD Cert.GluRefIdeal.τ).loc Cert.GluRefIdeal.main_arg1) = m ((c.tc : Thread Cert.GluRefIdeal.nD Cert.GluRefIdeal.τ).loc Cert.GluRefIdeal.main_arg1)
      ∧ r.2.mem ((c.tc : Thread Cert.GluRefIdeal.nD Cert.GluRefIdeal.τ).loc Cert.GluRefIdeal.main_arg2) = m ((c.tc : Thread Cert.GluRefIdeal.nD Cert.GluRefIdeal.τ).loc Cert.GluRefIdeal.main_arg2))
      ∧ r.2.sem = fun _ => 0)

def quiescent_MemKv [hMemKv : Cert.MemKv.Facts] : Prop :=
  ∀ (m : (ℓ : Loc Cert.MemKv.nD Cert.MemKv.τ Cert.MemKv.sig) → Buf (Elt Bits) ℓ) (g : Dev Cert.MemKv.nD → PrngReg), Pre_MemKv m →
    θ_run (Cert.MemKv.defs (F := Bits)) (onTc (τ := Cert.MemKv.τ) (Cert.MemKv.main (F := Bits))) ⟨m, fun _ => 0, g⟩ (fun r => (∀ c : Dev Cert.MemKv.nD,
      r.2.mem ((c.tc : Thread Cert.MemKv.nD Cert.MemKv.τ).loc Cert.MemKv.main_arg0) = m ((c.tc : Thread Cert.MemKv.nD Cert.MemKv.τ).loc Cert.MemKv.main_arg0)
      ∧ r.2.mem ((c.tc : Thread Cert.MemKv.nD Cert.MemKv.τ).loc Cert.MemKv.main_arg1) = m ((c.tc : Thread Cert.MemKv.nD Cert.MemKv.τ).loc Cert.MemKv.main_arg1))
      ∧ r.2.sem = fun _ => 0)

def quiescent_MemKvIdeal [hMemKvIdeal : Cert.MemKvIdeal.Facts] : Prop :=
  ∀ (m : (ℓ : Loc Cert.MemKvIdeal.nD Cert.MemKvIdeal.τ Cert.MemKvIdeal.sig) → Buf (Elt Ideal) ℓ) (g : Dev Cert.MemKvIdeal.nD → PrngReg), Pre_MemKvIdeal m →
    θ_run (Cert.MemKvIdeal.defs (F := Ideal)) (onTc (τ := Cert.MemKvIdeal.τ) (Cert.MemKvIdeal.main (F := Ideal))) ⟨m, fun _ => 0, g⟩ (fun r => (∀ c : Dev Cert.MemKvIdeal.nD,
      r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
      ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1))
      ∧ r.2.sem = fun _ => 0)

def quiescent_MemKvRefIdeal [hMemKvRefIdeal : Cert.MemKvRefIdeal.Facts] : Prop :=
  ∀ (m : (ℓ : Loc Cert.MemKvRefIdeal.nD Cert.MemKvRefIdeal.τ Cert.MemKvRefIdeal.sig) → Buf (Elt Ideal) ℓ) (g : Dev Cert.MemKvRefIdeal.nD → PrngReg), Pre_MemKvRefIdeal m →
    θ_run (Cert.MemKvRefIdeal.defs (F := Ideal)) (onTc (τ := Cert.MemKvRefIdeal.τ) (Cert.MemKvRefIdeal.main (F := Ideal))) ⟨m, fun _ => 0, g⟩ (fun r => (∀ c : Dev Cert.MemKvRefIdeal.nD,
      r.2.mem ((c.tc : Thread Cert.MemKvRefIdeal.nD Cert.MemKvRefIdeal.τ).loc Cert.MemKvRefIdeal.main_arg0) = m ((c.tc : Thread Cert.MemKvRefIdeal.nD Cert.MemKvRefIdeal.τ).loc Cert.MemKvRefIdeal.main_arg0)
      ∧ r.2.mem ((c.tc : Thread Cert.MemKvRefIdeal.nD Cert.MemKvRefIdeal.τ).loc Cert.MemKvRefIdeal.main_arg1) = m ((c.tc : Thread Cert.MemKvRefIdeal.nD Cert.MemKvRefIdeal.τ).loc Cert.MemKvRefIdeal.main_arg1))
      ∧ r.2.sem = fun _ => 0)

def quiescent_OddOut [hOddOut : Cert.OddOut.Facts] : Prop :=
  ∀ (m : (ℓ : Loc Cert.OddOut.nD Cert.OddOut.τ Cert.OddOut.sig) → Buf (Elt Bits) ℓ) (g : Dev Cert.OddOut.nD → PrngReg), Pre_OddOut m →
    θ_run (Cert.OddOut.defs (F := Bits)) (onTc (τ := Cert.OddOut.τ) (Cert.OddOut.main (F := Bits))) ⟨m, fun _ => 0, g⟩ (fun r => (∀ c : Dev Cert.OddOut.nD,
      r.2.mem ((c.tc : Thread Cert.OddOut.nD Cert.OddOut.τ).loc Cert.OddOut.main_arg0) = m ((c.tc : Thread Cert.OddOut.nD Cert.OddOut.τ).loc Cert.OddOut.main_arg0)
      ∧ r.2.mem ((c.tc : Thread Cert.OddOut.nD Cert.OddOut.τ).loc Cert.OddOut.main_arg1) = m ((c.tc : Thread Cert.OddOut.nD Cert.OddOut.τ).loc Cert.OddOut.main_arg1)
      ∧ r.2.mem ((c.tc : Thread Cert.OddOut.nD Cert.OddOut.τ).loc Cert.OddOut.main_arg2) = m ((c.tc : Thread Cert.OddOut.nD Cert.OddOut.τ).loc Cert.OddOut.main_arg2)
      ∧ r.2.mem ((c.tc : Thread Cert.OddOut.nD Cert.OddOut.τ).loc Cert.OddOut.main_arg3) = m ((c.tc : Thread Cert.OddOut.nD Cert.OddOut.τ).loc Cert.OddOut.main_arg3)
      ∧ r.2.mem ((c.tc : Thread Cert.OddOut.nD Cert.OddOut.τ).loc Cert.OddOut.main_arg4) = m ((c.tc : Thread Cert.OddOut.nD Cert.OddOut.τ).loc Cert.OddOut.main_arg4)
      ∧ r.2.mem ((c.tc : Thread Cert.OddOut.nD Cert.OddOut.τ).loc Cert.OddOut.main_arg5) = m ((c.tc : Thread Cert.OddOut.nD Cert.OddOut.τ).loc Cert.OddOut.main_arg5)
      ∧ r.2.mem ((c.tc : Thread Cert.OddOut.nD Cert.OddOut.τ).loc Cert.OddOut.main_arg6) = m ((c.tc : Thread Cert.OddOut.nD Cert.OddOut.τ).loc Cert.OddOut.main_arg6))
      ∧ r.2.sem = fun _ => 0)

def quiescent_OddOutIdeal [hOddOutIdeal : Cert.OddOutIdeal.Facts] : Prop :=
  ∀ (m : (ℓ : Loc Cert.OddOutIdeal.nD Cert.OddOutIdeal.τ Cert.OddOutIdeal.sig) → Buf (Elt Ideal) ℓ) (g : Dev Cert.OddOutIdeal.nD → PrngReg), Pre_OddOutIdeal m →
    θ_run (Cert.OddOutIdeal.defs (F := Ideal)) (onTc (τ := Cert.OddOutIdeal.τ) (Cert.OddOutIdeal.main (F := Ideal))) ⟨m, fun _ => 0, g⟩ (fun r => (∀ c : Dev Cert.OddOutIdeal.nD,
      r.2.mem ((c.tc : Thread Cert.OddOutIdeal.nD Cert.OddOutIdeal.τ).loc Cert.OddOutIdeal.main_arg0) = m ((c.tc : Thread Cert.OddOutIdeal.nD Cert.OddOutIdeal.τ).loc Cert.OddOutIdeal.main_arg0)
      ∧ r.2.mem ((c.tc : Thread Cert.OddOutIdeal.nD Cert.OddOutIdeal.τ).loc Cert.OddOutIdeal.main_arg1) = m ((c.tc : Thread Cert.OddOutIdeal.nD Cert.OddOutIdeal.τ).loc Cert.OddOutIdeal.main_arg1)
      ∧ r.2.mem ((c.tc : Thread Cert.OddOutIdeal.nD Cert.OddOutIdeal.τ).loc Cert.OddOutIdeal.main_arg2) = m ((c.tc : Thread Cert.OddOutIdeal.nD Cert.OddOutIdeal.τ).loc Cert.OddOutIdeal.main_arg2)
      ∧ r.2.mem ((c.tc : Thread Cert.OddOutIdeal.nD Cert.OddOutIdeal.τ).loc Cert.OddOutIdeal.main_arg3) = m ((c.tc : Thread Cert.OddOutIdeal.nD Cert.OddOutIdeal.τ).loc Cert.OddOutIdeal.main_arg3)
      ∧ r.2.mem ((c.tc : Thread Cert.OddOutIdeal.nD Cert.OddOutIdeal.τ).loc Cert.OddOutIdeal.main_arg4) = m ((c.tc : Thread Cert.OddOutIdeal.nD Cert.OddOutIdeal.τ).loc Cert.OddOutIdeal.main_arg4)
      ∧ r.2.mem ((c.tc : Thread Cert.OddOutIdeal.nD Cert.OddOutIdeal.τ).loc Cert.OddOutIdeal.main_arg5) = m ((c.tc : Thread Cert.OddOutIdeal.nD Cert.OddOutIdeal.τ).loc Cert.OddOutIdeal.main_arg5)
      ∧ r.2.mem ((c.tc : Thread Cert.OddOutIdeal.nD Cert.OddOutIdeal.τ).loc Cert.OddOutIdeal.main_arg6) = m ((c.tc : Thread Cert.OddOutIdeal.nD Cert.OddOutIdeal.τ).loc Cert.OddOutIdeal.main_arg6))
      ∧ r.2.sem = fun _ => 0)

def quiescent_OddOutIdeal_pre_finite_memory_scores [hOddOutIdeal : Cert.OddOutIdeal.Facts] [hPre_finite_memory_scores : Cert.Pre_finite_memory_scores.Facts] : Prop :=
  ∀ (m : (ℓ : Loc Cert.OddOutIdeal.nD Cert.OddOutIdeal.τ Cert.OddOutIdeal.sig) → Buf (Elt Ideal) ℓ) (g : Dev Cert.OddOutIdeal.nD → PrngReg), Pre_OddOutIdeal_finite_memory_scores m →
    θ_run (Cert.OddOutIdeal.defs (F := Ideal)) (onTc (τ := Cert.OddOutIdeal.τ) (Cert.OddOutIdeal.main (F := Ideal))) ⟨m, fun _ => 0, g⟩ (fun r => (∀ c : Dev Cert.OddOutIdeal.nD,
      r.2.mem ((c.tc : Thread Cert.OddOutIdeal.nD Cert.OddOutIdeal.τ).loc Cert.OddOutIdeal.main_arg0) = m ((c.tc : Thread Cert.OddOutIdeal.nD Cert.OddOutIdeal.τ).loc Cert.OddOutIdeal.main_arg0)
      ∧ r.2.mem ((c.tc : Thread Cert.OddOutIdeal.nD Cert.OddOutIdeal.τ).loc Cert.OddOutIdeal.main_arg1) = m ((c.tc : Thread Cert.OddOutIdeal.nD Cert.OddOutIdeal.τ).loc Cert.OddOutIdeal.main_arg1)
      ∧ r.2.mem ((c.tc : Thread Cert.OddOutIdeal.nD Cert.OddOutIdeal.τ).loc Cert.OddOutIdeal.main_arg2) = m ((c.tc : Thread Cert.OddOutIdeal.nD Cert.OddOutIdeal.τ).loc Cert.OddOutIdeal.main_arg2)
      ∧ r.2.mem ((c.tc : Thread Cert.OddOutIdeal.nD Cert.OddOutIdeal.τ).loc Cert.OddOutIdeal.main_arg3) = m ((c.tc : Thread Cert.OddOutIdeal.nD Cert.OddOutIdeal.τ).loc Cert.OddOutIdeal.main_arg3)
      ∧ r.2.mem ((c.tc : Thread Cert.OddOutIdeal.nD Cert.OddOutIdeal.τ).loc Cert.OddOutIdeal.main_arg4) = m ((c.tc : Thread Cert.OddOutIdeal.nD Cert.OddOutIdeal.τ).loc Cert.OddOutIdeal.main_arg4)
      ∧ r.2.mem ((c.tc : Thread Cert.OddOutIdeal.nD Cert.OddOutIdeal.τ).loc Cert.OddOutIdeal.main_arg5) = m ((c.tc : Thread Cert.OddOutIdeal.nD Cert.OddOutIdeal.τ).loc Cert.OddOutIdeal.main_arg5)
      ∧ r.2.mem ((c.tc : Thread Cert.OddOutIdeal.nD Cert.OddOutIdeal.τ).loc Cert.OddOutIdeal.main_arg6) = m ((c.tc : Thread Cert.OddOutIdeal.nD Cert.OddOutIdeal.τ).loc Cert.OddOutIdeal.main_arg6))
      ∧ r.2.sem = fun _ => 0)

def quiescent_OddOutRefIdeal [hOddOutRefIdeal : Cert.OddOutRefIdeal.Facts] : Prop :=
  ∀ (m : (ℓ : Loc Cert.OddOutRefIdeal.nD Cert.OddOutRefIdeal.τ Cert.OddOutRefIdeal.sig) → Buf (Elt Ideal) ℓ) (g : Dev Cert.OddOutRefIdeal.nD → PrngReg), Pre_OddOutRefIdeal m →
    θ_run (Cert.OddOutRefIdeal.defs (F := Ideal)) (onTc (τ := Cert.OddOutRefIdeal.τ) (Cert.OddOutRefIdeal.main (F := Ideal))) ⟨m, fun _ => 0, g⟩ (fun r => (∀ c : Dev Cert.OddOutRefIdeal.nD,
      r.2.mem ((c.tc : Thread Cert.OddOutRefIdeal.nD Cert.OddOutRefIdeal.τ).loc Cert.OddOutRefIdeal.main_arg0) = m ((c.tc : Thread Cert.OddOutRefIdeal.nD Cert.OddOutRefIdeal.τ).loc Cert.OddOutRefIdeal.main_arg0)
      ∧ r.2.mem ((c.tc : Thread Cert.OddOutRefIdeal.nD Cert.OddOutRefIdeal.τ).loc Cert.OddOutRefIdeal.main_arg1) = m ((c.tc : Thread Cert.OddOutRefIdeal.nD Cert.OddOutRefIdeal.τ).loc Cert.OddOutRefIdeal.main_arg1)
      ∧ r.2.mem ((c.tc : Thread Cert.OddOutRefIdeal.nD Cert.OddOutRefIdeal.τ).loc Cert.OddOutRefIdeal.main_arg2) = m ((c.tc : Thread Cert.OddOutRefIdeal.nD Cert.OddOutRefIdeal.τ).loc Cert.OddOutRefIdeal.main_arg2)
      ∧ r.2.mem ((c.tc : Thread Cert.OddOutRefIdeal.nD Cert.OddOutRefIdeal.τ).loc Cert.OddOutRefIdeal.main_arg3) = m ((c.tc : Thread Cert.OddOutRefIdeal.nD Cert.OddOutRefIdeal.τ).loc Cert.OddOutRefIdeal.main_arg3)
      ∧ r.2.mem ((c.tc : Thread Cert.OddOutRefIdeal.nD Cert.OddOutRefIdeal.τ).loc Cert.OddOutRefIdeal.main_arg4) = m ((c.tc : Thread Cert.OddOutRefIdeal.nD Cert.OddOutRefIdeal.τ).loc Cert.OddOutRefIdeal.main_arg4)
      ∧ r.2.mem ((c.tc : Thread Cert.OddOutRefIdeal.nD Cert.OddOutRefIdeal.τ).loc Cert.OddOutRefIdeal.main_arg5) = m ((c.tc : Thread Cert.OddOutRefIdeal.nD Cert.OddOutRefIdeal.τ).loc Cert.OddOutRefIdeal.main_arg5)
      ∧ r.2.mem ((c.tc : Thread Cert.OddOutRefIdeal.nD Cert.OddOutRefIdeal.τ).loc Cert.OddOutRefIdeal.main_arg6) = m ((c.tc : Thread Cert.OddOutRefIdeal.nD Cert.OddOutRefIdeal.τ).loc Cert.OddOutRefIdeal.main_arg6))
      ∧ r.2.sem = fun _ => 0)

def quiescent_OddOutRefIdeal_pre_finite_memory_scores [hOddOutRefIdeal : Cert.OddOutRefIdeal.Facts] [hPre_finite_memory_scores : Cert.Pre_finite_memory_scores.Facts] : Prop :=
  ∀ (m : (ℓ : Loc Cert.OddOutRefIdeal.nD Cert.OddOutRefIdeal.τ Cert.OddOutRefIdeal.sig) → Buf (Elt Ideal) ℓ) (g : Dev Cert.OddOutRefIdeal.nD → PrngReg), Pre_OddOutRefIdeal_finite_memory_scores m →
    θ_run (Cert.OddOutRefIdeal.defs (F := Ideal)) (onTc (τ := Cert.OddOutRefIdeal.τ) (Cert.OddOutRefIdeal.main (F := Ideal))) ⟨m, fun _ => 0, g⟩ (fun r => (∀ c : Dev Cert.OddOutRefIdeal.nD,
      r.2.mem ((c.tc : Thread Cert.OddOutRefIdeal.nD Cert.OddOutRefIdeal.τ).loc Cert.OddOutRefIdeal.main_arg0) = m ((c.tc : Thread Cert.OddOutRefIdeal.nD Cert.OddOutRefIdeal.τ).loc Cert.OddOutRefIdeal.main_arg0)
      ∧ r.2.mem ((c.tc : Thread Cert.OddOutRefIdeal.nD Cert.OddOutRefIdeal.τ).loc Cert.OddOutRefIdeal.main_arg1) = m ((c.tc : Thread Cert.OddOutRefIdeal.nD Cert.OddOutRefIdeal.τ).loc Cert.OddOutRefIdeal.main_arg1)
      ∧ r.2.mem ((c.tc : Thread Cert.OddOutRefIdeal.nD Cert.OddOutRefIdeal.τ).loc Cert.OddOutRefIdeal.main_arg2) = m ((c.tc : Thread Cert.OddOutRefIdeal.nD Cert.OddOutRefIdeal.τ).loc Cert.OddOutRefIdeal.main_arg2)
      ∧ r.2.mem ((c.tc : Thread Cert.OddOutRefIdeal.nD Cert.OddOutRefIdeal.τ).loc Cert.OddOutRefIdeal.main_arg3) = m ((c.tc : Thread Cert.OddOutRefIdeal.nD Cert.OddOutRefIdeal.τ).loc Cert.OddOutRefIdeal.main_arg3)
      ∧ r.2.mem ((c.tc : Thread Cert.OddOutRefIdeal.nD Cert.OddOutRefIdeal.τ).loc Cert.OddOutRefIdeal.main_arg4) = m ((c.tc : Thread Cert.OddOutRefIdeal.nD Cert.OddOutRefIdeal.τ).loc Cert.OddOutRefIdeal.main_arg4)
      ∧ r.2.mem ((c.tc : Thread Cert.OddOutRefIdeal.nD Cert.OddOutRefIdeal.τ).loc Cert.OddOutRefIdeal.main_arg5) = m ((c.tc : Thread Cert.OddOutRefIdeal.nD Cert.OddOutRefIdeal.τ).loc Cert.OddOutRefIdeal.main_arg5)
      ∧ r.2.mem ((c.tc : Thread Cert.OddOutRefIdeal.nD Cert.OddOutRefIdeal.τ).loc Cert.OddOutRefIdeal.main_arg6) = m ((c.tc : Thread Cert.OddOutRefIdeal.nD Cert.OddOutRefIdeal.τ).loc Cert.OddOutRefIdeal.main_arg6))
      ∧ r.2.sem = fun _ => 0)

def quiescent_EvenOut [hEvenOut : Cert.EvenOut.Facts] : Prop :=
  ∀ (m : (ℓ : Loc Cert.EvenOut.nD Cert.EvenOut.τ Cert.EvenOut.sig) → Buf (Elt Bits) ℓ) (g : Dev Cert.EvenOut.nD → PrngReg), Pre_EvenOut m →
    θ_run (Cert.EvenOut.defs (F := Bits)) (onTc (τ := Cert.EvenOut.τ) (Cert.EvenOut.main (F := Bits))) ⟨m, fun _ => 0, g⟩ (fun r => (∀ c : Dev Cert.EvenOut.nD,
      r.2.mem ((c.tc : Thread Cert.EvenOut.nD Cert.EvenOut.τ).loc Cert.EvenOut.main_arg0) = m ((c.tc : Thread Cert.EvenOut.nD Cert.EvenOut.τ).loc Cert.EvenOut.main_arg0)
      ∧ r.2.mem ((c.tc : Thread Cert.EvenOut.nD Cert.EvenOut.τ).loc Cert.EvenOut.main_arg1) = m ((c.tc : Thread Cert.EvenOut.nD Cert.EvenOut.τ).loc Cert.EvenOut.main_arg1)
      ∧ r.2.mem ((c.tc : Thread Cert.EvenOut.nD Cert.EvenOut.τ).loc Cert.EvenOut.main_arg2) = m ((c.tc : Thread Cert.EvenOut.nD Cert.EvenOut.τ).loc Cert.EvenOut.main_arg2)
      ∧ r.2.mem ((c.tc : Thread Cert.EvenOut.nD Cert.EvenOut.τ).loc Cert.EvenOut.main_arg3) = m ((c.tc : Thread Cert.EvenOut.nD Cert.EvenOut.τ).loc Cert.EvenOut.main_arg3)
      ∧ r.2.mem ((c.tc : Thread Cert.EvenOut.nD Cert.EvenOut.τ).loc Cert.EvenOut.main_arg4) = m ((c.tc : Thread Cert.EvenOut.nD Cert.EvenOut.τ).loc Cert.EvenOut.main_arg4)
      ∧ r.2.mem ((c.tc : Thread Cert.EvenOut.nD Cert.EvenOut.τ).loc Cert.EvenOut.main_arg5) = m ((c.tc : Thread Cert.EvenOut.nD Cert.EvenOut.τ).loc Cert.EvenOut.main_arg5)
      ∧ r.2.mem ((c.tc : Thread Cert.EvenOut.nD Cert.EvenOut.τ).loc Cert.EvenOut.main_arg6) = m ((c.tc : Thread Cert.EvenOut.nD Cert.EvenOut.τ).loc Cert.EvenOut.main_arg6)
      ∧ r.2.mem ((c.tc : Thread Cert.EvenOut.nD Cert.EvenOut.τ).loc Cert.EvenOut.main_arg7) = m ((c.tc : Thread Cert.EvenOut.nD Cert.EvenOut.τ).loc Cert.EvenOut.main_arg7))
      ∧ r.2.sem = fun _ => 0)

def quiescent_EvenOutIdeal [hEvenOutIdeal : Cert.EvenOutIdeal.Facts] : Prop :=
  ∀ (m : (ℓ : Loc Cert.EvenOutIdeal.nD Cert.EvenOutIdeal.τ Cert.EvenOutIdeal.sig) → Buf (Elt Ideal) ℓ) (g : Dev Cert.EvenOutIdeal.nD → PrngReg), Pre_EvenOutIdeal m →
    θ_run (Cert.EvenOutIdeal.defs (F := Ideal)) (onTc (τ := Cert.EvenOutIdeal.τ) (Cert.EvenOutIdeal.main (F := Ideal))) ⟨m, fun _ => 0, g⟩ (fun r => (∀ c : Dev Cert.EvenOutIdeal.nD,
      r.2.mem ((c.tc : Thread Cert.EvenOutIdeal.nD Cert.EvenOutIdeal.τ).loc Cert.EvenOutIdeal.main_arg0) = m ((c.tc : Thread Cert.EvenOutIdeal.nD Cert.EvenOutIdeal.τ).loc Cert.EvenOutIdeal.main_arg0)
      ∧ r.2.mem ((c.tc : Thread Cert.EvenOutIdeal.nD Cert.EvenOutIdeal.τ).loc Cert.EvenOutIdeal.main_arg1) = m ((c.tc : Thread Cert.EvenOutIdeal.nD Cert.EvenOutIdeal.τ).loc Cert.EvenOutIdeal.main_arg1)
      ∧ r.2.mem ((c.tc : Thread Cert.EvenOutIdeal.nD Cert.EvenOutIdeal.τ).loc Cert.EvenOutIdeal.main_arg2) = m ((c.tc : Thread Cert.EvenOutIdeal.nD Cert.EvenOutIdeal.τ).loc Cert.EvenOutIdeal.main_arg2)
      ∧ r.2.mem ((c.tc : Thread Cert.EvenOutIdeal.nD Cert.EvenOutIdeal.τ).loc Cert.EvenOutIdeal.main_arg3) = m ((c.tc : Thread Cert.EvenOutIdeal.nD Cert.EvenOutIdeal.τ).loc Cert.EvenOutIdeal.main_arg3)
      ∧ r.2.mem ((c.tc : Thread Cert.EvenOutIdeal.nD Cert.EvenOutIdeal.τ).loc Cert.EvenOutIdeal.main_arg4) = m ((c.tc : Thread Cert.EvenOutIdeal.nD Cert.EvenOutIdeal.τ).loc Cert.EvenOutIdeal.main_arg4)
      ∧ r.2.mem ((c.tc : Thread Cert.EvenOutIdeal.nD Cert.EvenOutIdeal.τ).loc Cert.EvenOutIdeal.main_arg5) = m ((c.tc : Thread Cert.EvenOutIdeal.nD Cert.EvenOutIdeal.τ).loc Cert.EvenOutIdeal.main_arg5)
      ∧ r.2.mem ((c.tc : Thread Cert.EvenOutIdeal.nD Cert.EvenOutIdeal.τ).loc Cert.EvenOutIdeal.main_arg6) = m ((c.tc : Thread Cert.EvenOutIdeal.nD Cert.EvenOutIdeal.τ).loc Cert.EvenOutIdeal.main_arg6)
      ∧ r.2.mem ((c.tc : Thread Cert.EvenOutIdeal.nD Cert.EvenOutIdeal.τ).loc Cert.EvenOutIdeal.main_arg7) = m ((c.tc : Thread Cert.EvenOutIdeal.nD Cert.EvenOutIdeal.τ).loc Cert.EvenOutIdeal.main_arg7))
      ∧ r.2.sem = fun _ => 0)

def quiescent_EvenOutIdeal_pre_finite_memory_scores_even [hEvenOutIdeal : Cert.EvenOutIdeal.Facts] [hPre_finite_memory_scores_even : Cert.Pre_finite_memory_scores_even.Facts] : Prop :=
  ∀ (m : (ℓ : Loc Cert.EvenOutIdeal.nD Cert.EvenOutIdeal.τ Cert.EvenOutIdeal.sig) → Buf (Elt Ideal) ℓ) (g : Dev Cert.EvenOutIdeal.nD → PrngReg), Pre_EvenOutIdeal_finite_memory_scores_even m →
    θ_run (Cert.EvenOutIdeal.defs (F := Ideal)) (onTc (τ := Cert.EvenOutIdeal.τ) (Cert.EvenOutIdeal.main (F := Ideal))) ⟨m, fun _ => 0, g⟩ (fun r => (∀ c : Dev Cert.EvenOutIdeal.nD,
      r.2.mem ((c.tc : Thread Cert.EvenOutIdeal.nD Cert.EvenOutIdeal.τ).loc Cert.EvenOutIdeal.main_arg0) = m ((c.tc : Thread Cert.EvenOutIdeal.nD Cert.EvenOutIdeal.τ).loc Cert.EvenOutIdeal.main_arg0)
      ∧ r.2.mem ((c.tc : Thread Cert.EvenOutIdeal.nD Cert.EvenOutIdeal.τ).loc Cert.EvenOutIdeal.main_arg1) = m ((c.tc : Thread Cert.EvenOutIdeal.nD Cert.EvenOutIdeal.τ).loc Cert.EvenOutIdeal.main_arg1)
      ∧ r.2.mem ((c.tc : Thread Cert.EvenOutIdeal.nD Cert.EvenOutIdeal.τ).loc Cert.EvenOutIdeal.main_arg2) = m ((c.tc : Thread Cert.EvenOutIdeal.nD Cert.EvenOutIdeal.τ).loc Cert.EvenOutIdeal.main_arg2)
      ∧ r.2.mem ((c.tc : Thread Cert.EvenOutIdeal.nD Cert.EvenOutIdeal.τ).loc Cert.EvenOutIdeal.main_arg3) = m ((c.tc : Thread Cert.EvenOutIdeal.nD Cert.EvenOutIdeal.τ).loc Cert.EvenOutIdeal.main_arg3)
      ∧ r.2.mem ((c.tc : Thread Cert.EvenOutIdeal.nD Cert.EvenOutIdeal.τ).loc Cert.EvenOutIdeal.main_arg4) = m ((c.tc : Thread Cert.EvenOutIdeal.nD Cert.EvenOutIdeal.τ).loc Cert.EvenOutIdeal.main_arg4)
      ∧ r.2.mem ((c.tc : Thread Cert.EvenOutIdeal.nD Cert.EvenOutIdeal.τ).loc Cert.EvenOutIdeal.main_arg5) = m ((c.tc : Thread Cert.EvenOutIdeal.nD Cert.EvenOutIdeal.τ).loc Cert.EvenOutIdeal.main_arg5)
      ∧ r.2.mem ((c.tc : Thread Cert.EvenOutIdeal.nD Cert.EvenOutIdeal.τ).loc Cert.EvenOutIdeal.main_arg6) = m ((c.tc : Thread Cert.EvenOutIdeal.nD Cert.EvenOutIdeal.τ).loc Cert.EvenOutIdeal.main_arg6)
      ∧ r.2.mem ((c.tc : Thread Cert.EvenOutIdeal.nD Cert.EvenOutIdeal.τ).loc Cert.EvenOutIdeal.main_arg7) = m ((c.tc : Thread Cert.EvenOutIdeal.nD Cert.EvenOutIdeal.τ).loc Cert.EvenOutIdeal.main_arg7))
      ∧ r.2.sem = fun _ => 0)

def quiescent_EvenOutRefIdeal [hEvenOutRefIdeal : Cert.EvenOutRefIdeal.Facts] : Prop :=
  ∀ (m : (ℓ : Loc Cert.EvenOutRefIdeal.nD Cert.EvenOutRefIdeal.τ Cert.EvenOutRefIdeal.sig) → Buf (Elt Ideal) ℓ) (g : Dev Cert.EvenOutRefIdeal.nD → PrngReg), Pre_EvenOutRefIdeal m →
    θ_run (Cert.EvenOutRefIdeal.defs (F := Ideal)) (onTc (τ := Cert.EvenOutRefIdeal.τ) (Cert.EvenOutRefIdeal.main (F := Ideal))) ⟨m, fun _ => 0, g⟩ (fun r => (∀ c : Dev Cert.EvenOutRefIdeal.nD,
      r.2.mem ((c.tc : Thread Cert.EvenOutRefIdeal.nD Cert.EvenOutRefIdeal.τ).loc Cert.EvenOutRefIdeal.main_arg0) = m ((c.tc : Thread Cert.EvenOutRefIdeal.nD Cert.EvenOutRefIdeal.τ).loc Cert.EvenOutRefIdeal.main_arg0)
      ∧ r.2.mem ((c.tc : Thread Cert.EvenOutRefIdeal.nD Cert.EvenOutRefIdeal.τ).loc Cert.EvenOutRefIdeal.main_arg1) = m ((c.tc : Thread Cert.EvenOutRefIdeal.nD Cert.EvenOutRefIdeal.τ).loc Cert.EvenOutRefIdeal.main_arg1)
      ∧ r.2.mem ((c.tc : Thread Cert.EvenOutRefIdeal.nD Cert.EvenOutRefIdeal.τ).loc Cert.EvenOutRefIdeal.main_arg2) = m ((c.tc : Thread Cert.EvenOutRefIdeal.nD Cert.EvenOutRefIdeal.τ).loc Cert.EvenOutRefIdeal.main_arg2)
      ∧ r.2.mem ((c.tc : Thread Cert.EvenOutRefIdeal.nD Cert.EvenOutRefIdeal.τ).loc Cert.EvenOutRefIdeal.main_arg3) = m ((c.tc : Thread Cert.EvenOutRefIdeal.nD Cert.EvenOutRefIdeal.τ).loc Cert.EvenOutRefIdeal.main_arg3)
      ∧ r.2.mem ((c.tc : Thread Cert.EvenOutRefIdeal.nD Cert.EvenOutRefIdeal.τ).loc Cert.EvenOutRefIdeal.main_arg4) = m ((c.tc : Thread Cert.EvenOutRefIdeal.nD Cert.EvenOutRefIdeal.τ).loc Cert.EvenOutRefIdeal.main_arg4)
      ∧ r.2.mem ((c.tc : Thread Cert.EvenOutRefIdeal.nD Cert.EvenOutRefIdeal.τ).loc Cert.EvenOutRefIdeal.main_arg5) = m ((c.tc : Thread Cert.EvenOutRefIdeal.nD Cert.EvenOutRefIdeal.τ).loc Cert.EvenOutRefIdeal.main_arg5)
      ∧ r.2.mem ((c.tc : Thread Cert.EvenOutRefIdeal.nD Cert.EvenOutRefIdeal.τ).loc Cert.EvenOutRefIdeal.main_arg6) = m ((c.tc : Thread Cert.EvenOutRefIdeal.nD Cert.EvenOutRefIdeal.τ).loc Cert.EvenOutRefIdeal.main_arg6)
      ∧ r.2.mem ((c.tc : Thread Cert.EvenOutRefIdeal.nD Cert.EvenOutRefIdeal.τ).loc Cert.EvenOutRefIdeal.main_arg7) = m ((c.tc : Thread Cert.EvenOutRefIdeal.nD Cert.EvenOutRefIdeal.τ).loc Cert.EvenOutRefIdeal.main_arg7))
      ∧ r.2.sem = fun _ => 0)

def quiescent_EvenOutRefIdeal_pre_finite_memory_scores_even [hEvenOutRefIdeal : Cert.EvenOutRefIdeal.Facts] [hPre_finite_memory_scores_even : Cert.Pre_finite_memory_scores_even.Facts] : Prop :=
  ∀ (m : (ℓ : Loc Cert.EvenOutRefIdeal.nD Cert.EvenOutRefIdeal.τ Cert.EvenOutRefIdeal.sig) → Buf (Elt Ideal) ℓ) (g : Dev Cert.EvenOutRefIdeal.nD → PrngReg), Pre_EvenOutRefIdeal_finite_memory_scores_even m →
    θ_run (Cert.EvenOutRefIdeal.defs (F := Ideal)) (onTc (τ := Cert.EvenOutRefIdeal.τ) (Cert.EvenOutRefIdeal.main (F := Ideal))) ⟨m, fun _ => 0, g⟩ (fun r => (∀ c : Dev Cert.EvenOutRefIdeal.nD,
      r.2.mem ((c.tc : Thread Cert.EvenOutRefIdeal.nD Cert.EvenOutRefIdeal.τ).loc Cert.EvenOutRefIdeal.main_arg0) = m ((c.tc : Thread Cert.EvenOutRefIdeal.nD Cert.EvenOutRefIdeal.τ).loc Cert.EvenOutRefIdeal.main_arg0)
      ∧ r.2.mem ((c.tc : Thread Cert.EvenOutRefIdeal.nD Cert.EvenOutRefIdeal.τ).loc Cert.EvenOutRefIdeal.main_arg1) = m ((c.tc : Thread Cert.EvenOutRefIdeal.nD Cert.EvenOutRefIdeal.τ).loc Cert.EvenOutRefIdeal.main_arg1)
      ∧ r.2.mem ((c.tc : Thread Cert.EvenOutRefIdeal.nD Cert.EvenOutRefIdeal.τ).loc Cert.EvenOutRefIdeal.main_arg2) = m ((c.tc : Thread Cert.EvenOutRefIdeal.nD Cert.EvenOutRefIdeal.τ).loc Cert.EvenOutRefIdeal.main_arg2)
      ∧ r.2.mem ((c.tc : Thread Cert.EvenOutRefIdeal.nD Cert.EvenOutRefIdeal.τ).loc Cert.EvenOutRefIdeal.main_arg3) = m ((c.tc : Thread Cert.EvenOutRefIdeal.nD Cert.EvenOutRefIdeal.τ).loc Cert.EvenOutRefIdeal.main_arg3)
      ∧ r.2.mem ((c.tc : Thread Cert.EvenOutRefIdeal.nD Cert.EvenOutRefIdeal.τ).loc Cert.EvenOutRefIdeal.main_arg4) = m ((c.tc : Thread Cert.EvenOutRefIdeal.nD Cert.EvenOutRefIdeal.τ).loc Cert.EvenOutRefIdeal.main_arg4)
      ∧ r.2.mem ((c.tc : Thread Cert.EvenOutRefIdeal.nD Cert.EvenOutRefIdeal.τ).loc Cert.EvenOutRefIdeal.main_arg5) = m ((c.tc : Thread Cert.EvenOutRefIdeal.nD Cert.EvenOutRefIdeal.τ).loc Cert.EvenOutRefIdeal.main_arg5)
      ∧ r.2.mem ((c.tc : Thread Cert.EvenOutRefIdeal.nD Cert.EvenOutRefIdeal.τ).loc Cert.EvenOutRefIdeal.main_arg6) = m ((c.tc : Thread Cert.EvenOutRefIdeal.nD Cert.EvenOutRefIdeal.τ).loc Cert.EvenOutRefIdeal.main_arg6)
      ∧ r.2.mem ((c.tc : Thread Cert.EvenOutRefIdeal.nD Cert.EvenOutRefIdeal.τ).loc Cert.EvenOutRefIdeal.main_arg7) = m ((c.tc : Thread Cert.EvenOutRefIdeal.nD Cert.EvenOutRefIdeal.τ).loc Cert.EvenOutRefIdeal.main_arg7))
      ∧ r.2.sem = fun _ => 0)

def quiescent_MlaProj [hMlaProj : Cert.MlaProj.Facts] : Prop :=
  ∀ (m : (ℓ : Loc Cert.MlaProj.nD Cert.MlaProj.τ Cert.MlaProj.sig) → Buf (Elt Bits) ℓ) (g : Dev Cert.MlaProj.nD → PrngReg), Pre_MlaProj m →
    θ_run (Cert.MlaProj.defs (F := Bits)) (onTc (τ := Cert.MlaProj.τ) (Cert.MlaProj.main (F := Bits))) ⟨m, fun _ => 0, g⟩ (fun r => (∀ c : Dev Cert.MlaProj.nD,
      r.2.mem ((c.tc : Thread Cert.MlaProj.nD Cert.MlaProj.τ).loc Cert.MlaProj.main_arg0) = m ((c.tc : Thread Cert.MlaProj.nD Cert.MlaProj.τ).loc Cert.MlaProj.main_arg0)
      ∧ r.2.mem ((c.tc : Thread Cert.MlaProj.nD Cert.MlaProj.τ).loc Cert.MlaProj.main_arg1) = m ((c.tc : Thread Cert.MlaProj.nD Cert.MlaProj.τ).loc Cert.MlaProj.main_arg1)
      ∧ r.2.mem ((c.tc : Thread Cert.MlaProj.nD Cert.MlaProj.τ).loc Cert.MlaProj.main_arg2) = m ((c.tc : Thread Cert.MlaProj.nD Cert.MlaProj.τ).loc Cert.MlaProj.main_arg2)
      ∧ r.2.mem ((c.tc : Thread Cert.MlaProj.nD Cert.MlaProj.τ).loc Cert.MlaProj.main_arg3) = m ((c.tc : Thread Cert.MlaProj.nD Cert.MlaProj.τ).loc Cert.MlaProj.main_arg3)
      ∧ r.2.mem ((c.tc : Thread Cert.MlaProj.nD Cert.MlaProj.τ).loc Cert.MlaProj.main_arg4) = m ((c.tc : Thread Cert.MlaProj.nD Cert.MlaProj.τ).loc Cert.MlaProj.main_arg4)
      ∧ r.2.mem ((c.tc : Thread Cert.MlaProj.nD Cert.MlaProj.τ).loc Cert.MlaProj.main_arg5) = m ((c.tc : Thread Cert.MlaProj.nD Cert.MlaProj.τ).loc Cert.MlaProj.main_arg5))
      ∧ r.2.sem = fun _ => 0)

def quiescent_MlaProjIdeal [hMlaProjIdeal : Cert.MlaProjIdeal.Facts] : Prop :=
  ∀ (m : (ℓ : Loc Cert.MlaProjIdeal.nD Cert.MlaProjIdeal.τ Cert.MlaProjIdeal.sig) → Buf (Elt Ideal) ℓ) (g : Dev Cert.MlaProjIdeal.nD → PrngReg), Pre_MlaProjIdeal m →
    θ_run (Cert.MlaProjIdeal.defs (F := Ideal)) (onTc (τ := Cert.MlaProjIdeal.τ) (Cert.MlaProjIdeal.main (F := Ideal))) ⟨m, fun _ => 0, g⟩ (fun r => (∀ c : Dev Cert.MlaProjIdeal.nD,
      r.2.mem ((c.tc : Thread Cert.MlaProjIdeal.nD Cert.MlaProjIdeal.τ).loc Cert.MlaProjIdeal.main_arg0) = m ((c.tc : Thread Cert.MlaProjIdeal.nD Cert.MlaProjIdeal.τ).loc Cert.MlaProjIdeal.main_arg0)
      ∧ r.2.mem ((c.tc : Thread Cert.MlaProjIdeal.nD Cert.MlaProjIdeal.τ).loc Cert.MlaProjIdeal.main_arg1) = m ((c.tc : Thread Cert.MlaProjIdeal.nD Cert.MlaProjIdeal.τ).loc Cert.MlaProjIdeal.main_arg1)
      ∧ r.2.mem ((c.tc : Thread Cert.MlaProjIdeal.nD Cert.MlaProjIdeal.τ).loc Cert.MlaProjIdeal.main_arg2) = m ((c.tc : Thread Cert.MlaProjIdeal.nD Cert.MlaProjIdeal.τ).loc Cert.MlaProjIdeal.main_arg2)
      ∧ r.2.mem ((c.tc : Thread Cert.MlaProjIdeal.nD Cert.MlaProjIdeal.τ).loc Cert.MlaProjIdeal.main_arg3) = m ((c.tc : Thread Cert.MlaProjIdeal.nD Cert.MlaProjIdeal.τ).loc Cert.MlaProjIdeal.main_arg3)
      ∧ r.2.mem ((c.tc : Thread Cert.MlaProjIdeal.nD Cert.MlaProjIdeal.τ).loc Cert.MlaProjIdeal.main_arg4) = m ((c.tc : Thread Cert.MlaProjIdeal.nD Cert.MlaProjIdeal.τ).loc Cert.MlaProjIdeal.main_arg4)
      ∧ r.2.mem ((c.tc : Thread Cert.MlaProjIdeal.nD Cert.MlaProjIdeal.τ).loc Cert.MlaProjIdeal.main_arg5) = m ((c.tc : Thread Cert.MlaProjIdeal.nD Cert.MlaProjIdeal.τ).loc Cert.MlaProjIdeal.main_arg5))
      ∧ r.2.sem = fun _ => 0)

def quiescent_MlaProjIdeal_pre_zero_padding [hMlaProjIdeal : Cert.MlaProjIdeal.Facts] [hPre_zero_padding : Cert.Pre_zero_padding.Facts] : Prop :=
  ∀ (m : (ℓ : Loc Cert.MlaProjIdeal.nD Cert.MlaProjIdeal.τ Cert.MlaProjIdeal.sig) → Buf (Elt Ideal) ℓ) (g : Dev Cert.MlaProjIdeal.nD → PrngReg), Pre_MlaProjIdeal_zero_padding m →
    θ_run (Cert.MlaProjIdeal.defs (F := Ideal)) (onTc (τ := Cert.MlaProjIdeal.τ) (Cert.MlaProjIdeal.main (F := Ideal))) ⟨m, fun _ => 0, g⟩ (fun r => (∀ c : Dev Cert.MlaProjIdeal.nD,
      r.2.mem ((c.tc : Thread Cert.MlaProjIdeal.nD Cert.MlaProjIdeal.τ).loc Cert.MlaProjIdeal.main_arg0) = m ((c.tc : Thread Cert.MlaProjIdeal.nD Cert.MlaProjIdeal.τ).loc Cert.MlaProjIdeal.main_arg0)
      ∧ r.2.mem ((c.tc : Thread Cert.MlaProjIdeal.nD Cert.MlaProjIdeal.τ).loc Cert.MlaProjIdeal.main_arg1) = m ((c.tc : Thread Cert.MlaProjIdeal.nD Cert.MlaProjIdeal.τ).loc Cert.MlaProjIdeal.main_arg1)
      ∧ r.2.mem ((c.tc : Thread Cert.MlaProjIdeal.nD Cert.MlaProjIdeal.τ).loc Cert.MlaProjIdeal.main_arg2) = m ((c.tc : Thread Cert.MlaProjIdeal.nD Cert.MlaProjIdeal.τ).loc Cert.MlaProjIdeal.main_arg2)
      ∧ r.2.mem ((c.tc : Thread Cert.MlaProjIdeal.nD Cert.MlaProjIdeal.τ).loc Cert.MlaProjIdeal.main_arg3) = m ((c.tc : Thread Cert.MlaProjIdeal.nD Cert.MlaProjIdeal.τ).loc Cert.MlaProjIdeal.main_arg3)
      ∧ r.2.mem ((c.tc : Thread Cert.MlaProjIdeal.nD Cert.MlaProjIdeal.τ).loc Cert.MlaProjIdeal.main_arg4) = m ((c.tc : Thread Cert.MlaProjIdeal.nD Cert.MlaProjIdeal.τ).loc Cert.MlaProjIdeal.main_arg4)
      ∧ r.2.mem ((c.tc : Thread Cert.MlaProjIdeal.nD Cert.MlaProjIdeal.τ).loc Cert.MlaProjIdeal.main_arg5) = m ((c.tc : Thread Cert.MlaProjIdeal.nD Cert.MlaProjIdeal.τ).loc Cert.MlaProjIdeal.main_arg5))
      ∧ r.2.sem = fun _ => 0)

def quiescent_MlaProjRefIdeal [hMlaProjRefIdeal : Cert.MlaProjRefIdeal.Facts] : Prop :=
  ∀ (m : (ℓ : Loc Cert.MlaProjRefIdeal.nD Cert.MlaProjRefIdeal.τ Cert.MlaProjRefIdeal.sig) → Buf (Elt Ideal) ℓ) (g : Dev Cert.MlaProjRefIdeal.nD → PrngReg), Pre_MlaProjRefIdeal m →
    θ_run (Cert.MlaProjRefIdeal.defs (F := Ideal)) (onTc (τ := Cert.MlaProjRefIdeal.τ) (Cert.MlaProjRefIdeal.main (F := Ideal))) ⟨m, fun _ => 0, g⟩ (fun r => (∀ c : Dev Cert.MlaProjRefIdeal.nD,
      r.2.mem ((c.tc : Thread Cert.MlaProjRefIdeal.nD Cert.MlaProjRefIdeal.τ).loc Cert.MlaProjRefIdeal.main_arg0) = m ((c.tc : Thread Cert.MlaProjRefIdeal.nD Cert.MlaProjRefIdeal.τ).loc Cert.MlaProjRefIdeal.main_arg0)
      ∧ r.2.mem ((c.tc : Thread Cert.MlaProjRefIdeal.nD Cert.MlaProjRefIdeal.τ).loc Cert.MlaProjRefIdeal.main_arg1) = m ((c.tc : Thread Cert.MlaProjRefIdeal.nD Cert.MlaProjRefIdeal.τ).loc Cert.MlaProjRefIdeal.main_arg1)
      ∧ r.2.mem ((c.tc : Thread Cert.MlaProjRefIdeal.nD Cert.MlaProjRefIdeal.τ).loc Cert.MlaProjRefIdeal.main_arg2) = m ((c.tc : Thread Cert.MlaProjRefIdeal.nD Cert.MlaProjRefIdeal.τ).loc Cert.MlaProjRefIdeal.main_arg2)
      ∧ r.2.mem ((c.tc : Thread Cert.MlaProjRefIdeal.nD Cert.MlaProjRefIdeal.τ).loc Cert.MlaProjRefIdeal.main_arg3) = m ((c.tc : Thread Cert.MlaProjRefIdeal.nD Cert.MlaProjRefIdeal.τ).loc Cert.MlaProjRefIdeal.main_arg3)
      ∧ r.2.mem ((c.tc : Thread Cert.MlaProjRefIdeal.nD Cert.MlaProjRefIdeal.τ).loc Cert.MlaProjRefIdeal.main_arg4) = m ((c.tc : Thread Cert.MlaProjRefIdeal.nD Cert.MlaProjRefIdeal.τ).loc Cert.MlaProjRefIdeal.main_arg4)
      ∧ r.2.mem ((c.tc : Thread Cert.MlaProjRefIdeal.nD Cert.MlaProjRefIdeal.τ).loc Cert.MlaProjRefIdeal.main_arg5) = m ((c.tc : Thread Cert.MlaProjRefIdeal.nD Cert.MlaProjRefIdeal.τ).loc Cert.MlaProjRefIdeal.main_arg5))
      ∧ r.2.sem = fun _ => 0)

def quiescent_MlaProjRefIdeal_pre_zero_padding [hMlaProjRefIdeal : Cert.MlaProjRefIdeal.Facts] [hPre_zero_padding : Cert.Pre_zero_padding.Facts] : Prop :=
  ∀ (m : (ℓ : Loc Cert.MlaProjRefIdeal.nD Cert.MlaProjRefIdeal.τ Cert.MlaProjRefIdeal.sig) → Buf (Elt Ideal) ℓ) (g : Dev Cert.MlaProjRefIdeal.nD → PrngReg), Pre_MlaProjRefIdeal_zero_padding m →
    θ_run (Cert.MlaProjRefIdeal.defs (F := Ideal)) (onTc (τ := Cert.MlaProjRefIdeal.τ) (Cert.MlaProjRefIdeal.main (F := Ideal))) ⟨m, fun _ => 0, g⟩ (fun r => (∀ c : Dev Cert.MlaProjRefIdeal.nD,
      r.2.mem ((c.tc : Thread Cert.MlaProjRefIdeal.nD Cert.MlaProjRefIdeal.τ).loc Cert.MlaProjRefIdeal.main_arg0) = m ((c.tc : Thread Cert.MlaProjRefIdeal.nD Cert.MlaProjRefIdeal.τ).loc Cert.MlaProjRefIdeal.main_arg0)
      ∧ r.2.mem ((c.tc : Thread Cert.MlaProjRefIdeal.nD Cert.MlaProjRefIdeal.τ).loc Cert.MlaProjRefIdeal.main_arg1) = m ((c.tc : Thread Cert.MlaProjRefIdeal.nD Cert.MlaProjRefIdeal.τ).loc Cert.MlaProjRefIdeal.main_arg1)
      ∧ r.2.mem ((c.tc : Thread Cert.MlaProjRefIdeal.nD Cert.MlaProjRefIdeal.τ).loc Cert.MlaProjRefIdeal.main_arg2) = m ((c.tc : Thread Cert.MlaProjRefIdeal.nD Cert.MlaProjRefIdeal.τ).loc Cert.MlaProjRefIdeal.main_arg2)
      ∧ r.2.mem ((c.tc : Thread Cert.MlaProjRefIdeal.nD Cert.MlaProjRefIdeal.τ).loc Cert.MlaProjRefIdeal.main_arg3) = m ((c.tc : Thread Cert.MlaProjRefIdeal.nD Cert.MlaProjRefIdeal.τ).loc Cert.MlaProjRefIdeal.main_arg3)
      ∧ r.2.mem ((c.tc : Thread Cert.MlaProjRefIdeal.nD Cert.MlaProjRefIdeal.τ).loc Cert.MlaProjRefIdeal.main_arg4) = m ((c.tc : Thread Cert.MlaProjRefIdeal.nD Cert.MlaProjRefIdeal.τ).loc Cert.MlaProjRefIdeal.main_arg4)
      ∧ r.2.mem ((c.tc : Thread Cert.MlaProjRefIdeal.nD Cert.MlaProjRefIdeal.τ).loc Cert.MlaProjRefIdeal.main_arg5) = m ((c.tc : Thread Cert.MlaProjRefIdeal.nD Cert.MlaProjRefIdeal.τ).loc Cert.MlaProjRefIdeal.main_arg5))
      ∧ r.2.sem = fun _ => 0)

def quiescent_InConv [hInConv : Cert.InConv.Facts] : Prop :=
  ∀ (m : (ℓ : Loc Cert.InConv.nD Cert.InConv.τ Cert.InConv.sig) → Buf (Elt Bits) ℓ) (g : Dev Cert.InConv.nD → PrngReg), Pre_InConv m →
    θ_run (Cert.InConv.defs (F := Bits)) (onTc (τ := Cert.InConv.τ) (Cert.InConv.main (F := Bits))) ⟨m, fun _ => 0, g⟩ (fun r => (∀ c : Dev Cert.InConv.nD,
      r.2.mem ((c.tc : Thread Cert.InConv.nD Cert.InConv.τ).loc Cert.InConv.main_arg0) = m ((c.tc : Thread Cert.InConv.nD Cert.InConv.τ).loc Cert.InConv.main_arg0)
      ∧ r.2.mem ((c.tc : Thread Cert.InConv.nD Cert.InConv.τ).loc Cert.InConv.main_arg1) = m ((c.tc : Thread Cert.InConv.nD Cert.InConv.τ).loc Cert.InConv.main_arg1)
      ∧ r.2.mem ((c.tc : Thread Cert.InConv.nD Cert.InConv.τ).loc Cert.InConv.main_arg2) = m ((c.tc : Thread Cert.InConv.nD Cert.InConv.τ).loc Cert.InConv.main_arg2)
      ∧ r.2.mem ((c.tc : Thread Cert.InConv.nD Cert.InConv.τ).loc Cert.InConv.main_arg3) = m ((c.tc : Thread Cert.InConv.nD Cert.InConv.τ).loc Cert.InConv.main_arg3)
      ∧ r.2.mem ((c.tc : Thread Cert.InConv.nD Cert.InConv.τ).loc Cert.InConv.main_arg4) = m ((c.tc : Thread Cert.InConv.nD Cert.InConv.τ).loc Cert.InConv.main_arg4)
      ∧ r.2.mem ((c.tc : Thread Cert.InConv.nD Cert.InConv.τ).loc Cert.InConv.main_arg5) = m ((c.tc : Thread Cert.InConv.nD Cert.InConv.τ).loc Cert.InConv.main_arg5))
      ∧ r.2.sem = fun _ => 0)

def quiescent_InConvIdeal [hInConvIdeal : Cert.InConvIdeal.Facts] : Prop :=
  ∀ (m : (ℓ : Loc Cert.InConvIdeal.nD Cert.InConvIdeal.τ Cert.InConvIdeal.sig) → Buf (Elt Ideal) ℓ) (g : Dev Cert.InConvIdeal.nD → PrngReg), Pre_InConvIdeal m →
    θ_run (Cert.InConvIdeal.defs (F := Ideal)) (onTc (τ := Cert.InConvIdeal.τ) (Cert.InConvIdeal.main (F := Ideal))) ⟨m, fun _ => 0, g⟩ (fun r => (∀ c : Dev Cert.InConvIdeal.nD,
      r.2.mem ((c.tc : Thread Cert.InConvIdeal.nD Cert.InConvIdeal.τ).loc Cert.InConvIdeal.main_arg0) = m ((c.tc : Thread Cert.InConvIdeal.nD Cert.InConvIdeal.τ).loc Cert.InConvIdeal.main_arg0)
      ∧ r.2.mem ((c.tc : Thread Cert.InConvIdeal.nD Cert.InConvIdeal.τ).loc Cert.InConvIdeal.main_arg1) = m ((c.tc : Thread Cert.InConvIdeal.nD Cert.InConvIdeal.τ).loc Cert.InConvIdeal.main_arg1)
      ∧ r.2.mem ((c.tc : Thread Cert.InConvIdeal.nD Cert.InConvIdeal.τ).loc Cert.InConvIdeal.main_arg2) = m ((c.tc : Thread Cert.InConvIdeal.nD Cert.InConvIdeal.τ).loc Cert.InConvIdeal.main_arg2)
      ∧ r.2.mem ((c.tc : Thread Cert.InConvIdeal.nD Cert.InConvIdeal.τ).loc Cert.InConvIdeal.main_arg3) = m ((c.tc : Thread Cert.InConvIdeal.nD Cert.InConvIdeal.τ).loc Cert.InConvIdeal.main_arg3)
      ∧ r.2.mem ((c.tc : Thread Cert.InConvIdeal.nD Cert.InConvIdeal.τ).loc Cert.InConvIdeal.main_arg4) = m ((c.tc : Thread Cert.InConvIdeal.nD Cert.InConvIdeal.τ).loc Cert.InConvIdeal.main_arg4)
      ∧ r.2.mem ((c.tc : Thread Cert.InConvIdeal.nD Cert.InConvIdeal.τ).loc Cert.InConvIdeal.main_arg5) = m ((c.tc : Thread Cert.InConvIdeal.nD Cert.InConvIdeal.τ).loc Cert.InConvIdeal.main_arg5))
      ∧ r.2.sem = fun _ => 0)

def quiescent_InConvRefIdeal [hInConvRefIdeal : Cert.InConvRefIdeal.Facts] : Prop :=
  ∀ (m : (ℓ : Loc Cert.InConvRefIdeal.nD Cert.InConvRefIdeal.τ Cert.InConvRefIdeal.sig) → Buf (Elt Ideal) ℓ) (g : Dev Cert.InConvRefIdeal.nD → PrngReg), Pre_InConvRefIdeal m →
    θ_run (Cert.InConvRefIdeal.defs (F := Ideal)) (onTc (τ := Cert.InConvRefIdeal.τ) (Cert.InConvRefIdeal.main (F := Ideal))) ⟨m, fun _ => 0, g⟩ (fun r => (∀ c : Dev Cert.InConvRefIdeal.nD,
      r.2.mem ((c.tc : Thread Cert.InConvRefIdeal.nD Cert.InConvRefIdeal.τ).loc Cert.InConvRefIdeal.main_arg0) = m ((c.tc : Thread Cert.InConvRefIdeal.nD Cert.InConvRefIdeal.τ).loc Cert.InConvRefIdeal.main_arg0)
      ∧ r.2.mem ((c.tc : Thread Cert.InConvRefIdeal.nD Cert.InConvRefIdeal.τ).loc Cert.InConvRefIdeal.main_arg1) = m ((c.tc : Thread Cert.InConvRefIdeal.nD Cert.InConvRefIdeal.τ).loc Cert.InConvRefIdeal.main_arg1)
      ∧ r.2.mem ((c.tc : Thread Cert.InConvRefIdeal.nD Cert.InConvRefIdeal.τ).loc Cert.InConvRefIdeal.main_arg2) = m ((c.tc : Thread Cert.InConvRefIdeal.nD Cert.InConvRefIdeal.τ).loc Cert.InConvRefIdeal.main_arg2)
      ∧ r.2.mem ((c.tc : Thread Cert.InConvRefIdeal.nD Cert.InConvRefIdeal.τ).loc Cert.InConvRefIdeal.main_arg3) = m ((c.tc : Thread Cert.InConvRefIdeal.nD Cert.InConvRefIdeal.τ).loc Cert.InConvRefIdeal.main_arg3)
      ∧ r.2.mem ((c.tc : Thread Cert.InConvRefIdeal.nD Cert.InConvRefIdeal.τ).loc Cert.InConvRefIdeal.main_arg4) = m ((c.tc : Thread Cert.InConvRefIdeal.nD Cert.InConvRefIdeal.τ).loc Cert.InConvRefIdeal.main_arg4)
      ∧ r.2.mem ((c.tc : Thread Cert.InConvRefIdeal.nD Cert.InConvRefIdeal.τ).loc Cert.InConvRefIdeal.main_arg5) = m ((c.tc : Thread Cert.InConvRefIdeal.nD Cert.InConvRefIdeal.τ).loc Cert.InConvRefIdeal.main_arg5))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)) →
    ∃ (v0 : (c : Dev Cert.InProjIdeal.nD) → Buf (Elt Ideal) ((c.tc : Thread Cert.InProjIdeal.nD Cert.InProjIdeal.τ).loc Cert.InProjIdeal.main_v1_0)) (v1 : (c : Dev Cert.InProjIdeal.nD) → Buf (Elt Ideal) ((c.tc : Thread Cert.InProjIdeal.nD Cert.InProjIdeal.τ).loc Cert.InProjIdeal.main_v1_1)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v1_0) = v0 c
          ∧ r.2.mem ((c.tc : Thread Cert.InProjIdeal.nD Cert.InProjIdeal.τ).loc Cert.InProjIdeal.main_v1_1) = v1 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v1) = v0 c
          ∧ r.2.mem ((c.tc : Thread Cert.InProjRefIdeal.nD Cert.InProjRefIdeal.τ).loc Cert.InProjRefIdeal.main_v3) = v1 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1))

def preserves_Glu_GluIdeal : Prop :=
  True

def algebraic_GluIdeal_GluRefIdeal [hGluIdeal : Cert.GluIdeal.Facts] [hGluRefIdeal : Cert.GluRefIdeal.Facts] : Prop :=
  ∀ (m : (ℓ : Loc Cert.GluIdeal.nD Cert.GluIdeal.τ Cert.GluIdeal.sig) → Buf (Elt Ideal) ℓ) (g : Dev Cert.GluIdeal.nD → PrngReg)
    (m' : (ℓ : Loc Cert.GluRefIdeal.nD Cert.GluRefIdeal.τ Cert.GluRefIdeal.sig) → Buf (Elt Ideal) ℓ) (g' : Dev Cert.GluRefIdeal.nD → PrngReg), Pre_GluIdeal m →
    (∀ c : Dev Cert.GluIdeal.nD,
      m' ((c.tc : Thread Cert.GluRefIdeal.nD Cert.GluRefIdeal.τ).loc Cert.GluRefIdeal.main_arg0) = m ((c.tc : Thread Cert.GluIdeal.nD Cert.GluIdeal.τ).loc Cert.GluIdeal.main_arg0)
      ∧ m' ((c.tc : Thread Cert.GluRefIdeal.nD Cert.GluRefIdeal.τ).loc Cert.GluRefIdeal.main_arg1) = m ((c.tc : Thread Cert.GluIdeal.nD Cert.GluIdeal.τ).loc Cert.GluIdeal.main_arg1)
      ∧ m' ((c.tc : Thread Cert.GluRefIdeal.nD Cert.GluRefIdeal.τ).loc Cert.GluRefIdeal.main_arg2) = m ((c.tc : Thread Cert.GluIdeal.nD Cert.GluIdeal.τ).loc Cert.GluIdeal.main_arg2)) →
    ∃ (v0 : (c : Dev Cert.GluIdeal.nD) → Buf (Elt Ideal) ((c.tc : Thread Cert.GluIdeal.nD Cert.GluIdeal.τ).loc Cert.GluIdeal.main_v1)),
      θ_run (Cert.GluIdeal.defs (F := Ideal)) (onTc (τ := Cert.GluIdeal.τ) (Cert.GluIdeal.main (F := Ideal))) ⟨m, fun _ => 0, g⟩ (fun r => ∀ c : Dev Cert.GluIdeal.nD,
          r.2.mem ((c.tc : Thread Cert.GluIdeal.nD Cert.GluIdeal.τ).loc Cert.GluIdeal.main_v1) = v0 c
          ∧ r.2.mem ((c.tc : Thread Cert.GluIdeal.nD Cert.GluIdeal.τ).loc Cert.GluIdeal.main_arg0) = m ((c.tc : Thread Cert.GluIdeal.nD Cert.GluIdeal.τ).loc Cert.GluIdeal.main_arg0)
          ∧ r.2.mem ((c.tc : Thread Cert.GluIdeal.nD Cert.GluIdeal.τ).loc Cert.GluIdeal.main_arg1) = m ((c.tc : Thread Cert.GluIdeal.nD Cert.GluIdeal.τ).loc Cert.GluIdeal.main_arg1)
          ∧ r.2.mem ((c.tc : Thread Cert.GluIdeal.nD Cert.GluIdeal.τ).loc Cert.GluIdeal.main_arg2) = m ((c.tc : Thread Cert.GluIdeal.nD Cert.GluIdeal.τ).loc Cert.GluIdeal.main_arg2))
      ∧ θ_run (Cert.GluRefIdeal.defs (F := Ideal)) (onTc (τ := Cert.GluRefIdeal.τ) (Cert.GluRefIdeal.main (F := Ideal))) ⟨m', fun _ => 0, g'⟩ (fun r => ∀ c : Dev Cert.GluRefIdeal.nD,
          r.2.mem ((c.tc : Thread Cert.GluRefIdeal.nD Cert.GluRefIdeal.τ).loc Cert.GluRefIdeal.main_v15) = v0 c
          ∧ r.2.mem ((c.tc : Thread Cert.GluRefIdeal.nD Cert.GluRefIdeal.τ).loc Cert.GluRefIdeal.main_arg0) = m' ((c.tc : Thread Cert.GluRefIdeal.nD Cert.GluRefIdeal.τ).loc Cert.GluRefIdeal.main_arg0)
          ∧ r.2.mem ((c.tc : Thread Cert.GluRefIdeal.nD Cert.GluRefIdeal.τ).loc Cert.GluRefIdeal.main_arg1) = m' ((c.tc : Thread Cert.GluRefIdeal.nD Cert.GluRefIdeal.τ).loc Cert.GluRefIdeal.main_arg1)
          ∧ r.2.mem ((c.tc : Thread Cert.GluRefIdeal.nD Cert.GluRefIdeal.τ).loc Cert.GluRefIdeal.main_arg2) = m' ((c.tc : Thread Cert.GluRefIdeal.nD Cert.GluRefIdeal.τ).loc Cert.GluRefIdeal.main_arg2))

def preserves_MemKv_MemKvIdeal : Prop :=
  True

def algebraic_MemKvIdeal_MemKvRefIdeal [hMemKvIdeal : Cert.MemKvIdeal.Facts] [hMemKvRefIdeal : Cert.MemKvRefIdeal.Facts] : Prop :=
  ∀ (m : (ℓ : Loc Cert.MemKvIdeal.nD Cert.MemKvIdeal.τ Cert.MemKvIdeal.sig) → Buf (Elt Ideal) ℓ) (g : Dev Cert.MemKvIdeal.nD → PrngReg)
    (m' : (ℓ : Loc Cert.MemKvRefIdeal.nD Cert.MemKvRefIdeal.τ Cert.MemKvRefIdeal.sig) → Buf (Elt Ideal) ℓ) (g' : Dev Cert.MemKvRefIdeal.nD → PrngReg), Pre_MemKvIdeal m →
    (∀ c : Dev Cert.MemKvIdeal.nD,
      m' ((c.tc : Thread Cert.MemKvRefIdeal.nD Cert.MemKvRefIdeal.τ).loc Cert.MemKvRefIdeal.main_arg0) = m ((c.tc : Thread Cert.MemKvIdeal.nD Cert.MemKvIdeal.τ).loc Cert.MemKvIdeal.main_arg0)
      ∧ m' ((c.tc : Thread Cert.MemKvRefIdeal.nD Cert.MemKvRefIdeal.τ).loc Cert.MemKvRefIdeal.main_arg1) = m ((c.tc : Thread Cert.MemKvIdeal.nD Cert.MemKvIdeal.τ).loc Cert.MemKvIdeal.main_arg1)) →
    ∃ (v0 : (c : Dev Cert.MemKvIdeal.nD) → Buf (Elt Ideal) ((c.tc : Thread Cert.MemKvIdeal.nD Cert.MemKvIdeal.τ).loc Cert.MemKvIdeal.main_v1)),
      θ_run (Cert.MemKvIdeal.defs (F := Ideal)) (onTc (τ := Cert.MemKvIdeal.τ) (Cert.MemKvIdeal.main (F := Ideal))) ⟨m, fun _ => 0, g⟩ (fun r => ∀ c : Dev Cert.MemKvIdeal.nD,
          r.2.mem ((c.tc : Thread Cert.MemKvIdeal.nD Cert.MemKvIdeal.τ).loc Cert.MemKvIdeal.main_v1) = v0 c
          ∧ r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
          ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1))
      ∧ θ_run (Cert.MemKvRefIdeal.defs (F := Ideal)) (onTc (τ := Cert.MemKvRefIdeal.τ) (Cert.MemKvRefIdeal.main (F := Ideal))) ⟨m', fun _ => 0, g'⟩ (fun r => ∀ c : Dev Cert.MemKvRefIdeal.nD,
          r.2.mem ((c.tc : Thread Cert.MemKvRefIdeal.nD Cert.MemKvRefIdeal.τ).loc Cert.MemKvRefIdeal.main_v1) = v0 c
          ∧ r.2.mem ((c.tc : Thread Cert.MemKvRefIdeal.nD Cert.MemKvRefIdeal.τ).loc Cert.MemKvRefIdeal.main_arg0) = m' ((c.tc : Thread Cert.MemKvRefIdeal.nD Cert.MemKvRefIdeal.τ).loc Cert.MemKvRefIdeal.main_arg0)
          ∧ r.2.mem ((c.tc : Thread Cert.MemKvRefIdeal.nD Cert.MemKvRefIdeal.τ).loc Cert.MemKvRefIdeal.main_arg1) = m' ((c.tc : Thread Cert.MemKvRefIdeal.nD Cert.MemKvRefIdeal.τ).loc Cert.MemKvRefIdeal.main_arg1))

def preserves_OddOut_OddOutIdeal : Prop :=
  IdealRules.named_const.Statement Cert.OddOutIdeal.κ "mem_scale" .f32 0x3E0293EE#32 (((Real.sqrt 128)⁻¹ * (Real.log 2)⁻¹ : ℝ) : EReal)

def algebraic_OddOutIdeal_OddOutRefIdeal_pre_finite_memory_scores [hOddOutIdeal : Cert.OddOutIdeal.Facts] [hOddOutRefIdeal : Cert.OddOutRefIdeal.Facts] [hPre_finite_memory_scores : Cert.Pre_finite_memory_scores.Facts] : Prop :=
  ∀ (m : (ℓ : Loc Cert.OddOutIdeal.nD Cert.OddOutIdeal.τ Cert.OddOutIdeal.sig) → Buf (Elt Ideal) ℓ) (g : Dev Cert.OddOutIdeal.nD → PrngReg)
    (m' : (ℓ : Loc Cert.OddOutRefIdeal.nD Cert.OddOutRefIdeal.τ Cert.OddOutRefIdeal.sig) → Buf (Elt Ideal) ℓ) (g' : Dev Cert.OddOutRefIdeal.nD → PrngReg), Pre_OddOutIdeal_finite_memory_scores m →
    (∀ c : Dev Cert.OddOutIdeal.nD,
      m' ((c.tc : Thread Cert.OddOutRefIdeal.nD Cert.OddOutRefIdeal.τ).loc Cert.OddOutRefIdeal.main_arg0) = m ((c.tc : Thread Cert.OddOutIdeal.nD Cert.OddOutIdeal.τ).loc Cert.OddOutIdeal.main_arg0)
      ∧ m' ((c.tc : Thread Cert.OddOutRefIdeal.nD Cert.OddOutRefIdeal.τ).loc Cert.OddOutRefIdeal.main_arg1) = m ((c.tc : Thread Cert.OddOutIdeal.nD Cert.OddOutIdeal.τ).loc Cert.OddOutIdeal.main_arg1)
      ∧ m' ((c.tc : Thread Cert.OddOutRefIdeal.nD Cert.OddOutRefIdeal.τ).loc Cert.OddOutRefIdeal.main_arg2) = m ((c.tc : Thread Cert.OddOutIdeal.nD Cert.OddOutIdeal.τ).loc Cert.OddOutIdeal.main_arg2)
      ∧ m' ((c.tc : Thread Cert.OddOutRefIdeal.nD Cert.OddOutRefIdeal.τ).loc Cert.OddOutRefIdeal.main_arg3) = m ((c.tc : Thread Cert.OddOutIdeal.nD Cert.OddOutIdeal.τ).loc Cert.OddOutIdeal.main_arg3)
      ∧ m' ((c.tc : Thread Cert.OddOutRefIdeal.nD Cert.OddOutRefIdeal.τ).loc Cert.OddOutRefIdeal.main_arg4) = m ((c.tc : Thread Cert.OddOutIdeal.nD Cert.OddOutIdeal.τ).loc Cert.OddOutIdeal.main_arg4)
      ∧ m' ((c.tc : Thread Cert.OddOutRefIdeal.nD Cert.OddOutRefIdeal.τ).loc Cert.OddOutRefIdeal.main_arg5) = m ((c.tc : Thread Cert.OddOutIdeal.nD Cert.OddOutIdeal.τ).loc Cert.OddOutIdeal.main_arg5)
      ∧ m' ((c.tc : Thread Cert.OddOutRefIdeal.nD Cert.OddOutRefIdeal.τ).loc Cert.OddOutRefIdeal.main_arg6) = m ((c.tc : Thread Cert.OddOutIdeal.nD Cert.OddOutIdeal.τ).loc Cert.OddOutIdeal.main_arg6)) →
    ∃ (v0 : (c : Dev Cert.OddOutIdeal.nD) → Buf (Elt Ideal) ((c.tc : Thread Cert.OddOutIdeal.nD Cert.OddOutIdeal.τ).loc Cert.OddOutIdeal.main_v3)),
      θ_run (Cert.OddOutIdeal.defs (F := Ideal)) (onTc (τ := Cert.OddOutIdeal.τ) (Cert.OddOutIdeal.main (F := Ideal))) ⟨m, fun _ => 0, g⟩ (fun r => ∀ c : Dev Cert.OddOutIdeal.nD,
          r.2.mem ((c.tc : Thread Cert.OddOutIdeal.nD Cert.OddOutIdeal.τ).loc Cert.OddOutIdeal.main_v3) = v0 c
          ∧ r.2.mem ((c.tc : Thread Cert.OddOutIdeal.nD Cert.OddOutIdeal.τ).loc Cert.OddOutIdeal.main_arg0) = m ((c.tc : Thread Cert.OddOutIdeal.nD Cert.OddOutIdeal.τ).loc Cert.OddOutIdeal.main_arg0)
          ∧ r.2.mem ((c.tc : Thread Cert.OddOutIdeal.nD Cert.OddOutIdeal.τ).loc Cert.OddOutIdeal.main_arg1) = m ((c.tc : Thread Cert.OddOutIdeal.nD Cert.OddOutIdeal.τ).loc Cert.OddOutIdeal.main_arg1)
          ∧ r.2.mem ((c.tc : Thread Cert.OddOutIdeal.nD Cert.OddOutIdeal.τ).loc Cert.OddOutIdeal.main_arg2) = m ((c.tc : Thread Cert.OddOutIdeal.nD Cert.OddOutIdeal.τ).loc Cert.OddOutIdeal.main_arg2)
          ∧ r.2.mem ((c.tc : Thread Cert.OddOutIdeal.nD Cert.OddOutIdeal.τ).loc Cert.OddOutIdeal.main_arg3) = m ((c.tc : Thread Cert.OddOutIdeal.nD Cert.OddOutIdeal.τ).loc Cert.OddOutIdeal.main_arg3)
          ∧ r.2.mem ((c.tc : Thread Cert.OddOutIdeal.nD Cert.OddOutIdeal.τ).loc Cert.OddOutIdeal.main_arg4) = m ((c.tc : Thread Cert.OddOutIdeal.nD Cert.OddOutIdeal.τ).loc Cert.OddOutIdeal.main_arg4)
          ∧ r.2.mem ((c.tc : Thread Cert.OddOutIdeal.nD Cert.OddOutIdeal.τ).loc Cert.OddOutIdeal.main_arg5) = m ((c.tc : Thread Cert.OddOutIdeal.nD Cert.OddOutIdeal.τ).loc Cert.OddOutIdeal.main_arg5)
          ∧ r.2.mem ((c.tc : Thread Cert.OddOutIdeal.nD Cert.OddOutIdeal.τ).loc Cert.OddOutIdeal.main_arg6) = m ((c.tc : Thread Cert.OddOutIdeal.nD Cert.OddOutIdeal.τ).loc Cert.OddOutIdeal.main_arg6))
      ∧ θ_run (Cert.OddOutRefIdeal.defs (F := Ideal)) (onTc (τ := Cert.OddOutRefIdeal.τ) (Cert.OddOutRefIdeal.main (F := Ideal))) ⟨m', fun _ => 0, g'⟩ (fun r => ∀ c : Dev Cert.OddOutRefIdeal.nD,
          r.2.mem ((c.tc : Thread Cert.OddOutRefIdeal.nD Cert.OddOutRefIdeal.τ).loc Cert.OddOutRefIdeal.main_v56) = v0 c
          ∧ r.2.mem ((c.tc : Thread Cert.OddOutRefIdeal.nD Cert.OddOutRefIdeal.τ).loc Cert.OddOutRefIdeal.main_arg0) = m' ((c.tc : Thread Cert.OddOutRefIdeal.nD Cert.OddOutRefIdeal.τ).loc Cert.OddOutRefIdeal.main_arg0)
          ∧ r.2.mem ((c.tc : Thread Cert.OddOutRefIdeal.nD Cert.OddOutRefIdeal.τ).loc Cert.OddOutRefIdeal.main_arg1) = m' ((c.tc : Thread Cert.OddOutRefIdeal.nD Cert.OddOutRefIdeal.τ).loc Cert.OddOutRefIdeal.main_arg1)
          ∧ r.2.mem ((c.tc : Thread Cert.OddOutRefIdeal.nD Cert.OddOutRefIdeal.τ).loc Cert.OddOutRefIdeal.main_arg2) = m' ((c.tc : Thread Cert.OddOutRefIdeal.nD Cert.OddOutRefIdeal.τ).loc Cert.OddOutRefIdeal.main_arg2)
          ∧ r.2.mem ((c.tc : Thread Cert.OddOutRefIdeal.nD Cert.OddOutRefIdeal.τ).loc Cert.OddOutRefIdeal.main_arg3) = m' ((c.tc : Thread Cert.OddOutRefIdeal.nD Cert.OddOutRefIdeal.τ).loc Cert.OddOutRefIdeal.main_arg3)
          ∧ r.2.mem ((c.tc : Thread Cert.OddOutRefIdeal.nD Cert.OddOutRefIdeal.τ).loc Cert.OddOutRefIdeal.main_arg4) = m' ((c.tc : Thread Cert.OddOutRefIdeal.nD Cert.OddOutRefIdeal.τ).loc Cert.OddOutRefIdeal.main_arg4)
          ∧ r.2.mem ((c.tc : Thread Cert.OddOutRefIdeal.nD Cert.OddOutRefIdeal.τ).loc Cert.OddOutRefIdeal.main_arg5) = m' ((c.tc : Thread Cert.OddOutRefIdeal.nD Cert.OddOutRefIdeal.τ).loc Cert.OddOutRefIdeal.main_arg5)
          ∧ r.2.mem ((c.tc : Thread Cert.OddOutRefIdeal.nD Cert.OddOutRefIdeal.τ).loc Cert.OddOutRefIdeal.main_arg6) = m' ((c.tc : Thread Cert.OddOutRefIdeal.nD Cert.OddOutRefIdeal.τ).loc Cert.OddOutRefIdeal.main_arg6))

def preserves_EvenOut_EvenOutIdeal : Prop :=
  IdealRules.named_const.Statement Cert.EvenOutIdeal.κ "mem_scale" .f32 0x3E0293EE#32 (((Real.sqrt 128)⁻¹ * (Real.log 2)⁻¹ : ℝ) : EReal)

def algebraic_EvenOutIdeal_EvenOutRefIdeal_pre_finite_memory_scores_even [hEvenOutIdeal : Cert.EvenOutIdeal.Facts] [hEvenOutRefIdeal : Cert.EvenOutRefIdeal.Facts] [hPre_finite_memory_scores_even : Cert.Pre_finite_memory_scores_even.Facts] : Prop :=
  ∀ (m : (ℓ : Loc Cert.EvenOutIdeal.nD Cert.EvenOutIdeal.τ Cert.EvenOutIdeal.sig) → Buf (Elt Ideal) ℓ) (g : Dev Cert.EvenOutIdeal.nD → PrngReg)
    (m' : (ℓ : Loc Cert.EvenOutRefIdeal.nD Cert.EvenOutRefIdeal.τ Cert.EvenOutRefIdeal.sig) → Buf (Elt Ideal) ℓ) (g' : Dev Cert.EvenOutRefIdeal.nD → PrngReg), Pre_EvenOutIdeal_finite_memory_scores_even m →
    (∀ c : Dev Cert.EvenOutIdeal.nD,
      m' ((c.tc : Thread Cert.EvenOutRefIdeal.nD Cert.EvenOutRefIdeal.τ).loc Cert.EvenOutRefIdeal.main_arg0) = m ((c.tc : Thread Cert.EvenOutIdeal.nD Cert.EvenOutIdeal.τ).loc Cert.EvenOutIdeal.main_arg0)
      ∧ m' ((c.tc : Thread Cert.EvenOutRefIdeal.nD Cert.EvenOutRefIdeal.τ).loc Cert.EvenOutRefIdeal.main_arg1) = m ((c.tc : Thread Cert.EvenOutIdeal.nD Cert.EvenOutIdeal.τ).loc Cert.EvenOutIdeal.main_arg1)
      ∧ m' ((c.tc : Thread Cert.EvenOutRefIdeal.nD Cert.EvenOutRefIdeal.τ).loc Cert.EvenOutRefIdeal.main_arg2) = m ((c.tc : Thread Cert.EvenOutIdeal.nD Cert.EvenOutIdeal.τ).loc Cert.EvenOutIdeal.main_arg2)
      ∧ m' ((c.tc : Thread Cert.EvenOutRefIdeal.nD Cert.EvenOutRefIdeal.τ).loc Cert.EvenOutRefIdeal.main_arg3) = m ((c.tc : Thread Cert.EvenOutIdeal.nD Cert.EvenOutIdeal.τ).loc Cert.EvenOutIdeal.main_arg3)
      ∧ m' ((c.tc : Thread Cert.EvenOutRefIdeal.nD Cert.EvenOutRefIdeal.τ).loc Cert.EvenOutRefIdeal.main_arg4) = m ((c.tc : Thread Cert.EvenOutIdeal.nD Cert.EvenOutIdeal.τ).loc Cert.EvenOutIdeal.main_arg4)
      ∧ m' ((c.tc : Thread Cert.EvenOutRefIdeal.nD Cert.EvenOutRefIdeal.τ).loc Cert.EvenOutRefIdeal.main_arg5) = m ((c.tc : Thread Cert.EvenOutIdeal.nD Cert.EvenOutIdeal.τ).loc Cert.EvenOutIdeal.main_arg5)
      ∧ m' ((c.tc : Thread Cert.EvenOutRefIdeal.nD Cert.EvenOutRefIdeal.τ).loc Cert.EvenOutRefIdeal.main_arg6) = m ((c.tc : Thread Cert.EvenOutIdeal.nD Cert.EvenOutIdeal.τ).loc Cert.EvenOutIdeal.main_arg6)
      ∧ m' ((c.tc : Thread Cert.EvenOutRefIdeal.nD Cert.EvenOutRefIdeal.τ).loc Cert.EvenOutRefIdeal.main_arg7) = m ((c.tc : Thread Cert.EvenOutIdeal.nD Cert.EvenOutIdeal.τ).loc Cert.EvenOutIdeal.main_arg7)) →
    ∃ (v0 : (c : Dev Cert.EvenOutIdeal.nD) → Buf (Elt Ideal) ((c.tc : Thread Cert.EvenOutIdeal.nD Cert.EvenOutIdeal.τ).loc Cert.EvenOutIdeal.main_v3)),
      θ_run (Cert.EvenOutIdeal.defs (F := Ideal)) (onTc (τ := Cert.EvenOutIdeal.τ) (Cert.EvenOutIdeal.main (F := Ideal))) ⟨m, fun _ => 0, g⟩ (fun r => ∀ c : Dev Cert.EvenOutIdeal.nD,
          r.2.mem ((c.tc : Thread Cert.EvenOutIdeal.nD Cert.EvenOutIdeal.τ).loc Cert.EvenOutIdeal.main_v3) = v0 c
          ∧ r.2.mem ((c.tc : Thread Cert.EvenOutIdeal.nD Cert.EvenOutIdeal.τ).loc Cert.EvenOutIdeal.main_arg0) = m ((c.tc : Thread Cert.EvenOutIdeal.nD Cert.EvenOutIdeal.τ).loc Cert.EvenOutIdeal.main_arg0)
          ∧ r.2.mem ((c.tc : Thread Cert.EvenOutIdeal.nD Cert.EvenOutIdeal.τ).loc Cert.EvenOutIdeal.main_arg1) = m ((c.tc : Thread Cert.EvenOutIdeal.nD Cert.EvenOutIdeal.τ).loc Cert.EvenOutIdeal.main_arg1)
          ∧ r.2.mem ((c.tc : Thread Cert.EvenOutIdeal.nD Cert.EvenOutIdeal.τ).loc Cert.EvenOutIdeal.main_arg2) = m ((c.tc : Thread Cert.EvenOutIdeal.nD Cert.EvenOutIdeal.τ).loc Cert.EvenOutIdeal.main_arg2)
          ∧ r.2.mem ((c.tc : Thread Cert.EvenOutIdeal.nD Cert.EvenOutIdeal.τ).loc Cert.EvenOutIdeal.main_arg3) = m ((c.tc : Thread Cert.EvenOutIdeal.nD Cert.EvenOutIdeal.τ).loc Cert.EvenOutIdeal.main_arg3)
          ∧ r.2.mem ((c.tc : Thread Cert.EvenOutIdeal.nD Cert.EvenOutIdeal.τ).loc Cert.EvenOutIdeal.main_arg4) = m ((c.tc : Thread Cert.EvenOutIdeal.nD Cert.EvenOutIdeal.τ).loc Cert.EvenOutIdeal.main_arg4)
          ∧ r.2.mem ((c.tc : Thread Cert.EvenOutIdeal.nD Cert.EvenOutIdeal.τ).loc Cert.EvenOutIdeal.main_arg5) = m ((c.tc : Thread Cert.EvenOutIdeal.nD Cert.EvenOutIdeal.τ).loc Cert.EvenOutIdeal.main_arg5)
          ∧ r.2.mem ((c.tc : Thread Cert.EvenOutIdeal.nD Cert.EvenOutIdeal.τ).loc Cert.EvenOutIdeal.main_arg6) = m ((c.tc : Thread Cert.EvenOutIdeal.nD Cert.EvenOutIdeal.τ).loc Cert.EvenOutIdeal.main_arg6)
          ∧ r.2.mem ((c.tc : Thread Cert.EvenOutIdeal.nD Cert.EvenOutIdeal.τ).loc Cert.EvenOutIdeal.main_arg7) = m ((c.tc : Thread Cert.EvenOutIdeal.nD Cert.EvenOutIdeal.τ).loc Cert.EvenOutIdeal.main_arg7))
      ∧ θ_run (Cert.EvenOutRefIdeal.defs (F := Ideal)) (onTc (τ := Cert.EvenOutRefIdeal.τ) (Cert.EvenOutRefIdeal.main (F := Ideal))) ⟨m', fun _ => 0, g'⟩ (fun r => ∀ c : Dev Cert.EvenOutRefIdeal.nD,
          r.2.mem ((c.tc : Thread Cert.EvenOutRefIdeal.nD Cert.EvenOutRefIdeal.τ).loc Cert.EvenOutRefIdeal.main_v57) = v0 c
          ∧ r.2.mem ((c.tc : Thread Cert.EvenOutRefIdeal.nD Cert.EvenOutRefIdeal.τ).loc Cert.EvenOutRefIdeal.main_arg0) = m' ((c.tc : Thread Cert.EvenOutRefIdeal.nD Cert.EvenOutRefIdeal.τ).loc Cert.EvenOutRefIdeal.main_arg0)
          ∧ r.2.mem ((c.tc : Thread Cert.EvenOutRefIdeal.nD Cert.EvenOutRefIdeal.τ).loc Cert.EvenOutRefIdeal.main_arg1) = m' ((c.tc : Thread Cert.EvenOutRefIdeal.nD Cert.EvenOutRefIdeal.τ).loc Cert.EvenOutRefIdeal.main_arg1)
          ∧ r.2.mem ((c.tc : Thread Cert.EvenOutRefIdeal.nD Cert.EvenOutRefIdeal.τ).loc Cert.EvenOutRefIdeal.main_arg2) = m' ((c.tc : Thread Cert.EvenOutRefIdeal.nD Cert.EvenOutRefIdeal.τ).loc Cert.EvenOutRefIdeal.main_arg2)
          ∧ r.2.mem ((c.tc : Thread Cert.EvenOutRefIdeal.nD Cert.EvenOutRefIdeal.τ).loc Cert.EvenOutRefIdeal.main_arg3) = m' ((c.tc : Thread Cert.EvenOutRefIdeal.nD Cert.EvenOutRefIdeal.τ).loc Cert.EvenOutRefIdeal.main_arg3)
          ∧ r.2.mem ((c.tc : Thread Cert.EvenOutRefIdeal.nD Cert.EvenOutRefIdeal.τ).loc Cert.EvenOutRefIdeal.main_arg4) = m' ((c.tc : Thread Cert.EvenOutRefIdeal.nD Cert.EvenOutRefIdeal.τ).loc Cert.EvenOutRefIdeal.main_arg4)
          ∧ r.2.mem ((c.tc : Thread Cert.EvenOutRefIdeal.nD Cert.EvenOutRefIdeal.τ).loc Cert.EvenOutRefIdeal.main_arg5) = m' ((c.tc : Thread Cert.EvenOutRefIdeal.nD Cert.EvenOutRefIdeal.τ).loc Cert.EvenOutRefIdeal.main_arg5)
          ∧ r.2.mem ((c.tc : Thread Cert.EvenOutRefIdeal.nD Cert.EvenOutRefIdeal.τ).loc Cert.EvenOutRefIdeal.main_arg6) = m' ((c.tc : Thread Cert.EvenOutRefIdeal.nD Cert.EvenOutRefIdeal.τ).loc Cert.EvenOutRefIdeal.main_arg6)
          ∧ r.2.mem ((c.tc : Thread Cert.EvenOutRefIdeal.nD Cert.EvenOutRefIdeal.τ).loc Cert.EvenOutRefIdeal.main_arg7) = m' ((c.tc : Thread Cert.EvenOutRefIdeal.nD Cert.EvenOutRefIdeal.τ).loc Cert.EvenOutRefIdeal.main_arg7))

def preserves_MlaProj_MlaProjIdeal : Prop :=
  IdealRules.named_const.Statement Cert.MlaProjIdeal.κ "qk_scale" .f32 0x3DD53B95#32 (((Real.sqrt 192)⁻¹ * (Real.log 2)⁻¹ : ℝ) : EReal)

def algebraic_MlaProjIdeal_MlaProjRefIdeal_pre_zero_padding [hMlaProjIdeal : Cert.MlaProjIdeal.Facts] [hMlaProjRefIdeal : Cert.MlaProjRefIdeal.Facts] [hPre_zero_padding : Cert.Pre_zero_padding.Facts] : Prop :=
  ∀ (m : (ℓ : Loc Cert.MlaProjIdeal.nD Cert.MlaProjIdeal.τ Cert.MlaProjIdeal.sig) → Buf (Elt Ideal) ℓ) (g : Dev Cert.MlaProjIdeal.nD → PrngReg)
    (m' : (ℓ : Loc Cert.MlaProjRefIdeal.nD Cert.MlaProjRefIdeal.τ Cert.MlaProjRefIdeal.sig) → Buf (Elt Ideal) ℓ) (g' : Dev Cert.MlaProjRefIdeal.nD → PrngReg), Pre_MlaProjIdeal_zero_padding m →
    (∀ c : Dev Cert.MlaProjIdeal.nD,
      m' ((c.tc : Thread Cert.MlaProjRefIdeal.nD Cert.MlaProjRefIdeal.τ).loc Cert.MlaProjRefIdeal.main_arg0) = m ((c.tc : Thread Cert.MlaProjIdeal.nD Cert.MlaProjIdeal.τ).loc Cert.MlaProjIdeal.main_arg0)
      ∧ m' ((c.tc : Thread Cert.MlaProjRefIdeal.nD Cert.MlaProjRefIdeal.τ).loc Cert.MlaProjRefIdeal.main_arg1) = m ((c.tc : Thread Cert.MlaProjIdeal.nD Cert.MlaProjIdeal.τ).loc Cert.MlaProjIdeal.main_arg1)
      ∧ m' ((c.tc : Thread Cert.MlaProjRefIdeal.nD Cert.MlaProjRefIdeal.τ).loc Cert.MlaProjRefIdeal.main_arg2) = m ((c.tc : Thread Cert.MlaProjIdeal.nD Cert.MlaProjIdeal.τ).loc Cert.MlaProjIdeal.main_arg2)
      ∧ m' ((c.tc : Thread Cert.MlaProjRefIdeal.nD Cert.MlaProjRefIdeal.τ).loc Cert.MlaProjRefIdeal.main_arg3) = m ((c.tc : Thread Cert.MlaProjIdeal.nD Cert.MlaProjIdeal.τ).loc Cert.MlaProjIdeal.main_arg3)
      ∧ m' ((c.tc : Thread Cert.MlaProjRefIdeal.nD Cert.MlaProjRefIdeal.τ).loc Cert.MlaProjRefIdeal.main_arg4) = m ((c.tc : Thread Cert.MlaProjIdeal.nD Cert.MlaProjIdeal.τ).loc Cert.MlaProjIdeal.main_arg4)
      ∧ m' ((c.tc : Thread Cert.MlaProjRefIdeal.nD Cert.MlaProjRefIdeal.τ).loc Cert.MlaProjRefIdeal.main_arg5) = m ((c.tc : Thread Cert.MlaProjIdeal.nD Cert.MlaProjIdeal.τ).loc Cert.MlaProjIdeal.main_arg5)) →
    ∃ (v0 : (c : Dev Cert.MlaProjIdeal.nD) → Buf (Elt Ideal) ((c.tc : Thread Cert.MlaProjIdeal.nD Cert.MlaProjIdeal.τ).loc Cert.MlaProjIdeal.main_v46_0)) (v1 : (c : Dev Cert.MlaProjIdeal.nD) → Buf (Elt Ideal) ((c.tc : Thread Cert.MlaProjIdeal.nD Cert.MlaProjIdeal.τ).loc Cert.MlaProjIdeal.main_v46_1)) (v2 : (c : Dev Cert.MlaProjIdeal.nD) → Buf (Elt Ideal) ((c.tc : Thread Cert.MlaProjIdeal.nD Cert.MlaProjIdeal.τ).loc Cert.MlaProjIdeal.main_v46_2)),
      θ_run (Cert.MlaProjIdeal.defs (F := Ideal)) (onTc (τ := Cert.MlaProjIdeal.τ) (Cert.MlaProjIdeal.main (F := Ideal))) ⟨m, fun _ => 0, g⟩ (fun r => ∀ c : Dev Cert.MlaProjIdeal.nD,
          r.2.mem ((c.tc : Thread Cert.MlaProjIdeal.nD Cert.MlaProjIdeal.τ).loc Cert.MlaProjIdeal.main_v46_0) = v0 c
          ∧ r.2.mem ((c.tc : Thread Cert.MlaProjIdeal.nD Cert.MlaProjIdeal.τ).loc Cert.MlaProjIdeal.main_v46_1) = v1 c
          ∧ r.2.mem ((c.tc : Thread Cert.MlaProjIdeal.nD Cert.MlaProjIdeal.τ).loc Cert.MlaProjIdeal.main_v46_2) = v2 c
          ∧ r.2.mem ((c.tc : Thread Cert.MlaProjIdeal.nD Cert.MlaProjIdeal.τ).loc Cert.MlaProjIdeal.main_arg0) = m ((c.tc : Thread Cert.MlaProjIdeal.nD Cert.MlaProjIdeal.τ).loc Cert.MlaProjIdeal.main_arg0)
          ∧ r.2.mem ((c.tc : Thread Cert.MlaProjIdeal.nD Cert.MlaProjIdeal.τ).loc Cert.MlaProjIdeal.main_arg1) = m ((c.tc : Thread Cert.MlaProjIdeal.nD Cert.MlaProjIdeal.τ).loc Cert.MlaProjIdeal.main_arg1)
          ∧ r.2.mem ((c.tc : Thread Cert.MlaProjIdeal.nD Cert.MlaProjIdeal.τ).loc Cert.MlaProjIdeal.main_arg2) = m ((c.tc : Thread Cert.MlaProjIdeal.nD Cert.MlaProjIdeal.τ).loc Cert.MlaProjIdeal.main_arg2)
          ∧ r.2.mem ((c.tc : Thread Cert.MlaProjIdeal.nD Cert.MlaProjIdeal.τ).loc Cert.MlaProjIdeal.main_arg3) = m ((c.tc : Thread Cert.MlaProjIdeal.nD Cert.MlaProjIdeal.τ).loc Cert.MlaProjIdeal.main_arg3)
          ∧ r.2.mem ((c.tc : Thread Cert.MlaProjIdeal.nD Cert.MlaProjIdeal.τ).loc Cert.MlaProjIdeal.main_arg4) = m ((c.tc : Thread Cert.MlaProjIdeal.nD Cert.MlaProjIdeal.τ).loc Cert.MlaProjIdeal.main_arg4)
          ∧ r.2.mem ((c.tc : Thread Cert.MlaProjIdeal.nD Cert.MlaProjIdeal.τ).loc Cert.MlaProjIdeal.main_arg5) = m ((c.tc : Thread Cert.MlaProjIdeal.nD Cert.MlaProjIdeal.τ).loc Cert.MlaProjIdeal.main_arg5))
      ∧ θ_run (Cert.MlaProjRefIdeal.defs (F := Ideal)) (onTc (τ := Cert.MlaProjRefIdeal.τ) (Cert.MlaProjRefIdeal.main (F := Ideal))) ⟨m', fun _ => 0, g'⟩ (fun r => ∀ c : Dev Cert.MlaProjRefIdeal.nD,
          r.2.mem ((c.tc : Thread Cert.MlaProjRefIdeal.nD Cert.MlaProjRefIdeal.τ).loc Cert.MlaProjRefIdeal.main_v101) = v0 c
          ∧ r.2.mem ((c.tc : Thread Cert.MlaProjRefIdeal.nD Cert.MlaProjRefIdeal.τ).loc Cert.MlaProjRefIdeal.main_v103) = v1 c
          ∧ r.2.mem ((c.tc : Thread Cert.MlaProjRefIdeal.nD Cert.MlaProjRefIdeal.τ).loc Cert.MlaProjRefIdeal.main_v105) = v2 c
          ∧ r.2.mem ((c.tc : Thread Cert.MlaProjRefIdeal.nD Cert.MlaProjRefIdeal.τ).loc Cert.MlaProjRefIdeal.main_arg0) = m' ((c.tc : Thread Cert.MlaProjRefIdeal.nD Cert.MlaProjRefIdeal.τ).loc Cert.MlaProjRefIdeal.main_arg0)
          ∧ r.2.mem ((c.tc : Thread Cert.MlaProjRefIdeal.nD Cert.MlaProjRefIdeal.τ).loc Cert.MlaProjRefIdeal.main_arg1) = m' ((c.tc : Thread Cert.MlaProjRefIdeal.nD Cert.MlaProjRefIdeal.τ).loc Cert.MlaProjRefIdeal.main_arg1)
          ∧ r.2.mem ((c.tc : Thread Cert.MlaProjRefIdeal.nD Cert.MlaProjRefIdeal.τ).loc Cert.MlaProjRefIdeal.main_arg2) = m' ((c.tc : Thread Cert.MlaProjRefIdeal.nD Cert.MlaProjRefIdeal.τ).loc Cert.MlaProjRefIdeal.main_arg2)
          ∧ r.2.mem ((c.tc : Thread Cert.MlaProjRefIdeal.nD Cert.MlaProjRefIdeal.τ).loc Cert.MlaProjRefIdeal.main_arg3) = m' ((c.tc : Thread Cert.MlaProjRefIdeal.nD Cert.MlaProjRefIdeal.τ).loc Cert.MlaProjRefIdeal.main_arg3)
          ∧ r.2.mem ((c.tc : Thread Cert.MlaProjRefIdeal.nD Cert.MlaProjRefIdeal.τ).loc Cert.MlaProjRefIdeal.main_arg4) = m' ((c.tc : Thread Cert.MlaProjRefIdeal.nD Cert.MlaProjRefIdeal.τ).loc Cert.MlaProjRefIdeal.main_arg4)
          ∧ r.2.mem ((c.tc : Thread Cert.MlaProjRefIdeal.nD Cert.MlaProjRefIdeal.τ).loc Cert.MlaProjRefIdeal.main_arg5) = m' ((c.tc : Thread Cert.MlaProjRefIdeal.nD Cert.MlaProjRefIdeal.τ).loc Cert.MlaProjRefIdeal.main_arg5))

def preserves_InConv_InConvIdeal : Prop :=
  True

def algebraic_InConvIdeal_InConvRefIdeal [hInConvIdeal : Cert.InConvIdeal.Facts] [hInConvRefIdeal : Cert.InConvRefIdeal.Facts] : Prop :=
  ∀ (m : (ℓ : Loc Cert.InConvIdeal.nD Cert.InConvIdeal.τ Cert.InConvIdeal.sig) → Buf (Elt Ideal) ℓ) (g : Dev Cert.InConvIdeal.nD → PrngReg)
    (m' : (ℓ : Loc Cert.InConvRefIdeal.nD Cert.InConvRefIdeal.τ Cert.InConvRefIdeal.sig) → Buf (Elt Ideal) ℓ) (g' : Dev Cert.InConvRefIdeal.nD → PrngReg), Pre_InConvIdeal m →
    (∀ c : Dev Cert.InConvIdeal.nD,
      m' ((c.tc : Thread Cert.InConvRefIdeal.nD Cert.InConvRefIdeal.τ).loc Cert.InConvRefIdeal.main_arg0) = m ((c.tc : Thread Cert.InConvIdeal.nD Cert.InConvIdeal.τ).loc Cert.InConvIdeal.main_arg0)
      ∧ m' ((c.tc : Thread Cert.InConvRefIdeal.nD Cert.InConvRefIdeal.τ).loc Cert.InConvRefIdeal.main_arg1) = m ((c.tc : Thread Cert.InConvIdeal.nD Cert.InConvIdeal.τ).loc Cert.InConvIdeal.main_arg1)
      ∧ m' ((c.tc : Thread Cert.InConvRefIdeal.nD Cert.InConvRefIdeal.τ).loc Cert.InConvRefIdeal.main_arg2) = m ((c.tc : Thread Cert.InConvIdeal.nD Cert.InConvIdeal.τ).loc Cert.InConvIdeal.main_arg2)
      ∧ m' ((c.tc : Thread Cert.InConvRefIdeal.nD Cert.InConvRefIdeal.τ).loc Cert.InConvRefIdeal.main_arg3) = m ((c.tc : Thread Cert.InConvIdeal.nD Cert.InConvIdeal.τ).loc Cert.InConvIdeal.main_arg3)
      ∧ m' ((c.tc : Thread Cert.InConvRefIdeal.nD Cert.InConvRefIdeal.τ).loc Cert.InConvRefIdeal.main_arg4) = m ((c.tc : Thread Cert.InConvIdeal.nD Cert.InConvIdeal.τ).loc Cert.InConvIdeal.main_arg4)
      ∧ m' ((c.tc : Thread Cert.InConvRefIdeal.nD Cert.InConvRefIdeal.τ).loc Cert.InConvRefIdeal.main_arg5) = m ((c.tc : Thread Cert.InConvIdeal.nD Cert.InConvIdeal.τ).loc Cert.InConvIdeal.main_arg5)) →
    ∃ (v0 : (c : Dev Cert.InConvIdeal.nD) → Buf (Elt Ideal) ((c.tc : Thread Cert.InConvIdeal.nD Cert.InConvIdeal.τ).loc Cert.InConvIdeal.main_v9_0)) (v1 : (c : Dev Cert.InConvIdeal.nD) → Buf (Elt Ideal) ((c.tc : Thread Cert.InConvIdeal.nD Cert.InConvIdeal.τ).loc Cert.InConvIdeal.main_v9_1)),
      θ_run (Cert.InConvIdeal.defs (F := Ideal)) (onTc (τ := Cert.InConvIdeal.τ) (Cert.InConvIdeal.main (F := Ideal))) ⟨m, fun _ => 0, g⟩ (fun r => ∀ c : Dev Cert.InConvIdeal.nD,
          r.2.mem ((c.tc : Thread Cert.InConvIdeal.nD Cert.InConvIdeal.τ).loc Cert.InConvIdeal.main_v9_0) = v0 c
          ∧ r.2.mem ((c.tc : Thread Cert.InConvIdeal.nD Cert.InConvIdeal.τ).loc Cert.InConvIdeal.main_v9_1) = v1 c
          ∧ r.2.mem ((c.tc : Thread Cert.InConvIdeal.nD Cert.InConvIdeal.τ).loc Cert.InConvIdeal.main_arg0) = m ((c.tc : Thread Cert.InConvIdeal.nD Cert.InConvIdeal.τ).loc Cert.InConvIdeal.main_arg0)
          ∧ r.2.mem ((c.tc : Thread Cert.InConvIdeal.nD Cert.InConvIdeal.τ).loc Cert.InConvIdeal.main_arg1) = m ((c.tc : Thread Cert.InConvIdeal.nD Cert.InConvIdeal.τ).loc Cert.InConvIdeal.main_arg1)
          ∧ r.2.mem ((c.tc : Thread Cert.InConvIdeal.nD Cert.InConvIdeal.τ).loc Cert.InConvIdeal.main_arg2) = m ((c.tc : Thread Cert.InConvIdeal.nD Cert.InConvIdeal.τ).loc Cert.InConvIdeal.main_arg2)
          ∧ r.2.mem ((c.tc : Thread Cert.InConvIdeal.nD Cert.InConvIdeal.τ).loc Cert.InConvIdeal.main_arg3) = m ((c.tc : Thread Cert.InConvIdeal.nD Cert.InConvIdeal.τ).loc Cert.InConvIdeal.main_arg3)
          ∧ r.2.mem ((c.tc : Thread Cert.InConvIdeal.nD Cert.InConvIdeal.τ).loc Cert.InConvIdeal.main_arg4) = m ((c.tc : Thread Cert.InConvIdeal.nD Cert.InConvIdeal.τ).loc Cert.InConvIdeal.main_arg4)
          ∧ r.2.mem ((c.tc : Thread Cert.InConvIdeal.nD Cert.InConvIdeal.τ).loc Cert.InConvIdeal.main_arg5) = m ((c.tc : Thread Cert.InConvIdeal.nD Cert.InConvIdeal.τ).loc Cert.InConvIdeal.main_arg5))
      ∧ θ_run (Cert.InConvRefIdeal.defs (F := Ideal)) (onTc (τ := Cert.InConvRefIdeal.τ) (Cert.InConvRefIdeal.main (F := Ideal))) ⟨m', fun _ => 0, g'⟩ (fun r => ∀ c : Dev Cert.InConvRefIdeal.nD,
          r.2.mem ((c.tc : Thread Cert.InConvRefIdeal.nD Cert.InConvRefIdeal.τ).loc Cert.InConvRefIdeal.main_v266) = v0 c
          ∧ r.2.mem ((c.tc : Thread Cert.InConvRefIdeal.nD Cert.InConvRefIdeal.τ).loc Cert.InConvRefIdeal.main_v267) = v1 c
          ∧ r.2.mem ((c.tc : Thread Cert.InConvRefIdeal.nD Cert.InConvRefIdeal.τ).loc Cert.InConvRefIdeal.main_arg0) = m' ((c.tc : Thread Cert.InConvRefIdeal.nD Cert.InConvRefIdeal.τ).loc Cert.InConvRefIdeal.main_arg0)
          ∧ r.2.mem ((c.tc : Thread Cert.InConvRefIdeal.nD Cert.InConvRefIdeal.τ).loc Cert.InConvRefIdeal.main_arg1) = m' ((c.tc : Thread Cert.InConvRefIdeal.nD Cert.InConvRefIdeal.τ).loc Cert.InConvRefIdeal.main_arg1)
          ∧ r.2.mem ((c.tc : Thread Cert.InConvRefIdeal.nD Cert.InConvRefIdeal.τ).loc Cert.InConvRefIdeal.main_arg2) = m' ((c.tc : Thread Cert.InConvRefIdeal.nD Cert.InConvRefIdeal.τ).loc Cert.InConvRefIdeal.main_arg2)
          ∧ r.2.mem ((c.tc : Thread Cert.InConvRefIdeal.nD Cert.InConvRefIdeal.τ).loc Cert.InConvRefIdeal.main_arg3) = m' ((c.tc : Thread Cert.InConvRefIdeal.nD Cert.InConvRefIdeal.τ).loc Cert.InConvRefIdeal.main_arg3)
          ∧ r.2.mem ((c.tc : Thread Cert.InConvRefIdeal.nD Cert.InConvRefIdeal.τ).loc Cert.InConvRefIdeal.main_arg4) = m' ((c.tc : Thread Cert.InConvRefIdeal.nD Cert.InConvRefIdeal.τ).loc Cert.InConvRefIdeal.main_arg4)
          ∧ r.2.mem ((c.tc : Thread Cert.InConvRefIdeal.nD Cert.InConvRefIdeal.τ).loc Cert.InConvRefIdeal.main_arg5) = m' ((c.tc : Thread Cert.InConvRefIdeal.nD Cert.InConvRefIdeal.τ).loc Cert.InConvRefIdeal.main_arg5))

def Claim : Prop :=
  ∃ (hKernel : Cert.Kernel.Facts) (hKernelIdeal : Cert.KernelIdeal.Facts) (hReferenceIdeal : Cert.ReferenceIdeal.Facts) (hInProj : Cert.InProj.Facts) (hInProjIdeal : Cert.InProjIdeal.Facts) (hInProjRefIdeal : Cert.InProjRefIdeal.Facts) (hGlu : Cert.Glu.Facts) (hGluIdeal : Cert.GluIdeal.Facts) (hGluRefIdeal : Cert.GluRefIdeal.Facts) (hMemKv : Cert.MemKv.Facts) (hMemKvIdeal : Cert.MemKvIdeal.Facts) (hMemKvRefIdeal : Cert.MemKvRefIdeal.Facts) (hOddOut : Cert.OddOut.Facts) (hOddOutIdeal : Cert.OddOutIdeal.Facts) (hOddOutRefIdeal : Cert.OddOutRefIdeal.Facts) (hEvenOut : Cert.EvenOut.Facts) (hEvenOutIdeal : Cert.EvenOutIdeal.Facts) (hEvenOutRefIdeal : Cert.EvenOutRefIdeal.Facts) (hMlaProj : Cert.MlaProj.Facts) (hMlaProjIdeal : Cert.MlaProjIdeal.Facts) (hMlaProjRefIdeal : Cert.MlaProjRefIdeal.Facts) (hInConv : Cert.InConv.Facts) (hInConvIdeal : Cert.InConvIdeal.Facts) (hInConvRefIdeal : Cert.InConvRefIdeal.Facts) (hPre_finite_scores : Cert.Pre_finite_scores.Facts) (hPre_finite_memory_scores : Cert.Pre_finite_memory_scores.Facts) (hPre_finite_memory_scores_even : Cert.Pre_finite_memory_scores_even.Facts) (hPre_zero_padding : Cert.Pre_zero_padding.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_InProj (hInProj := hInProj)
    ∧ quiescent_InProjIdeal (hInProjIdeal := hInProjIdeal)
    ∧ quiescent_InProjRefIdeal (hInProjRefIdeal := hInProjRefIdeal)
    ∧ quiescent_Glu (hGlu := hGlu)
    ∧ quiescent_GluIdeal (hGluIdeal := hGluIdeal)
    ∧ quiescent_GluRefIdeal (hGluRefIdeal := hGluRefIdeal)
    ∧ quiescent_MemKv (hMemKv := hMemKv)
    ∧ quiescent_MemKvIdeal (hMemKvIdeal := hMemKvIdeal)
    ∧ quiescent_MemKvRefIdeal (hMemKvRefIdeal := hMemKvRefIdeal)
    ∧ quiescent_OddOut (hOddOut := hOddOut)
    ∧ quiescent_OddOutIdeal (hOddOutIdeal := hOddOutIdeal)
    ∧ quiescent_OddOutIdeal_pre_finite_memory_scores (hOddOutIdeal := hOddOutIdeal) (hPre_finite_memory_scores := hPre_finite_memory_scores)
    ∧ quiescent_OddOutRefIdeal (hOddOutRefIdeal := hOddOutRefIdeal)
    ∧ quiescent_OddOutRefIdeal_pre_finite_memory_scores (hOddOutRefIdeal := hOddOutRefIdeal) (hPre_finite_memory_scores := hPre_finite_memory_scores)
    ∧ quiescent_EvenOut (hEvenOut := hEvenOut)
    ∧ quiescent_EvenOutIdeal (hEvenOutIdeal := hEvenOutIdeal)
    ∧ quiescent_EvenOutIdeal_pre_finite_memory_scores_even (hEvenOutIdeal := hEvenOutIdeal) (hPre_finite_memory_scores_even := hPre_finite_memory_scores_even)
    ∧ quiescent_EvenOutRefIdeal (hEvenOutRefIdeal := hEvenOutRefIdeal)
    ∧ quiescent_EvenOutRefIdeal_pre_finite_memory_scores_even (hEvenOutRefIdeal := hEvenOutRefIdeal) (hPre_finite_memory_scores_even := hPre_finite_memory_scores_even)
    ∧ quiescent_MlaProj (hMlaProj := hMlaProj)
    ∧ quiescent_MlaProjIdeal (hMlaProjIdeal := hMlaProjIdeal)
    ∧ quiescent_MlaProjIdeal_pre_zero_padding (hMlaProjIdeal := hMlaProjIdeal) (hPre_zero_padding := hPre_zero_padding)
    ∧ quiescent_MlaProjRefIdeal (hMlaProjRefIdeal := hMlaProjRefIdeal)
    ∧ quiescent_MlaProjRefIdeal_pre_zero_padding (hMlaProjRefIdeal := hMlaProjRefIdeal) (hPre_zero_padding := hPre_zero_padding)
    ∧ quiescent_InConv (hInConv := hInConv)
    ∧ quiescent_InConvIdeal (hInConvIdeal := hInConvIdeal)
    ∧ quiescent_InConvRefIdeal (hInConvRefIdeal := hInConvRefIdeal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_InProj_InProjIdeal
    ∧ algebraic_InProjIdeal_InProjRefIdeal (hInProjIdeal := hInProjIdeal) (hInProjRefIdeal := hInProjRefIdeal)
    ∧ preserves_Glu_GluIdeal
    ∧ algebraic_GluIdeal_GluRefIdeal (hGluIdeal := hGluIdeal) (hGluRefIdeal := hGluRefIdeal)
    ∧ preserves_MemKv_MemKvIdeal
    ∧ algebraic_MemKvIdeal_MemKvRefIdeal (hMemKvIdeal := hMemKvIdeal) (hMemKvRefIdeal := hMemKvRefIdeal)
    ∧ preserves_OddOut_OddOutIdeal
    ∧ algebraic_OddOutIdeal_OddOutRefIdeal_pre_finite_memory_scores (hOddOutIdeal := hOddOutIdeal) (hOddOutRefIdeal := hOddOutRefIdeal) (hPre_finite_memory_scores := hPre_finite_memory_scores)
    ∧ preserves_EvenOut_EvenOutIdeal
    ∧ algebraic_EvenOutIdeal_EvenOutRefIdeal_pre_finite_memory_scores_even (hEvenOutIdeal := hEvenOutIdeal) (hEvenOutRefIdeal := hEvenOutRefIdeal) (hPre_finite_memory_scores_even := hPre_finite_memory_scores_even)
    ∧ preserves_MlaProj_MlaProjIdeal
    ∧ algebraic_MlaProjIdeal_MlaProjRefIdeal_pre_zero_padding (hMlaProjIdeal := hMlaProjIdeal) (hMlaProjRefIdeal := hMlaProjRefIdeal) (hPre_zero_padding := hPre_zero_padding)
    ∧ preserves_InConv_InConvIdeal
    ∧ algebraic_InConvIdeal_InConvRefIdeal (hInConvIdeal := hInConvIdeal) (hInConvRefIdeal := hInConvRefIdeal)
-- ==== Pre_finite_memory_scores.lean ====
abbrev S16384x1024 : Shape := ⟨2, ![16384, 1024]⟩
abbrev S16384x2048 : Shape := ⟨2, ![16384, 2048]⟩
abbrev S4x256x1024 : Shape := ⟨3, ![4, 256, 1024]⟩
abbrev S1536x1024 : Shape := ⟨2, ![1536, 1024]⟩
abbrev S1024 : Shape := ⟨1, ![1024]⟩
abbrev S16384x512 : Shape := ⟨2, ![16384, 512]⟩
abbrev S4x256x512 : Shape := ⟨3, ![4, 256, 512]⟩
abbrev S_ : Shape := ⟨0, ![]⟩

class Facts : Prop where
  bitsLt_bf16_f32 : FTy.bits .bf16 < FTy.bits .f32
  slices_S16384x2048_S16384x512_0_1024 : S16384x2048.Slices ![0, 1024] S16384x512
  slices_S4x256x1024_S4x256x512_0_0_0 : S4x256x1024.Slices ![0, 0, 0] S4x256x512
  bcast_S_S16384x512 : S_.BroadcastsInDim S16384x512 (![] : Fin 0 → Fin S16384x512.rank)
  reducesTo_S16384x512_S_d0_1 : S16384x512.ReducesTo [0, 1] S_
  h_S_ : 0 < S_.numel
  bcast_S_S4x256x512 : S_.BroadcastsInDim S4x256x512 (![] : Fin 0 → Fin S4x256x512.rank)
  reducesTo_S4x256x512_S_d0_1_2 : S4x256x512.ReducesTo [0, 1, 2] S_

variable [Facts]

def fn {F : FTy → Type} [FloatOps F] (main_arg0 : FVec F S16384x1024 .bf16) (main_arg1 : FVec F S16384x2048 .bf16) (main_arg2 : FVec F S4x256x1024 .bf16) (main_arg3 : FVec F S1536x1024 .f32) (main_arg4 : FVec F S16384x1024 .f32) (main_arg5 : FVec F S1024 .f32) (main_arg6 : FVec F S1024 .f32) : IVec S_ 1 :=
  let main_v0 : FVec F S16384x2048 .f32 := (extf .f32 · bitsLt_bf16_f32) main_arg1
  let main_v1 : FVec F S16384x512 .f32 := (extractStridedSlice S16384x512 ![0, 1024] · slices_S16384x2048_S16384x512_0_1024) main_v0
  let main_v2 : FVec F S4x256x1024 .f32 := (extf .f32 · bitsLt_bf16_f32) main_arg2
  let main_v3 : FVec F S4x256x512 .f32 := (extractStridedSlice S4x256x512 ![0, 0, 0] · slices_S4x256x1024_S4x256x512_0_0_0) main_v2
  let main_v4 : FVec F S16384x512 .f32 := Host.absf main_v1
  let main_cst : FVec F S_ .f32 := constant S_ .f32 0x7F800000#32
  let main_v5 : FVec F S16384x512 .f32 := broadcastInDim S16384x512 ![] bcast_S_S16384x512 main_cst
  let main_v6 : IVec S16384x512 1 := cmpf .olt main_v4 main_v5
  let main_c : IVec S_ 1 := constantI S_ 1 1#1
  let main_v7 : IVec S_ 1 := (fun x v => Host.reduce IntOp.andi x v reducesTo_S16384x512_S_d0_1 h_S_) main_v6 main_c
  let main_v8 : FVec F S4x256x512 .f32 := Host.absf main_v3
  let main_cst_0 : FVec F S_ .f32 := constant S_ .f32 0x7F800000#32
  let main_v9 : FVec F S4x256x512 .f32 := broadcastInDim S4x256x512 ![] bcast_S_S4x256x512 main_cst_0
  let main_v10 : IVec S4x256x512 1 := cmpf .olt main_v8 main_v9
  let main_c_1 : IVec S_ 1 := constantI S_ 1 1#1
  let main_v11 : IVec S_ 1 := (fun x v => Host.reduce IntOp.andi x v reducesTo_S4x256x512_S_d0_1_2 h_S_) main_v10 main_c_1
  let main_v12 : IVec S_ 1 := andi main_v7 main_v11
  main_v12
-- ==== Pre_finite_memory_scores_even.lean ====
abbrev S16384x1024 : Shape := ⟨2, ![16384, 1024]⟩
abbrev S16384x3200 : Shape := ⟨2, ![16384, 3200]⟩
abbrev S4x256x1024 : Shape := ⟨3, ![4, 256, 1024]⟩
abbrev S2560x1024 : Shape := ⟨2, ![2560, 1024]⟩
abbrev S1024 : Shape := ⟨1, ![1024]⟩
abbrev S16384x512 : Shape := ⟨2, ![16384, 512]⟩
abbrev S4x256x512 : Shape := ⟨3, ![4, 256, 512]⟩
abbrev S_ : Shape := ⟨0, ![]⟩

class Facts : Prop where
  bitsLt_bf16_f32 : FTy.bits .bf16 < FTy.bits .f32
  slices_S16384x3200_S16384x512_0_2048 : S16384x3200.Slices ![0, 2048] S16384x512
  slices_S4x256x1024_S4x256x512_0_0_0 : S4x256x1024.Slices ![0, 0, 0] S4x256x512
  bcast_S_S16384x512 : S_.BroadcastsInDim S16384x512 (![] : Fin 0 → Fin S16384x512.rank)
  reducesTo_S16384x512_S_d0_1 : S16384x512.ReducesTo [0, 1] S_
  h_S_ : 0 < S_.numel
  bcast_S_S4x256x512 : S_.BroadcastsInDim S4x256x512 (![] : Fin 0 → Fin S4x256x512.rank)
  reducesTo_S4x256x512_S_d0_1_2 : S4x256x512.ReducesTo [0, 1, 2] S_

variable [Facts]

def fn {F : FTy → Type} [FloatOps F] (main_arg0 : FVec F S16384x1024 .bf16) (main_arg1 : FVec F S16384x1024 .bf16) (main_arg2 : FVec F S16384x3200 .bf16) (main_arg3 : FVec F S4x256x1024 .bf16) (main_arg4 : FVec F S2560x1024 .f32) (main_arg5 : FVec F S16384x1024 .f32) (main_arg6 : FVec F S1024 .f32) (main_arg7 : FVec F S1024 .f32) : IVec S_ 1 :=
  let main_v0 : FVec F S16384x3200 .f32 := (extf .f32 · bitsLt_bf16_f32) main_arg2
  let main_v1 : FVec F S16384x512 .f32 := (extractStridedSlice S16384x512 ![0, 2048] · slices_S16384x3200_S16384x512_0_2048) main_v0
  let main_v2 : FVec F S4x256x1024 .f32 := (extf .f32 · bitsLt_bf16_f32) main_arg3
  let main_v3 : FVec F S4x256x512 .f32 := (extractStridedSlice S4x256x512 ![0, 0, 0] · slices_S4x256x1024_S4x256x512_0_0_0) main_v2
  let main_v4 : FVec F S16384x512 .f32 := Host.absf main_v1
  let main_cst : FVec F S_ .f32 := constant S_ .f32 0x7F800000#32
  let main_v5 : FVec F S16384x512 .f32 := broadcastInDim S16384x512 ![] bcast_S_S16384x512 main_cst
  let main_v6 : IVec S16384x512 1 := cmpf .olt main_v4 main_v5
  let main_c : IVec S_ 1 := constantI S_ 1 1#1
  let main_v7 : IVec S_ 1 := (fun x v => Host.reduce IntOp.andi x v reducesTo_S16384x512_S_d0_1 h_S_) main_v6 main_c
  let main_v8 : FVec F S4x256x512 .f32 := Host.absf main_v3
  let main_cst_0 : FVec F S_ .f32 := constant S_ .f32 0x7F800000#32
  let main_v9 : FVec F S4x256x512 .f32 := broadcastInDim S4x256x512 ![] bcast_S_S4x256x512 main_cst_0
  let main_v10 : IVec S4x256x512 1 := cmpf .olt main_v8 main_v9
  let main_c_1 : IVec S_ 1 := constantI S_ 1 1#1
  let main_v11 : IVec S_ 1 := (fun x v => Host.reduce IntOp.andi x v reducesTo_S4x256x512_S_d0_1_2 h_S_) main_v10 main_c_1
  let main_v12 : IVec S_ 1 := andi main_v7 main_v11
  main_v12
-- ==== Pre_finite_scores.lean ====
abbrev S4x8x4096x256 : Shape := ⟨4, ![4, 8, 4096, 256]⟩
abbrev S4x8x4096x128 : Shape := ⟨4, ![4, 8, 4096, 128]⟩
abbrev S16384x3200 : Shape := ⟨2, ![16384, 3200]⟩
abbrev S_ : Shape := ⟨0, ![]⟩

class Facts : Prop where
  bitsLt_bf16_f32 : FTy.bits .bf16 < FTy.bits .f32
  bcast_S_S4x8x4096x256 : S_.BroadcastsInDim S4x8x4096x256 (![] : Fin 0 → Fin S4x8x4096x256.rank)
  reducesTo_S4x8x4096x256_S_d0_1_2_3 : S4x8x4096x256.ReducesTo [0, 1, 2, 3] S_
  h_S_ : 0 < S_.numel

variable [Facts]

def fn {F : FTy → Type} [FloatOps F] (main_arg0 : FVec F S4x8x4096x256 .bf16) (main_arg1 : FVec F S4x8x4096x256 .bf16) (main_arg2 : FVec F S4x8x4096x128 .bf16) (main_arg3 : FVec F S16384x3200 .bf16) : IVec S_ 1 :=
  let main_v0 : FVec F S4x8x4096x256 .f32 := (extf .f32 · bitsLt_bf16_f32) main_arg0
  let main_v1 : FVec F S4x8x4096x256 .f32 := Host.absf main_v0
  let main_cst : FVec F S_ .f32 := constant S_ .f32 0x7F800000#32
  let main_v2 : FVec F S4x8x4096x256 .f32 := broadcastInDim S4x8x4096x256 ![] bcast_S_S4x8x4096x256 main_cst
  let main_v3 : IVec S4x8x4096x256 1 := cmpf .olt main_v1 main_v2
  let main_c : IVec S_ 1 := constantI S_ 1 1#1
  let main_v4 : IVec S_ 1 := (fun x v => Host.reduce IntOp.andi x v reducesTo_S4x8x4096x256_S_d0_1_2_3 h_S_) main_v3 main_c
  let main_v5 : FVec F S4x8x4096x256 .f32 := (extf .f32 · bitsLt_bf16_f32) main_arg1
  let main_v6 : FVec F S4x8x4096x256 .f32 := Host.absf main_v5
  let main_cst_0 : FVec F S_ .f32 := constant S_ .f32 0x7F800000#32
  let main_v7 : FVec F S4x8x4096x256 .f32 := broadcastInDim S4x8x4096x256 ![] bcast_S_S4x8x4096x256 main_cst_0
  let main_v8 : IVec S4x8x4096x256 1 := cmpf .olt main_v6 main_v7
  let main_c_1 : IVec S_ 1 := constantI S_ 1 1#1
  let main_v9 : IVec S_ 1 := (fun x v => Host.reduce IntOp.andi x v reducesTo_S4x8x4096x256_S_d0_1_2_3 h_S_) main_v8 main_c_1
  let main_v10 : IVec S_ 1 := andi main_v4 main_v9
  main_v10
-- ==== Pre_zero_padding.lean ====
abbrev S16384x3200 : Shape := ⟨2, ![16384, 3200]⟩
abbrev S4x4096 : Shape := ⟨2, ![4, 4096]⟩
abbrev S768 : Shape := ⟨1, ![768]⟩
abbrev S768x1536 : Shape := ⟨2, ![768, 1536]⟩
abbrev S256 : Shape := ⟨1, ![256]⟩
abbrev S256x2048 : Shape := ⟨2, ![256, 2048]⟩
abbrev S16384x64 : Shape := ⟨2, ![16384, 64]⟩
abbrev S_ : Shape := ⟨0, ![]⟩

class Facts : Prop where
  bitsLt_bf16_f32 : FTy.bits .bf16 < FTy.bits .f32
  slices_S16384x3200_S16384x64_0_3136 : S16384x3200.Slices ![0, 3136] S16384x64
  bcast_S_S16384x64 : S_.BroadcastsInDim S16384x64 (![] : Fin 0 → Fin S16384x64.rank)
  reducesTo_S16384x64_S_d0_1 : S16384x64.ReducesTo [0, 1] S_
  h_S_ : 0 < S_.numel

variable [Facts]

def fn {F : FTy → Type} [FloatOps F] (main_arg0 : FVec F S16384x3200 .bf16) (main_arg1 : IVec S4x4096 32) (main_arg2 : FVec F S768 .f32) (main_arg3 : FVec F S768x1536 .f32) (main_arg4 : FVec F S256 .f32) (main_arg5 : FVec F S256x2048 .f32) : IVec S_ 1 :=
  let main_v0 : FVec F S16384x3200 .f32 := (extf .f32 · bitsLt_bf16_f32) main_arg0
  let main_v1 : FVec F S16384x64 .f32 := (extractStridedSlice S16384x64 ![0, 3136] · slices_S16384x3200_S16384x64_0_3136) main_v0
  let main_cst : FVec F S_ .f32 := constant S_ .f32 0x00000000#32
  let main_v2 : FVec F S16384x64 .f32 := broadcastInDim S16384x64 ![] bcast_S_S16384x64 main_cst
  let main_v3 : IVec S16384x64 1 := cmpf .oeq main_v1 main_v2
  let main_c : IVec S_ 1 := constantI S_ 1 1#1
  let main_v4 : IVec S_ 1 := (fun x v => Host.reduce IntOp.andi x v reducesTo_S16384x64_S_d0_1 h_S_) main_v3 main_c
  main_v4
-- ==== Kernel.lean ====
abbrev S4x8x4096x256 : Shape := ⟨4, ![4, 8, 4096, 256]⟩
abbrev S4x8x4096x128 : Shape := ⟨4, ![4, 8, 4096, 128]⟩
abbrev S16384x3200 : Shape := ⟨2, ![16384, 3200]⟩
abbrev S16384x1024 : Shape := ⟨2, ![16384, 1024]⟩
abbrev S1x1x2048x256 : Shape := ⟨4, ![1, 1, 2048, 256]⟩
abbrev S1x1x4096x256 : Shape := ⟨4, ![1, 1, 4096, 256]⟩
abbrev S1x1x4096x128 : Shape := ⟨4, ![1, 1, 4096, 128]⟩
abbrev S2048x128 : Shape := ⟨2, ![2048, 128]⟩
abbrev S2048x256 : Shape := ⟨2, ![2048, 256]⟩
abbrev S256x128 : Shape := ⟨2, ![256, 128]⟩
abbrev S2048x1 : Shape := ⟨2, ![2048, 1]⟩
abbrev S1x1x256x256 : Shape := ⟨4, ![1, 1, 256, 256]⟩
abbrev S256x256 : Shape := ⟨2, ![256, 256]⟩
abbrev S1x1x256x128 : Shape := ⟨4, ![1, 1, 256, 128]⟩
abbrev S2048 : Shape := ⟨1, ![2048]⟩

abbrev nBuf : Space → Nat
  | .hbm => 5
  | .vmem => 10
  | .smem => 0
  | _ => 0

abbrev bufTy : (tb : Table) → Fin (tcTables nBuf tb) → BufTy
  | .hbm, ⟨0, _⟩ => ⟨S4x8x4096x256, .bf16⟩
  | .hbm, ⟨1, _⟩ => ⟨S4x8x4096x256, .bf16⟩
  | .hbm, ⟨2, _⟩ => ⟨S4x8x4096x128, .bf16⟩
  | .hbm, ⟨3, _⟩ => ⟨S16384x3200, .bf16⟩
  | .hbm, ⟨4, _⟩ => ⟨S16384x1024, .bf16⟩
  | .local _ .vmem, ⟨0, _⟩ => ⟨S1x1x2048x256, .bf16⟩
  | .local _ .vmem, ⟨1, _⟩ => ⟨S1x1x2048x256, .bf16⟩
  | .local _ .vmem, ⟨2, _⟩ => ⟨S1x1x4096x256, .bf16⟩
  | .local _ .vmem, ⟨3, _⟩ => ⟨S1x1x4096x256, .bf16⟩
  | .local _ .vmem, ⟨4, _⟩ => ⟨S1x1x4096x128, .bf16⟩
  | .local _ .vmem, ⟨5, _⟩ => ⟨S1x1x4096x128, .bf16⟩
  | .local _ .vmem, ⟨6, _⟩ => ⟨S2048x128, .bf16⟩
  | .local _ .vmem, ⟨7, _⟩ => ⟨S2048x128, .bf16⟩
  | .local _ .vmem, ⟨8, _⟩ => ⟨S2048x128, .bf16⟩
  | .local _ .vmem, ⟨9, _⟩ => ⟨S2048x128, .bf16⟩
  | _, _ => ⟨S4x8x4096x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 8, 2], ![false, false, false]⟩

def k0_mult1 : BitVec 32 :=
  let c0_i32 : BitVec 32 := 0#32
  let c256_i32 : BitVec 32 := 256#32
  let v5 : BitVec 32 := Scalar.muli c0_i32 c256_i32
  v5
def k0_off1 (c0_i32 : BitVec 32) : Fin 4 → Nat :=
  let c0_5 : Index := 0#32
  let c0_6 : Index := 0#32
  let c256_i32 : BitVec 32 := 256#32
  let v5 : BitVec 32 := Scalar.muli c0_i32 c256_i32
  let v6 : BitVec 32 := v5
  let v7 : Index := Scalar.indexCast v6
  let c0_7 : Index := 0#32
  ![0, 0, v7.toNat, 0]
def k0_off2 (c0_i32 : BitVec 32) : Fin 4 → Nat :=
  let c0_8 : Index := 0#32
  let c0_9 : Index := 0#32
  let c256_i32 : BitVec 32 := 256#32
  let v5 : BitVec 32 := Scalar.muli c0_i32 c256_i32
  let v6 : BitVec 32 := v5
  let v10 : Index := Scalar.indexCast v6
  let c0_10 : Index := 0#32
  ![0, 0, v10.toNat, 0]
def k0_mult2 : BitVec 32 :=
  let c1_i32 : BitVec 32 := 1#32
  let c256_i32_14 : BitVec 32 := 256#32
  let v28 : BitVec 32 := Scalar.muli c1_i32 c256_i32_14
  v28
def k0_mult3 : BitVec 32 :=
  let c2_i32 : BitVec 32 := 2#32
  let c256_i32_24 : BitVec 32 := 256#32
  let v51 : BitVec 32 := Scalar.muli c2_i32 c256_i32_24
  v51
def k0_mult4 : BitVec 32 :=
  let c3_i32 : BitVec 32 := 3#32
  let c256_i32_34 : BitVec 32 := 256#32
  let v74 : BitVec 32 := Scalar.muli c3_i32 c256_i32_34
  v74
def k0_mult5 : BitVec 32 :=
  let c4_i32 : BitVec 32 := 4#32
  let c256_i32_44 : BitVec 32 := 256#32
  let v97 : BitVec 32 := Scalar.muli c4_i32 c256_i32_44
  v97
def k0_mult6 : BitVec 32 :=
  let c5_i32 : BitVec 32 := 5#32
  let c256_i32_54 : BitVec 32 := 256#32
  let v120 : BitVec 32 := Scalar.muli c5_i32 c256_i32_54
  v120
def k0_mult7 : BitVec 32 :=
  let c6_i32 : BitVec 32 := 6#32
  let c256_i32_64 : BitVec 32 := 256#32
  let v143 : BitVec 32 := Scalar.muli c6_i32 c256_i32_64
  v143
def k0_mult8 : BitVec 32 :=
  let c7_i32 : BitVec 32 := 7#32
  let c256_i32_74 : BitVec 32 := 256#32
  let v166 : BitVec 32 := Scalar.muli c7_i32 c256_i32_74
  v166
def k0_mult9 : BitVec 32 :=
  let c8_i32 : BitVec 32 := 8#32
  let c256_i32_84 : BitVec 32 := 256#32
  let v189 : BitVec 32 := Scalar.muli c8_i32 c256_i32_84
  v189
def k0_mult10 : BitVec 32 :=
  let c9_i32 : BitVec 32 := 9#32
  let c256_i32_94 : BitVec 32 := 256#32
  let v212 : BitVec 32 := Scalar.muli c9_i32 c256_i32_94
  v212
def k0_mult11 : BitVec 32 :=
  let c10_i32 : BitVec 32 := 10#32
  let c256_i32_104 : BitVec 32 := 256#32
  let v235 : BitVec 32 := Scalar.muli c10_i32 c256_i32_104
  v235
def k0_mult12 : BitVec 32 :=
  let c11_i32 : BitVec 32 := 11#32
  let c256_i32_114 : BitVec 32 := 256#32
  let v258 : BitVec 32 := Scalar.muli c11_i32 c256_i32_114
  v258
def k0_mult13 : BitVec 32 :=
  let c12_i32 : BitVec 32 := 12#32
  let c256_i32_124 : BitVec 32 := 256#32
  let v281 : BitVec 32 := Scalar.muli c12_i32 c256_i32_124
  v281
def k0_mult14 : BitVec 32 :=
  let c13_i32 : BitVec 32 := 13#32
  let c256_i32_134 : BitVec 32 := 256#32
  let v304 : BitVec 32 := Scalar.muli c13_i32 c256_i32_134
  v304
def k0_mult15 : BitVec 32 :=
  let c14_i32 : BitVec 32 := 14#32
  let c256_i32_144 : BitVec 32 := 256#32
  let v327 : BitVec 32 := Scalar.muli c14_i32 c256_i32_144
  v327
def k0_mult16 : BitVec 32 :=
  let c15_i32 : BitVec 32 := 15#32
  let c256_i32_154 : BitVec 32 := 256#32
  let v350 : BitVec 32 := Scalar.muli c15_i32 c256_i32_154
  v350
def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c8_i32 : BitVec 32 := 8#32
  let v2 : BitVec 32 := Scalar.addi c8_i32 arg1
  let c0_i32 : BitVec 32 := 0#32
  ![v1.toNat, v2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  ![v1.toNat, arg1.toNat]

abbrev stage0_0 : Fin 2 → Memref sig .tc .vmem S1x1x2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== ReferenceIdeal.lean ====
abbrev S4x8x4096x256 : Shape := ⟨4, ![4, 8, 4096, 256]⟩
abbrev S4x8x4096x128 : Shape := ⟨4, ![4, 8, 4096, 128]⟩
abbrev S16384x3200 : Shape := ⟨2, ![16384, 3200]⟩
abbrev S16384x1024 : Shape := ⟨2, ![16384, 1024]⟩
abbrev S4x8x4096x4096 : Shape := ⟨4, ![4, 8, 4096, 4096]⟩
abbrev S_ : Shape := ⟨0, ![]⟩
abbrev S4x8x4096 : Shape := ⟨3, ![4, 8, 4096]⟩
abbrev S4x8x4096x1 : Shape := ⟨4, ![4, 8, 4096, 1]⟩
abbrev S4x8x128x4096 : Shape := ⟨4, ![4, 8, 128, 4096]⟩
abbrev S4x4096x8x128 : Shape := ⟨4, ![4, 4096, 8, 128]⟩

abbrev nBuf : Space → Nat
  | .hbm => 42
  | .vmem => 0
  | .smem => 0
  | _ => 0

abbrev bufTy : (tb : Table) → Fin (tcTables nBuf tb) → BufTy
  | .hbm, ⟨0, _⟩ => ⟨S4x8x4096x256, .bf16⟩
  | .hbm, ⟨1, _⟩ => ⟨S4x8x4096x256, .bf16⟩
  | .hbm, ⟨2, _⟩ => ⟨S4x8x4096x128, .bf16⟩
  | .hbm, ⟨3, _⟩ => ⟨S16384x3200, .bf16⟩
  | .hbm, ⟨4, _⟩ => ⟨S4x8x4096x256, .f32⟩
  | .hbm, ⟨5, _⟩ => ⟨S4x8x4096x256, .f32⟩
  | .hbm, ⟨6, _⟩ => ⟨S4x8x4096x128, .f32⟩
  | .hbm, ⟨7, _⟩ => ⟨S16384x3200, .f32⟩
  | .hbm, ⟨8, _⟩ => ⟨S16384x1024, .f32⟩
  | .hbm, ⟨9, _⟩ => ⟨S4x8x4096x4096, .f32⟩
  | .hbm, ⟨10, _⟩ => ⟨S_, .f32⟩
  | .hbm, ⟨11, _⟩ => ⟨S_, .f32⟩
  | .hbm, ⟨12, _⟩ => ⟨S4x8x4096x4096, .f32⟩
  | .hbm, ⟨13, _⟩ => ⟨S4x8x4096x4096, .f32⟩
  | .hbm, ⟨14, _⟩ => ⟨S_, .f32⟩
  | .hbm, ⟨15, _⟩ => ⟨S4x8x4096, .f32⟩
  | .hbm, ⟨16, _⟩ => ⟨S_, .f32⟩
  | .hbm, ⟨17, _⟩ => ⟨S4x8x4096, .f32⟩
  | .hbm, ⟨18, _⟩ => ⟨S4x8x4096, .f32⟩
  | .hbm, ⟨19, _⟩ => ⟨S4x8x4096x1, .f32⟩
  | .hbm, ⟨20, _⟩ => ⟨S4x8x4096x4096, .f32⟩
  | .hbm, ⟨21, _⟩ => ⟨S4x8x4096x4096, .f32⟩
  | .hbm, ⟨22, _⟩ => ⟨S4x8x4096x4096, .f32⟩
  | .hbm, ⟨23, _⟩ => ⟨S_, .f32⟩
  | .hbm, ⟨24, _⟩ => ⟨S4x8x4096, .f32⟩
  | .hbm, ⟨25, _⟩ => ⟨S4x8x4096x1, .f32⟩
  | .hbm, ⟨26, _⟩ => ⟨S4x8x4096x4096, .f32⟩
  | .hbm, ⟨27, _⟩ => ⟨S4x8x4096x4096, .f32⟩
  | .hbm, ⟨28, _⟩ => ⟨S4x8x128x4096, .f32⟩
  | .hbm, ⟨29, _⟩ => ⟨S4x4096x8x128, .f32⟩
  | .hbm, ⟨30, _⟩ => ⟨S16384x1024, .f32⟩
  | .hbm, ⟨31, _⟩ => ⟨S16384x1024, .f32⟩
  | .hbm, ⟨32, _⟩ => ⟨S16384x1024, .f32⟩
  | .hbm, ⟨33, _⟩ => ⟨S_, .f32⟩
  | .hbm, ⟨34, _⟩ => ⟨S16384x1024, .f32⟩
  | .hbm, ⟨35, _⟩ => ⟨S16384x1024, .f32⟩
  | .hbm, ⟨36, _⟩ => ⟨S_, .f32⟩
  | .hbm, ⟨37, _⟩ => ⟨S16384x1024, .f32⟩
  | .hbm, ⟨38, _⟩ => ⟨S16384x1024, .f32⟩
  | .hbm, ⟨39, _⟩ => ⟨S16384x1024, .f32⟩
  | .hbm, ⟨40, _⟩ => ⟨S16384x1024, .f32⟩
  | .hbm, ⟨41, _⟩ => ⟨S16384x1024, .bf16⟩
  | _, _ => ⟨S4x8x4096x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_call0_v5 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩

abbrev nD : Nat := 1
abbrev τ : Topo := Topo.v7x

variable {F : FTy → Type} [FloatOps F]
-- ==== InProj.lean ====
abbrev S16384x1024 : Shape := ⟨2, ![16384, 1024]⟩
abbrev S1024x3072 : Shape := ⟨2, ![1024, 3072]⟩
abbrev S16384x2048 : Shape := ⟨2, ![16384, 2048]⟩
abbrev S1024x1024 : Shape := ⟨2, ![1024, 1024]⟩
abbrev S1024x2048 : Shape := ⟨2, ![1024, 2048]⟩

abbrev nBuf : Space → Nat
  | .hbm => 5
  | .vmem => 7
  | .smem => 0
  | _ => 0

abbrev bufTy : (tb : Table) → Fin (tcTables nBuf tb) → BufTy
  | .hbm, ⟨0, _⟩ => ⟨S16384x1024, .f32⟩
  | .hbm, ⟨1, _⟩ => ⟨S1024x3072, .f32⟩
  | .hbm, ⟨2, _⟩ => ⟨S1024x3072, .bf16⟩
  | .hbm, ⟨3, _⟩ => ⟨S16384x1024, .f32⟩
  | .hbm, ⟨4, _⟩ => ⟨S16384x2048, .bf16⟩
  | .local _ .vmem, ⟨0, _⟩ => ⟨S1024x1024, .f32⟩
  | .local _ .vmem, ⟨1, _⟩ => ⟨S1024x1024, .f32⟩
  | .local _ .vmem, ⟨2, _⟩ => ⟨S1024x3072, .bf16⟩
  | .local _ .vmem, ⟨3, _⟩ => ⟨S1024x1024, .f32⟩
  | .local _ .vmem, ⟨4, _⟩ => ⟨S1024x1024, .f32⟩
  | .local _ .vmem, ⟨5, _⟩ => ⟨S1024x2048, .bf16⟩
  | .local _ .vmem, ⟨6, _⟩ => ⟨S1024x2048, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== InProjRefIdeal.lean ====
abbrev S16384x1024 : Shape := ⟨2, ![16384, 1024]⟩
abbrev S1024x3072 : Shape := ⟨2, ![1024, 3072]⟩
abbrev S16384x3072 : Shape := ⟨2, ![16384, 3072]⟩
abbrev S16384x2048 : Shape := ⟨2, ![16384, 2048]⟩

abbrev nBuf : Space → Nat
  | .hbm => 6
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x3072, .f32⟩
  | .hbm, ⟨2, _⟩ => ⟨S16384x3072, .f32⟩
  | .hbm, ⟨3, _⟩ => ⟨S16384x1024, .f32⟩
  | .hbm, ⟨4, _⟩ => ⟨S16384x2048, .f32⟩
  | .hbm, ⟨5, _⟩ => ⟨S16384x2048, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Glu.lean ====
abbrev S16384x1024 : Shape := ⟨2, ![16384, 1024]⟩
abbrev S1024x2048 : Shape := ⟨2, ![1024, 2048]⟩
abbrev S16384x2048 : Shape := ⟨2, ![16384, 2048]⟩
abbrev S1024x1024 : Shape := ⟨2, ![1024, 1024]⟩
abbrev S1024x256 : Shape := ⟨2, ![1024, 256]⟩

abbrev nBuf : Space → Nat
  | .hbm => 5
  | .vmem => 7
  | .smem => 0
  | _ => 0

abbrev bufTy : (tb : Table) → Fin (tcTables nBuf tb) → BufTy
  | .hbm, ⟨0, _⟩ => ⟨S16384x1024, .bf16⟩
  | .hbm, ⟨1, _⟩ => ⟨S1024x2048, .f32⟩
  | .hbm, ⟨2, _⟩ => ⟨S16384x2048, .bf16⟩
  | .hbm, ⟨3, _⟩ => ⟨S1024x2048, .bf16⟩
  | .hbm, ⟨4, _⟩ => ⟨S16384x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x2048, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== GluRefIdeal.lean ====
abbrev S16384x1024 : Shape := ⟨2, ![16384, 1024]⟩
abbrev S1024x2048 : Shape := ⟨2, ![1024, 2048]⟩
abbrev S16384x2048 : Shape := ⟨2, ![16384, 2048]⟩
abbrev S_ : Shape := ⟨0, ![]⟩

abbrev nBuf : Space → Nat
  | .hbm => 29
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x2048, .f32⟩
  | .hbm, ⟨2, _⟩ => ⟨S16384x2048, .bf16⟩
  | .hbm, ⟨3, _⟩ => ⟨S16384x2048, .f32⟩
  | .hbm, ⟨4, _⟩ => ⟨S16384x1024, .f32⟩
  | .hbm, ⟨5, _⟩ => ⟨S16384x1024, .f32⟩
  | .hbm, ⟨6, _⟩ => ⟨S16384x2048, .f32⟩
  | .hbm, ⟨7, _⟩ => ⟨S16384x1024, .f32⟩
  | .hbm, ⟨8, _⟩ => ⟨S16384x1024, .f32⟩
  | .hbm, ⟨9, _⟩ => ⟨S16384x1024, .f32⟩
  | .hbm, ⟨10, _⟩ => ⟨S16384x1024, .f32⟩
  | .hbm, ⟨11, _⟩ => ⟨S_, .f32⟩
  | .hbm, ⟨12, _⟩ => ⟨S16384x1024, .f32⟩
  | .hbm, ⟨13, _⟩ => ⟨S16384x1024, .f32⟩
  | .hbm, ⟨14, _⟩ => ⟨S_, .f32⟩
  | .hbm, ⟨15, _⟩ => ⟨S16384x1024, .f32⟩
  | .hbm, ⟨16, _⟩ => ⟨S16384x1024, .f32⟩
  | .hbm, ⟨17, _⟩ => ⟨S16384x1024, .f32⟩
  | .hbm, ⟨18, _⟩ => ⟨S16384x1024, .f32⟩
  | .hbm, ⟨19, _⟩ => ⟨S16384x1024, .f32⟩
  | .hbm, ⟨20, _⟩ => ⟨S_, .f32⟩
  | .hbm, ⟨21, _⟩ => ⟨S16384x1024, .f32⟩
  | .hbm, ⟨22, _⟩ => ⟨S16384x1024, .f32⟩
  | .hbm, ⟨23, _⟩ => ⟨S_, .f32⟩
  | .hbm, ⟨24, _⟩ => ⟨S16384x1024, .f32⟩
  | .hbm, ⟨25, _⟩ => ⟨S16384x1024, .f32⟩
  | .hbm, ⟨26, _⟩ => ⟨S16384x1024, .f32⟩
  | .hbm, ⟨27, _⟩ => ⟨S16384x1024, .f32⟩
  | .hbm, ⟨28, _⟩ => ⟨S16384x1024, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_call0_v0 : Ref sig .tc := ⟨.hbm, 18, rfl⟩
abbrev main_call0_v1 : Ref sig .tc := ⟨.hbm, 19, rfl⟩
abbrev main_call0_cst : Ref sig .tc := ⟨.hbm, 20, rfl⟩
abbrev main_call0_v2 : Ref sig .tc := ⟨.hbm, 21, rfl⟩
abbrev main_call0_v3 : Ref sig .tc := ⟨.hbm, 22, rfl⟩
abbrev main_call0_cst_0 : Ref sig .tc := ⟨.hbm, 23, rfl⟩
abbrev main_call0_v4 : Ref sig .tc := ⟨.hbm, 24, rfl⟩
abbrev main_call0_v5 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩

abbrev nD : Nat := 1
abbrev τ : Topo := Topo.v7x

variable {F : FTy → Type} [FloatOps F]
-- ==== MemKv.lean ====
abbrev S1024x1024 : Shape := ⟨2, ![1024, 1024]⟩
abbrev S512x1024 : Shape := ⟨2, ![512, 1024]⟩

abbrev nBuf : Space → Nat
  | .hbm => 4
  | .vmem => 5
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .bf16⟩
  | .hbm, ⟨3, _⟩ => ⟨S1024x1024, .bf16⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S512x1024, .bf16⟩
  | .local _ .vmem, ⟨4, _⟩ => ⟨S512x1024, .bf16⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== MemKvRefIdeal.lean ====
abbrev S1024x1024 : Shape := ⟨2, ![1024, 1024]⟩

abbrev nBuf : Space → Nat
  | .hbm => 4
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S1024x1024, .bf16⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== OddOut.lean ====
abbrev S16384x1024 : Shape := ⟨2, ![16384, 1024]⟩
abbrev S16384x2048 : Shape := ⟨2, ![16384, 2048]⟩
abbrev S4x256x1024 : Shape := ⟨3, ![4, 256, 1024]⟩
abbrev S1536x1024 : Shape := ⟨2, ![1536, 1024]⟩
abbrev S1024 : Shape := ⟨1, ![1024]⟩
abbrev S1x1024 : Shape := ⟨2, ![1, 1024]⟩
abbrev S1024x1024 : Shape := ⟨2, ![1024, 1024]⟩
abbrev S1024x512 : Shape := ⟨2, ![1024, 512]⟩
abbrev S1x256x1024 : Shape := ⟨3, ![1, 256, 1024]⟩
abbrev S256x128 : Shape := ⟨2, ![256, 128]⟩
abbrev S1x256x128 : Shape := ⟨3, ![1, 256, 128]⟩
abbrev S256x256 : Shape := ⟨2, ![256, 256]⟩
abbrev S256 : Shape := ⟨1, ![256]⟩
abbrev S256x1 : Shape := ⟨2, ![256, 1]⟩
abbrev S256x512 : Shape := ⟨2, ![256, 512]⟩
abbrev S256x1024 : Shape := ⟨2, ![256, 1024]⟩
abbrev S256x1536 : Shape := ⟨2, ![256, 1536]⟩

abbrev nBuf : Space → Nat
  | .hbm => 11
  | .vmem => 15
  | .smem => 0
  | _ => 0

abbrev bufTy : (tb : Table) → Fin (tcTables nBuf tb) → BufTy
  | .hbm, ⟨0, _⟩ => ⟨S16384x1024, .bf16⟩
  | .hbm, ⟨1, _⟩ => ⟨S16384x2048, .bf16⟩
  | .hbm, ⟨2, _⟩ => ⟨S4x256x1024, .bf16⟩
  | .hbm, ⟨3, _⟩ => ⟨S1536x1024, .f32⟩
  | .hbm, ⟨4, _⟩ => ⟨S16384x1024, .f32⟩
  | .hbm, ⟨5, _⟩ => ⟨S1024, .f32⟩
  | .hbm, ⟨6, _⟩ => ⟨S1024, .f32⟩
  | .hbm, ⟨7, _⟩ => ⟨S1536x1024, .bf16⟩
  | .hbm, ⟨8, _⟩ => ⟨S1x1024, .f32⟩
  | .hbm, ⟨9, _⟩ => ⟨S1x1024, .f32⟩
  | .hbm, ⟨10, _⟩ => ⟨S16384x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1x256x1024, .bf16⟩
  | .local _ .vmem, ⟨7, _⟩ => ⟨S1x256x1024, .bf16⟩
  | .local _ .vmem, ⟨8, _⟩ => ⟨S1536x1024, .bf16⟩
  | .local _ .vmem, ⟨9, _⟩ => ⟨S1024x1024, .f32⟩
  | .local _ .vmem, ⟨10, _⟩ => ⟨S1024x1024, .f32⟩
  | .local _ .vmem, ⟨11, _⟩ => ⟨S1x1024, .f32⟩
  | .local _ .vmem, ⟨12, _⟩ => ⟨S1x1024, .f32⟩
  | .local _ .vmem, ⟨13, _⟩ => ⟨S1024x1024, .f32⟩
  | .local _ .vmem, ⟨14, _⟩ => ⟨S1024x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_2 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_3 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1536x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== OddOutIdeal.lean ====
variable {F : FTy → Type} [FloatOps F] [Named F]
def κ : String → Option EReal := fun
  | "mem_scale" => some (((Real.sqrt 128)⁻¹ * (Real.log 2)⁻¹ : ℝ) : EReal)
  | _ => none
-- ==== OddOutRefIdeal.lean ====
abbrev S16384x1024 : Shape := ⟨2, ![16384, 1024]⟩
abbrev S16384x2048 : Shape := ⟨2, ![16384, 2048]⟩
abbrev S4x256x1024 : Shape := ⟨3, ![4, 256, 1024]⟩
abbrev S1536x1024 : Shape := ⟨2, ![1536, 1024]⟩
abbrev S1024 : Shape := ⟨1, ![1024]⟩
abbrev S16384x512 : Shape := ⟨2, ![16384, 512]⟩
abbrev S4x256x512 : Shape := ⟨3, ![4, 256, 512]⟩
abbrev S4x256x4x128 : Shape := ⟨4, ![4, 256, 4, 128]⟩
abbrev S4x4096x4x128 : Shape := ⟨4, ![4, 4096, 4, 128]⟩
abbrev S4x4x4096x256 : Shape := ⟨4, ![4, 4, 4096, 256]⟩
abbrev S_ : Shape := ⟨0, ![]⟩
abbrev S4x4x4096 : Shape := ⟨3, ![4, 4, 4096]⟩
abbrev S4x4x4096x1 : Shape := ⟨4, ![4, 4, 4096, 1]⟩
abbrev S4x4x128x4096 : Shape := ⟨4, ![4, 4, 128, 4096]⟩
abbrev S16384x1536 : Shape := ⟨2, ![16384, 1536]⟩
abbrev S16384 : Shape := ⟨1, ![16384]⟩
abbrev S16384x1 : Shape := ⟨2, ![16384, 1]⟩
abbrev S1x1024 : Shape := ⟨2, ![1, 1024]⟩

abbrev nBuf : Space → Nat
  | .hbm => 82
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x2048, .bf16⟩
  | .hbm, ⟨2, _⟩ => ⟨S4x256x1024, .bf16⟩
  | .hbm, ⟨3, _⟩ => ⟨S1536x1024, .f32⟩
  | .hbm, ⟨4, _⟩ => ⟨S16384x1024, .f32⟩
  | .hbm, ⟨5, _⟩ => ⟨S1024, .f32⟩
  | .hbm, ⟨6, _⟩ => ⟨S1024, .f32⟩
  | .hbm, ⟨7, _⟩ => ⟨S16384x1024, .f32⟩
  | .hbm, ⟨8, _⟩ => ⟨S16384x2048, .f32⟩
  | .hbm, ⟨9, _⟩ => ⟨S4x256x1024, .f32⟩
  | .hbm, ⟨10, _⟩ => ⟨S16384x512, .f32⟩
  | .hbm, ⟨11, _⟩ => ⟨S16384x512, .f32⟩
  | .hbm, ⟨12, _⟩ => ⟨S4x256x512, .f32⟩
  | .hbm, ⟨13, _⟩ => ⟨S4x256x512, .f32⟩
  | .hbm, ⟨14, _⟩ => ⟨S4x256x4x128, .f32⟩
  | .hbm, ⟨15, _⟩ => ⟨S4x256x4x128, .f32⟩
  | .hbm, ⟨16, _⟩ => ⟨S4x4096x4x128, .f32⟩
  | .hbm, ⟨17, _⟩ => ⟨S4x4x4096x256, .f32⟩
  | .hbm, ⟨18, _⟩ => ⟨S_, .f32⟩
  | .hbm, ⟨19, _⟩ => ⟨S_, .f32⟩
  | .hbm, ⟨20, _⟩ => ⟨S4x4x4096x256, .f32⟩
  | .hbm, ⟨21, _⟩ => ⟨S4x4x4096x256, .f32⟩
  | .hbm, ⟨22, _⟩ => ⟨S_, .f32⟩
  | .hbm, ⟨23, _⟩ => ⟨S4x4x4096, .f32⟩
  | .hbm, ⟨24, _⟩ => ⟨S_, .f32⟩
  | .hbm, ⟨25, _⟩ => ⟨S4x4x4096, .f32⟩
  | .hbm, ⟨26, _⟩ => ⟨S4x4x4096, .f32⟩
  | .hbm, ⟨27, _⟩ => ⟨S4x4x4096x1, .f32⟩
  | .hbm, ⟨28, _⟩ => ⟨S4x4x4096x256, .f32⟩
  | .hbm, ⟨29, _⟩ => ⟨S4x4x4096x256, .f32⟩
  | .hbm, ⟨30, _⟩ => ⟨S4x4x4096x256, .f32⟩
  | .hbm, ⟨31, _⟩ => ⟨S_, .f32⟩
  | .hbm, ⟨32, _⟩ => ⟨S4x4x4096, .f32⟩
  | .hbm, ⟨33, _⟩ => ⟨S4x4x4096x1, .f32⟩
  | .hbm, ⟨34, _⟩ => ⟨S4x4x4096x256, .f32⟩
  | .hbm, ⟨35, _⟩ => ⟨S4x4x4096x256, .f32⟩
  | .hbm, ⟨36, _⟩ => ⟨S4x4x128x4096, .f32⟩
  | .hbm, ⟨37, _⟩ => ⟨S4x4096x4x128, .f32⟩
  | .hbm, ⟨38, _⟩ => ⟨S16384x512, .f32⟩
  | .hbm, ⟨39, _⟩ => ⟨S16384x512, .f32⟩
  | .hbm, ⟨40, _⟩ => ⟨S16384x512, .f32⟩
  | .hbm, ⟨41, _⟩ => ⟨S_, .f32⟩
  | .hbm, ⟨42, _⟩ => ⟨S16384x512, .f32⟩
  | .hbm, ⟨43, _⟩ => ⟨S16384x512, .f32⟩
  | .hbm, ⟨44, _⟩ => ⟨S_, .f32⟩
  | .hbm, ⟨45, _⟩ => ⟨S16384x512, .f32⟩
  | .hbm, ⟨46, _⟩ => ⟨S16384x512, .f32⟩
  | .hbm, ⟨47, _⟩ => ⟨S16384x512, .f32⟩
  | .hbm, ⟨48, _⟩ => ⟨S16384x512, .f32⟩
  | .hbm, ⟨49, _⟩ => ⟨S16384x1536, .f32⟩
  | .hbm, ⟨50, _⟩ => ⟨S16384x1024, .f32⟩
  | .hbm, ⟨51, _⟩ => ⟨S_, .f32⟩
  | .hbm, ⟨52, _⟩ => ⟨S16384x1024, .f32⟩
  | .hbm, ⟨53, _⟩ => ⟨S16384x1024, .f32⟩
  | .hbm, ⟨54, _⟩ => ⟨S16384x1024, .f32⟩
  | .hbm, ⟨55, _⟩ => ⟨S_, .f32⟩
  | .hbm, ⟨56, _⟩ => ⟨S16384, .f32⟩
  | .hbm, ⟨57, _⟩ => ⟨S16384x1, .f32⟩
  | .hbm, ⟨58, _⟩ => ⟨S_, .f32⟩
  | .hbm, ⟨59, _⟩ => ⟨S16384x1, .f32⟩
  | .hbm, ⟨60, _⟩ => ⟨S16384x1, .f32⟩
  | .hbm, ⟨61, _⟩ => ⟨S16384x1024, .f32⟩
  | .hbm, ⟨62, _⟩ => ⟨S16384x1024, .f32⟩
  | .hbm, ⟨63, _⟩ => ⟨S16384x1024, .f32⟩
  | .hbm, ⟨64, _⟩ => ⟨S_, .f32⟩
  | .hbm, ⟨65, _⟩ => ⟨S16384, .f32⟩
  | .hbm, ⟨66, _⟩ => ⟨S16384x1, .f32⟩
  | .hbm, ⟨67, _⟩ => ⟨S_, .f32⟩
  | .hbm, ⟨68, _⟩ => ⟨S16384x1, .f32⟩
  | .hbm, ⟨69, _⟩ => ⟨S16384x1, .f32⟩
  | .hbm, ⟨70, _⟩ => ⟨S_, .f32⟩
  | .hbm, ⟨71, _⟩ => ⟨S16384x1, .f32⟩
  | .hbm, ⟨72, _⟩ => ⟨S16384x1, .f32⟩
  | .hbm, ⟨73, _⟩ => ⟨S16384x1, .f32⟩
  | .hbm, ⟨74, _⟩ => ⟨S16384x1024, .f32⟩
  | .hbm, ⟨75, _⟩ => ⟨S16384x1024, .f32⟩
  | .hbm, ⟨76, _⟩ => ⟨S1x1024, .f32⟩
  | .hbm, ⟨77, _⟩ => ⟨S16384x1024, .f32⟩
  | .hbm, ⟨78, _⟩ => ⟨S16384x1024, .f32⟩
  | .hbm, ⟨79, _⟩ => ⟨S1x1024, .f32⟩
  | .hbm, ⟨80, _⟩ => ⟨S16384x1024, .f32⟩
  | .hbm, ⟨81, _⟩ => ⟨S16384x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_0 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_2 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_call0_v0 : Ref sig .tc := ⟨.hbm, 39, rfl⟩
abbrev main_call0_v1 : Ref sig .tc := ⟨.hbm, 40, rfl⟩
abbrev main_call0_cst : Ref sig .tc := ⟨.hbm, 41, rfl⟩
abbrev main_call0_v2 : Ref sig .tc := ⟨.hbm, 42, rfl⟩
abbrev main_call0_v3 : Ref sig .tc := ⟨.hbm, 43, rfl⟩
abbrev main_call0_cst_0 : Ref sig .tc := ⟨.hbm, 44, rfl⟩
abbrev main_call0_v4 : Ref sig .tc := ⟨.hbm, 45, rfl⟩
abbrev main_call0_v5 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_3 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst_4 : Ref sig .tc := ⟨.hbm, 55, rfl⟩
abbrev main_v35 : Ref sig .tc := ⟨.hbm, 56, rfl⟩
abbrev main_v36 : Ref sig .tc := ⟨.hbm, 57, rfl⟩
abbrev main_cst_5 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_6 : Ref sig .tc := ⟨.hbm, 64, rfl⟩
abbrev main_v42 : Ref sig .tc := ⟨.hbm, 65, rfl⟩
abbrev main_v43 : Ref sig .tc := ⟨.hbm, 66, rfl⟩
abbrev main_cst_7 : Ref sig .tc := ⟨.hbm, 67, rfl⟩
abbrev main_v44 : Ref sig .tc := ⟨.hbm, 68, rfl⟩
abbrev main_v45 : Ref sig .tc := ⟨.hbm, 69, rfl⟩
abbrev main_cst_8 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩

abbrev nD : Nat := 1
abbrev τ : Topo := Topo.v7x

variable {F : FTy → Type} [FloatOps F]
-- ==== EvenOut.lean ====
abbrev S16384x1024 : Shape := ⟨2, ![16384, 1024]⟩
abbrev S16384x3200 : Shape := ⟨2, ![16384, 3200]⟩
abbrev S4x256x1024 : Shape := ⟨3, ![4, 256, 1024]⟩
abbrev S2560x1024 : Shape := ⟨2, ![2560, 1024]⟩
abbrev S1024 : Shape := ⟨1, ![1024]⟩
abbrev S1x1024 : Shape := ⟨2, ![1, 1024]⟩
abbrev S1024x1024 : Shape := ⟨2, ![1024, 1024]⟩
abbrev S1024x512 : Shape := ⟨2, ![1024, 512]⟩
abbrev S1x256x1024 : Shape := ⟨3, ![1, 256, 1024]⟩
abbrev S256x128 : Shape := ⟨2, ![256, 128]⟩
abbrev S1x256x128 : Shape := ⟨3, ![1, 256, 128]⟩
abbrev S256x256 : Shape := ⟨2, ![256, 256]⟩
abbrev S256 : Shape := ⟨1, ![256]⟩
abbrev S256x1 : Shape := ⟨2, ![256, 1]⟩
abbrev S256x512 : Shape := ⟨2, ![256, 512]⟩
abbrev S256x1024 : Shape := ⟨2, ![256, 1024]⟩
abbrev S256x2560 : Shape := ⟨2, ![256, 2560]⟩

abbrev nBuf : Space → Nat
  | .hbm => 12
  | .vmem => 17
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x3200, .bf16⟩
  | .hbm, ⟨3, _⟩ => ⟨S4x256x1024, .bf16⟩
  | .hbm, ⟨4, _⟩ => ⟨S2560x1024, .f32⟩
  | .hbm, ⟨5, _⟩ => ⟨S16384x1024, .f32⟩
  | .hbm, ⟨6, _⟩ => ⟨S1024, .f32⟩
  | .hbm, ⟨7, _⟩ => ⟨S1024, .f32⟩
  | .hbm, ⟨8, _⟩ => ⟨S2560x1024, .bf16⟩
  | .hbm, ⟨9, _⟩ => ⟨S1x1024, .f32⟩
  | .hbm, ⟨10, _⟩ => ⟨S1x1024, .f32⟩
  | .hbm, ⟨11, _⟩ => ⟨S16384x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1x256x1024, .bf16⟩
  | .local _ .vmem, ⟨9, _⟩ => ⟨S1x256x1024, .bf16⟩
  | .local _ .vmem, ⟨10, _⟩ => ⟨S2560x1024, .bf16⟩
  | .local _ .vmem, ⟨11, _⟩ => ⟨S1024x1024, .f32⟩
  | .local _ .vmem, ⟨12, _⟩ => ⟨S1024x1024, .f32⟩
  | .local _ .vmem, ⟨13, _⟩ => ⟨S1x1024, .f32⟩
  | .local _ .vmem, ⟨14, _⟩ => ⟨S1x1024, .f32⟩
  | .local _ .vmem, ⟨15, _⟩ => ⟨S1024x1024, .f32⟩
  | .local _ .vmem, ⟨16, _⟩ => ⟨S1024x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_3 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_4 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S2560x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== EvenOutIdeal.lean ====
variable {F : FTy → Type} [FloatOps F] [Named F]
def κ : String → Option EReal := fun
  | "mem_scale" => some (((Real.sqrt 128)⁻¹ * (Real.log 2)⁻¹ : ℝ) : EReal)
  | _ => none
-- ==== EvenOutRefIdeal.lean ====
abbrev S16384x1024 : Shape := ⟨2, ![16384, 1024]⟩
abbrev S16384x3200 : Shape := ⟨2, ![16384, 3200]⟩
abbrev S4x256x1024 : Shape := ⟨3, ![4, 256, 1024]⟩
abbrev S2560x1024 : Shape := ⟨2, ![2560, 1024]⟩
abbrev S1024 : Shape := ⟨1, ![1024]⟩
abbrev S16384x512 : Shape := ⟨2, ![16384, 512]⟩
abbrev S4x256x512 : Shape := ⟨3, ![4, 256, 512]⟩
abbrev S4x256x4x128 : Shape := ⟨4, ![4, 256, 4, 128]⟩
abbrev S4x4096x4x128 : Shape := ⟨4, ![4, 4096, 4, 128]⟩
abbrev S4x4x4096x256 : Shape := ⟨4, ![4, 4, 4096, 256]⟩
abbrev S_ : Shape := ⟨0, ![]⟩
abbrev S4x4x4096 : Shape := ⟨3, ![4, 4, 4096]⟩
abbrev S4x4x4096x1 : Shape := ⟨4, ![4, 4, 4096, 1]⟩
abbrev S4x4x128x4096 : Shape := ⟨4, ![4, 4, 128, 4096]⟩
abbrev S16384x2560 : Shape := ⟨2, ![16384, 2560]⟩
abbrev S16384 : Shape := ⟨1, ![16384]⟩
abbrev S16384x1 : Shape := ⟨2, ![16384, 1]⟩
abbrev S1x1024 : Shape := ⟨2, ![1, 1024]⟩

abbrev nBuf : Space → Nat
  | .hbm => 84
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x3200, .bf16⟩
  | .hbm, ⟨3, _⟩ => ⟨S4x256x1024, .bf16⟩
  | .hbm, ⟨4, _⟩ => ⟨S2560x1024, .f32⟩
  | .hbm, ⟨5, _⟩ => ⟨S16384x1024, .f32⟩
  | .hbm, ⟨6, _⟩ => ⟨S1024, .f32⟩
  | .hbm, ⟨7, _⟩ => ⟨S1024, .f32⟩
  | .hbm, ⟨8, _⟩ => ⟨S16384x1024, .f32⟩
  | .hbm, ⟨9, _⟩ => ⟨S16384x1024, .f32⟩
  | .hbm, ⟨10, _⟩ => ⟨S16384x3200, .f32⟩
  | .hbm, ⟨11, _⟩ => ⟨S4x256x1024, .f32⟩
  | .hbm, ⟨12, _⟩ => ⟨S16384x512, .f32⟩
  | .hbm, ⟨13, _⟩ => ⟨S16384x512, .f32⟩
  | .hbm, ⟨14, _⟩ => ⟨S4x256x512, .f32⟩
  | .hbm, ⟨15, _⟩ => ⟨S4x256x512, .f32⟩
  | .hbm, ⟨16, _⟩ => ⟨S4x256x4x128, .f32⟩
  | .hbm, ⟨17, _⟩ => ⟨S4x256x4x128, .f32⟩
  | .hbm, ⟨18, _⟩ => ⟨S4x4096x4x128, .f32⟩
  | .hbm, ⟨19, _⟩ => ⟨S4x4x4096x256, .f32⟩
  | .hbm, ⟨20, _⟩ => ⟨S_, .f32⟩
  | .hbm, ⟨21, _⟩ => ⟨S_, .f32⟩
  | .hbm, ⟨22, _⟩ => ⟨S4x4x4096x256, .f32⟩
  | .hbm, ⟨23, _⟩ => ⟨S4x4x4096x256, .f32⟩
  | .hbm, ⟨24, _⟩ => ⟨S_, .f32⟩
  | .hbm, ⟨25, _⟩ => ⟨S4x4x4096, .f32⟩
  | .hbm, ⟨26, _⟩ => ⟨S_, .f32⟩
  | .hbm, ⟨27, _⟩ => ⟨S4x4x4096, .f32⟩
  | .hbm, ⟨28, _⟩ => ⟨S4x4x4096, .f32⟩
  | .hbm, ⟨29, _⟩ => ⟨S4x4x4096x1, .f32⟩
  | .hbm, ⟨30, _⟩ => ⟨S4x4x4096x256, .f32⟩
  | .hbm, ⟨31, _⟩ => ⟨S4x4x4096x256, .f32⟩
  | .hbm, ⟨32, _⟩ => ⟨S4x4x4096x256, .f32⟩
  | .hbm, ⟨33, _⟩ => ⟨S_, .f32⟩
  | .hbm, ⟨34, _⟩ => ⟨S4x4x4096, .f32⟩
  | .hbm, ⟨35, _⟩ => ⟨S4x4x4096x1, .f32⟩
  | .hbm, ⟨36, _⟩ => ⟨S4x4x4096x256, .f32⟩
  | .hbm, ⟨37, _⟩ => ⟨S4x4x4096x256, .f32⟩
  | .hbm, ⟨38, _⟩ => ⟨S4x4x128x4096, .f32⟩
  | .hbm, ⟨39, _⟩ => ⟨S4x4096x4x128, .f32⟩
  | .hbm, ⟨40, _⟩ => ⟨S16384x512, .f32⟩
  | .hbm, ⟨41, _⟩ => ⟨S16384x512, .f32⟩
  | .hbm, ⟨42, _⟩ => ⟨S16384x512, .f32⟩
  | .hbm, ⟨43, _⟩ => ⟨S_, .f32⟩
  | .hbm, ⟨44, _⟩ => ⟨S16384x512, .f32⟩
  | .hbm, ⟨45, _⟩ => ⟨S16384x512, .f32⟩
  | .hbm, ⟨46, _⟩ => ⟨S_, .f32⟩
  | .hbm, ⟨47, _⟩ => ⟨S16384x512, .f32⟩
  | .hbm, ⟨48, _⟩ => ⟨S16384x512, .f32⟩
  | .hbm, ⟨49, _⟩ => ⟨S16384x512, .f32⟩
  | .hbm, ⟨50, _⟩ => ⟨S16384x512, .f32⟩
  | .hbm, ⟨51, _⟩ => ⟨S16384x2560, .f32⟩
  | .hbm, ⟨52, _⟩ => ⟨S16384x1024, .f32⟩
  | .hbm, ⟨53, _⟩ => ⟨S_, .f32⟩
  | .hbm, ⟨54, _⟩ => ⟨S16384x1024, .f32⟩
  | .hbm, ⟨55, _⟩ => ⟨S16384x1024, .f32⟩
  | .hbm, ⟨56, _⟩ => ⟨S16384x1024, .f32⟩
  | .hbm, ⟨57, _⟩ => ⟨S_, .f32⟩
  | .hbm, ⟨58, _⟩ => ⟨S16384, .f32⟩
  | .hbm, ⟨59, _⟩ => ⟨S16384x1, .f32⟩
  | .hbm, ⟨60, _⟩ => ⟨S_, .f32⟩
  | .hbm, ⟨61, _⟩ => ⟨S16384x1, .f32⟩
  | .hbm, ⟨62, _⟩ => ⟨S16384x1, .f32⟩
  | .hbm, ⟨63, _⟩ => ⟨S16384x1024, .f32⟩
  | .hbm, ⟨64, _⟩ => ⟨S16384x1024, .f32⟩
  | .hbm, ⟨65, _⟩ => ⟨S16384x1024, .f32⟩
  | .hbm, ⟨66, _⟩ => ⟨S_, .f32⟩
  | .hbm, ⟨67, _⟩ => ⟨S16384, .f32⟩
  | .hbm, ⟨68, _⟩ => ⟨S16384x1, .f32⟩
  | .hbm, ⟨69, _⟩ => ⟨S_, .f32⟩
  | .hbm, ⟨70, _⟩ => ⟨S16384x1, .f32⟩
  | .hbm, ⟨71, _⟩ => ⟨S16384x1, .f32⟩
  | .hbm, ⟨72, _⟩ => ⟨S_, .f32⟩
  | .hbm, ⟨73, _⟩ => ⟨S16384x1, .f32⟩
  | .hbm, ⟨74, _⟩ => ⟨S16384x1, .f32⟩
  | .hbm, ⟨75, _⟩ => ⟨S16384x1, .f32⟩
  | .hbm, ⟨76, _⟩ => ⟨S16384x1024, .f32⟩
  | .hbm, ⟨77, _⟩ => ⟨S16384x1024, .f32⟩
  | .hbm, ⟨78, _⟩ => ⟨S1x1024, .f32⟩
  | .hbm, ⟨79, _⟩ => ⟨S16384x1024, .f32⟩
  | .hbm, ⟨80, _⟩ => ⟨S16384x1024, .f32⟩
  | .hbm, ⟨81, _⟩ => ⟨S1x1024, .f32⟩
  | .hbm, ⟨82, _⟩ => ⟨S16384x1024, .f32⟩
  | .hbm, ⟨83, _⟩ => ⟨S16384x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_0 : Ref sig .tc := ⟨.hbm, 24, rfl⟩
abbrev main_v15 : Ref sig .tc := ⟨.hbm, 25, rfl⟩
abbrev main_cst_1 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_2 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_call0_v0 : Ref sig .tc := ⟨.hbm, 41, rfl⟩
abbrev main_call0_v1 : Ref sig .tc := ⟨.hbm, 42, rfl⟩
abbrev main_call0_cst : Ref sig .tc := ⟨.hbm, 43, rfl⟩
abbrev main_call0_v2 : Ref sig .tc := ⟨.hbm, 44, rfl⟩
abbrev main_call0_v3 : Ref sig .tc := ⟨.hbm, 45, rfl⟩
abbrev main_call0_cst_0 : Ref sig .tc := ⟨.hbm, 46, rfl⟩
abbrev main_call0_v4 : Ref sig .tc := ⟨.hbm, 47, rfl⟩
abbrev main_call0_v5 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_cst_3 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_cst_4 : Ref sig .tc := ⟨.hbm, 57, rfl⟩
abbrev main_v36 : Ref sig .tc := ⟨.hbm, 58, rfl⟩
abbrev main_v37 : Ref sig .tc := ⟨.hbm, 59, rfl⟩
abbrev main_cst_5 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_6 : Ref sig .tc := ⟨.hbm, 66, rfl⟩
abbrev main_v43 : Ref sig .tc := ⟨.hbm, 67, rfl⟩
abbrev main_v44 : Ref sig .tc := ⟨.hbm, 68, rfl⟩
abbrev main_cst_7 : Ref sig .tc := ⟨.hbm, 69, rfl⟩
abbrev main_v45 : Ref sig .tc := ⟨.hbm, 70, rfl⟩
abbrev main_v46 : Ref sig .tc := ⟨.hbm, 71, rfl⟩
abbrev main_cst_8 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩

abbrev nD : Nat := 1
abbrev τ : Topo := Topo.v7x

variable {F : FTy → Type} [FloatOps F]
-- ==== MlaProj.lean ====
abbrev S16384x3200 : Shape := ⟨2, ![16384, 3200]⟩
abbrev S4x4096 : Shape := ⟨2, ![4, 4096]⟩
abbrev S768 : Shape := ⟨1, ![768]⟩
abbrev S768x1536 : Shape := ⟨2, ![768, 1536]⟩
abbrev S256 : Shape := ⟨1, ![256]⟩
abbrev S256x2048 : Shape := ⟨2, ![256, 2048]⟩
abbrev S32 : Shape := ⟨1, ![32]⟩
abbrev S_ : Shape := ⟨0, ![]⟩
abbrev S1x32 : Shape := ⟨2, ![1, 32]⟩
abbrev S4x32 : Shape := ⟨2, ![4, 32]⟩
abbrev S128 : Shape := ⟨1, ![128]⟩
abbrev S64 : Shape := ⟨1, ![64]⟩
abbrev S1x64 : Shape := ⟨2, ![1, 64]⟩
abbrev S2x64 : Shape := ⟨2, ![2, 64]⟩
abbrev S4x1024x4 : Shape := ⟨3, ![4, 1024, 4]⟩
abbrev S4x1024x4x32 : Shape := ⟨4, ![4, 1024, 4, 32]⟩
abbrev S4x1024x128 : Shape := ⟨3, ![4, 1024, 128]⟩
abbrev S1x1x128 : Shape := ⟨3, ![1, 1, 128]⟩
abbrev S1x128 : Shape := ⟨2, ![1, 128]⟩
abbrev S1x768 : Shape := ⟨2, ![1, 768]⟩
abbrev S1x256 : Shape := ⟨2, ![1, 256]⟩
abbrev S768x8x192 : Shape := ⟨3, ![768, 8, 192]⟩
abbrev S768x8x128 : Shape := ⟨3, ![768, 8, 128]⟩
abbrev S768x1024 : Shape := ⟨2, ![768, 1024]⟩
abbrev S768x8x64 : Shape := ⟨3, ![768, 8, 64]⟩
abbrev S768x512 : Shape := ⟨2, ![768, 512]⟩
abbrev S256x8x256 : Shape := ⟨3, ![256, 8, 256]⟩
abbrev S256x8x128 : Shape := ⟨3, ![256, 8, 128]⟩
abbrev S256x1024 : Shape := ⟨2, ![256, 1024]⟩
abbrev S4x8x4096x256 : Shape := ⟨4, ![4, 8, 4096, 256]⟩
abbrev S4x8x4096x128 : Shape := ⟨4, ![4, 8, 4096, 128]⟩
abbrev S1024x768 : Shape := ⟨2, ![1024, 768]⟩
abbrev S1024x256 : Shape := ⟨2, ![1024, 256]⟩
abbrev S1024x128 : Shape := ⟨2, ![1024, 128]⟩
abbrev S1x256x128 : Shape := ⟨3, ![1, 256, 128]⟩
abbrev S1x8x1024x256 : Shape := ⟨4, ![1, 8, 1024, 256]⟩
abbrev S1x8x1024x128 : Shape := ⟨4, ![1, 8, 1024, 128]⟩
abbrev S512x128 : Shape := ⟨2, ![512, 128]⟩
abbrev S1x128x128 : Shape := ⟨3, ![1, 128, 128]⟩
abbrev S128x128 : Shape := ⟨2, ![128, 128]⟩
abbrev S512x768 : Shape := ⟨2, ![512, 768]⟩
abbrev S512 : Shape := ⟨1, ![512]⟩
abbrev S512x1 : Shape := ⟨2, ![512, 1]⟩
abbrev S512x1536 : Shape := ⟨2, ![512, 1536]⟩
abbrev S512x256 : Shape := ⟨2, ![512, 256]⟩
abbrev S512x2048 : Shape := ⟨2, ![512, 2048]⟩
abbrev S1x1x512x128 : Shape := ⟨4, ![1, 1, 512, 128]⟩

abbrev nBuf : Space → Nat
  | .hbm => 61
  | .vmem => 23
  | .smem => 0
  | _ => 0

abbrev bufTy : (tb : Table) → Fin (tcTables nBuf tb) → BufTy
  | .hbm, ⟨0, _⟩ => ⟨S16384x3200, .bf16⟩
  | .hbm, ⟨1, _⟩ => ⟨S4x4096, .i32⟩
  | .hbm, ⟨2, _⟩ => ⟨S768, .f32⟩
  | .hbm, ⟨3, _⟩ => ⟨S768x1536, .f32⟩
  | .hbm, ⟨4, _⟩ => ⟨S256, .f32⟩
  | .hbm, ⟨5, _⟩ => ⟨S256x2048, .f32⟩
  | .hbm, ⟨6, _⟩ => ⟨S32, .f32⟩
  | .hbm, ⟨7, _⟩ => ⟨S_, .f32⟩
  | .hbm, ⟨8, _⟩ => ⟨S32, .f32⟩
  | .hbm, ⟨9, _⟩ => ⟨S32, .f32⟩
  | .hbm, ⟨10, _⟩ => ⟨S_, .f32⟩
  | .hbm, ⟨11, _⟩ => ⟨S32, .f32⟩
  | .hbm, ⟨12, _⟩ => ⟨S32, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S_, .f32⟩
  | .hbm, ⟨18, _⟩ => ⟨S32, .f32⟩
  | .hbm, ⟨19, _⟩ => ⟨S32, .f32⟩
  | .hbm, ⟨20, _⟩ => ⟨S1x32, .f32⟩
  | .hbm, ⟨21, _⟩ => ⟨S4x32, .f32⟩
  | .hbm, ⟨22, _⟩ => ⟨S128, .f32⟩
  | .hbm, ⟨23, _⟩ => ⟨S_, .f32⟩
  | .hbm, ⟨24, _⟩ => ⟨S32, .f32⟩
  | .hbm, ⟨25, _⟩ => ⟨S32, .f32⟩
  | .hbm, ⟨26, _⟩ => ⟨S_, .f32⟩
  | .hbm, ⟨27, _⟩ => ⟨S32, .f32⟩
  | .hbm, ⟨28, _⟩ => ⟨S64, .f32⟩
  | .hbm, ⟨29, _⟩ => ⟨S1x64, .f32⟩
  | .hbm, ⟨30, _⟩ => ⟨S2x64, .f32⟩
  | .hbm, ⟨31, _⟩ => ⟨S128, .f32⟩
  | .hbm, ⟨32, _⟩ => ⟨S4x4096, .f32⟩
  | .hbm, ⟨33, _⟩ => ⟨S4x1024x4, .f32⟩
  | .hbm, ⟨34, _⟩ => ⟨S4x1024x4x32, .f32⟩
  | .hbm, ⟨35, _⟩ => ⟨S4x1024x128, .f32⟩
  | .hbm, ⟨36, _⟩ => ⟨S1x1x128, .f32⟩
  | .hbm, ⟨37, _⟩ => ⟨S4x1024x128, .f32⟩
  | .hbm, ⟨38, _⟩ => ⟨S4x1024x128, .f32⟩
  | .hbm, ⟨39, _⟩ => ⟨S4x1024x128, .f32⟩
  | .hbm, ⟨40, _⟩ => ⟨S4x1024x128, .f32⟩
  | .hbm, ⟨41, _⟩ => ⟨S1x128, .f32⟩
  | .hbm, ⟨42, _⟩ => ⟨S1x768, .f32⟩
  | .hbm, ⟨43, _⟩ => ⟨S1x256, .f32⟩
  | .hbm, ⟨44, _⟩ => ⟨S768x8x192, .f32⟩
  | .hbm, ⟨45, _⟩ => ⟨S768x8x128, .f32⟩
  | .hbm, ⟨46, _⟩ => ⟨S768x1024, .f32⟩
  | .hbm, ⟨47, _⟩ => ⟨S768x8x64, .f32⟩
  | .hbm, ⟨48, _⟩ => ⟨S768x512, .f32⟩
  | .hbm, ⟨49, _⟩ => ⟨S768x1536, .f32⟩
  | .hbm, ⟨50, _⟩ => ⟨S768x1536, .bf16⟩
  | .hbm, ⟨51, _⟩ => ⟨S256x8x256, .f32⟩
  | .hbm, ⟨52, _⟩ => ⟨S256x8x128, .f32⟩
  | .hbm, ⟨53, _⟩ => ⟨S256x1024, .f32⟩
  | .hbm, ⟨54, _⟩ => ⟨S256x8x128, .f32⟩
  | .hbm, ⟨55, _⟩ => ⟨S256x1024, .f32⟩
  | .hbm, ⟨56, _⟩ => ⟨S256x2048, .f32⟩
  | .hbm, ⟨57, _⟩ => ⟨S256x2048, .bf16⟩
  | .hbm, ⟨58, _⟩ => ⟨S4x8x4096x256, .bf16⟩
  | .hbm, ⟨59, _⟩ => ⟨S4x8x4096x256, .bf16⟩
  | .hbm, ⟨60, _⟩ => ⟨S4x8x4096x128, .bf16⟩
  | .local _ .vmem, ⟨0, _⟩ => ⟨S1024x768, .bf16⟩
  | .local _ .vmem, ⟨1, _⟩ => ⟨S1024x768, .bf16⟩
  | .local _ .vmem, ⟨2, _⟩ => ⟨S1024x256, .bf16⟩
  | .local _ .vmem, ⟨3, _⟩ => ⟨S1024x256, .bf16⟩
  | .local _ .vmem, ⟨4, _⟩ => ⟨S1024x128, .bf16⟩
  | .local _ .vmem, ⟨5, _⟩ => ⟨S1024x128, .bf16⟩
  | .local _ .vmem, ⟨6, _⟩ => ⟨S1x256x128, .f32⟩
  | .local _ .vmem, ⟨7, _⟩ => ⟨S1x256x128, .f32⟩
  | .local _ .vmem, ⟨8, _⟩ => ⟨S1x256x128, .f32⟩
  | .local _ .vmem, ⟨9, _⟩ => ⟨S1x256x128, .f32⟩
  | .local _ .vmem, ⟨10, _⟩ => ⟨S1x128, .f32⟩
  | .local _ .vmem, ⟨11, _⟩ => ⟨S1x768, .f32⟩
  | .local _ .vmem, ⟨12, _⟩ => ⟨S1x256, .f32⟩
  | .local _ .vmem, ⟨13, _⟩ => ⟨S768x1536, .bf16⟩
  | .local _ .vmem, ⟨14, _⟩ => ⟨S256x2048, .bf16⟩
  | .local _ .vmem, ⟨15, _⟩ => ⟨S1x8x1024x256, .bf16⟩
  | .local _ .vmem, ⟨16, _⟩ => ⟨S1x8x1024x256, .bf16⟩
  | .local _ .vmem, ⟨17, _⟩ => ⟨S1x8x1024x256, .bf16⟩
  | .local _ .vmem, ⟨18, _⟩ => ⟨S1x8x1024x256, .bf16⟩
  | .local _ .vmem, ⟨19, _⟩ => ⟨S1x8x1024x128, .bf16⟩
  | .local _ .vmem, ⟨20, _⟩ => ⟨S1x8x1024x128, .bf16⟩
  | .local _ .vmem, ⟨21, _⟩ => ⟨S512x128, .f32⟩
  | .local _ .vmem, ⟨22, _⟩ => ⟨S512x128, .f32⟩
  | _, _ => ⟨S16384x3200, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_cst_2 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_v13 : Ref sig .tc := ⟨.hbm, 24, rfl⟩
abbrev main_v14 : Ref sig .tc := ⟨.hbm, 25, rfl⟩
abbrev main_cst_4 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46_0 : Ref sig .tc := ⟨.hbm, 58, rfl⟩
abbrev main_v46_1 : Ref sig .tc := ⟨.hbm, 59, rfl⟩
abbrev main_v46_2 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_scratch0 : Ref sig .tc := ⟨.vmem, 21, rfl⟩
abbrev cc0_scratch1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c3_i32 : BitVec 32 := 3#32
  let c0_i32 : BitVec 32 := 0#32
  ![v1.toNat, c3_i32.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c24_i32 : BitVec 32 := 24#32
  let c0_i32 : BitVec 32 := 0#32
  ![v1.toNat, c24_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1024x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S768x1536 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S256x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x8x1024x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x8x1024x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x8x1024x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== MlaProjIdeal.lean ====
variable {F : FTy → Type} [FloatOps F] [Named F]
def κ : String → Option EReal := fun
  | "qk_scale" => some (((Real.sqrt 192)⁻¹ * (Real.log 2)⁻¹ : ℝ) : EReal)
  | _ => none
-- ==== MlaProjRefIdeal.lean ====
abbrev S16384x3200 : Shape := ⟨2, ![16384, 3200]⟩
abbrev S4x4096 : Shape := ⟨2, ![4, 4096]⟩
abbrev S768 : Shape := ⟨1, ![768]⟩
abbrev S768x1536 : Shape := ⟨2, ![768, 1536]⟩
abbrev S256 : Shape := ⟨1, ![256]⟩
abbrev S256x2048 : Shape := ⟨2, ![256, 2048]⟩
abbrev S16384x768 : Shape := ⟨2, ![16384, 768]⟩
abbrev S16384x256 : Shape := ⟨2, ![16384, 256]⟩
abbrev S16384x64 : Shape := ⟨2, ![16384, 64]⟩
abbrev S32 : Shape := ⟨1, ![32]⟩
abbrev S_ : Shape := ⟨0, ![]⟩
abbrev S4x4096x1 : Shape := ⟨3, ![4, 4096, 1]⟩
abbrev S1x1x32 : Shape := ⟨3, ![1, 1, 32]⟩
abbrev S4x4096x32 : Shape := ⟨3, ![4, 4096, 32]⟩
abbrev S16384 : Shape := ⟨1, ![16384]⟩
abbrev S16384x1 : Shape := ⟨2, ![16384, 1]⟩
abbrev S1x768 : Shape := ⟨2, ![1, 768]⟩
abbrev S16384x1536 : Shape := ⟨2, ![16384, 1536]⟩
abbrev S4x4096x8x192 : Shape := ⟨4, ![4, 4096, 8, 192]⟩
abbrev S4x4096x8x128 : Shape := ⟨4, ![4, 4096, 8, 128]⟩
abbrev S4x4096x8x64 : Shape := ⟨4, ![4, 4096, 8, 64]⟩
abbrev S4x4096x1x32 : Shape := ⟨4, ![4, 4096, 1, 32]⟩
abbrev S4x4096x8x32 : Shape := ⟨4, ![4, 4096, 8, 32]⟩
abbrev S1x256 : Shape := ⟨2, ![1, 256]⟩
abbrev S16384x2048 : Shape := ⟨2, ![16384, 2048]⟩
abbrev S4x4096x8x256 : Shape := ⟨4, ![4, 4096, 8, 256]⟩
abbrev S4x4096x64 : Shape := ⟨3, ![4, 4096, 64]⟩
abbrev S4x4096x4x1x128 : Shape := ⟨5, ![4, 4096, 4, 1, 128]⟩
abbrev S4x4096x4x2x128 : Shape := ⟨5, ![4, 4096, 4, 2, 128]⟩
abbrev S4x4096x128 : Shape := ⟨3, ![4, 4096, 128]⟩
abbrev S4x4096x1x128 : Shape := ⟨4, ![4, 4096, 1, 128]⟩
abbrev S4x4096x2x128 : Shape := ⟨4, ![4, 4096, 2, 128]⟩
abbrev S4x4096x1x2x128 : Shape := ⟨5, ![4, 4096, 1, 2, 128]⟩
abbrev S4x8x4096x256 : Shape := ⟨4, ![4, 8, 4096, 256]⟩
abbrev S4x8x4096x128 : Shape := ⟨4, ![4, 8, 4096, 128]⟩

abbrev nBuf : Space → Nat
  | .hbm => 125
  | .vmem => 0
  | .smem => 0
  | _ => 0

abbrev bufTy : (tb : Table) → Fin (tcTables nBuf tb) → BufTy
  | .hbm, ⟨0, _⟩ => ⟨S16384x3200, .bf16⟩
  | .hbm, ⟨1, _⟩ => ⟨S4x4096, .i32⟩
  | .hbm, ⟨2, _⟩ => ⟨S768, .f32⟩
  | .hbm, ⟨3, _⟩ => ⟨S768x1536, .f32⟩
  | .hbm, ⟨4, _⟩ => ⟨S256, .f32⟩
  | .hbm, ⟨5, _⟩ => ⟨S256x2048, .f32⟩
  | .hbm, ⟨6, _⟩ => ⟨S16384x3200, .f32⟩
  | .hbm, ⟨7, _⟩ => ⟨S16384x768, .f32⟩
  | .hbm, ⟨8, _⟩ => ⟨S16384x256, .f32⟩
  | .hbm, ⟨9, _⟩ => ⟨S16384x64, .f32⟩
  | .hbm, ⟨10, _⟩ => ⟨S32, .f32⟩
  | .hbm, ⟨11, _⟩ => ⟨S_, .f32⟩
  | .hbm, ⟨12, _⟩ => ⟨S32, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S32, .f32⟩
  | .hbm, ⟨18, _⟩ => ⟨S_, .f32⟩
  | .hbm, ⟨19, _⟩ => ⟨S32, .f32⟩
  | .hbm, ⟨20, _⟩ => ⟨S32, .f32⟩
  | .hbm, ⟨21, _⟩ => ⟨S_, .f32⟩
  | .hbm, ⟨22, _⟩ => ⟨S32, .f32⟩
  | .hbm, ⟨23, _⟩ => ⟨S32, .f32⟩
  | .hbm, ⟨24, _⟩ => ⟨S4x4096, .f32⟩
  | .hbm, ⟨25, _⟩ => ⟨S4x4096x1, .f32⟩
  | .hbm, ⟨26, _⟩ => ⟨S1x1x32, .f32⟩
  | .hbm, ⟨27, _⟩ => ⟨S4x4096x32, .f32⟩
  | .hbm, ⟨28, _⟩ => ⟨S4x4096x32, .f32⟩
  | .hbm, ⟨29, _⟩ => ⟨S4x4096x32, .f32⟩
  | .hbm, ⟨30, _⟩ => ⟨S4x4096x32, .f32⟩
  | .hbm, ⟨31, _⟩ => ⟨S4x4096x32, .f32⟩
  | .hbm, ⟨32, _⟩ => ⟨S16384x768, .f32⟩
  | .hbm, ⟨33, _⟩ => ⟨S_, .f32⟩
  | .hbm, ⟨34, _⟩ => ⟨S16384, .f32⟩
  | .hbm, ⟨35, _⟩ => ⟨S16384x1, .f32⟩
  | .hbm, ⟨36, _⟩ => ⟨S_, .f32⟩
  | .hbm, ⟨37, _⟩ => ⟨S16384x1, .f32⟩
  | .hbm, ⟨38, _⟩ => ⟨S16384x1, .f32⟩
  | .hbm, ⟨39, _⟩ => ⟨S_, .f32⟩
  | .hbm, ⟨40, _⟩ => ⟨S16384x1, .f32⟩
  | .hbm, ⟨41, _⟩ => ⟨S16384x1, .f32⟩
  | .hbm, ⟨42, _⟩ => ⟨S16384x1, .f32⟩
  | .hbm, ⟨43, _⟩ => ⟨S16384x768, .f32⟩
  | .hbm, ⟨44, _⟩ => ⟨S16384x768, .f32⟩
  | .hbm, ⟨45, _⟩ => ⟨S1x768, .f32⟩
  | .hbm, ⟨46, _⟩ => ⟨S16384x768, .f32⟩
  | .hbm, ⟨47, _⟩ => ⟨S16384x768, .f32⟩
  | .hbm, ⟨48, _⟩ => ⟨S16384x1536, .f32⟩
  | .hbm, ⟨49, _⟩ => ⟨S4x4096x8x192, .f32⟩
  | .hbm, ⟨50, _⟩ => ⟨S4x4096x8x128, .f32⟩
  | .hbm, ⟨51, _⟩ => ⟨S4x4096x8x64, .f32⟩
  | .hbm, ⟨52, _⟩ => ⟨S4x4096x1x32, .f32⟩
  | .hbm, ⟨53, _⟩ => ⟨S4x4096x1x32, .f32⟩
  | .hbm, ⟨54, _⟩ => ⟨S4x4096x8x32, .f32⟩
  | .hbm, ⟨55, _⟩ => ⟨S4x4096x8x32, .f32⟩
  | .hbm, ⟨56, _⟩ => ⟨S4x4096x8x32, .f32⟩
  | .hbm, ⟨57, _⟩ => ⟨S4x4096x8x32, .f32⟩
  | .hbm, ⟨58, _⟩ => ⟨S4x4096x8x32, .f32⟩
  | .hbm, ⟨59, _⟩ => ⟨S4x4096x8x32, .f32⟩
  | .hbm, ⟨60, _⟩ => ⟨S4x4096x8x32, .f32⟩
  | .hbm, ⟨61, _⟩ => ⟨S4x4096x8x32, .f32⟩
  | .hbm, ⟨62, _⟩ => ⟨S4x4096x8x32, .f32⟩
  | .hbm, ⟨63, _⟩ => ⟨S4x4096x8x32, .f32⟩
  | .hbm, ⟨64, _⟩ => ⟨S4x4096x8x32, .f32⟩
  | .hbm, ⟨65, _⟩ => ⟨S4x4096x8x32, .f32⟩
  | .hbm, ⟨66, _⟩ => ⟨S4x4096x8x64, .f32⟩
  | .hbm, ⟨67, _⟩ => ⟨S16384x256, .f32⟩
  | .hbm, ⟨68, _⟩ => ⟨S_, .f32⟩
  | .hbm, ⟨69, _⟩ => ⟨S16384, .f32⟩
  | .hbm, ⟨70, _⟩ => ⟨S16384x1, .f32⟩
  | .hbm, ⟨71, _⟩ => ⟨S_, .f32⟩
  | .hbm, ⟨72, _⟩ => ⟨S16384x1, .f32⟩
  | .hbm, ⟨73, _⟩ => ⟨S16384x1, .f32⟩
  | .hbm, ⟨74, _⟩ => ⟨S_, .f32⟩
  | .hbm, ⟨75, _⟩ => ⟨S16384x1, .f32⟩
  | .hbm, ⟨76, _⟩ => ⟨S16384x1, .f32⟩
  | .hbm, ⟨77, _⟩ => ⟨S16384x1, .f32⟩
  | .hbm, ⟨78, _⟩ => ⟨S16384x256, .f32⟩
  | .hbm, ⟨79, _⟩ => ⟨S16384x256, .f32⟩
  | .hbm, ⟨80, _⟩ => ⟨S1x256, .f32⟩
  | .hbm, ⟨81, _⟩ => ⟨S16384x256, .f32⟩
  | .hbm, ⟨82, _⟩ => ⟨S16384x256, .f32⟩
  | .hbm, ⟨83, _⟩ => ⟨S16384x2048, .f32⟩
  | .hbm, ⟨84, _⟩ => ⟨S4x4096x8x256, .f32⟩
  | .hbm, ⟨85, _⟩ => ⟨S4x4096x8x128, .f32⟩
  | .hbm, ⟨86, _⟩ => ⟨S4x4096x8x128, .f32⟩
  | .hbm, ⟨87, _⟩ => ⟨S4x4096x64, .f32⟩
  | .hbm, ⟨88, _⟩ => ⟨S4x4096x32, .f32⟩
  | .hbm, ⟨89, _⟩ => ⟨S4x4096x32, .f32⟩
  | .hbm, ⟨90, _⟩ => ⟨S4x4096x32, .f32⟩
  | .hbm, ⟨91, _⟩ => ⟨S4x4096x32, .f32⟩
  | .hbm, ⟨92, _⟩ => ⟨S4x4096x32, .f32⟩
  | .hbm, ⟨93, _⟩ => ⟨S4x4096x32, .f32⟩
  | .hbm, ⟨94, _⟩ => ⟨S4x4096x32, .f32⟩
  | .hbm, ⟨95, _⟩ => ⟨S4x4096x32, .f32⟩
  | .hbm, ⟨96, _⟩ => ⟨S4x4096x64, .f32⟩
  | .hbm, ⟨97, _⟩ => ⟨S4x4096x4x1x128, .f32⟩
  | .hbm, ⟨98, _⟩ => ⟨S4x4096x4x2x128, .f32⟩
  | .hbm, ⟨99, _⟩ => ⟨S4x4096x8x128, .f32⟩
  | .hbm, ⟨100, _⟩ => ⟨S4x4096x8x256, .f32⟩
  | .hbm, ⟨101, _⟩ => ⟨S_, .f32⟩
  | .hbm, ⟨102, _⟩ => ⟨S_, .f32⟩
  | .hbm, ⟨103, _⟩ => ⟨S_, .f32⟩
  | .hbm, ⟨104, _⟩ => ⟨S_, .f32⟩
  | .hbm, ⟨105, _⟩ => ⟨S_, .f32⟩
  | .hbm, ⟨106, _⟩ => ⟨S4x4096x8x256, .f32⟩
  | .hbm, ⟨107, _⟩ => ⟨S4x4096x8x256, .f32⟩
  | .hbm, ⟨108, _⟩ => ⟨S_, .f32⟩
  | .hbm, ⟨109, _⟩ => ⟨S4x4096x64, .f32⟩
  | .hbm, ⟨110, _⟩ => ⟨S4x4096x128, .f32⟩
  | .hbm, ⟨111, _⟩ => ⟨S4x4096x128, .f32⟩
  | .hbm, ⟨112, _⟩ => ⟨S4x4096x1x128, .f32⟩
  | .hbm, ⟨113, _⟩ => ⟨S4x4096x1x128, .f32⟩
  | .hbm, ⟨114, _⟩ => ⟨S4x4096x2x128, .f32⟩
  | .hbm, ⟨115, _⟩ => ⟨S4x4096x1x2x128, .f32⟩
  | .hbm, ⟨116, _⟩ => ⟨S4x4096x4x2x128, .f32⟩
  | .hbm, ⟨117, _⟩ => ⟨S4x4096x8x128, .f32⟩
  | .hbm, ⟨118, _⟩ => ⟨S4x4096x8x256, .f32⟩
  | .hbm, ⟨119, _⟩ => ⟨S4x8x4096x256, .f32⟩
  | .hbm, ⟨120, _⟩ => ⟨S4x8x4096x256, .bf16⟩
  | .hbm, ⟨121, _⟩ => ⟨S4x8x4096x256, .f32⟩
  | .hbm, ⟨122, _⟩ => ⟨S4x8x4096x256, .bf16⟩
  | .hbm, ⟨123, _⟩ => ⟨S4x8x4096x128, .f32⟩
  | .hbm, ⟨124, _⟩ => ⟨S4x8x4096x128, .bf16⟩
  | _, _ => ⟨S16384x3200, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_v26 : Ref sig .tc := ⟨.hbm, 38, rfl⟩
abbrev main_cst_5 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_cst_6 : Ref sig .tc := ⟨.hbm, 68, rfl⟩
abbrev main_v55 : Ref sig .tc := ⟨.hbm, 69, rfl⟩
abbrev main_v56 : Ref sig .tc := ⟨.hbm, 70, rfl⟩
abbrev main_cst_7 : Ref sig .tc := ⟨.hbm, 71, rfl⟩
abbrev main_v57 : Ref sig .tc := ⟨.hbm, 72, rfl⟩
abbrev main_v58 : Ref sig .tc := ⟨.hbm, 73, rfl⟩
abbrev main_cst_8 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_cst_9 : Ref sig .tc := ⟨.hbm, 101, rfl⟩
abbrev main_v85 : Ref sig .tc := ⟨.hbm, 102, rfl⟩
abbrev main_cst_10 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_cst_11 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_v102 : Ref sig .tc := ⟨.hbm, 121, rfl⟩
abbrev main_v103 : Ref sig .tc := ⟨.hbm, 122, rfl⟩
abbrev main_v104 : Ref sig .tc := ⟨.hbm, 123, rfl⟩
abbrev main_v105 : Ref sig .tc := ⟨.hbm, 124, rfl⟩

abbrev nD : Nat := 1
abbrev τ : Topo := Topo.v7x

variable {F : FTy → Type} [FloatOps F]
-- ==== InConv.lean ====
abbrev S16384x1024 : Shape := ⟨2, ![16384, 1024]⟩
abbrev S1024x6208 : Shape := ⟨2, ![1024, 6208]⟩
abbrev S31x1x1024 : Shape := ⟨3, ![31, 1, 1024]⟩
abbrev S1024 : Shape := ⟨1, ![1024]⟩
abbrev S31x8x1024 : Shape := ⟨3, ![31, 8, 1024]⟩
abbrev S1024x64 : Shape := ⟨2, ![1024, 64]⟩
abbrev S_ : Shape := ⟨0, ![]⟩
abbrev S1024x2048 : Shape := ⟨2, ![1024, 2048]⟩
abbrev S1024x2176 : Shape := ⟨2, ![1024, 2176]⟩
abbrev S1x1024 : Shape := ⟨2, ![1, 1024]⟩
abbrev S16384x3200 : Shape := ⟨2, ![16384, 3200]⟩
abbrev S256x1024 : Shape := ⟨2, ![256, 1024]⟩
abbrev S1024x4096 : Shape := ⟨2, ![1024, 4096]⟩
abbrev S256x3200 : Shape := ⟨2, ![256, 3200]⟩
abbrev S8x288x1024 : Shape := ⟨3, ![8, 288, 1024]⟩
abbrev S16x1024 : Shape := ⟨2, ![16, 1024]⟩
abbrev S1024x1024 : Shape := ⟨2, ![1024, 1024]⟩
abbrev S1x256x1024 : Shape := ⟨3, ![1, 256, 1024]⟩
abbrev S1x16x1024 : Shape := ⟨3, ![1, 16, 1024]⟩
abbrev S1x288x128 : Shape := ⟨3, ![1, 288, 128]⟩
abbrev S288x128 : Shape := ⟨2, ![288, 128]⟩
abbrev S1024x512 : Shape := ⟨2, ![1024, 512]⟩
abbrev S256x512 : Shape := ⟨2, ![256, 512]⟩
abbrev S32x256 : Shape := ⟨2, ![32, 256]⟩
abbrev S1x8x256 : Shape := ⟨3, ![1, 8, 256]⟩
abbrev S8x256 : Shape := ⟨2, ![8, 256]⟩
abbrev S1x32x256 : Shape := ⟨3, ![1, 32, 256]⟩
abbrev S32x1024 : Shape := ⟨2, ![32, 1024]⟩
abbrev S32 : Shape := ⟨1, ![32]⟩
abbrev S32x1 : Shape := ⟨2, ![32, 1]⟩
abbrev S1024x640 : Shape := ⟨2, ![1024, 640]⟩
abbrev S256x640 : Shape := ⟨2, ![256, 640]⟩

abbrev nBuf : Space → Nat
  | .hbm => 18
  | .vmem => 18
  | .smem => 0
  | _ => 0

abbrev bufTy : (tb : Table) → Fin (tcTables nBuf tb) → BufTy
  | .hbm, ⟨0, _⟩ => ⟨S16384x1024, .f32⟩
  | .hbm, ⟨1, _⟩ => ⟨S1024x6208, .f32⟩
  | .hbm, ⟨2, _⟩ => ⟨S31x1x1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S31x8x1024, .f32⟩
  | .hbm, ⟨7, _⟩ => ⟨S1024x6208, .bf16⟩
  | .hbm, ⟨8, _⟩ => ⟨S1024x64, .bf16⟩
  | .hbm, ⟨9, _⟩ => ⟨S_, .bf16⟩
  | .hbm, ⟨10, _⟩ => ⟨S1024x64, .bf16⟩
  | .hbm, ⟨11, _⟩ => ⟨S1024x2048, .bf16⟩
  | .hbm, ⟨12, _⟩ => ⟨S1024x2176, .bf16⟩
  | .hbm, ⟨13, _⟩ => ⟨S1x1024, .f32⟩
  | .hbm, ⟨14, _⟩ => ⟨S1x1024, .f32⟩
  | .hbm, ⟨15, _⟩ => ⟨S1x1024, .f32⟩
  | .hbm, ⟨16, _⟩ => ⟨S16384x3200, .bf16⟩
  | .hbm, ⟨17, _⟩ => ⟨S16384x1024, .bf16⟩
  | .local _ .vmem, ⟨0, _⟩ => ⟨S256x1024, .f32⟩
  | .local _ .vmem, ⟨1, _⟩ => ⟨S256x1024, .f32⟩
  | .local _ .vmem, ⟨2, _⟩ => ⟨S1024x4096, .bf16⟩
  | .local _ .vmem, ⟨3, _⟩ => ⟨S1024x2176, .bf16⟩
  | .local _ .vmem, ⟨4, _⟩ => ⟨S31x8x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S256x3200, .bf16⟩
  | .local _ .vmem, ⟨9, _⟩ => ⟨S256x3200, .bf16⟩
  | .local _ .vmem, ⟨10, _⟩ => ⟨S256x1024, .bf16⟩
  | .local _ .vmem, ⟨11, _⟩ => ⟨S256x1024, .bf16⟩
  | .local _ .vmem, ⟨12, _⟩ => ⟨S256x1024, .bf16⟩
  | .local _ .vmem, ⟨13, _⟩ => ⟨S8x288x1024, .f32⟩
  | .local _ .vmem, ⟨14, _⟩ => ⟨S256x1024, .f32⟩
  | .local _ .vmem, ⟨15, _⟩ => ⟨S256x1024, .bf16⟩
  | .local _ .vmem, ⟨16, _⟩ => ⟨S256x1024, .bf16⟩
  | .local _ .vmem, ⟨17, _⟩ => ⟨S16x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9_0 : Ref sig .tc := ⟨.hbm, 16, rfl⟩
abbrev main_v9_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_scratch5 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![65], ![false]⟩

def cc0_transform_0 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2176 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S31x8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x3200 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== InConvRefIdeal.lean ====
abbrev S16384x1024 : Shape := ⟨2, ![16384, 1024]⟩
abbrev S1024x6208 : Shape := ⟨2, ![1024, 6208]⟩
abbrev S31x1x1024 : Shape := ⟨3, ![31, 1, 1024]⟩
abbrev S1024 : Shape := ⟨1, ![1024]⟩
abbrev S16384x6208 : Shape := ⟨2, ![16384, 6208]⟩
abbrev S16384x2048 : Shape := ⟨2, ![16384, 2048]⟩
abbrev S_ : Shape := ⟨0, ![]⟩
abbrev S4x4096x1024 : Shape := ⟨3, ![4, 4096, 1024]⟩
abbrev S4x4126x1024 : Shape := ⟨3, ![4, 4126, 1024]⟩
abbrev S1x1x1024 : Shape := ⟨3, ![1, 1, 1024]⟩
abbrev S1x1024 : Shape := ⟨2, ![1, 1024]⟩
abbrev S16384 : Shape := ⟨1, ![16384]⟩
abbrev S16384x1 : Shape := ⟨2, ![16384, 1]⟩
abbrev S16384x64 : Shape := ⟨2, ![16384, 64]⟩
abbrev S16384x3200 : Shape := ⟨2, ![16384, 3200]⟩

abbrev nBuf : Space → Nat
  | .hbm => 301
  | .vmem => 0
  | .smem => 0
  | _ => 0

abbrev hbmTy0_0 (i : Nat) : BufTy := match i % 128 with
  | 0 => ⟨S16384x1024, .f32⟩
  | 1 => ⟨S1024x6208, .f32⟩
  | 2 => ⟨S31x1x1024, .f32⟩
  | 3 => ⟨S1024, .f32⟩
  | 4 => ⟨S1024, .f32⟩
  | 5 => ⟨S1024, .f32⟩
  | 6 => ⟨S16384x6208, .f32⟩
  | 7 => ⟨S16384x2048, .f32⟩
  | 8 => ⟨S16384x1024, .f32⟩
  | 9 => ⟨S16384x1024, .f32⟩
  | 10 => ⟨S16384x1024, .f32⟩
  | 11 => ⟨S16384x1024, .f32⟩
  | 12 => ⟨S16384x1024, .f32⟩
  | 13 => ⟨S_, .f32⟩
  | 14 => ⟨S16384x1024, .f32⟩
  | 15 => ⟨S16384x1024, .f32⟩
  | 16 => ⟨S_, .f32⟩
  | 17 => ⟨S16384x1024, .f32⟩
  | 18 => ⟨S16384x1024, .f32⟩
  | 19 => ⟨S16384x1024, .f32⟩
  | 20 => ⟨S4x4096x1024, .f32⟩
  | 21 => ⟨S_, .i32⟩
  | 22 => ⟨S_, .f32⟩
  | 23 => ⟨S4x4126x1024, .f32⟩
  | 24 => ⟨S4x4096x1024, .f32⟩
  | 25 => ⟨S1x1x1024, .f32⟩
  | 26 => ⟨S1024, .f32⟩
  | 27 => ⟨S1x1x1024, .f32⟩
  | 28 => ⟨S4x4096x1024, .f32⟩
  | 29 => ⟨S4x4096x1024, .f32⟩
  | 30 => ⟨S_, .f32⟩
  | 31 => ⟨S4x4096x1024, .f32⟩
  | 32 => ⟨S4x4096x1024, .f32⟩
  | 33 => ⟨S4x4096x1024, .f32⟩
  | 34 => ⟨S1x1x1024, .f32⟩
  | 35 => ⟨S1024, .f32⟩
  | 36 => ⟨S1x1x1024, .f32⟩
  | 37 => ⟨S4x4096x1024, .f32⟩
  | 38 => ⟨S4x4096x1024, .f32⟩
  | 39 => ⟨S4x4096x1024, .f32⟩
  | 40 => ⟨S4x4096x1024, .f32⟩
  | 41 => ⟨S1x1x1024, .f32⟩
  | 42 => ⟨S1024, .f32⟩
  | 43 => ⟨S1x1x1024, .f32⟩
  | 44 => ⟨S4x4096x1024, .f32⟩
  | 45 => ⟨S4x4096x1024, .f32⟩
  | 46 => ⟨S4x4096x1024, .f32⟩
  | 47 => ⟨S4x4096x1024, .f32⟩
  | 48 => ⟨S1x1x1024, .f32⟩
  | 49 => ⟨S1024, .f32⟩
  | 50 => ⟨S1x1x1024, .f32⟩
  | 51 => ⟨S4x4096x1024, .f32⟩
  | 52 => ⟨S4x4096x1024, .f32⟩
  | 53 => ⟨S4x4096x1024, .f32⟩
  | 54 => ⟨S4x4096x1024, .f32⟩
  | 55 => ⟨S1x1x1024, .f32⟩
  | 56 => ⟨S1024, .f32⟩
  | 57 => ⟨S1x1x1024, .f32⟩
  | 58 => ⟨S4x4096x1024, .f32⟩
  | 59 => ⟨S4x4096x1024, .f32⟩
  | 60 => ⟨S4x4096x1024, .f32⟩
  | 61 => ⟨S4x4096x1024, .f32⟩
  | 62 => ⟨S1x1x1024, .f32⟩
  | 63 => ⟨S1024, .f32⟩
  | 64 => ⟨S1x1x1024, .f32⟩
  | 65 => ⟨S4x4096x1024, .f32⟩
  | 66 => ⟨S4x4096x1024, .f32⟩
  | 67 => ⟨S4x4096x1024, .f32⟩
  | 68 => ⟨S4x4096x1024, .f32⟩
  | 69 => ⟨S1x1x1024, .f32⟩
  | 70 => ⟨S1024, .f32⟩
  | 71 => ⟨S1x1x1024, .f32⟩
  | 72 => ⟨S4x4096x1024, .f32⟩
  | 73 => ⟨S4x4096x1024, .f32⟩
  | 74 => ⟨S4x4096x1024, .f32⟩
  | 75 => ⟨S4x4096x1024, .f32⟩
  | 76 => ⟨S1x1x1024, .f32⟩
  | 77 => ⟨S1024, .f32⟩
  | 78 => ⟨S1x1x1024, .f32⟩
  | 79 => ⟨S4x4096x1024, .f32⟩
  | 80 => ⟨S4x4096x1024, .f32⟩
  | 81 => ⟨S4x4096x1024, .f32⟩
  | 82 => ⟨S4x4096x1024, .f32⟩
  | 83 => ⟨S1x1x1024, .f32⟩
  | 84 => ⟨S1024, .f32⟩
  | 85 => ⟨S1x1x1024, .f32⟩
  | 86 => ⟨S4x4096x1024, .f32⟩
  | 87 => ⟨S4x4096x1024, .f32⟩
  | 88 => ⟨S4x4096x1024, .f32⟩
  | 89 => ⟨S4x4096x1024, .f32⟩
  | 90 => ⟨S1x1x1024, .f32⟩
  | 91 => ⟨S1024, .f32⟩
  | 92 => ⟨S1x1x1024, .f32⟩
  | 93 => ⟨S4x4096x1024, .f32⟩
  | 94 => ⟨S4x4096x1024, .f32⟩
  | 95 => ⟨S4x4096x1024, .f32⟩
  | 96 => ⟨S4x4096x1024, .f32⟩
  | 97 => ⟨S1x1x1024, .f32⟩
  | 98 => ⟨S1024, .f32⟩
  | 99 => ⟨S1x1x1024, .f32⟩
  | 100 => ⟨S4x4096x1024, .f32⟩
  | 101 => ⟨S4x4096x1024, .f32⟩
  | 102 => ⟨S4x4096x1024, .f32⟩
  | 103 => ⟨S4x4096x1024, .f32⟩
  | 104 => ⟨S1x1x1024, .f32⟩
  | 105 => ⟨S1024, .f32⟩
  | 106 => ⟨S1x1x1024, .f32⟩
  | 107 => ⟨S4x4096x1024, .f32⟩
  | 108 => ⟨S4x4096x1024, .f32⟩
  | 109 => ⟨S4x4096x1024, .f32⟩
  | 110 => ⟨S4x4096x1024, .f32⟩
  | 111 => ⟨S1x1x1024, .f32⟩
  | 112 => ⟨S1024, .f32⟩
  | 113 => ⟨S1x1x1024, .f32⟩
  | 114 => ⟨S4x4096x1024, .f32⟩
  | 115 => ⟨S4x4096x1024, .f32⟩
  | 116 => ⟨S4x4096x1024, .f32⟩
  | 117 => ⟨S4x4096x1024, .f32⟩
  | 118 => ⟨S1x1x1024, .f32⟩
  | 119 => ⟨S1024, .f32⟩
  | 120 => ⟨S1x1x1024, .f32⟩
  | 121 => ⟨S4x4096x1024, .f32⟩
  | 122 => ⟨S4x4096x1024, .f32⟩
  | 123 => ⟨S4x4096x1024, .f32⟩
  | 124 => ⟨S4x4096x1024, .f32⟩
  | 125 => ⟨S1x1x1024, .f32⟩
  | 126 => ⟨S1024, .f32⟩
  | 127 => ⟨S1x1x1024, .f32⟩
  | _ => ⟨S16384x1024, .f32⟩

abbrev hbmTy0_1 (i : Nat) : BufTy := match i % 128 with
  | 0 => ⟨S4x4096x1024, .f32⟩
  | 1 => ⟨S4x4096x1024, .f32⟩
  | 2 => ⟨S4x4096x1024, .f32⟩
  | 3 => ⟨S4x4096x1024, .f32⟩
  | 4 => ⟨S1x1x1024, .f32⟩
  | 5 => ⟨S1024, .f32⟩
  | 6 => ⟨S1x1x1024, .f32⟩
  | 7 => ⟨S4x4096x1024, .f32⟩
  | 8 => ⟨S4x4096x1024, .f32⟩
  | 9 => ⟨S4x4096x1024, .f32⟩
  | 10 => ⟨S4x4096x1024, .f32⟩
  | 11 => ⟨S1x1x1024, .f32⟩
  | 12 => ⟨S1024, .f32⟩
  | 13 => ⟨S1x1x1024, .f32⟩
  | 14 => ⟨S4x4096x1024, .f32⟩
  | 15 => ⟨S4x4096x1024, .f32⟩
  | 16 => ⟨S4x4096x1024, .f32⟩
  | 17 => ⟨S4x4096x1024, .f32⟩
  | 18 => ⟨S1x1x1024, .f32⟩
  | 19 => ⟨S1024, .f32⟩
  | 20 => ⟨S1x1x1024, .f32⟩
  | 21 => ⟨S4x4096x1024, .f32⟩
  | 22 => ⟨S4x4096x1024, .f32⟩
  | 23 => ⟨S4x4096x1024, .f32⟩
  | 24 => ⟨S4x4096x1024, .f32⟩
  | 25 => ⟨S1x1x1024, .f32⟩
  | 26 => ⟨S1024, .f32⟩
  | 27 => ⟨S1x1x1024, .f32⟩
  | 28 => ⟨S4x4096x1024, .f32⟩
  | 29 => ⟨S4x4096x1024, .f32⟩
  | 30 => ⟨S4x4096x1024, .f32⟩
  | 31 => ⟨S4x4096x1024, .f32⟩
  | 32 => ⟨S1x1x1024, .f32⟩
  | 33 => ⟨S1024, .f32⟩
  | 34 => ⟨S1x1x1024, .f32⟩
  | 35 => ⟨S4x4096x1024, .f32⟩
  | 36 => ⟨S4x4096x1024, .f32⟩
  | 37 => ⟨S4x4096x1024, .f32⟩
  | 38 => ⟨S4x4096x1024, .f32⟩
  | 39 => ⟨S1x1x1024, .f32⟩
  | 40 => ⟨S1024, .f32⟩
  | 41 => ⟨S1x1x1024, .f32⟩
  | 42 => ⟨S4x4096x1024, .f32⟩
  | 43 => ⟨S4x4096x1024, .f32⟩
  | 44 => ⟨S4x4096x1024, .f32⟩
  | 45 => ⟨S4x4096x1024, .f32⟩
  | 46 => ⟨S1x1x1024, .f32⟩
  | 47 => ⟨S1024, .f32⟩
  | 48 => ⟨S1x1x1024, .f32⟩
  | 49 => ⟨S4x4096x1024, .f32⟩
  | 50 => ⟨S4x4096x1024, .f32⟩
  | 51 => ⟨S4x4096x1024, .f32⟩
  | 52 => ⟨S4x4096x1024, .f32⟩
  | 53 => ⟨S1x1x1024, .f32⟩
  | 54 => ⟨S1024, .f32⟩
  | 55 => ⟨S1x1x1024, .f32⟩
  | 56 => ⟨S4x4096x1024, .f32⟩
  | 57 => ⟨S4x4096x1024, .f32⟩
  | 58 => ⟨S4x4096x1024, .f32⟩
  | 59 => ⟨S4x4096x1024, .f32⟩
  | 60 => ⟨S1x1x1024, .f32⟩
  | 61 => ⟨S1024, .f32⟩
  | 62 => ⟨S1x1x1024, .f32⟩
  | 63 => ⟨S4x4096x1024, .f32⟩
  | 64 => ⟨S4x4096x1024, .f32⟩
  | 65 => ⟨S4x4096x1024, .f32⟩
  | 66 => ⟨S4x4096x1024, .f32⟩
  | 67 => ⟨S1x1x1024, .f32⟩
  | 68 => ⟨S1024, .f32⟩
  | 69 => ⟨S1x1x1024, .f32⟩
  | 70 => ⟨S4x4096x1024, .f32⟩
  | 71 => ⟨S4x4096x1024, .f32⟩
  | 72 => ⟨S4x4096x1024, .f32⟩
  | 73 => ⟨S4x4096x1024, .f32⟩
  | 74 => ⟨S1x1x1024, .f32⟩
  | 75 => ⟨S1024, .f32⟩
  | 76 => ⟨S1x1x1024, .f32⟩
  | 77 => ⟨S4x4096x1024, .f32⟩
  | 78 => ⟨S4x4096x1024, .f32⟩
  | 79 => ⟨S4x4096x1024, .f32⟩
  | 80 => ⟨S4x4096x1024, .f32⟩
  | 81 => ⟨S1x1x1024, .f32⟩
  | 82 => ⟨S1024, .f32⟩
  | 83 => ⟨S1x1x1024, .f32⟩
  | 84 => ⟨S4x4096x1024, .f32⟩
  | 85 => ⟨S4x4096x1024, .f32⟩
  | 86 => ⟨S4x4096x1024, .f32⟩
  | 87 => ⟨S4x4096x1024, .f32⟩
  | 88 => ⟨S1x1x1024, .f32⟩
  | 89 => ⟨S1024, .f32⟩
  | 90 => ⟨S1x1x1024, .f32⟩
  | 91 => ⟨S4x4096x1024, .f32⟩
  | 92 => ⟨S4x4096x1024, .f32⟩
  | 93 => ⟨S4x4096x1024, .f32⟩
  | 94 => ⟨S4x4096x1024, .f32⟩
  | 95 => ⟨S1x1x1024, .f32⟩
  | 96 => ⟨S1024, .f32⟩
  | 97 => ⟨S1x1x1024, .f32⟩
  | 98 => ⟨S4x4096x1024, .f32⟩
  | 99 => ⟨S4x4096x1024, .f32⟩
  | 100 => ⟨S4x4096x1024, .f32⟩
  | 101 => ⟨S4x4096x1024, .f32⟩
  | 102 => ⟨S1x1x1024, .f32⟩
  | 103 => ⟨S1024, .f32⟩
  | 104 => ⟨S1x1x1024, .f32⟩
  | 105 => ⟨S4x4096x1024, .f32⟩
  | 106 => ⟨S4x4096x1024, .f32⟩
  | 107 => ⟨S4x4096x1024, .f32⟩
  | 108 => ⟨S4x4096x1024, .f32⟩
  | 109 => ⟨S1x1x1024, .f32⟩
  | 110 => ⟨S1024, .f32⟩
  | 111 => ⟨S1x1x1024, .f32⟩
  | 112 => ⟨S4x4096x1024, .f32⟩
  | 113 => ⟨S4x4096x1024, .f32⟩
  | 114 => ⟨S4x4096x1024, .f32⟩
  | 115 => ⟨S16384x1024, .f32⟩
  | 116 => ⟨S1x1024, .f32⟩
  | 117 => ⟨S16384x1024, .f32⟩
  | 118 => ⟨S16384x1024, .f32⟩
  | 119 => ⟨S_, .f32⟩
  | 120 => ⟨S16384, .f32⟩
  | 121 => ⟨S16384x1, .f32⟩
  | 122 => ⟨S_, .f32⟩
  | 123 => ⟨S16384x1, .f32⟩
  | 124 => ⟨S16384x1, .f32⟩
  | 125 => ⟨S16384x1024, .f32⟩
  | 126 => ⟨S16384x1024, .f32⟩
  | 127 => ⟨S16384x1024, .f32⟩
  | _ => ⟨S16384x1024, .f32⟩

abbrev hbmTy0_2 (i : Nat) : BufTy := match i % 128 with
  | 0 => ⟨S_, .f32⟩
  | 1 => ⟨S16384, .f32⟩
  | 2 => ⟨S16384x1, .f32⟩
  | 3 => ⟨S_, .f32⟩
  | 4 => ⟨S16384x1, .f32⟩
  | 5 => ⟨S16384x1, .f32⟩
  | 6 => ⟨S_, .f32⟩
  | 7 => ⟨S16384x1, .f32⟩
  | 8 => ⟨S16384x1, .f32⟩
  | 9 => ⟨S16384x1, .f32⟩
  | 10 => ⟨S16384x1024, .f32⟩
  | 11 => ⟨S16384x1024, .f32⟩
  | 12 => ⟨S1x1024, .f32⟩
  | 13 => ⟨S16384x1024, .f32⟩
  | 14 => ⟨S16384x1024, .f32⟩
  | 15 => ⟨S1x1024, .f32⟩
  | 16 => ⟨S16384x1024, .f32⟩
  | 17 => ⟨S16384x1024, .f32⟩
  | 18 => ⟨S16384x1024, .f32⟩
  | 19 => ⟨S16384x1024, .f32⟩
  | 20 => ⟨S_, .f32⟩
  | 21 => ⟨S16384x1024, .f32⟩
  | 22 => ⟨S16384x1024, .f32⟩
  | 23 => ⟨S_, .f32⟩
  | 24 => ⟨S16384x1024, .f32⟩
  | 25 => ⟨S16384x1024, .f32⟩
  | 26 => ⟨S16384x1024, .f32⟩
  | 27 => ⟨S16384x1024, .f32⟩
  | 28 => ⟨S16384x1024, .f32⟩
  | 29 => ⟨S_, .f32⟩
  | 30 => ⟨S16384x1024, .f32⟩
  | 31 => ⟨S16384x1024, .f32⟩
  | 32 => ⟨S_, .f32⟩
  | 33 => ⟨S16384x1024, .f32⟩
  | 34 => ⟨S16384x1024, .f32⟩
  | 35 => ⟨S16384x1024, .f32⟩
  | 36 => ⟨S16384x1024, .f32⟩
  | 37 => ⟨S16384x1024, .f32⟩
  | 38 => ⟨S16384x64, .f32⟩
  | 39 => ⟨S16384x2048, .f32⟩
  | 40 => ⟨S_, .f32⟩
  | 41 => ⟨S16384x64, .f32⟩
  | 42 => ⟨S16384x3200, .f32⟩
  | 43 => ⟨S16384x3200, .bf16⟩
  | 44 => ⟨S16384x1024, .bf16⟩
  | _ => ⟨S16384x1024, .f32⟩

abbrev hbmTy (i : Nat) : BufTy := match i / 128 with
  | 0 => hbmTy0_0 i
  | 1 => hbmTy0_1 i
  | 2 => hbmTy0_2 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c : Ref sig .tc := ⟨.hbm, 21, rfl⟩
abbrev main_call0_v0 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_1 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_v90 : Ref sig .tc := ⟨.hbm, 101, rfl⟩
abbrev main_v91 : Ref sig .tc := ⟨.hbm, 102, rfl⟩
abbrev main_v92 : Ref sig .tc := ⟨.hbm, 103, rfl⟩
abbrev main_v93 : Ref sig .tc := ⟨.hbm, 104, rfl⟩
abbrev main_v94 : Ref sig .tc := ⟨.hbm, 105, rfl⟩
abbrev main_v95 : Ref sig .tc := ⟨.hbm, 106, rfl⟩
abbrev main_v96 : Ref sig .tc := ⟨.hbm, 107, rfl⟩
abbrev main_v97 : Ref sig .tc := ⟨.hbm, 108, rfl⟩
abbrev main_v98 : Ref sig .tc := ⟨.hbm, 109, rfl⟩
abbrev main_v99 : Ref sig .tc := ⟨.hbm, 110, rfl⟩
abbrev main_v100 : Ref sig .tc := ⟨.hbm, 111, rfl⟩
abbrev main_v101 : Ref sig .tc := ⟨.hbm, 112, rfl⟩
abbrev main_v102 : Ref sig .tc := ⟨.hbm, 113, rfl⟩
abbrev main_v103 : Ref sig .tc := ⟨.hbm, 114, rfl⟩
abbrev main_v104 : Ref sig .tc := ⟨.hbm, 115, rfl⟩
abbrev main_v105 : Ref sig .tc := ⟨.hbm, 116, rfl⟩
abbrev main_v106 : Ref sig .tc := ⟨.hbm, 117, rfl⟩
abbrev main_v107 : Ref sig .tc := ⟨.hbm, 118, rfl⟩
abbrev main_v108 : Ref sig .tc := ⟨.hbm, 119, rfl⟩
abbrev main_v109 : Ref sig .tc := ⟨.hbm, 120, rfl⟩
abbrev main_v110 : Ref sig .tc := ⟨.hbm, 121, rfl⟩
abbrev main_v111 : Ref sig .tc := ⟨.hbm, 122, rfl⟩
abbrev main_v112 : Ref sig .tc := ⟨.hbm, 123, rfl⟩
abbrev main_v113 : Ref sig .tc := ⟨.hbm, 124, rfl⟩
abbrev main_v114 : Ref sig .tc := ⟨.hbm, 125, rfl⟩
abbrev main_v115 : Ref sig .tc := ⟨.hbm, 126, rfl⟩
abbrev main_v116 : Ref sig .tc := ⟨.hbm, 127, rfl⟩
abbrev main_v117 : Ref sig .tc := ⟨.hbm, 128, rfl⟩
abbrev main_v118 : Ref sig .tc := ⟨.hbm, 129, rfl⟩
abbrev main_v119 : Ref sig .tc := ⟨.hbm, 130, rfl⟩
abbrev main_v120 : Ref sig .tc := ⟨.hbm, 131, rfl⟩
abbrev main_v121 : Ref sig .tc := ⟨.hbm, 132, rfl⟩
abbrev main_v122 : Ref sig .tc := ⟨.hbm, 133, rfl⟩
abbrev main_v123 : Ref sig .tc := ⟨.hbm, 134, rfl⟩
abbrev main_v124 : Ref sig .tc := ⟨.hbm, 135, rfl⟩
abbrev main_v125 : Ref sig .tc := ⟨.hbm, 136, rfl⟩
abbrev main_v126 : Ref sig .tc := ⟨.hbm, 137, rfl⟩
abbrev main_v127 : Ref sig .tc := ⟨.hbm, 138, rfl⟩
abbrev main_v128 : Ref sig .tc := ⟨.hbm, 139, rfl⟩
abbrev main_v129 : Ref sig .tc := ⟨.hbm, 140, rfl⟩
abbrev main_v130 : Ref sig .tc := ⟨.hbm, 141, rfl⟩
abbrev main_v131 : Ref sig .tc := ⟨.hbm, 142, rfl⟩
abbrev main_v132 : Ref sig .tc := ⟨.hbm, 143, rfl⟩
abbrev main_v133 : Ref sig .tc := ⟨.hbm, 144, rfl⟩
abbrev main_v134 : Ref sig .tc := ⟨.hbm, 145, rfl⟩
abbrev main_v135 : Ref sig .tc := ⟨.hbm, 146, rfl⟩
abbrev main_v136 : Ref sig .tc := ⟨.hbm, 147, rfl⟩
abbrev main_v137 : Ref sig .tc := ⟨.hbm, 148, rfl⟩
abbrev main_v138 : Ref sig .tc := ⟨.hbm, 149, rfl⟩
abbrev main_v139 : Ref sig .tc := ⟨.hbm, 150, rfl⟩
abbrev main_v140 : Ref sig .tc := ⟨.hbm, 151, rfl⟩
abbrev main_v141 : Ref sig .tc := ⟨.hbm, 152, rfl⟩
abbrev main_v142 : Ref sig .tc := ⟨.hbm, 153, rfl⟩
abbrev main_v143 : Ref sig .tc := ⟨.hbm, 154, rfl⟩
abbrev main_v144 : Ref sig .tc := ⟨.hbm, 155, rfl⟩
abbrev main_v145 : Ref sig .tc := ⟨.hbm, 156, rfl⟩
abbrev main_v146 : Ref sig .tc := ⟨.hbm, 157, rfl⟩
abbrev main_v147 : Ref sig .tc := ⟨.hbm, 158, rfl⟩
abbrev main_v148 : Ref sig .tc := ⟨.hbm, 159, rfl⟩
abbrev main_v149 : Ref sig .tc := ⟨.hbm, 160, rfl⟩
abbrev main_v150 : Ref sig .tc := ⟨.hbm, 161, rfl⟩
abbrev main_v151 : Ref sig .tc := ⟨.hbm, 162, rfl⟩
abbrev main_v152 : Ref sig .tc := ⟨.hbm, 163, rfl⟩
abbrev main_v153 : Ref sig .tc := ⟨.hbm, 164, rfl⟩
abbrev main_v154 : Ref sig .tc := ⟨.hbm, 165, rfl⟩
abbrev main_v155 : Ref sig .tc := ⟨.hbm, 166, rfl⟩
abbrev main_v156 : Ref sig .tc := ⟨.hbm, 167, rfl⟩
abbrev main_v157 : Ref sig .tc := ⟨.hbm, 168, rfl⟩
abbrev main_v158 : Ref sig .tc := ⟨.hbm, 169, rfl⟩
abbrev main_v159 : Ref sig .tc := ⟨.hbm, 170, rfl⟩
abbrev main_v160 : Ref sig .tc := ⟨.hbm, 171, rfl⟩
abbrev main_v161 : Ref sig .tc := ⟨.hbm, 172, rfl⟩
abbrev main_v162 : Ref sig .tc := ⟨.hbm, 173, rfl⟩
abbrev main_v163 : Ref sig .tc := ⟨.hbm, 174, rfl⟩
abbrev main_v164 : Ref sig .tc := ⟨.hbm, 175, rfl⟩
abbrev main_v165 : Ref sig .tc := ⟨.hbm, 176, rfl⟩
abbrev main_v166 : Ref sig .tc := ⟨.hbm, 177, rfl⟩
abbrev main_v167 : Ref sig .tc := ⟨.hbm, 178, rfl⟩
abbrev main_v168 : Ref sig .tc := ⟨.hbm, 179, rfl⟩
abbrev main_v169 : Ref sig .tc := ⟨.hbm, 180, rfl⟩
abbrev main_v170 : Ref sig .tc := ⟨.hbm, 181, rfl⟩
abbrev main_v171 : Ref sig .tc := ⟨.hbm, 182, rfl⟩
abbrev main_v172 : Ref sig .tc := ⟨.hbm, 183, rfl⟩
abbrev main_v173 : Ref sig .tc := ⟨.hbm, 184, rfl⟩
abbrev main_v174 : Ref sig .tc := ⟨.hbm, 185, rfl⟩
abbrev main_v175 : Ref sig .tc := ⟨.hbm, 186, rfl⟩
abbrev main_v176 : Ref sig .tc := ⟨.hbm, 187, rfl⟩
abbrev main_v177 : Ref sig .tc := ⟨.hbm, 188, rfl⟩
abbrev main_v178 : Ref sig .tc := ⟨.hbm, 189, rfl⟩
abbrev main_v179 : Ref sig .tc := ⟨.hbm, 190, rfl⟩
abbrev main_v180 : Ref sig .tc := ⟨.hbm, 191, rfl⟩
abbrev main_v181 : Ref sig .tc := ⟨.hbm, 192, rfl⟩
abbrev main_v182 : Ref sig .tc := ⟨.hbm, 193, rfl⟩
abbrev main_v183 : Ref sig .tc := ⟨.hbm, 194, rfl⟩
abbrev main_v184 : Ref sig .tc := ⟨.hbm, 195, rfl⟩
abbrev main_v185 : Ref sig .tc := ⟨.hbm, 196, rfl⟩
abbrev main_v186 : Ref sig .tc := ⟨.hbm, 197, rfl⟩
abbrev main_v187 : Ref sig .tc := ⟨.hbm, 198, rfl⟩
abbrev main_v188 : Ref sig .tc := ⟨.hbm, 199, rfl⟩
abbrev main_v189 : Ref sig .tc := ⟨.hbm, 200, rfl⟩
abbrev main_v190 : Ref sig .tc := ⟨.hbm, 201, rfl⟩
abbrev main_v191 : Ref sig .tc := ⟨.hbm, 202, rfl⟩
abbrev main_v192 : Ref sig .tc := ⟨.hbm, 203, rfl⟩
abbrev main_v193 : Ref sig .tc := ⟨.hbm, 204, rfl⟩
abbrev main_v194 : Ref sig .tc := ⟨.hbm, 205, rfl⟩
abbrev main_v195 : Ref sig .tc := ⟨.hbm, 206, rfl⟩
abbrev main_v196 : Ref sig .tc := ⟨.hbm, 207, rfl⟩
abbrev main_v197 : Ref sig .tc := ⟨.hbm, 208, rfl⟩
abbrev main_v198 : Ref sig .tc := ⟨.hbm, 209, rfl⟩
abbrev main_v199 : Ref sig .tc := ⟨.hbm, 210, rfl⟩
abbrev main_v200 : Ref sig .tc := ⟨.hbm, 211, rfl⟩
abbrev main_v201 : Ref sig .tc := ⟨.hbm, 212, rfl⟩
abbrev main_v202 : Ref sig .tc := ⟨.hbm, 213, rfl⟩
abbrev main_v203 : Ref sig .tc := ⟨.hbm, 214, rfl⟩
abbrev main_v204 : Ref sig .tc := ⟨.hbm, 215, rfl⟩
abbrev main_v205 : Ref sig .tc := ⟨.hbm, 216, rfl⟩
abbrev main_v206 : Ref sig .tc := ⟨.hbm, 217, rfl⟩
abbrev main_v207 : Ref sig .tc := ⟨.hbm, 218, rfl⟩
abbrev main_v208 : Ref sig .tc := ⟨.hbm, 219, rfl⟩
abbrev main_v209 : Ref sig .tc := ⟨.hbm, 220, rfl⟩
abbrev main_v210 : Ref sig .tc := ⟨.hbm, 221, rfl⟩
abbrev main_v211 : Ref sig .tc := ⟨.hbm, 222, rfl⟩
abbrev main_v212 : Ref sig .tc := ⟨.hbm, 223, rfl⟩
abbrev main_v213 : Ref sig .tc := ⟨.hbm, 224, rfl⟩
abbrev main_v214 : Ref sig .tc := ⟨.hbm, 225, rfl⟩
abbrev main_v215 : Ref sig .tc := ⟨.hbm, 226, rfl⟩
abbrev main_v216 : Ref sig .tc := ⟨.hbm, 227, rfl⟩
abbrev main_v217 : Ref sig .tc := ⟨.hbm, 228, rfl⟩
abbrev main_v218 : Ref sig .tc := ⟨.hbm, 229, rfl⟩
abbrev main_v219 : Ref sig .tc := ⟨.hbm, 230, rfl⟩
abbrev main_v220 : Ref sig .tc := ⟨.hbm, 231, rfl⟩
abbrev main_v221 : Ref sig .tc := ⟨.hbm, 232, rfl⟩
abbrev main_v222 : Ref sig .tc := ⟨.hbm, 233, rfl⟩
abbrev main_v223 : Ref sig .tc := ⟨.hbm, 234, rfl⟩
abbrev main_v224 : Ref sig .tc := ⟨.hbm, 235, rfl⟩
abbrev main_v225 : Ref sig .tc := ⟨.hbm, 236, rfl⟩
abbrev main_v226 : Ref sig .tc := ⟨.hbm, 237, rfl⟩
abbrev main_v227 : Ref sig .tc := ⟨.hbm, 238, rfl⟩
abbrev main_v228 : Ref sig .tc := ⟨.hbm, 239, rfl⟩
abbrev main_v229 : Ref sig .tc := ⟨.hbm, 240, rfl⟩
abbrev main_v230 : Ref sig .tc := ⟨.hbm, 241, rfl⟩
abbrev main_v231 : Ref sig .tc := ⟨.hbm, 242, rfl⟩
abbrev main_v232 : Ref sig .tc := ⟨.hbm, 243, rfl⟩
abbrev main_v233 : Ref sig .tc := ⟨.hbm, 244, rfl⟩
abbrev main_v234 : Ref sig .tc := ⟨.hbm, 245, rfl⟩
abbrev main_v235 : Ref sig .tc := ⟨.hbm, 246, rfl⟩
abbrev main_cst_2 : Ref sig .tc := ⟨.hbm, 247, rfl⟩
abbrev main_v236 : Ref sig .tc := ⟨.hbm, 248, rfl⟩
abbrev main_v237 : Ref sig .tc := ⟨.hbm, 249, rfl⟩
abbrev main_cst_3 : Ref sig .tc := ⟨.hbm, 250, rfl⟩
abbrev main_v238 : Ref sig .tc := ⟨.hbm, 251, rfl⟩
abbrev main_v239 : Ref sig .tc := ⟨.hbm, 252, rfl⟩
abbrev main_v240 : Ref sig .tc := ⟨.hbm, 253, rfl⟩
abbrev main_v241 : Ref sig .tc := ⟨.hbm, 254, rfl⟩
abbrev main_v242 : Ref sig .tc := ⟨.hbm, 255, rfl⟩
abbrev main_cst_4 : Ref sig .tc := ⟨.hbm, 256, rfl⟩
abbrev main_v243 : Ref sig .tc := ⟨.hbm, 257, rfl⟩
abbrev main_v244 : Ref sig .tc := ⟨.hbm, 258, rfl⟩
abbrev main_cst_5 : Ref sig .tc := ⟨.hbm, 259, rfl⟩
abbrev main_v245 : Ref sig .tc := ⟨.hbm, 260, rfl⟩
abbrev main_v246 : Ref sig .tc := ⟨.hbm, 261, rfl⟩
abbrev main_cst_6 : Ref sig .tc := ⟨.hbm, 262, rfl⟩
abbrev main_v247 : Ref sig .tc := ⟨.hbm, 263, rfl⟩
abbrev main_v248 : Ref sig .tc := ⟨.hbm, 264, rfl⟩
abbrev main_v249 : Ref sig .tc := ⟨.hbm, 265, rfl⟩
abbrev main_v250 : Ref sig .tc := ⟨.hbm, 266, rfl⟩
abbrev main_v251 : Ref sig .tc := ⟨.hbm, 267, rfl⟩
abbrev main_v252 : Ref sig .tc := ⟨.hbm, 268, rfl⟩
abbrev main_v253 : Ref sig .tc := ⟨.hbm, 269, rfl⟩
abbrev main_v254 : Ref sig .tc := ⟨.hbm, 270, rfl⟩
abbrev main_v255 : Ref sig .tc := ⟨.hbm, 271, rfl⟩
abbrev main_v256 : Ref sig .tc := ⟨.hbm, 272, rfl⟩
abbrev main_v257 : Ref sig .tc := ⟨.hbm, 273, rfl⟩
abbrev main_call1_v0 : Ref sig .tc := ⟨.hbm, 274, rfl⟩
abbrev main_call1_v1 : Ref sig .tc := ⟨.hbm, 275, rfl⟩
abbrev main_call1_cst : Ref sig .tc := ⟨.hbm, 276, rfl⟩
abbrev main_call1_v2 : Ref sig .tc := ⟨.hbm, 277, rfl⟩
abbrev main_call1_v3 : Ref sig .tc := ⟨.hbm, 278, rfl⟩
abbrev main_call1_cst_0 : Ref sig .tc := ⟨.hbm, 279, rfl⟩
abbrev main_call1_v4 : Ref sig .tc := ⟨.hbm, 280, rfl⟩
abbrev main_call1_v5 : Ref sig .tc := ⟨.hbm, 281, rfl⟩
abbrev main_v258 : Ref sig .tc := ⟨.hbm, 282, rfl⟩
abbrev main_call2_v0 : Ref sig .tc := ⟨.hbm, 283, rfl⟩
abbrev main_call2_v1 : Ref sig .tc := ⟨.hbm, 284, rfl⟩
abbrev main_call2_cst : Ref sig .tc := ⟨.hbm, 285, rfl⟩
abbrev main_call2_v2 : Ref sig .tc := ⟨.hbm, 286, rfl⟩
abbrev main_call2_v3 : Ref sig .tc := ⟨.hbm, 287, rfl⟩
abbrev main_call2_cst_0 : Ref sig .tc := ⟨.hbm, 288, rfl⟩
abbrev main_call2_v4 : Ref sig .tc := ⟨.hbm, 289, rfl⟩
abbrev main_call2_v5 : Ref sig .tc := ⟨.hbm, 290, rfl⟩
abbrev main_v259 : Ref sig .tc := ⟨.hbm, 291, rfl⟩
abbrev main_v260 : Ref sig .tc := ⟨.hbm, 292, rfl⟩
abbrev main_v261 : Ref sig .tc := ⟨.hbm, 293, rfl⟩
abbrev main_v262 : Ref sig .tc := ⟨.hbm, 294, rfl⟩
abbrev main_v263 : Ref sig .tc := ⟨.hbm, 295, rfl⟩
abbrev main_cst_7 : Ref sig .tc := ⟨.hbm, 296, rfl⟩
abbrev main_v264 : Ref sig .tc := ⟨.hbm, 297, rfl⟩
abbrev main_v265 : Ref sig .tc := ⟨.hbm, 298, rfl⟩
abbrev main_v266 : Ref sig .tc := ⟨.hbm, 299, rfl⟩
abbrev main_v267 : Ref sig .tc := ⟨.hbm, 300, rfl⟩

abbrev nD : Nat := 1
abbrev τ : Topo := Topo.v7x

variable {F : FTy → Type} [FloatOps F]
-- ==== Proof.MemKv.lean ====
/- What the memory's keys and values array holds: at each index the product of the memory and the weights. -/
module
public import proofs.«01_k».proof.Proof.Gen.MemKvIdeal.Value
public import proofs.«01_k».proof.Proof.Gen.MemKvRefIdeal.Run
public import Idealize.ShloMosaic.Lib.Pipeline.ValueKit
@[expose] public section
set_option maxRecDepth 16384
noncomputable section
open Idealize.ShloMosaic Idealize.ShloMosaic.TcCoe Idealize.SL.Sem
open Idealize.ShloMosaic.Pipeline (Dat)

namespace Cert.MemKvRefIdeal.Prod
open Cert.MemKvRefIdeal Cert.MemKvRefIdeal.Gen

/-- The product of the memory and the weights. -/
def out (a : FVec Ideal S1024x1024 .f32) (w : FVec Ideal S1024x1024 .f32) : FVec Ideal S1024x1024 .bf16 :=
  truncf .bf16 (Host.dotGeneral dot_S1024x1024_S1024x1024_S1024x1024_1_0_0_1_n_n none a w) bitsLt_bf16_f32

end Cert.MemKvRefIdeal.Prod

namespace Cert.MemKvIdeal.Prod
open Cert.MemKvIdeal Cert.MemKvIdeal.Gen
variable (m : (ℓ : Loc nD τ sig) → Buf (Elt Ideal) ℓ)

theorem idx : ∀ t : Fin cfg0.N, win0_0.index t = ![t.val, 0] ∧ win0_1.index t = ![0, 0] ∧ win0_2.index t = ![t.val, 0] :=
  (by decide +kernel : ∀ t : Fin grid0.N, _)

/-- The memory and the weights. -/
abbrev Aa (c : Dev nD) : FVec Ideal S1024x1024 .f32 := m ((c : Thread nD τ).loc main_arg0)
abbrev Wa (c : Dev nD) : FVec Ideal S1024x1024 .f32 := m ((c : Thread nD τ).loc main_arg1)

theorem point (c : Dev nD) (t : Fin cfg0.N) (y : S512x1024.Idx) :
    k0_pay1 (iblk m c 0 t) (iblk m c 1 t) y = MemKvRefIdeal.Prod.out (Aa m c) (Wa m c) (((cfg0.win 2).blk t).view.emb y) := by
  pointwise [k0_pay1, MemKvRefIdeal.Prod.out]
  blk_point [iblk, V, idx t]

/-- The result array is the reference's. -/
theorem final (c : Dev nD) : (dats m 0 c).arrAt 2 (cfgs 0).N = MemKvRefIdeal.Prod.out (Aa m c) (Wa m c) := by
  refine (dats m 0 c).arrAt_eq_of_covers 2 _ (by decide +kernel) fun t _ y => ?_
  blk_simp
  rw [after0_2]
  frame_out
  exact point m c t y

end Cert.MemKvIdeal.Prod
end
-- ==== Proof.InConvBlock.lean ====
/- What one point of the even layer's input projection leaves in the block of the projected rows. -/
module
public import proofs.«01_k».proof.Proof.Gen.InConvIdeal.Skeleton
public import Idealize.ShloMosaic.Lib.Pipeline.ValueKit
public import Idealize.ShloMosaic.Lib.Ring
@[expose] public section
set_option maxRecDepth 16384
noncomputable section
open Idealize.ShloMosaic Idealize.ShloMosaic.TcCoe Idealize.SL.Sem
namespace Cert.InConvIdeal.Prod
open Cert.InConvIdeal Cert.InConvIdeal.Gen

variable (x0 : FVec Ideal S256x1024 .f32) (x1 : FVec Ideal S1024x4096 .bf16) (x2 : FVec Ideal S1024x2176 .bf16)

/-- Columns of the weights' two blocks. -/
abbrev cutA (r : Rect S1024x4096) : FVec Ideal r.shape .bf16 := View.ld (Val := Elt Ideal) (e' := .bf16) x1 r
abbrev cutB (r : Rect S1024x2176) : FVec Ideal r.shape .bf16 := View.ld (Val := Elt Ideal) (e' := .bf16) x2 r
abbrev w0 : FVec Ideal S1024x512 .bf16 := cutA x1 (Rect.unit ![0, 3072] ![1024, 512] inb_S1024x4096_S1024x512_0_3072)
abbrev w1 : FVec Ideal S1024x512 .bf16 := cutA x1 (Rect.unit ![0, 3584] ![1024, 512] inb_S1024x4096_S1024x512_0_3584)
abbrev w2 : FVec Ideal S1024x512 .bf16 := cutB x2 (Rect.unit ![0, 0] ![1024, 512] inb_S1024x2176_S1024x512_0_0)
abbrev w3 : FVec Ideal S1024x512 .bf16 := cutB x2 (Rect.unit ![0, 512] ![1024, 512] inb_S1024x2176_S1024x512_0_512)
abbrev w4 : FVec Ideal S1024x512 .bf16 := cutB x2 (Rect.unit ![0, 1024] ![1024, 512] inb_S1024x2176_S1024x512_0_1024)
abbrev w5 : FVec Ideal S1024x640 .bf16 := cutB x2 (Rect.unit ![0, 1536] ![1024, 640] inb_S1024x2176_S1024x640_0_1536)
theorem w0_at (k : Fin 1024) (j : Fin 512) : w0 x1 (ix2 k j) = x1 (ix2 k (⟨3072 + j.val, by omega⟩ : Fin 4096)) := by
  refine congrArg x1 ?_; blk_ext [] <;> (rw [LoadRect.idx_apply]; simp)
theorem w1_at (k : Fin 1024) (j : Fin 512) : w1 x1 (ix2 k j) = x1 (ix2 k (⟨3584 + j.val, by omega⟩ : Fin 4096)) := by
  refine congrArg x1 ?_; blk_ext [] <;> (rw [LoadRect.idx_apply]; simp)
theorem w2_at (k : Fin 1024) (j : Fin 512) : w2 x2 (ix2 k j) = x2 (ix2 k (⟨0 + j.val, by omega⟩ : Fin 2176)) := by
  refine congrArg x2 ?_; blk_ext [] <;> (rw [LoadRect.idx_apply]; simp)
theorem w3_at (k : Fin 1024) (j : Fin 512) : w3 x2 (ix2 k j) = x2 (ix2 k (⟨512 + j.val, by omega⟩ : Fin 2176)) := by
  refine congrArg x2 ?_; blk_ext [] <;> (rw [LoadRect.idx_apply]; simp)
theorem w4_at (k : Fin 1024) (j : Fin 512) : w4 x2 (ix2 k j) = x2 (ix2 k (⟨1024 + j.val, by omega⟩ : Fin 2176)) := by
  refine congrArg x2 ?_; blk_ext [] <;> (rw [LoadRect.idx_apply]; simp)
theorem w5_at (k : Fin 1024) (j : Fin 640) : w5 x2 (ix2 k j) = x2 (ix2 k (⟨1536 + j.val, by omega⟩ : Fin 2176)) := by
  refine congrArg x2 ?_; blk_ext [] <;> (rw [LoadRect.idx_apply]; simp)

/-- The rows as the scratch keeps them. -/
abbrev rowV : View sig .tc .vmem S256x1024 .bf16 := View.whole cc0_scratch0
def xb : FVec Ideal S256x1024 .bf16 :=
  rowV.readCov (Val := Elt Ideal) [⟨Rect.unit ![0, 0] ![256, 1024] inb_S256x1024_S256x1024_0_0, k0_pay5 (F := Ideal) (View.ld (Val := Elt Ideal) (e' := .f32) x0 (Rect.unit ![0, 0] ![256, 1024] inb_S256x1024_S256x1024_0_0))⟩]
    (Rect.unit (s := S256x1024) ![0, 0] S256x1024.size inb_S256x1024_S256x1024_0_0).toLoadRect

theorem whole_idx (r : Fin 256) (k : Fin 1024) :
    (Rect.unit (s := S256x1024) ![0, 0] S256x1024.size inb_S256x1024_S256x1024_0_0).toLoadRect.idx (ix2 r k) = (ix2 r k : S256x1024.Idx) := by
  funext a
  refine Fin.ext ?_
  fin_cases a
  · change 0 + 1 * r.val = r.val; omega
  · change 0 + 1 * k.val = k.val; omega

theorem xb_at (r : Fin 256) (k : Fin 1024) : xb x0 (ix2 r k) = x0 (ix2 r k) := by
  unfold xb
  rw [View.readCov_eq_canon']
  refine (congrArg _ (whole_idx r k)).trans ?_
  refine (congrArg _ (whole_idx r k).symm).trans ?_
  refine (View.canon_cons_emb _ _ _ _).trans ?_
  pointwise [k0_pay5]

/-- The block's pieces, one for each product, the last first. -/
def block (X : FVec Ideal S256x1024 .bf16) : FVec Ideal S256x3200 .bf16 :=
  View.canon (Val := Elt Ideal) (s := S256x3200) (e := .bf16)
   [⟨Rect.unit ![0, 2560] ![256, 640] inb_S256x3200_S256x640_0_2560, k0_pay442 (F := Ideal) (w5 x2) X⟩,
    ⟨Rect.unit ![0, 2048] ![256, 512] inb_S256x3200_S256x512_0_2048, k0_pay390 (F := Ideal) (w4 x2) X⟩,
    ⟨Rect.unit ![0, 1536] ![256, 512] inb_S256x3200_S256x512_0_1536, k0_pay340 (F := Ideal) (w3 x2) X⟩,
    ⟨Rect.unit ![0, 1024] ![256, 512] inb_S256x3200_S256x512_0_1024, k0_pay289 (F := Ideal) (k0_pay288 (F := Ideal) (w2 x2)) X⟩,
    ⟨Rect.unit ![0, 512] ![256, 512] inb_S256x3200_S256x512_0_512, k0_pay238 (F := Ideal) (w1 x1) X⟩,
    ⟨Rect.unit ![0, 0] ![256, 512] inb_S256x3200_S256x512_0_0, k0_pay185 (F := Ideal) (w0 x1) X⟩]

/-- A column of the weights' two blocks at its place in the kept rows. -/
def wcol (k : Fin 1024) (j : Fin 3200) : EReal :=
  if h : j.val < 1024 then x1 (ix2 k (⟨3072 + j.val, by omega⟩ : Fin 4096)) else x2 (ix2 k (⟨j.val - 1024, by omega⟩ : Fin 2176))

theorem p0_at (X : FVec Ideal S256x1024 .bf16) (w : FVec Ideal S1024x512 .bf16) (r : Fin 256) (j : Fin 512) :
    k0_pay185 (F := Ideal) w X (ix2 r j) = ∑ k : Fin 1024, X (ix2 r k) * w (ix2 k j) := by pointwise [k0_pay185]
theorem p1_at (X : FVec Ideal S256x1024 .bf16) (w : FVec Ideal S1024x512 .bf16) (r : Fin 256) (j : Fin 512) :
    k0_pay238 (F := Ideal) w X (ix2 r j) = ∑ k : Fin 1024, X (ix2 r k) * w (ix2 k j) := by pointwise [k0_pay238]
theorem p2_at (X : FVec Ideal S256x1024 .bf16) (w : FVec Ideal S1024x512 .bf16) (r : Fin 256) (j : Fin 512) :
    k0_pay289 (F := Ideal) (k0_pay288 (F := Ideal) w) X (ix2 r j) = ∑ k : Fin 1024, X (ix2 r k) * w (ix2 k j) := by pointwise [k0_pay289, k0_pay288]
theorem p3_at (X : FVec Ideal S256x1024 .bf16) (w : FVec Ideal S1024x512 .bf16) (r : Fin 256) (j : Fin 512) :
    k0_pay340 (F := Ideal) w X (ix2 r j) = ∑ k : Fin 1024, X (ix2 r k) * w (ix2 k j) := by pointwise [k0_pay340]
theorem p4_at (X : FVec Ideal S256x1024 .bf16) (w : FVec Ideal S1024x512 .bf16) (r : Fin 256) (j : Fin 512) :
    k0_pay390 (F := Ideal) w X (ix2 r j) = ∑ k : Fin 1024, X (ix2 r k) * w (ix2 k j) := by pointwise [k0_pay390]
theorem p5_at (X : FVec Ideal S256x1024 .bf16) (w : FVec Ideal S1024x640 .bf16) (r : Fin 256) (j : Fin 640) :
    k0_pay442 (F := Ideal) w X (ix2 r j) = ∑ k : Fin 1024, X (ix2 r k) * w (ix2 k j) := by pointwise [k0_pay442]

theorem low (k : Fin 1024) (j : Fin 3200) (i : Fin 4096) (h : j.val < 1024) (e : i.val = 3072 + j.val) : x1 (ix2 k i) = wcol x1 x2 k j := by
  unfold wcol
  rw [dif_pos h]
  exact congrArg (fun i => x1 (ix2 k i)) (Fin.ext e)
theorem high (k : Fin 1024) (j : Fin 3200) (i : Fin 2176) (h : ¬j.val < 1024) (e : i.val = j.val - 1024) : x2 (ix2 k i) = wcol x1 x2 k j := by
  unfold wcol
  rw [dif_neg h]
  exact congrArg (fun i => x2 (ix2 k i)) (Fin.ext e)

theorem block_at (X : FVec Ideal S256x1024 .bf16) (r : Fin 256) (j : Fin 3200) : block x1 x2 X (ix2 r j) = ∑ k : Fin 1024, X (ix2 r k) * wcol x1 x2 k j := by
  unfold block
  canon_tiles y hy using View.cover_of_tiledBy _ ![256, 128] (by sl_kernel_rfl) _
  all_goals (
    idx_vars y
    change r.val = _ at hy0
    change j.val = _ at hy1)
  · refine (p5_at _ _ _ _).trans (Finset.sum_congr rfl fun k _ => congrArg₂ (· * ·) (congrArg (fun i => X (ix2 i k)) (Fin.ext (by omega))) ((w5_at x2 k y1).trans (high x1 x2 k j _ (by omega) (by dsimp only; omega))))
  · refine (p4_at _ _ _ _).trans (Finset.sum_congr rfl fun k _ => congrArg₂ (· * ·) (congrArg (fun i => X (ix2 i k)) (Fin.ext (by omega))) ((w4_at x2 k y1).trans (high x1 x2 k j _ (by omega) (by dsimp only; omega))))
  · refine (p3_at _ _ _ _).trans (Finset.sum_congr rfl fun k _ => congrArg₂ (· * ·) (congrArg (fun i => X (ix2 i k)) (Fin.ext (by omega))) ((w3_at x2 k y1).trans (high x1 x2 k j _ (by omega) (by dsimp only; omega))))
  · refine (p2_at _ _ _ _).trans (Finset.sum_congr rfl fun k _ => congrArg₂ (· * ·) (congrArg (fun i => X (ix2 i k)) (Fin.ext (by omega))) ((w2_at x2 k y1).trans (high x1 x2 k j _ (by omega) (by dsimp only; omega))))
  · refine (p1_at _ _ _ _).trans (Finset.sum_congr rfl fun k _ => congrArg₂ (· * ·) (congrArg (fun i => X (ix2 i k)) (Fin.ext (by omega))) ((w1_at x1 k y1).trans (low x1 x2 k j _ (by omega) (by dsimp only; omega))))
  · refine (p0_at _ _ _ _).trans (Finset.sum_congr rfl fun k _ => congrArg₂ (· * ·) (congrArg (fun i => X (ix2 i k)) (Fin.ext (by omega))) ((w0_at x1 k y1).trans (low x1 x2 k j _ (by omega) (by dsimp only; omega))))

end Cert.InConvIdeal.Prod
end
-- ==== Proof.InConvRef.lean ====
/- The reference of the even layer's projected rows, read at an index. -/
module
public import proofs.«01_k».proof.Proof.Gen.InConvRefIdeal.Run
public import Idealize.ShloMosaic.Lib.Pipeline.ValueKit
@[expose] public section
set_option maxRecDepth 16384
noncomputable section
open Idealize.ShloMosaic Idealize.ShloMosaic.TcCoe Idealize.SL.Sem
namespace Cert.InConvRefIdeal.Prod
open Cert.InConvRefIdeal Cert.InConvRefIdeal.Gen

/-- The columns of the product after the convolution's, in the order the rows are kept in, and zeros. -/
def rows (x : FVec Ideal S16384x1024 .f32) (w : FVec Ideal S1024x6208 .f32) : FVec Ideal S16384x3200 .bf16 :=
  truncf .bf16 (concatenate S16384x3200 1
    [⟨S16384x1024, extractStridedSlice S16384x1024 ![0, 3072] (Host.dotGeneral dot_S16384x1024_S1024x6208_S16384x6208_1_0_0_1_n_n none x w) slices_S16384x6208_S16384x1024_0_3072⟩,
     ⟨S16384x2048, extractStridedSlice S16384x2048 ![0, 4160] (Host.dotGeneral dot_S16384x1024_S1024x6208_S16384x6208_1_0_0_1_n_n none x w) slices_S16384x6208_S16384x2048_0_4160⟩,
     ⟨S16384x64, extractStridedSlice S16384x64 ![0, 4096] (Host.dotGeneral dot_S16384x1024_S1024x6208_S16384x6208_1_0_0_1_n_n none x w) slices_S16384x6208_S16384x64_0_4096⟩,
     ⟨S16384x64, broadcastInDim S16384x64 ![] bcast_S_S16384x64 (constant S_ .f32 0x00000000#32)⟩]
    concatenates_S16384x1024_S16384x2048_S16384x64_S16384x64_S16384x3200_d1) bitsLt_bf16_f32

/-- A column of the weights at its place in the kept rows; the last sixty-four are zeros. -/
def col (w : FVec Ideal S1024x6208 .f32) (k : Fin 1024) (j : Fin 3200) : EReal :=
  if h : j.val < 1024 then w (ix2 k (⟨3072 + j.val, by omega⟩ : Fin 6208))
  else if h : j.val - 1024 < 2048 then w (ix2 k (⟨4160 + (j.val - 1024), by omega⟩ : Fin 6208))
  else if h : j.val - 1024 - 2048 < 64 then w (ix2 k (⟨4096 + (j.val - 1024 - 2048), by omega⟩ : Fin 6208))
  else 0

theorem rows_at (x : FVec Ideal S16384x1024 .f32) (w : FVec Ideal S1024x6208 .f32) (i : Fin 16384) (j : Fin 3200) :
    rows x w (ix2 i j) = ∑ k : Fin 1024, x (ix2 i k) * col w k j := by
  have key : rows x w (ix2 i j) = if h : j.val < 1024 then ∑ k : Fin 1024, x (ix2 i k) * w (ix2 k (⟨3072 + j.val, by omega⟩ : Fin 6208))
      else if h : j.val - 1024 < 2048 then ∑ k : Fin 1024, x (ix2 i k) * w (ix2 k (⟨4160 + (j.val - 1024), by omega⟩ : Fin 6208))
      else if h : j.val - 1024 - 2048 < 64 then ∑ k : Fin 1024, x (ix2 i k) * w (ix2 k (⟨4096 + (j.val - 1024 - 2048), by omega⟩ : Fin 6208))
      else 0 := by pointwise [rows]
  rw [key]
  unfold col
  by_cases h1 : j.val < 1024
  · simp only [dif_pos h1]
  · by_cases h2 : j.val - 1024 < 2048
    · simp only [dif_neg h1, dif_pos h2]
    · by_cases h3 : j.val - 1024 - 2048 < 64
      · simp only [dif_neg h1, dif_neg h2, dif_pos h3]
      · simp only [dif_neg h1, dif_neg h2, dif_neg h3, mul_zero, Finset.sum_const_zero]

end Cert.InConvRefIdeal.Prod
end
-- ==== Proof.InConv.lean ====
/- The projected rows that the even layer's input projection leaves are the reference's. -/
module
public import proofs.«01_k».proof.Proof.Gen.InConvIdeal.Value
public import proofs.«01_k».proof.Proof.InConvBlock
public import proofs.«01_k».proof.Proof.InConvRef
public import Idealize.ShloMosaic.Lib.Pipeline.ValueKit
@[expose] public section
set_option maxRecDepth 16384
noncomputable section
open Idealize.ShloMosaic Idealize.ShloMosaic.TcCoe Idealize.SL.Sem
open Idealize.ShloMosaic.Pipeline (Dat)
namespace Cert.InConvIdeal.Prod
open Cert.InConvIdeal Cert.InConvIdeal.Gen

variable (m : (ℓ : Loc nD τ sig) → Buf (Elt Ideal) ℓ)

/-- The last point takes the last block again. -/
theorem idx : ∀ t : Fin cfg0.N, win0_0.index t = ![min t.val 63, 0] ∧ win0_1.index t = ![0, 0] ∧ win0_2.index t = ![0, 0] ∧ win0_7.index t = ![min t.val 63, 0] :=
  (by decide +kernel : ∀ t : Fin grid0.N, _)

/-- The rows and the weights. -/
abbrev Xa (c : Dev nD) : FVec Ideal S16384x1024 .f32 := m ((c : Thread nD τ).loc main_arg0)
abbrev Wa (c : Dev nD) : FVec Ideal S1024x6208 .f32 := m ((c : Thread nD τ).loc main_arg1)

/-- The array's row that holds row `r` of point `t`'s block. -/
abbrev row (t : Fin cfg0.N) (r : Fin 256) : Fin 16384 := ⟨min t.val 63 * 256 + r.val, by omega⟩

/-- The columns that the second block of weights holds, and the zeros beside them. -/
def hostB (w : FVec Ideal S1024x6208 .f32) : FVec Ideal S1024x2176 .bf16 :=
  concatenate S1024x2176 1 [⟨S1024x2048, extractStridedSlice S1024x2048 ![0, 4160] (truncf .bf16 w bitsLt_bf16_f32) slices_S1024x6208_S1024x2048_0_4160⟩,
    ⟨S1024x64, extractStridedSlice S1024x64 ![0, 4096] (truncf .bf16 w bitsLt_bf16_f32) slices_S1024x6208_S1024x64_0_4096⟩,
    ⟨S1024x64, broadcastInDim S1024x64 ![] bcast_S_S1024x64 (constant S_ .bf16 0x0000#16)⟩] concatenates_S1024x2048_S1024x64_S1024x64_S1024x2176_d1
/-- The weights as the kernel reads them. -/
def hostA (w : FVec Ideal S1024x6208 .f32) : FVec Ideal S1024x6208 .bf16 := truncf .bf16 w bitsLt_bf16_f32

theorem V_a (c : Dev nD) : V m c main_v1 = hostA (Wa m c) := by entry_read <;> rfl
theorem V_b (c : Dev nD) : V m c main_v5 = hostB (Wa m c) := by sl_kernel_rfl

theorem hostB_at (w : FVec Ideal S1024x6208 .f32) (k : Fin 1024) (j : Fin 2176) : hostB w (ix2 k j) =
    if h : j.val < 2048 then w (ix2 k (⟨4160 + j.val, by omega⟩ : Fin 6208))
    else if h : j.val - 2048 < 64 then w (ix2 k (⟨4096 + (j.val - 2048), by omega⟩ : Fin 6208)) else 0 := by
  pointwise [hostB]

theorem x_blk (c : Dev nD) (t : Fin cfg0.N) (r : Fin 256) (k : Fin 1024) : iblk m c 0 t (ix2 r k) = Xa m c (ix2 (row t r) k) := by
  blk_ext [iblk, V, idx t]

theorem a_blk (c : Dev nD) (t : Fin cfg0.N) (k : Fin 1024) (j : Fin 4096) : X0_1 m c t (ix2 k j) = Wa m c (ix2 k (⟨j.val, by omega⟩ : Fin 6208)) := by
  unfold X0_1 Pipeline.Window.fill
  rw [dif_pos (moved0_1 t _)]
  exact Eq.trans (congrArg (V m c main_v1) (by blk_ext [idx t])) (congrFun (V_a m c) _)

theorem b_blk (c : Dev nD) (t : Fin cfg0.N) (k : Fin 1024) (j : Fin 2176) : iblk m c 2 t (ix2 k j) = hostB (Wa m c) (ix2 k j) :=
  Eq.trans (congrArg (V m c main_v5) (by blk_ext [idx t])) (congrFun (V_b m c) _)

theorem wcol_at (c : Dev nD) (t : Fin cfg0.N) (k : Fin 1024) (j : Fin 3200) : wcol (X0_1 m c t) (iblk m c 2 t) k j = InConvRefIdeal.Prod.col (Wa m c) k j := by
  unfold wcol InConvRefIdeal.Prod.col
  by_cases h1 : j.val < 1024
  · rw [dif_pos h1, dif_pos h1]
    exact a_blk m c t k _
  · rw [dif_neg h1, dif_neg h1]
    exact (b_blk m c t k _).trans (hostB_at _ k _)

theorem point (c : Dev nD) (t : Fin cfg0.N) (y : S256x3200.Idx) :
    block (X0_1 m c t) (iblk m c 2 t) (xb (iblk m c 0 t)) y = InConvRefIdeal.Prod.rows (Xa m c) (Wa m c) (((cfg0.win 7).blk t).view.emb y) := by
  idx_vars y
  have he : ((cfg0.win 7).blk t).view.emb (ix2 y0 y1) = ix2 (row t y0) y1 := by blk_ext [idx t]
  refine (block_at _ _ _ y0 y1).trans (Eq.trans ?_ (congrArg (InConvRefIdeal.Prod.rows (Xa m c) (Wa m c)) he.symm))
  refine Eq.trans (Finset.sum_congr rfl fun k _ => ?_) (InConvRefIdeal.Prod.rows_at _ _ _ _).symm
  exact congrArg₂ (· * ·) ((xb_at _ y0 k).trans (x_blk m c t y0 k)) (wcol_at m c t k y1)

/-- What a point leaves in its block of the projected rows. -/
theorem left_A (c : Dev nD) (t : Fin cfg0.N) (h0 : t.val % 65 = 0) :
    (outsAt0 m c t.val t.isLt).1 = block (X0_1 m c t) (iblk m c 2 t) (xb (iblk m c 0 t)) := by
  rw [outsAt0_A m c t h0]
  dsimp only
  unfold out0_A_7
  refine (View.read_writes_junk_eq_canon (Val := Elt Ideal) _ _).trans ?_
  frame_open
  simp (disch := decide) only [View.readAt_eq_ld, Memref.IsWhole.read_unread]
  rfl

theorem left_B (c : Dev nD) (t : Fin cfg0.N) (h0 : ¬ t.val % 65 = 0) :
    (outsAt0 m c t.val t.isLt).1 = block (X0_1 m c t) (iblk m c 2 t) (xb (iblk m c 0 t)) := by
  rw [outsAt0_B m c t h0]
  dsimp only
  unfold out0_B_7
  refine (View.read_writes_junk_eq_canon (Val := Elt Ideal) _ _).trans ?_
  frame_open
  simp (disch := decide) only [View.readAt_eq_ld, Memref.IsWhole.read_unread]
  rfl

/-- The projected rows that the kernel leaves are the reference's. -/
theorem final (c : Dev nD) : (dats m 0 c).arrAt 7 (cfgs 0).N = InConvRefIdeal.Prod.rows (Xa m c) (Wa m c) := by
  refine (dats m 0 c).arrAt_eq_of_covers 7 _ (by decide +kernel) fun t _ y => ?_
  blk_simp
  rw [after0_7]
  refine Eq.trans ?_ (point m c t y)
  by_cases h0 : t.val % 65 = 0
  · exact congrFun (left_A m c t h0) y
  · exact congrFun (left_B m c t h0) y

end Cert.InConvIdeal.Prod
end
-- ==== Proof.ConvSlab.lean ====
/- What one point of the even layer's input projection leaves in the block of the convolution's result, as a
   function of what the point before it kept. -/
module
public import proofs.«01_k».proof.Proof.InConvBlock
@[expose] public section
set_option maxRecDepth 16384
noncomputable section
open Idealize.ShloMosaic Idealize.ShloMosaic.TcCoe Idealize.SL.Sem
namespace Cert.InConvIdeal.Prod
open Cert.InConvIdeal Cert.InConvIdeal.Gen

/-- The slab of eight shifted copies, and a list of the pieces stored into it, the last first. -/
abbrev slabV : View sig .tc .vmem S8x288x1024 .f32 := View.whole cc0_scratch1
abbrev Pcs : Type := List (View.Piece (Elt Ideal) S8x288x1024 .f32)

theorem in_cols (r n : Nat) (hr : r < 8) (hn : n < 8) : ∀ a, (![r, 0, 128 * n] : Fin 3 → Nat) a + (![1, 288, 128] : Fin 3 → Nat) a ≤ S8x288x1024.size a := by
  intro a
  fin_cases a
  · change r + 1 ≤ 8; omega
  · change 0 + 288 ≤ 288; omega
  · change 128 * n + 128 ≤ 1024; omega

/-- The columns that a shift moves together. -/
abbrev colsR (r n : Nat) (hr : r < 8) (hn : n < 8) : Rect S8x288x1024 := Rect.unit ![r, 0, 128 * n] ![1, 288, 128] (in_cols r n hr hn)

/-- The first copy's columns moved up by `r` rows. -/
def moved (L : Pcs) (r n : Nat) (hn : n < 8) : FVec Ideal S1x288x128 .f32 :=
  shapeCast S1x288x128 (dynamicRotate 0 (BitVec.ofNat 32 (288 - r)) none
    (shapeCast S288x128 (slabV.readCov (Val := Elt Ideal) L (colsR 0 n (by decide) hn).toLoadRect) shapeCasts_S1x288x128_S288x128) rotates_S288x128_d0) shapeCasts_S288x128_S1x288x128

/-- The pieces after the first `n` column groups have been moved. -/
def slab (L : Pcs) : (n : Nat) → n ≤ 8 → Pcs
  | 0, _ => L
  | n + 1, h =>
    ⟨colsR 7 n (by decide) h, moved (slab L n (Nat.le_of_succ_le h)) 7 n h⟩ ::
    ⟨colsR 6 n (by decide) h, moved (slab L n (Nat.le_of_succ_le h)) 6 n h⟩ ::
    ⟨colsR 5 n (by decide) h, moved (slab L n (Nat.le_of_succ_le h)) 5 n h⟩ ::
    ⟨colsR 4 n (by decide) h, moved (slab L n (Nat.le_of_succ_le h)) 4 n h⟩ ::
    ⟨colsR 3 n (by decide) h, moved (slab L n (Nat.le_of_succ_le h)) 3 n h⟩ ::
    ⟨colsR 2 n (by decide) h, moved (slab L n (Nat.le_of_succ_le h)) 2 n h⟩ ::
    ⟨colsR 1 n (by decide) h, moved (slab L n (Nat.le_of_succ_le h)) 1 n h⟩ ::
    slab L n (Nat.le_of_succ_le h)

theorem in_tap (k b c : Nat) (hk : k < 31) (hb : b < 8) (hc : c < 4) : ∀ a, (![(1 + k) % 8, 32 * b + 1 + k - (1 + k) % 8, 256 * c] : Fin 3 → Nat) a + (![1, 32, 256] : Fin 3 → Nat) a ≤ S8x288x1024.size a := by
  intro a
  fin_cases a
  · change (1 + k) % 8 + 1 ≤ 8; omega
  · change 32 * b + 1 + k - (1 + k) % 8 + 32 ≤ 288; omega
  · change 256 * c + 256 ≤ 1024; omega
theorem in_w (k c : Nat) (hk : k < 31) (hc : c < 4) : ∀ a, (![k, 0, 256 * c] : Fin 3 → Nat) a + (![1, 8, 256] : Fin 3 → Nat) a ≤ S31x8x1024.size a := by
  intro a
  fin_cases a
  · change k + 1 ≤ 31; omega
  · change 0 + 8 ≤ 8; omega
  · change 256 * c + 256 ≤ 1024; omega
theorem in_rows (b : Nat) (hb : b < 8) : ∀ a, (![32 * b, 0] : Fin 2 → Nat) a + (![32, 1024] : Fin 2 → Nat) a ≤ S256x1024.size a := by
  intro a
  fin_cases a
  · change 32 * b + 32 ≤ 256; omega
  · change 0 + 1024 ≤ 1024; omega

/-- Tap `k`'s rows of the slab and its weights, for 32 rows and 256 columns. -/
def tapS (L : Pcs) (k b c : Nat) (hk : k < 31) (hb : b < 8) (hc : c < 4) : FVec Ideal S1x32x256 .f32 :=
  slabV.readCov (Val := Elt Ideal) L (Rect.unit (s := S8x288x1024) ![(1 + k) % 8, 32 * b + 1 + k - (1 + k) % 8, 256 * c] ![1, 32, 256] (in_tap k b c hk hb hc)).toLoadRect
def tapW (C : FVec Ideal S31x8x1024 .f32) (k c : Nat) (hk : k < 31) (hc : c < 4) : FVec Ideal S8x256 .f32 :=
  shapeCast S8x256 (View.ld (Val := Elt Ideal) (e' := .f32) C (Rect.unit (s := S31x8x1024) ![k, 0, 256 * c] ![1, 8, 256] (in_w k c hk hc)) : FVec Ideal S1x8x256 .f32) shapeCasts_S1x8x256_S8x256

/-- The sum of the first `n` taps. -/
def taps (L : Pcs) (C : FVec Ideal S31x8x1024 .f32) (b c : Nat) (hb : b < 8) (hc : c < 4) : (n : Nat) → n ≤ 31 → FVec Ideal S32x256 .f32
  | 0, _ => broadcast S32x256 (Scalar.ofBits (F := Ideal) .f32 0x00000000#32)
  | n + 1, h => addf (taps L C b c hb hc n (Nat.le_of_succ_le h))
      (mulf (shapeCast S32x256 (tapS L n b c h hb hc) shapeCasts_S1x32x256_S32x256)
        (concatenate S32x256 0 [⟨S8x256, tapW C n c h hc⟩, ⟨S8x256, tapW C n c h hc⟩, ⟨S8x256, tapW C n c h hc⟩, ⟨S8x256, tapW C n c h hc⟩] concatenates_S8x256_S8x256_S8x256_S8x256_S32x256_d0))

abbrev row1 (x : FVec Ideal S1x1024 .f32) : FVec Ideal S32x1024 .f32 :=
  broadcastTo S32x1024 (shapeCast S1x1024 (View.ld (Val := Elt Ideal) (e' := .f32) x (Rect.unit ![0, 0] ![1, 1024] inb_S1x1024_S1x1024_0_0) : FVec Ideal S1x1024 .f32) shapeCasts_S1x1024_S1x1024) broadcasts_S1x1024_S32x1024

/-- The convolution of 32 rows. -/
def conv32 (L : Pcs) (C : FVec Ideal S31x8x1024 .f32) (cb : FVec Ideal S1x1024 .f32) (b : Nat) (hb : b < 8) : FVec Ideal S32x1024 .f32 :=
  addf (concatenate S32x1024 1 [⟨S32x256, taps L C b 0 hb (by decide) 31 (by decide)⟩, ⟨S32x256, taps L C b 1 hb (by decide) 31 (by decide)⟩,
    ⟨S32x256, taps L C b 2 hb (by decide) 31 (by decide)⟩, ⟨S32x256, taps L C b 3 hb (by decide) 31 (by decide)⟩] concatenates_S32x256_S32x256_S32x256_S32x256_S32x1024_d1)
    (row1 cb)

/-- The mean of a row, the row about it, and that over its deviation. -/
def mean32 (D : FVec Ideal S32x1024 .f32) : FVec Ideal S32x1 .f32 :=
  divf (shapeCast S32x1 (multiReduction (F := Ideal) (φ := .f32) .add [1] S32 D 0x00000000#32 reduces_S32x1024_S32 (.inl rfl) rfl) shapeCasts_S32_S32x1) (broadcast S32x1 (Scalar.ofBits (F := Ideal) .f32 0x44800000#32))
def centred32 (D : FVec Ideal S32x1024 .f32) : FVec Ideal S32x1024 .f32 := subf D (broadcastTo S32x1024 (mean32 D) broadcasts_S32x1_S32x1024)
def scaled32 (D : FVec Ideal S32x1024 .f32) : FVec Ideal S32x1024 .f32 :=
  mulf (centred32 D) (broadcastTo S32x1024 (rsqrt (addf (mean32 (mulf (centred32 D) (centred32 D))) (broadcast S32x1 (Scalar.ofBits (F := Ideal) .f32 0x3727C5AC#32)))) broadcasts_S32x1_S32x1024)

/-- 32 rows of the result: normed, scaled, through silu, times silu of the gate. -/
def gated32 (D : FVec Ideal S32x1024 .f32) (cg cc : FVec Ideal S1x1024 .f32) (g : FVec Ideal S32x1024 .bf16) : FVec Ideal S32x1024 .bf16 :=
  k0_pay1 (F := Ideal) (scaled32 D) (row1 cg) (View.ld (Val := Elt Ideal) (e' := .f32) cc (Rect.unit ![0, 0] ![1, 1024] inb_S1x1024_S1x1024_0_0)) g

abbrev gateV : View sig .tc .vmem S256x1024 .bf16 := View.whole cc0_scratch4
def gate32 (G : FVec Ideal S256x1024 .bf16) (b : Nat) (hb : b < 8) : FVec Ideal S32x1024 .bf16 :=
  gateV.readCov (Val := Elt Ideal) [⟨Rect.unit ![0, 0] ![256, 1024] inb_S256x1024_S256x1024_0_0, k0_pay10 (F := Ideal) (View.ld (Val := Elt Ideal) (e' := .bf16) G (Rect.unit ![0, 0] ![256, 1024] inb_S256x1024_S256x1024_0_0))⟩]
    (Rect.unit (s := S256x1024) ![32 * b, 0] ![32, 1024] (in_rows b hb)).toLoadRect

abbrev rows32 (b : Nat) (hb : b < 8) : Rect S256x1024 := Rect.unit ![32 * b, 0] ![32, 1024] (in_rows b hb)

/-- The block of the result, from the slab's first pieces, the weights, and the gate's columns. -/
def outBlk (L : Pcs) (C : FVec Ideal S31x8x1024 .f32) (cb cg cc : FVec Ideal S1x1024 .f32) (G : FVec Ideal S256x1024 .bf16) : FVec Ideal S256x1024 .bf16 :=
  View.canon (Val := Elt Ideal) (s := S256x1024) (e := .bf16)
   [⟨rows32 7 (by decide), gated32 (conv32 (slab L 8 (by decide)) C cb 7 (by decide)) cg cc (gate32 G 7 (by decide))⟩,
    ⟨rows32 6 (by decide), gated32 (conv32 (slab L 8 (by decide)) C cb 6 (by decide)) cg cc (gate32 G 6 (by decide))⟩,
    ⟨rows32 5 (by decide), gated32 (conv32 (slab L 8 (by decide)) C cb 5 (by decide)) cg cc (gate32 G 5 (by decide))⟩,
    ⟨rows32 4 (by decide), gated32 (conv32 (slab L 8 (by decide)) C cb 4 (by decide)) cg cc (gate32 G 4 (by decide))⟩,
    ⟨rows32 3 (by decide), gated32 (conv32 (slab L 8 (by decide)) C cb 3 (by decide)) cg cc (gate32 G 3 (by decide))⟩,
    ⟨rows32 2 (by decide), gated32 (conv32 (slab L 8 (by decide)) C cb 2 (by decide)) cg cc (gate32 G 2 (by decide))⟩,
    ⟨rows32 1 (by decide), gated32 (conv32 (slab L 8 (by decide)) C cb 1 (by decide)) cg cc (gate32 G 1 (by decide))⟩,
    ⟨rows32 0 (by decide), gated32 (conv32 (slab L 8 (by decide)) C cb 0 (by decide)) cg cc (gate32 G 0 (by decide))⟩]

/-- Whether the block before point `i` is a sequence's first. -/
def isFirst (i : BitVec 32) : BitVec 1 :=
  let v18 : BitVec 32 := Scalar.subi i 1#32
  let v19 : BitVec 1 := Scalar.cmpi .eq 16#32 0#32
  let v20 : BitVec 32 := Scalar.select v19 1#32 16#32
  let v21 : BitVec 32 := Scalar.remsi v18 v20
  let v22 : BitVec 1 := Scalar.cmpi .ne v21 0#32
  let v23 : BitVec 1 := Scalar.cmpi .slt v21 0#32
  let v24 : BitVec 1 := Scalar.cmpi .slt v20 0#32
  let v25 : BitVec 1 := Scalar.xori v23 v24
  let v26 : BitVec 1 := Scalar.andi v25 v22
  let v27 : BitVec 32 := Scalar.addi v21 v20
  let v28 : BitVec 32 := Scalar.select v26 v27 v21
  Scalar.cmpi .eq v28 0#32

/-- The gated rows of a block. -/
def gluOf (x1 : FVec Ideal S1024x4096 .bf16) (X : FVec Ideal S256x1024 .bf16) : FVec Ideal S256x1024 .f32 :=
  k0_pay6 (F := Ideal) (cutA x1 (Rect.unit ![0, 0] ![1024, 1024] inb_S1024x4096_S1024x1024_0_0)) X
    (cutA x1 (Rect.unit ![0, 1024] ![1024, 1024] inb_S1024x4096_S1024x1024_0_1024)) X

/-- The pieces of the slab's first copy: the kept block, the rows before it and the rows after it. -/
def first (i : BitVec 32) (U : FVec Ideal S256x1024 .f32) (T : FVec Ideal S16x1024 .f32) (H : FVec Ideal S256x1024 .f32) : Pcs :=
  [⟨Rect.unit ![0, 272, 0] ![1, 16, 1024] inb_S8x288x1024_S1x16x1024_0_272_0, k0_pay9 (F := Ideal) H (Scalar.subi i 1#32) 16#32 (Scalar.cmpi .eq 16#32 0#32)⟩,
   ⟨Rect.unit ![0, 0, 0] ![1, 16, 1024] inb_S8x288x1024_S1x16x1024_0_0_0, k0_pay8 (F := Ideal) (isFirst i) (View.ld (Val := Elt Ideal) (e' := .f32) T (Rect.unit ![0, 0] ![16, 1024] inb_S16x1024_S16x1024_0_0))⟩,
   ⟨Rect.unit ![0, 16, 0] ![1, 256, 1024] inb_S8x288x1024_S1x256x1024_0_16_0, k0_pay7 (F := Ideal) (View.ld (Val := Elt Ideal) (e' := .f32) U (Rect.unit ![0, 0] ![256, 1024] inb_S256x1024_S256x1024_0_0))⟩]

end Cert.InConvIdeal.Prod
end
-- ==== Proof.Softmax.lean ====
/- The online softmax, over extended reals. The scores are real numbers, the values any extended reals. Whatever real
   numbers the running maximum takes, the running sums are the weighted sums of all the values seen so far, taken against
   the current maximum; and a quotient of two such sums does not depend on the number they are taken against. -/
module
public import Idealize.ShloMosaic.Lib.Pointwise
@[expose] public section
noncomputable section
open Idealize.ShloMosaic
namespace Cert.Softmax

/-- The pattern of minus infinity. -/
theorem negInf : Ideal.ofBits FTy.f32 0xFF800000#32 = (⊥ : EReal) := by simp [Ideal.ofBits, Ideal.ieee]

/-- The pattern of two. -/
theorem two : Ideal.ofBits FTy.f32 0x40000000#32 = ((2 : ℝ) : EReal) := by
  simp [Ideal.ofBits, Ideal.ieee, -EReal.coe_mul]; norm_num

/-- The logarithm of two. -/
theorem log_two : Ideal.log (Ideal.ofBits FTy.f32 0x40000000#32) = ((Real.log 2 : ℝ) : EReal) := by
  rw [two, Ideal.log_coe, if_neg (by norm_num)]

/-- A product with a real number that is not negative goes into a finite sum of extended reals. -/
theorem mul_sum {ι : Type*} (c : ℝ) (hc : 0 ≤ c) (S : Finset ι) (f : ι → EReal) :
    (c : EReal) * ∑ i ∈ S, f i = ∑ i ∈ S, (c : EReal) * f i := by
  classical
  induction S using Finset.induction_on with
  | empty => simp
  | insert a S ha ih =>
    rw [Finset.sum_insert ha, Finset.sum_insert ha, ← ih]
    exact EReal.left_distrib_of_nonneg_of_ne_top (by exact_mod_cast hc) (EReal.coe_ne_top _) _ _

/-- A finite sum of real numbers is a real number. -/
theorem sum_coe {ι : Type*} (S : Finset ι) (f : ι → ℝ) : ∑ i ∈ S, (f i : EReal) = ((∑ i ∈ S, f i : ℝ) : EReal) := by
  classical
  induction S using Finset.induction_on with
  | empty => simp
  | insert a S ha ih => rw [Finset.sum_insert ha, Finset.sum_insert ha, ih, EReal.coe_add]

/-- The maximum of real numbers and of minus infinity, over an index set that is not empty, is a real number. -/
theorem fold_max_real {ι : Type*} (S : Finset ι) (hS : S.Nonempty) (f : ι → ℝ) :
    ∃ μ : ℝ, S.fold max ⊥ (fun i => (f i : EReal)) = μ := by
  classical
  induction S using Finset.induction_on with
  | empty => exact absurd hS (by simp)
  | insert a S ha ih =>
    rw [Finset.fold_insert ha]
    rcases S.eq_empty_or_nonempty with rfl | h
    · exact ⟨f a, by simp⟩
    · obtain ⟨μ, hμ⟩ := ih h
      exact ⟨max (f a) μ, by rw [hμ]; exact (EReal.coe_strictMono.monotone.map_max).symm⟩

/-- The running maximum is a real number from the first tile on. -/
theorem max_real (b N : ℕ) (hb : 0 < b) (s : ℕ → ℝ) (M : ℕ → EReal) (h0 : M 0 = ⊥)
    (hM : ∀ n < N, M (n + 1) = max (M n) (Finset.univ.fold max ⊥ fun x : Fin b => (s (b * n + x) : EReal))) :
    ∀ n < N, ∃ μ : ℝ, M (n + 1) = μ := by
  haveI : Nonempty (Fin b) := ⟨⟨0, hb⟩⟩
  intro n
  induction n with
  | zero =>
    intro h
    obtain ⟨μ, hμ⟩ := fold_max_real Finset.univ Finset.univ_nonempty (fun x : Fin b => s (b * 0 + x))
    exact ⟨μ, by rw [hM 0 h, h0, hμ]; simp⟩
  | succ n ih =>
    intro h
    obtain ⟨ν, hν⟩ := ih (by omega)
    obtain ⟨μ, hμ⟩ := fold_max_real Finset.univ Finset.univ_nonempty (fun x : Fin b => s (b * (n + 1) + x))
    exact ⟨max ν μ, by rw [hM _ h, hν, hμ]; exact (EReal.coe_strictMono.monotone.map_max).symm⟩

/-- The weight of score `x` against the number `μ`. -/
def wt (x μ : ℝ) : ℝ := Real.rpow 2 (x - μ)

theorem wt_pos (x μ : ℝ) : 0 < wt x μ := Real.rpow_pos_of_pos (by norm_num) _

theorem wt_mul (x μ ν : ℝ) : Real.rpow 2 (μ - ν) * wt x μ = wt x ν := by
  unfold wt
  show (2:ℝ) ^ (μ - ν) * (2:ℝ) ^ (x - μ) = (2:ℝ) ^ (x - ν)
  rw [← Real.rpow_add (by norm_num)]; congr 1; ring

/-- The running sum after `n + 1` tiles is the whole weighted sum against the running maximum. -/
theorem acc_eq (b N : ℕ) (s : ℕ → ℝ) (v : ℕ → EReal) (M A : ℕ → EReal) (hM0 : M 0 = ⊥) (h0 : A 0 = 0)
    (hM : ∀ n < N, ∃ μ : ℝ, M (n + 1) = μ)
    (hA : ∀ n < N, A (n + 1) = Ideal.exp2 (M n - M (n + 1)) * A n
      + ∑ x : Fin b, Ideal.exp2 ((s (b * n + x) : EReal) - M (n + 1)) * v (b * n + x)) :
    ∀ n < N, ∀ μ : ℝ, M (n + 1) = μ → A (n + 1) = ∑ k ∈ Finset.range (b * (n + 1)), (wt (s k) μ : EReal) * v k := by
  have tile (n : ℕ) (μ : ℝ) : ∑ x : Fin b, Ideal.exp2 ((s (b * n + x) : EReal) - (μ : EReal)) * v (b * n + x)
      = ∑ x ∈ Finset.range b, (wt (s (b * n + x)) μ : EReal) * v (b * n + x) := by
    rw [Finset.sum_range]
    refine Finset.sum_congr rfl fun x _ => ?_
    rw [← EReal.coe_sub, Ideal.exp2_coe]; rfl
  intro n
  induction n with
  | zero =>
    intro h μ hμ
    rw [hA 0 h, h0, mul_zero, zero_add, hμ, tile]
    simp
  | succ n ih =>
    intro h μ hμ
    obtain ⟨ν, hν⟩ := hM n (by omega)
    rw [hA _ h, ih (by omega) ν hν, hν, hμ, tile, ← EReal.coe_sub, Ideal.exp2_coe,
      mul_sum _ (show 0 ≤ Real.rpow 2 (ν - μ) from Real.rpow_nonneg (by norm_num) _), show b * (n + 1 + 1) = b * (n + 1) + b by ring, Finset.sum_range_add]
    congr 1
    refine Finset.sum_congr rfl fun k _ => ?_
    rw [← mul_assoc, ← EReal.coe_mul, wt_mul]

/-- The quotient of the weighted sum by the sum of the weights, in base two against any number, is the sum of the values
    under the natural softmax of the scores times `ln 2`, taken against any number. -/
theorem quotient {ι : Type*} (S : Finset ι) (hS : S.Nonempty) (s : ι → ℝ) (v : ι → EReal) (μ ν : ℝ) :
    Ideal.div (∑ k ∈ S, (wt (s k) μ : EReal) * v k) (∑ k ∈ S, (wt (s k) μ : EReal))
      = ∑ k ∈ S, v k * Ideal.div (Ideal.exp ((s k : EReal) * ((Real.log 2 : ℝ) : EReal) - (ν : EReal)))
          (∑ k ∈ S, Ideal.exp ((s k : EReal) * ((Real.log 2 : ℝ) : EReal) - (ν : EReal))) := by
  have he (k : ι) : Ideal.exp ((s k : EReal) * ((Real.log 2 : ℝ) : EReal) - (ν : EReal))
      = ((Real.exp (s k * Real.log 2 - ν) : ℝ) : EReal) := by
    rw [← EReal.coe_mul, ← EReal.coe_sub, Ideal.exp_coe]
  have hw (k : ι) : wt (s k) μ = Real.exp (ν - μ * Real.log 2) * Real.exp (s k * Real.log 2 - ν) := by
    unfold wt
    show (2:ℝ) ^ (s k - μ) = _
    rw [Real.rpow_def_of_pos (by norm_num), ← Real.exp_add]; congr 1; ring
  have hW : 0 < ∑ k ∈ S, wt (s k) μ := Finset.sum_pos (fun k _ => wt_pos _ _) hS
  have hE : 0 < ∑ k ∈ S, Real.exp (s k * Real.log 2 - ν) := Finset.sum_pos (fun k _ => Real.exp_pos _) hS
  simp only [he]
  rw [sum_coe, sum_coe, Ideal.div_coe hW.ne', mul_comm, mul_sum _ (by positivity)]
  refine Finset.sum_congr rfl fun k _ => ?_
  rw [Ideal.div_coe hE.ne', ← EReal.coe_mul, ← mul_assoc, ← EReal.coe_mul, mul_comm]
  congr 2
  have : ∑ k ∈ S, wt (s k) μ = Real.exp (ν - μ * Real.log 2) * ∑ k ∈ S, Real.exp (s k * Real.log 2 - ν) := by
    rw [Finset.mul_sum]; exact Finset.sum_congr rfl fun k _ => hw k
  rw [this, hw k]
  have h1 := (Real.exp_pos (ν - μ * Real.log 2)).ne'
  field_simp

end Cert.Softmax
end
-- ==== Proof.Mem.lean ====
/- One row of the memory attention and of the layer's output, over extended reals: the softmax taken in base two with the
   scale `1 / (√128 · ln 2)` is the natural softmax of the scores over `√128`; the rows before the norm; and the norm. -/
module
public import proofs.«01_k».proof.Proof.Softmax
@[expose] public section
noncomputable section
open Idealize.ShloMosaic
namespace Cert.Mem

/-- The pattern of one hundred and twenty-eight. -/
theorem ofBits_128 : Ideal.ofBits .f32 0x43000000#32 = ((128 : ℝ) : EReal) := by
  simp [Ideal.ofBits, Ideal.ieee, -EReal.coe_mul]; norm_num

/-- The scale of the base-two softmax. -/
abbrev scale : ℝ := (Real.sqrt 128)⁻¹ * (Real.log 2)⁻¹

/-- The score of one query and one key. -/
def score (q k : Fin 128 → EReal) : EReal := Ideal.div (∑ d, q d * k d) (Ideal.sqrt (Ideal.ofBits .f32 0x43000000#32))

/-- The exponential of a score against the maximum of its row. -/
def expo (q : Fin 128 → EReal) (K : Fin 256 → Fin 128 → EReal) (k : Fin 256) : EReal :=
  Ideal.exp (score q (K k) - max (Ideal.ofBits .f32 0xFF800000#32) (Finset.univ.fold max ⊥ fun x => score q (K x)))

/-- One element of the weighted values under the natural softmax. -/
def weighed (q : Fin 128 → EReal) (K : Fin 256 → Fin 128 → EReal) (v : Fin 256 → EReal) : EReal :=
  ∑ k, v k * Ideal.div (expo q K k) (∑ x, expo q K x)

/-- The same in base two. -/
def weighed2 (q : Fin 128 → EReal) (K : Fin 256 → Fin 128 → EReal) (v : Fin 256 → EReal) : EReal :=
  Ideal.div (∑ k, Ideal.exp2 ((∑ d, q d * K k d) * (scale : EReal)
      - Finset.univ.fold max (Ideal.ofBits .f32 0xFF800000#32) fun x => (∑ d, q d * K x d) * (scale : EReal)) * v k)
    (∑ k, Ideal.exp2 ((∑ d, q d * K k d) * (scale : EReal)
      - Finset.univ.fold max (Ideal.ofBits .f32 0xFF800000#32) fun x => (∑ d, q d * K x d) * (scale : EReal)))

theorem weighed2_eq (q : Fin 128 → EReal) (K : Fin 256 → Fin 128 → EReal) (v : Fin 256 → EReal)
    (h : ∀ k, ∃ s : ℝ, ∑ d, q d * K k d = (s : EReal)) : weighed2 q K v = weighed q K v := by
  choose x hx using h
  have hsq : (Real.sqrt 128) ≠ 0 := (Real.sqrt_pos.mpr (by norm_num)).ne'
  have hlog : Real.log 2 ≠ 0 := (Real.log_pos (by norm_num)).ne'
  have hs (k : Fin 256) : score q (K k) = ((x k * scale : ℝ) : EReal) * ((Real.log 2 : ℝ) : EReal) := by
    unfold score
    rw [hx, ofBits_128, Ideal.sqrt_coe, if_neg (by norm_num), Ideal.div_coe hsq, ← EReal.coe_mul, ← EReal.coe_mul]
    congr 1
    unfold scale
    field_simp
  obtain ⟨μ, hμ⟩ := Softmax.fold_max_real Finset.univ Finset.univ_nonempty (fun k => x k * scale)
  obtain ⟨ν, hν⟩ := Softmax.fold_max_real Finset.univ Finset.univ_nonempty (fun k => x k * scale * Real.log 2)
  have he (k : Fin 256) : expo q K k = Ideal.exp (((x k * scale : ℝ) : EReal) * ((Real.log 2 : ℝ) : EReal) - (ν : EReal)) := by
    unfold expo
    simp only [hs]
    rw [Softmax.negInf, ← hν]
    simp only [EReal.coe_mul]
    rw [max_eq_right bot_le]
  have h2 (k : Fin 256) : Ideal.exp2 ((∑ d, q d * K k d) * (scale : EReal)
      - Finset.univ.fold max (Ideal.ofBits .f32 0xFF800000#32) fun x => (∑ d, q d * K x d) * (scale : EReal))
      = (Softmax.wt (x k * scale) μ : EReal) := by
    simp only [hx, ← EReal.coe_mul]
    rw [Softmax.negInf, hμ, ← EReal.coe_sub, Ideal.exp2_coe]
    rfl
  unfold weighed2 weighed
  simp only [he, h2]
  exact Softmax.quotient Finset.univ Finset.univ_nonempty (fun k => x k * scale) v μ ν

/-- One element of the memory's contribution: the weighted values of the head that holds the column, gated. -/
def gated (w : (Fin 128 → EReal) → (Fin 256 → Fin 128 → EReal) → (Fin 256 → EReal) → EReal)
    (q : Fin 512 → EReal) (K V : Fin 256 → Fin 512 → EReal) (g : Fin 512 → EReal) (j : Fin 512) : EReal :=
  w (fun d => q ⟨j.val / 128 * 128 + d.val, by omega⟩) (fun k d => K k ⟨j.val / 128 * 128 + d.val, by omega⟩) (fun k => V k j)
    * (g j * Ideal.logistic (g j))

theorem gated_eq (q : Fin 512 → EReal) (K V : Fin 256 → Fin 512 → EReal) (g : Fin 512 → EReal) (j : Fin 512)
    (hq : ∀ i, ∃ r : ℝ, q i = r) (hK : ∀ k i, ∃ r : ℝ, K k i = r) : gated weighed2 q K V g j = gated weighed q K V g j := by
  unfold gated
  rw [weighed2_eq]
  intro k
  choose a ha using hq
  choose b hb using hK
  refine ⟨∑ d : Fin 128, a ⟨j.val / 128 * 128 + d.val, by omega⟩ * b k ⟨j.val / 128 * 128 + d.val, by omega⟩, ?_⟩
  rw [← Softmax.sum_coe]
  refine Finset.sum_congr rfl fun d _ => ?_
  rw [ha, hb, EReal.coe_mul]

/-- The mean of a row. -/
def mean (p : Fin 1024 → EReal) : EReal := Ideal.div (∑ x, p x) (Ideal.ofBits .f32 0x44800000#32)

/-- The norm of a row, scaled by `g` and moved by `b`. -/
def norm (p g b : Fin 1024 → EReal) (j : Fin 1024) : EReal :=
  (p j - mean p) * Ideal.rsqrt (mean (fun x => (p x - mean p) * (p x - mean p)) + Ideal.ofBits .f32 0x3727C5AC#32) * g j + b j

/-- A sum of products over one array's columns and then another's is the two sums. -/
theorem sum_two (A B N : ℕ) (hN : N = A + B) (f : Fin N → EReal) :
    ∑ x, f x = (∑ x : Fin A, f ⟨x.val, by omega⟩) + ∑ x : Fin B, f ⟨A + x.val, by omega⟩ := by
  subst hN
  exact Fin.sum_univ_add f

/-- The columns of four arrays side by side. -/
theorem cat4 (h : Fin 4 → Fin 128 → EReal) (O : Fin 512 → EReal) (hO : ∀ a d, h a d = O ⟨a.val * 128 + d.val, by omega⟩) (n : ℕ) (hn : n < 512) :
    (if h0 : n < 128 then h 0 ⟨n, h0⟩ else if h1 : n - 128 < 128 then h 1 ⟨n - 128, h1⟩
      else if h2 : n - 128 - 128 < 128 then h 2 ⟨n - 128 - 128, h2⟩ else h 3 ⟨n - 128 - 128 - 128, by omega⟩) = O ⟨n, hn⟩ := by
  split_ifs with h0 h1 h2
  · exact (hO 0 _).trans (congrArg O (Fin.ext (by show 0 * 128 + n = n; omega)))
  · exact (hO 1 _).trans (congrArg O (Fin.ext (by show 1 * 128 + (n - 128) = n; omega)))
  · exact (hO 2 _).trans (congrArg O (Fin.ext (by show 2 * 128 + (n - 128 - 128) = n; omega)))
  · exact (hO 3 _).trans (congrArg O (Fin.ext (by show 3 * 128 + (n - 128 - 128 - 128) = n; omega)))

/-- The product of three arrays side by side with the weights is the sum of the three products. -/
theorem cat3 (a c : Fin 1024 → EReal) (o : Fin 512 → EReal) (w : Fin 2560 → EReal) :
    ∑ x : Fin 2560, (if h : x.val < 1024 then a ⟨x.val, h⟩ else if h2 : x.val - 1024 < 1024 then c ⟨x.val - 1024, h2⟩
      else o ⟨x.val - 1024 - 1024, by omega⟩) * w x
      = (∑ x : Fin 1024, a x * w ⟨x.val, by omega⟩) + ((∑ x : Fin 1024, c x * w ⟨1024 + x.val, by omega⟩)
        + ∑ x : Fin 512, o x * w ⟨1024 + (1024 + x.val), by omega⟩) := by
  rw [sum_two 1024 1536 2560 rfl, sum_two 1024 512 1536 rfl]
  refine congrArg₂ (· + ·) ?_ (congrArg₂ (· + ·) ?_ ?_)
  · refine Finset.sum_congr rfl fun k _ => ?_
    exact congrArg (· * _) (dif_pos k.isLt)
  · refine Finset.sum_congr rfl fun k _ => congrArg (· * _) ?_
    refine (dif_neg (by dsimp only; omega)).trans ((dif_pos (by dsimp only; omega)).trans ?_)
    exact congrArg c (Fin.ext (by show 1024 + k.val - 1024 = k.val; omega))
  · refine Finset.sum_congr rfl fun k _ => congrArg (· * _) ?_
    refine (dif_neg (by dsimp only; omega)).trans ((dif_neg (by dsimp only; omega)).trans ?_)
    exact congrArg o (Fin.ext (by show 1024 + (1024 + k.val) - 1024 - 1024 = k.val; omega))

end Cert.Mem
end
-- ==== Proof.ConvVals.lean ====
/- The convolution branch of the even layer at a position and a column: the gated columns, the sum of the taps over the
   zero-padded sequence, the norm, and the two silus. -/
module
public import proofs.«01_k».proof.Proof.Mem
@[expose] public section
noncomputable section
open Idealize.ShloMosaic Idealize.ShloMosaic.TcCoe Idealize.SL.Sem
namespace Cert.Conv

/-- The sum of the first `n` taps. -/
def tapSum (f : Fin 31 → EReal) : (n : Nat) → n ≤ 31 → EReal
  | 0, _ => 0
  | n + 1, h => tapSum f n (Nat.le_of_succ_le h) + f ⟨n, h⟩

/-- The arguments: rows, weights, taps, the taps' bias, the norm's scale and bias. -/
structure Args where
  x : Fin 16384 → Fin 1024 → EReal
  w : Fin 1024 → Fin 6208 → EReal
  taps : Fin 31 → Fin 1024 → EReal
  b : Fin 1024 → EReal
  g : Fin 1024 → EReal
  c : Fin 1024 → EReal

/-- A row's product with a column of the weights. -/
def prod (A : Args) (s : Fin 16384) (j : Fin 6208) : EReal := ∑ k : Fin 1024, A.x s k * A.w k j

/-- The gated columns that the convolution runs over. -/
def glu (A : Args) (s : Fin 16384) (q : Fin 1024) : EReal :=
  prod A s ⟨q.val, by omega⟩ * Ideal.logistic (prod A s ⟨1024 + q.val, by omega⟩)

/-- Sequence `b` of them with fifteen rows of zeros at either end. -/
def padded (A : Args) (b : Fin 4) (i : Fin 4126) (q : Fin 1024) : EReal :=
  if h : 15 ≤ i.val ∧ i.val - 15 < 4096 then glu A ⟨b.val * 4096 + (i.val - 15), by omega⟩ q else 0

/-- The convolution. -/
def conv (A : Args) (s : Fin 16384) (q : Fin 1024) : EReal :=
  tapSum (fun k => padded A ⟨s.val / 4096, by omega⟩ ⟨k.val + s.val % 4096, by omega⟩ q * A.taps k q) 31 (by decide) + A.b q

/-- The result. -/
def out (A : Args) (s : Fin 16384) (j : Fin 1024) : EReal :=
  (Mem.norm (conv A s) A.g A.c j * Ideal.logistic (Mem.norm (conv A s) A.g A.c j))
    * (prod A s ⟨2048 + j.val, by omega⟩ * Ideal.logistic (prod A s ⟨2048 + j.val, by omega⟩))

theorem tapSum_congr (f g : Fin 31 → EReal) (h : ∀ k, f k = g k) (n : Nat) (hn : n ≤ 31) : tapSum f n hn = tapSum g n hn :=
  congrArg (fun f => tapSum f n hn) (funext h)

end Cert.Conv
end
-- ==== Proof.ConvTaps.lean ====
/- The slab of shifted copies, the sums of the taps and the normed rows of one block, read at an index. -/
module
public import proofs.«01_k».proof.Proof.ConvSlab
public import proofs.«01_k».proof.Proof.ConvVals
public import Idealize.ShloMosaic.Lib.KernelVsHost
@[expose] public section
set_option maxRecDepth 16384
noncomputable section
open Idealize.ShloMosaic Idealize.ShloMosaic.TcCoe Idealize.SL.Sem
namespace Cert.InConvIdeal.Prod
open Cert.InConvIdeal Cert.InConvIdeal.Gen

/-- What a list of pieces leaves in the slab. -/
abbrev left (L : Pcs) : FVec Ideal S8x288x1024 .f32 := View.canon (Val := Elt Ideal) (s := S8x288x1024) (e := .f32) L

theorem skip (L : Pcs) (r n : Nat) (hr : r < 8) (hn : n < 8) (w : FVec Ideal S1x288x128 .f32) (i : Fin 8) (p : Fin 288) (q : Fin 1024)
    (h : i.val ≠ r ∨ q.val < 128 * n ∨ 128 * n + 128 ≤ q.val) : left (⟨colsR r n hr hn, w⟩ :: L) (ix3 i p q) = left L (ix3 i p q) := by
  refine View.canon_cons_of_not_mem _ _ fun hm => ?_
  have hm := (Rect.mem_set_unit (inb := in_cols r n hr hn)).mp hm
  have h0 : r ≤ i.val ∧ i.val < r + 1 := hm 0
  have h2 : 128 * n ≤ q.val ∧ q.val < 128 * n + 128 := hm 2
  omega

theorem hit (L : Pcs) (r n : Nat) (hr : r < 8) (hn : n < 8) (w : FVec Ideal S1x288x128 .f32) (i : Fin 8) (p : Fin 288) (q : Fin 1024) (q' : Fin 128)
    (hi : i.val = r) (hq : q.val = 128 * n + q'.val) : left (⟨colsR r n hr hn, w⟩ :: L) (ix3 i p q) = w (ix3 0 p q') := by
  have e : (ix3 i p q : S8x288x1024.Idx) = (colsR r n hr hn).emb (ix3 0 p q') := by
    funext a
    refine Fin.ext ?_
    fin_cases a
    · change i.val = r + 1 * 0; omega
    · change p.val = 0 + 1 * p.val; omega
    · change q.val = 128 * n + 1 * q'.val; omega
  exact (congrArg _ e).trans (View.canon_cons_emb _ _ _ _)

theorem first_copy (L : Pcs) : ∀ (n : Nat) (h : n ≤ 8) (p : Fin 288) (q : Fin 1024), left (slab L n h) (ix3 0 p q) = left L (ix3 0 p q)
  | 0, _, _, _ => rfl
  | n + 1, h, p, q => by
    unfold slab
    rw [skip (hr := by decide), skip (hr := by decide), skip (hr := by decide), skip (hr := by decide), skip (hr := by decide), skip (hr := by decide), skip (hr := by decide)]
    · exact first_copy L n _ p q
    all_goals exact Or.inl (by decide)

theorem moved_at (L : Pcs) (r n : Nat) (hr : 1 ≤ r ∧ r < 8) (hn : n < 8) (p : Fin 288) (q' : Fin 128) (P : Fin 288) (hp : P.val = p.val + r) :
    moved L r n hn (ix3 0 p q') = left L (ix3 0 P (⟨128 * n + q'.val, by omega⟩ : Fin 1024)) := by
  have e : moved L r n hn (ix3 0 p q') = slabV.readCov (Val := Elt Ideal) L (colsR 0 n (by decide) hn).toLoadRect (ix3 0 P q') := by
    have e1 (Y : FVec Ideal S288x128 .f32) : shapeCast S1x288x128 Y shapeCasts_S288x128_S1x288x128 (ix3 0 p q') = Y (ix2 p q') := by pointwise []
    have e2 (X : FVec Ideal S1x288x128 .f32) : shapeCast S288x128 X shapeCasts_S1x288x128_S288x128 (ix2 P q') = X (ix3 0 P q') := by pointwise []
    unfold moved
    rw [e1]
    refine (dynamicRotate_apply 0 _ _ _ _ (ix2 P q') ?_).trans (e2 _)
    intro a
    rw [BitVec.toNat_ofNat]
    fin_cases a
    · change P.val = (p.val + 288 - (288 - r) % 2 ^ 32 % 288) % 288
      omega
    · change q'.val = q'.val
      rfl
  rw [e, View.readCov_eq_canon']
  refine congrArg (left L) ?_
  funext a
  refine Fin.ext ?_
  fin_cases a
  · change 0 + 1 * 0 = 0; omega
  · change 0 + 1 * P.val = P.val; omega
  · change 128 * n + 1 * q'.val = 128 * n + q'.val; omega

theorem copies (L : Pcs) : ∀ (n : Nat) (h : n ≤ 8) (i : Fin 8) (p : Fin 288) (q : Fin 1024) (P : Fin 288), q.val < 128 * n → P.val = p.val + i.val →
    left (slab L n h) (ix3 i p q) = left L (ix3 0 P q)
  | 0, _, _, _, q, _, hq, _ => absurd hq (by omega)
  | n + 1, h, i, p, q, P, hq, hp => by
    by_cases h0 : i.val = 0
    · obtain rfl : i = 0 := Fin.ext h0
      obtain rfl : P = p := Fin.ext (by change P.val = p.val + 0 at hp; omega)
      exact first_copy L _ _ _ _
    by_cases hc : q.val < 128 * n
    · unfold slab
      rw [skip (hr := by decide), skip (hr := by decide), skip (hr := by decide), skip (hr := by decide), skip (hr := by decide), skip (hr := by decide), skip (hr := by decide)]
      · exact copies L n _ i p q P hc hp
      all_goals exact Or.inr (Or.inl hc)
    · have key (r : Nat) (hr : 1 ≤ r ∧ r < 8) (hi : i.val = r) (M : Pcs) : left (⟨colsR r n hr.2 h, moved (slab L n (Nat.le_of_succ_le h)) r n h⟩ :: M) (ix3 i p q) = left L (ix3 0 P q) := by
        refine (hit M r n hr.2 h _ i p q (⟨q.val - 128 * n, by omega⟩ : Fin 128) hi (by dsimp only; omega)).trans ?_
        refine (moved_at _ r n hr h p _ P (by omega)).trans ?_
        refine (first_copy L n _ P _).trans (congrArg (fun j => left L (ix3 0 P j)) (Fin.ext ?_))
        dsimp only
        omega
      unfold slab
      by_cases h7 : i.val = 7
      · exact key 7 (by decide) h7 _
      rw [skip (hr := by decide) (h := Or.inl h7)]
      by_cases h6 : i.val = 6
      · exact key 6 (by decide) h6 _
      rw [skip (hr := by decide) (h := Or.inl h6)]
      by_cases h5 : i.val = 5
      · exact key 5 (by decide) h5 _
      rw [skip (hr := by decide) (h := Or.inl h5)]
      by_cases h4 : i.val = 4
      · exact key 4 (by decide) h4 _
      rw [skip (hr := by decide) (h := Or.inl h4)]
      by_cases h3 : i.val = 3
      · exact key 3 (by decide) h3 _
      rw [skip (hr := by decide) (h := Or.inl h3)]
      by_cases h2 : i.val = 2
      · exact key 2 (by decide) h2 _
      rw [skip (hr := by decide) (h := Or.inl h2)]
      exact key 1 (by decide) (by omega) _

theorem tapS_at (L : Pcs) (k b c : Nat) (hk : k < 31) (hb : b < 8) (hc : c < 4) (p : Fin 32) (q : Fin 256) :
    tapS (slab L 8 (by decide)) k b c hk hb hc (ix3 0 p q) = left L (ix3 0 (⟨32 * b + p.val + 1 + k, by omega⟩ : Fin 288) (⟨256 * c + q.val, by omega⟩ : Fin 1024)) := by
  unfold tapS
  rw [View.readCov_eq_canon']
  refine Eq.trans (congrArg (left (slab L 8 (by decide))) ?_)
    (copies L 8 (by decide) (⟨(1 + k) % 8, by omega⟩ : Fin 8) (⟨32 * b + 1 + k - (1 + k) % 8 + p.val, by omega⟩ : Fin 288) _ _ (by dsimp only; omega) (by dsimp only; omega))
  funext a
  refine Fin.ext ?_
  fin_cases a
  · change (1 + k) % 8 + 1 * 0 = (1 + k) % 8; omega
  · change 32 * b + 1 + k - (1 + k) % 8 + 1 * p.val = 32 * b + 1 + k - (1 + k) % 8 + p.val; omega
  · change 256 * c + 1 * q.val = 256 * c + q.val; omega

variable (C : FVec Ideal S31x8x1024 .f32) (W : Fin 31 → Fin 1024 → EReal) (hW : ∀ (k : Fin 31) (s : Fin 8) (q : Fin 1024), C (ix3 k s q) = W k q)

include hW in
theorem tapW_at (k c : Nat) (hk : k < 31) (hc : c < 4) (s : Fin 8) (q : Fin 256) :
    tapW C k c hk hc (ix2 s q) = W ⟨k, hk⟩ (⟨256 * c + q.val, by omega⟩ : Fin 1024) := by
  refine Eq.trans ?_ (hW ⟨k, hk⟩ s _)
  have e0 (X : FVec Ideal S1x8x256 .f32) : shapeCast S8x256 X shapeCasts_S1x8x256_S8x256 (ix2 s q) = X (ix3 0 s q) := by pointwise []
  have e : tapW C k c hk hc (ix2 s q) = (View.ld (Val := Elt Ideal) (e' := .f32) C (Rect.unit (s := S31x8x1024) ![k, 0, 256 * c] ![1, 8, 256] (in_w k c hk hc)) : FVec Ideal S1x8x256 .f32) (ix3 0 s q) := by
    unfold tapW
    exact e0 _
  rw [e]
  refine congrArg C ?_
  funext a
  refine Fin.ext ?_
  fin_cases a
  · change k + 1 * 0 = k; omega
  · change 0 + 1 * s.val = s.val; omega
  · change 256 * c + 1 * q.val = 256 * c + q.val; omega

theorem cat_rows (T : FVec Ideal S8x256 .f32) (v : Fin 256 → EReal) (hT : ∀ (s : Fin 8) (q : Fin 256), T (ix2 s q) = v q) (p : Fin 32) (q : Fin 256) :
    concatenate S32x256 0 [⟨S8x256, T⟩, ⟨S8x256, T⟩, ⟨S8x256, T⟩, ⟨S8x256, T⟩] concatenates_S8x256_S8x256_S8x256_S8x256_S32x256_d0 (ix2 p q) = v q := by
  pointwise []
  simp only [hT]
  split_ifs <;> rfl

include hW in
theorem taps_at (L : Pcs) (b c : Nat) (hb : b < 8) (hc : c < 4) (p : Fin 32) (q : Fin 256) : ∀ (n : Nat) (h : n ≤ 31),
    taps (slab L 8 (by decide)) C b c hb hc n h (ix2 p q)
      = Conv.tapSum (fun k => left L (ix3 0 (⟨32 * b + p.val + 1 + k.val, by omega⟩ : Fin 288) (⟨256 * c + q.val, by omega⟩ : Fin 1024)) * W k (⟨256 * c + q.val, by omega⟩ : Fin 1024)) n h
  | 0, _ => by
    unfold taps Conv.tapSum
    pointwise []
  | n + 1, h => by
    unfold taps Conv.tapSum
    have e (X Y Z : FVec Ideal S32x256 .f32) : addf X (mulf Y Z) (ix2 p q) = X (ix2 p q) + Y (ix2 p q) * Z (ix2 p q) := by pointwise []
    have e' (S : FVec Ideal S1x32x256 .f32) : shapeCast S32x256 S shapeCasts_S1x32x256_S32x256 (ix2 p q) = S (ix3 0 p q) := by pointwise []
    rw [e, e', cat_rows _ (fun q => W ⟨n, h⟩ (⟨256 * c + q.val, by omega⟩ : Fin 1024)) (fun s q => tapW_at C W hW n c h hc s q), taps_at L b c hb hc p q n, tapS_at]

theorem row1_at (x : FVec Ideal S1x1024 .f32) (p : Fin 32) (q : Fin 1024) : row1 x (ix2 p q) = x (ix2 0 q) := by
  have e (y : FVec Ideal S1x1024 .f32) : broadcastTo S32x1024 (shapeCast S1x1024 y shapeCasts_S1x1024_S1x1024) broadcasts_S1x1024_S32x1024 (ix2 p q) = y (ix2 0 q) := by pointwise []
  refine (e _).trans (congrArg x ?_)
  funext a
  refine Fin.ext ?_
  fin_cases a
  · change 0 + 1 * 0 = 0; omega
  · change 0 + 1 * q.val = q.val; omega

/-- The convolution of a row of the slab. -/
def convOf (L : Pcs) (B : Fin 1024 → EReal) (r : Fin 256) (q : Fin 1024) : EReal :=
  Conv.tapSum (fun k => left L (ix3 0 (⟨r.val + 1 + k.val, by omega⟩ : Fin 288) q) * W k q) 31 (by decide) + B q

theorem cat_cols (T : Fin 4 → FVec Ideal S32x256 .f32) (v : Fin 1024 → EReal) (p : Fin 32) (hT : ∀ (c : Fin 4) (q : Fin 256), T c (ix2 p q) = v ⟨256 * c.val + q.val, by omega⟩) (q : Fin 1024) :
    concatenate S32x1024 1 [⟨S32x256, T 0⟩, ⟨S32x256, T 1⟩, ⟨S32x256, T 2⟩, ⟨S32x256, T 3⟩] concatenates_S32x256_S32x256_S32x256_S32x256_S32x1024_d1 (ix2 p q) = v q := by
  pointwise []
  simp only [hT]
  split_ifs <;> exact congrArg v (Fin.ext (by first | (simp; done) | (simp; omega)))

include hW in
theorem conv32_at (L : Pcs) (cb : FVec Ideal S1x1024 .f32) (b : Nat) (hb : b < 8) (p : Fin 32) (q : Fin 1024) :
    conv32 (slab L 8 (by decide)) C cb b hb (ix2 p q) = convOf W L (fun q => cb (ix2 0 q)) (⟨32 * b + p.val, by omega⟩ : Fin 256) q := by
  unfold conv32 convOf
  have e (X Y : FVec Ideal S32x1024 .f32) : addf X Y (ix2 p q) = X (ix2 p q) + Y (ix2 p q) := by pointwise []
  rw [e, row1_at]
  refine congrArg (· + _) ?_
  exact cat_cols (fun c => taps (slab L 8 (by decide)) C b c.val hb c.isLt 31 (by decide))
    (fun q => Conv.tapSum (fun k => left L (ix3 0 (⟨32 * b + p.val + 1 + k.val, by omega⟩ : Fin 288) q) * W k q) 31 (by decide)) p
    (fun c q => taps_at C W hW L b c.val hb c.isLt p q 31 (by decide)) q

theorem scaled32_at (D : FVec Ideal S32x1024 .f32) (p : Fin 32) (q : Fin 1024) : scaled32 D (ix2 p q)
    = (D (ix2 p q) - Mem.mean (fun x => D (ix2 p x))) * Ideal.rsqrt (Mem.mean (fun x => (D (ix2 p x) - Mem.mean (fun x => D (ix2 p x))) * (D (ix2 p x) - Mem.mean (fun x => D (ix2 p x)))) + Ideal.ofBits .f32 0x3727C5AC#32) := by
  pointwise [scaled32, centred32, mean32, Mem.mean]

theorem gated32_at (D : FVec Ideal S32x1024 .f32) (cg cc : FVec Ideal S1x1024 .f32) (g : FVec Ideal S32x1024 .bf16) (p : Fin 32) (q : Fin 1024) :
    gated32 D cg cc g (ix2 p q) = Mem.norm (fun x => D (ix2 p x)) (fun x => cg (ix2 0 x)) (fun x => cc (ix2 0 x)) q
      * Ideal.logistic (Mem.norm (fun x => D (ix2 p x)) (fun x => cg (ix2 0 x)) (fun x => cc (ix2 0 x)) q) * (g (ix2 p q) * Ideal.logistic (g (ix2 p q))) := by
  have e (S G : FVec Ideal S32x1024 .f32) : k0_pay1 (F := Ideal) S G (View.ld (Val := Elt Ideal) (e' := .f32) cc (Rect.unit ![0, 0] ![1, 1024] inb_S1x1024_S1x1024_0_0)) g (ix2 p q)
      = (S (ix2 p q) * G (ix2 p q) + row1 cc (ix2 p q)) * Ideal.logistic (S (ix2 p q) * G (ix2 p q) + row1 cc (ix2 p q)) * (g (ix2 p q) * Ideal.logistic (g (ix2 p q))) := by
    unfold row1
    generalize (View.ld (Val := Elt Ideal) (e' := .f32) cc (Rect.unit ![0, 0] ![1, 1024] inb_S1x1024_S1x1024_0_0) : FVec Ideal S1x1024 .f32) = y
    pointwise [k0_pay1]
  unfold gated32
  rw [e, row1_at, row1_at, scaled32_at]
  rfl

theorem gate32_at (G : FVec Ideal S256x1024 .bf16) (b : Nat) (hb : b < 8) (p : Fin 32) (q : Fin 1024) :
    gate32 G b hb (ix2 p q) = G (ix2 (⟨32 * b + p.val, by omega⟩ : Fin 256) q) := by
  unfold gate32
  rw [View.readCov_eq_canon']
  have e1 : (Rect.unit (s := S256x1024) ![32 * b, 0] ![32, 1024] (in_rows b hb)).toLoadRect.idx (ix2 p q)
      = (Rect.unit (s := S256x1024) ![0, 0] ![256, 1024] inb_S256x1024_S256x1024_0_0).emb (ix2 (⟨32 * b + p.val, by omega⟩ : Fin 256) q) := by
    funext a
    refine Fin.ext ?_
    fin_cases a
    · change 32 * b + 1 * p.val = 0 + 1 * (32 * b + p.val); omega
    · change 0 + 1 * q.val = 0 + 1 * q.val; omega
  refine (congrArg _ e1).trans ?_
  refine (View.canon_cons_emb _ _ _ _).trans ?_
  have e2 (X : FVec Ideal S256x1024 .bf16) (j : S256x1024.Idx) : k0_pay10 (F := Ideal) X j = X j := by
    idx_vars j
    pointwise [k0_pay10]
  refine (e2 _ _).trans (congrArg G ?_)
  funext a
  refine Fin.ext ?_
  fin_cases a
  · change 0 + 1 * (32 * b + p.val) = 32 * b + p.val; omega
  · change 0 + 1 * q.val = q.val; omega

include hW in
theorem outBlk_at (L : Pcs) (cb cg cc : FVec Ideal S1x1024 .f32) (G : FVec Ideal S256x1024 .bf16) (r : Fin 256) (j : Fin 1024) :
    outBlk L C cb cg cc G (ix2 r j)
      = Mem.norm (convOf W L (fun q => cb (ix2 0 q)) r) (fun x => cg (ix2 0 x)) (fun x => cc (ix2 0 x)) j
        * Ideal.logistic (Mem.norm (convOf W L (fun q => cb (ix2 0 q)) r) (fun x => cg (ix2 0 x)) (fun x => cc (ix2 0 x)) j)
        * (G (ix2 r j) * Ideal.logistic (G (ix2 r j))) := by
  have key (b : Nat) (hb : b < 8) (p : Fin 32) (q : Fin 1024) (hr : r.val = 32 * b + p.val) (hj : j = q) :
      gated32 (conv32 (slab L 8 (by decide)) C cb b hb) cg cc (gate32 G b hb) (ix2 p q) = Mem.norm (convOf W L (fun q => cb (ix2 0 q)) r) (fun x => cg (ix2 0 x)) (fun x => cc (ix2 0 x)) j
        * Ideal.logistic (Mem.norm (convOf W L (fun q => cb (ix2 0 q)) r) (fun x => cg (ix2 0 x)) (fun x => cc (ix2 0 x)) j)
        * (G (ix2 r j) * Ideal.logistic (G (ix2 r j))) := by
    subst hj
    obtain ⟨r, h⟩ := r
    change r = _ at hr
    subst hr
    rw [gated32_at, gate32_at]
    simp only [conv32_at C W hW]
  unfold outBlk
  canon_tiles y hy using View.cover_of_tiledBy _ ![32, 1024] (by sl_kernel_rfl) _
  all_goals (
    idx_vars y
    change r.val = _ at hy0
    change j.val = _ at hy1
    exact key _ _ y0 y1 (by omega) (Fin.ext (by omega)))

end Cert.InConvIdeal.Prod
end
-- ==== Proof.ConvFirst.lean ====
/- The slab's first copy, and the blocks that a point keeps for the next one, read at an index. -/
module
public import proofs.«01_k».proof.Proof.ConvTaps
@[expose] public section
set_option maxRecDepth 16384
noncomputable section
open Idealize.ShloMosaic Idealize.ShloMosaic.TcCoe Idealize.SL.Sem
namespace Cert.InConvIdeal.Prod
open Cert.InConvIdeal Cert.InConvIdeal.Gen

/-- Whether the block before point `i` is a sequence's last. -/
def isLast (i : BitVec 32) : BitVec 1 :=
  let v18 : BitVec 32 := Scalar.subi i 1#32
  let v30 : BitVec 1 := Scalar.cmpi .eq 16#32 0#32
  let v31 : BitVec 32 := Scalar.select v30 1#32 16#32
  let v32 : BitVec 32 := Scalar.remsi v18 v31
  let v33 : BitVec 1 := Scalar.cmpi .ne v32 0#32
  let v34 : BitVec 1 := Scalar.cmpi .slt v32 0#32
  let v35 : BitVec 1 := Scalar.cmpi .slt v31 0#32
  let v36 : BitVec 1 := Scalar.xori v34 v35
  let v37 : BitVec 1 := Scalar.andi v36 v33
  let v38 : BitVec 32 := Scalar.addi v32 v31
  let v39 : BitVec 32 := Scalar.select v37 v38 v32
  Scalar.cmpi .eq v39 15#32

theorem low_at (z : BitVec 1) (T : FVec Ideal S16x1024 .f32) (p : Fin 16) (q : Fin 1024) :
    k0_pay8 (F := Ideal) z T (ix3 0 p q) = if z = 1#1 then 0 else T (ix2 p q) := by
  have e (Y : FVec Ideal S16x1024 .f32) : shapeCast S1x16x1024 Y shapeCasts_S16x1024_S1x16x1024 (ix3 0 p q) = Y (ix2 p q) := by pointwise []
  have e' : (broadcast S16x1024 (Scalar.ofBits (F := Ideal) .f32 0x00000000#32) : FVec Ideal S16x1024 .f32) (ix2 p q) = 0 := by pointwise []
  refine (e (Scalar.select z (broadcast S16x1024 (Scalar.ofBits (F := Ideal) .f32 0x00000000#32)) T)).trans ?_
  by_cases h : z = 1#1
  · exact (congrFun (if_pos h) _).trans (e'.trans (if_pos h).symm)
  · exact (congrFun (if_neg h) _).trans (if_neg h).symm

theorem high_at (i : BitVec 32) (H : FVec Ideal S256x1024 .f32) (p : Fin 16) (q : Fin 1024) :
    k0_pay9 (F := Ideal) H (Scalar.subi i 1#32) 16#32 (Scalar.cmpi .eq 16#32 0#32) (ix3 0 p q) = if isLast i = 1#1 then 0 else H (ix2 (⟨p.val, by omega⟩ : Fin 256) q) := by
  have e (Y : FVec Ideal S16x1024 .f32) : shapeCast S1x16x1024 Y shapeCasts_S16x1024_S1x16x1024 (ix3 0 p q) = Y (ix2 p q) := by pointwise []
  have e' : (broadcast S16x1024 (Scalar.ofBits (F := Ideal) .f32 0x00000000#32) : FVec Ideal S16x1024 .f32) (ix2 p q) = 0 := by pointwise []
  have e2 : extractStridedSlice S16x1024 ![0, 0] H slices_S256x1024_o0_0_S16x1024 (ix2 p q) = H (ix2 (⟨p.val, by omega⟩ : Fin 256) q) := by pointwise []
  refine (e (Scalar.select (isLast i) (broadcast S16x1024 (Scalar.ofBits (F := Ideal) .f32 0x00000000#32)) (extractStridedSlice S16x1024 ![0, 0] H slices_S256x1024_o0_0_S16x1024))).trans ?_
  by_cases h : isLast i = 1#1
  · exact (congrFun (if_pos h) _).trans (e'.trans (if_pos h).symm)
  · exact (congrFun (if_neg h) _).trans (e2.trans (if_neg h).symm)

theorem mid_at (U : FVec Ideal S256x1024 .f32) (p : Fin 256) (q : Fin 1024) : k0_pay7 (F := Ideal) U (ix3 0 p q) = U (ix2 p q) := by
  pointwise [k0_pay7]

theorem in_band (o n : Nat) (h : o + n ≤ 288) : ∀ a, (![0, o, 0] : Fin 3 → Nat) a + (![1, n, 1024] : Fin 3 → Nat) a ≤ S8x288x1024.size a := by
  intro a
  fin_cases a
  · change 0 + 1 ≤ 8; omega
  · change o + n ≤ 288; omega
  · change 0 + 1024 ≤ 1024; omega
abbrev bandR (o n : Nat) (h : o + n ≤ 288) : Rect S8x288x1024 := Rect.unit ![0, o, 0] ![1, n, 1024] (in_band o n h)

theorem skipBand (L : Pcs) (o n : Nat) (h : o + n ≤ 288) (w : (bandR o n h).shape.Idx → EReal) (p : Fin 288) (q : Fin 1024) (hp : p.val < o ∨ o + n ≤ p.val) :
    left (⟨bandR o n h, w⟩ :: L) (ix3 0 p q) = left L (ix3 0 p q) := by
  refine View.canon_cons_of_not_mem _ _ fun hm => ?_
  have hm := (Rect.mem_set_unit (inb := in_band o n h)).mp hm
  have h1 : o ≤ p.val ∧ p.val < o + n := hm 1
  omega

theorem hitBand (L : Pcs) (o n : Nat) (h : o + n ≤ 288) (w : (⟨3, ![1, n, 1024]⟩ : Shape).Idx → EReal) (p : Fin 288) (q : Fin 1024) (p' : Fin n) (hp : p.val = o + p'.val) :
    left (⟨bandR o n h, w⟩ :: L) (ix3 0 p q) = w (ix3 0 p' q) := by
  have e : (ix3 0 p q : S8x288x1024.Idx) = (bandR o n h).emb (ix3 0 p' q : (⟨3, ![1, n, 1024]⟩ : Shape).Idx) := by
    funext a
    refine Fin.ext ?_
    fin_cases a
    · change 0 = 0 + 1 * 0; omega
    · change p.val = o + 1 * p'.val; omega
    · change q.val = 0 + 1 * q.val; omega
  exact (congrArg _ e).trans (View.canon_cons_emb _ _ _ _)

/-- A row of the first copy: the fifteen and more rows before the block, the block, and the rows after it. -/
theorem first_at (i : BitVec 32) (U : FVec Ideal S256x1024 .f32) (T : FVec Ideal S16x1024 .f32) (H : FVec Ideal S256x1024 .f32) (p : Fin 288) (q : Fin 1024) :
    left (first i U T H) (ix3 0 p q)
      = if h : p.val < 16 then (if isFirst i = 1#1 then 0 else T (ix2 (⟨p.val, h⟩ : Fin 16) q))
        else if h' : p.val < 272 then U (ix2 (⟨p.val - 16, by omega⟩ : Fin 256) q)
        else if isLast i = 1#1 then 0 else H (ix2 (⟨p.val - 272, by omega⟩ : Fin 256) q) := by
  have wT (p : Fin 16) : (View.ld (Val := Elt Ideal) (e' := .f32) T (Rect.unit ![0, 0] ![16, 1024] inb_S16x1024_S16x1024_0_0) : FVec Ideal S16x1024 .f32) (ix2 p q) = T (ix2 p q) := by
    refine congrArg T ?_
    funext a
    refine Fin.ext ?_
    fin_cases a
    · change 0 + 1 * p.val = p.val; omega
    · change 0 + 1 * q.val = q.val; omega
  have wU (p : Fin 256) : (View.ld (Val := Elt Ideal) (e' := .f32) U (Rect.unit ![0, 0] ![256, 1024] inb_S256x1024_S256x1024_0_0) : FVec Ideal S256x1024 .f32) (ix2 p q) = U (ix2 p q) := by
    refine congrArg U ?_
    funext a
    refine Fin.ext ?_
    fin_cases a
    · change 0 + 1 * p.val = p.val; omega
    · change 0 + 1 * q.val = q.val; omega
  unfold first
  by_cases h : p.val < 16
  · rw [dif_pos h]
    refine (skipBand _ 272 16 (by decide) _ p q (by omega)).trans ?_
    refine (hitBand _ 0 16 (by decide) _ p q (⟨p.val, h⟩ : Fin 16) (by simp)).trans ?_
    rw [← wT]
    exact low_at _ _ _ _
  rw [dif_neg h]
  by_cases h' : p.val < 272
  · rw [dif_pos h']
    refine (skipBand _ 272 16 (by decide) _ p q (by omega)).trans ?_
    refine (skipBand _ 0 16 (by decide) _ p q (by omega)).trans ?_
    refine (hitBand _ 16 256 (by decide) _ p q (⟨p.val - 16, by omega⟩ : Fin 256) (by dsimp only; omega)).trans ?_
    rw [← wU]
    exact mid_at _ _ _
  rw [dif_neg h']
  refine (hitBand _ 272 16 (by decide) _ p q (⟨p.val - 272, by omega⟩ : Fin 16) (by dsimp only; omega)).trans ?_
  exact high_at _ _ _ _

variable (x1 : FVec Ideal S1024x4096 .bf16) (X : FVec Ideal S256x1024 .bf16)

/-- The gated columns of a block. -/
theorem glu_at (r : Fin 256) (q : Fin 1024) : gluOf x1 X (ix2 r q)
    = (∑ k : Fin 1024, X (ix2 r k) * x1 (ix2 k (⟨q.val, by omega⟩ : Fin 4096))) * Ideal.logistic (∑ k : Fin 1024, X (ix2 r k) * x1 (ix2 k (⟨1024 + q.val, by omega⟩ : Fin 4096))) := by
  have e (A B : FVec Ideal S1024x1024 .bf16) : k0_pay6 (F := Ideal) A X B X (ix2 r q) = (∑ k : Fin 1024, X (ix2 r k) * A (ix2 k q)) * Ideal.logistic (∑ k : Fin 1024, X (ix2 r k) * B (ix2 k q)) := by
    pointwise [k0_pay6]
  have hA (k : Fin 1024) : cutA x1 (Rect.unit ![0, 0] ![1024, 1024] inb_S1024x4096_S1024x1024_0_0) (ix2 k q) = x1 (ix2 k (⟨q.val, by omega⟩ : Fin 4096)) := by
    refine congrArg x1 ?_
    funext a
    refine Fin.ext ?_
    fin_cases a
    · change 0 + 1 * k.val = k.val; omega
    · change 0 + 1 * q.val = q.val; omega
  have hB (k : Fin 1024) : cutA x1 (Rect.unit ![0, 1024] ![1024, 1024] inb_S1024x4096_S1024x1024_0_1024) (ix2 k q) = x1 (ix2 k (⟨1024 + q.val, by omega⟩ : Fin 4096)) := by
    refine congrArg x1 ?_
    funext a
    refine Fin.ext ?_
    fin_cases a
    · change 0 + 1 * k.val = k.val; omega
    · change 1024 + 1 * q.val = 1024 + q.val; omega
  exact (e _ _).trans (congrArg₂ (· * Ideal.logistic ·) (Finset.sum_congr rfl fun k _ => congrArg (_ * ·) (hA k)) (Finset.sum_congr rfl fun k _ => congrArg (_ * ·) (hB k)))

/-- The gate's columns of a block as a point keeps them. -/
def gateOf (L : List (View.Piece (Elt Ideal) S256x1024 .bf16)) : FVec Ideal S256x1024 .bf16 :=
  View.canon (Val := Elt Ideal) (s := S256x1024) (e := .bf16)
   (⟨Rect.unit ![0, 512] ![256, 512] inb_S256x1024_S256x512_0_512, k0_pay133 (F := Ideal) (cutA x1 (Rect.unit ![0, 2560] ![1024, 512] inb_S1024x4096_S1024x512_0_2560)) X⟩ ::
    ⟨Rect.unit ![0, 0] ![256, 512] inb_S256x1024_S256x512_0_0, k0_pay80 (F := Ideal) (cutA x1 (Rect.unit ![0, 2048] ![1024, 512] inb_S1024x4096_S1024x512_0_2048)) X⟩ :: L)

theorem gate_at (L : List (View.Piece (Elt Ideal) S256x1024 .bf16)) (r : Fin 256) (q : Fin 1024) :
    gateOf x1 X L (ix2 r q) = ∑ k : Fin 1024, X (ix2 r k) * x1 (ix2 k (⟨2048 + q.val, by omega⟩ : Fin 4096)) := by
  have eA (A : FVec Ideal S1024x512 .bf16) (q : Fin 512) : k0_pay133 (F := Ideal) A X (ix2 r q) = ∑ k : Fin 1024, X (ix2 r k) * A (ix2 k q) := by pointwise [k0_pay133]
  have eB (A : FVec Ideal S1024x512 .bf16) (q : Fin 512) : k0_pay80 (F := Ideal) A X (ix2 r q) = ∑ k : Fin 1024, X (ix2 r k) * A (ix2 k q) := by pointwise [k0_pay80]
  unfold gateOf
  by_cases h : q.val < 512
  · refine (View.canon_cons_of_not_mem _ _ fun hm => ?_).trans ?_
    · have hm := (Rect.mem_set_unit (inb := inb_S256x1024_S256x512_0_512)).mp hm
      have h1 : 512 ≤ q.val ∧ q.val < 512 + 512 := hm 1
      omega
    · have e : (ix2 r q : S256x1024.Idx) = (Rect.unit (s := S256x1024) ![0, 0] ![256, 512] inb_S256x1024_S256x512_0_0).emb (ix2 r (⟨q.val, h⟩ : Fin 512)) := by
        funext a
        refine Fin.ext ?_
        fin_cases a
        · change r.val = 0 + 1 * r.val; omega
        · change q.val = 0 + 1 * q.val; omega
      refine (congrArg _ e).trans ((View.canon_cons_emb _ _ _ _).trans ((eB _ _).trans (Finset.sum_congr rfl fun k _ => congrArg (_ * ·) (congrArg x1 ?_))))
      funext a
      refine Fin.ext ?_
      fin_cases a
      · change 0 + 1 * k.val = k.val; omega
      · change 2048 + 1 * q.val = 2048 + q.val; omega
  · have e : (ix2 r q : S256x1024.Idx) = (Rect.unit (s := S256x1024) ![0, 512] ![256, 512] inb_S256x1024_S256x512_0_512).emb (ix2 r (⟨q.val - 512, by omega⟩ : Fin 512)) := by
      funext a
      refine Fin.ext ?_
      fin_cases a
      · change r.val = 0 + 1 * r.val; omega
      · change q.val = 512 + 1 * (q.val - 512); omega
    refine (congrArg _ e).trans ((View.canon_cons_emb _ _ _ _).trans ((eA _ _).trans (Finset.sum_congr rfl fun k _ => congrArg (_ * ·) (congrArg x1 ?_))))
    funext a
    refine Fin.ext ?_
    fin_cases a
    · change 0 + 1 * k.val = k.val; omega
    · change 2560 + 1 * (q.val - 512) = 2048 + q.val; omega

/-- A block kept whole. -/
def keptU (H : FVec Ideal S256x1024 .f32) (L : List (View.Piece (Elt Ideal) S256x1024 .f32)) : FVec Ideal S256x1024 .f32 :=
  View.canon (Val := Elt Ideal) (s := S256x1024) (e := .f32) (⟨Rect.unit ![0, 0] ![256, 1024] inb_S256x1024_S256x1024_0_0, k0_pay12 (F := Ideal) H⟩ :: L)

theorem keptU_at (H : FVec Ideal S256x1024 .f32) (L : List (View.Piece (Elt Ideal) S256x1024 .f32)) (r : Fin 256) (q : Fin 1024) : keptU H L (ix2 r q) = H (ix2 r q) := by
  have e : (ix2 r q : S256x1024.Idx) = (Rect.unit (s := S256x1024) ![0, 0] ![256, 1024] inb_S256x1024_S256x1024_0_0).emb (ix2 r q) := by
    funext a
    refine Fin.ext ?_
    fin_cases a
    · change r.val = 0 + 1 * r.val; omega
    · change q.val = 0 + 1 * q.val; omega
  have e' : k0_pay12 (F := Ideal) H (ix2 r q) = H (ix2 r q) := by pointwise [k0_pay12]
  exact (congrArg _ e).trans ((View.canon_cons_emb _ _ _ _).trans e')

theorem in_tail : ∀ a, (![240, 0] : Fin 2 → Nat) a + (![16, 1024] : Fin 2 → Nat) a ≤ S256x1024.size a := by decide

/-- The last rows of a block. -/
def keptT (U : FVec Ideal S256x1024 .f32) : FVec Ideal S16x1024 .f32 :=
  View.canon (Val := Elt Ideal) (s := S16x1024) (e := .f32) [⟨Rect.unit ![0, 0] ![16, 1024] inb_S16x1024_S16x1024_0_0,
    k0_pay11 (F := Ideal) (View.ld (Val := Elt Ideal) (e' := .f32) U (Rect.unit (s := S256x1024) ![240, 0] ![16, 1024] in_tail))⟩]

theorem keptT_at (U : FVec Ideal S256x1024 .f32) (r : Fin 16) (q : Fin 1024) : keptT U (ix2 r q) = U (ix2 (⟨240 + r.val, by omega⟩ : Fin 256) q) := by
  have e : (ix2 r q : S16x1024.Idx) = (Rect.unit (s := S16x1024) ![0, 0] ![16, 1024] inb_S16x1024_S16x1024_0_0).emb (ix2 r q) := by
    funext a
    refine Fin.ext ?_
    fin_cases a
    · change r.val = 0 + 1 * r.val; omega
    · change q.val = 0 + 1 * q.val; omega
  have e' (Y : FVec Ideal S16x1024 .f32) : k0_pay11 (F := Ideal) Y (ix2 r q) = Y (ix2 r q) := by pointwise [k0_pay11]
  refine (congrArg _ e).trans ((View.canon_cons_emb _ _ _ _).trans ((e' _).trans (congrArg U ?_)))
  funext a
  refine Fin.ext ?_
  fin_cases a
  · change 240 + 1 * r.val = 240 + r.val; omega
  · change 0 + 1 * q.val = q.val; omega

end Cert.InConvIdeal.Prod
end
-- ==== Proof.ConvRef.lean ====
/- The reference of the even layer's convolution branch, read at an index. -/
module
public import proofs.«01_k».proof.Proof.Gen.InConvRefIdeal.Run
public import proofs.«01_k».proof.Proof.ConvVals
public import Idealize.ShloMosaic.Lib.Pipeline.ValueKit
@[expose] public section
set_option maxRecDepth 16384
noncomputable section
open Idealize.ShloMosaic Idealize.ShloMosaic.TcCoe Idealize.SL.Sem
namespace Cert.InConvRefIdeal.Branch
open Cert.InConvRefIdeal Cert.InConvRefIdeal.Gen Cert.InConvRefIdeal.Value

variable (V0 : Valuation τ sig (Elt Ideal))

abbrev aX : FVec Ideal S16384x1024 .f32 := V0 (Proc.devRef .tc main_arg0)
abbrev aW : FVec Ideal S1024x6208 .f32 := V0 (Proc.devRef .tc main_arg1)
abbrev aC : FVec Ideal S31x1x1024 .f32 := V0 (Proc.devRef .tc main_arg2)
abbrev aB : FVec Ideal S1024 .f32 := V0 (Proc.devRef .tc main_arg3)
abbrev aG : FVec Ideal S1024 .f32 := V0 (Proc.devRef .tc main_arg4)
abbrev aN : FVec Ideal S1024 .f32 := V0 (Proc.devRef .tc main_arg5)

/-- The arguments, entry by entry. -/
def argsOf (x : FVec Ideal S16384x1024 .f32) (w : FVec Ideal S1024x6208 .f32) (C : FVec Ideal S31x1x1024 .f32) (b g n : FVec Ideal S1024 .f32) : Conv.Args where
  x := fun s k => x (ix2 s k)
  w := fun k j => w (ix2 k j)
  taps := fun k q => C (ix3 k 0 q)
  b := fun q => b (ix1 q)
  g := fun q => g (ix1 q)
  c := fun q => n (ix1 q)
abbrev A : Conv.Args := argsOf (aX V0) (aW V0) (aC V0) (aB V0) (aG V0) (aN V0)

abbrev P : FVec Ideal S4x4126x1024 .f32 := res_main_v13 V0
abbrev tap (b : Fin 4) (i : Fin 4096) (q : Fin 1024) (k : Fin 31) : EReal := P V0 (ix3 b (⟨k.val + i.val, by omega⟩ : Fin 4126) q) * aC V0 (ix3 k 0 q)

theorem prod_at (s : Fin 16384) (j : Fin 6208) : res_main_v0 V0 (ix2 s j) = Conv.prod (A V0) s j := by
  pointwise [res_main_v0]
  rfl

theorem zero_int : (FloatOps.sitofp FTy.f32 0#32 : Ideal .f32) = (0 : EReal) := by
  change (((0#32 : BitVec 32).toInt : ℝ) : EReal) = 0
  simp

theorem padded_at (b : Fin 4) (i : Fin 4126) (q : Fin 1024) : P V0 (ix3 b i q) = Conv.padded (A V0) b i q := by
  pointwise [P, res_main_v13, res_main_v1]
  unfold Conv.padded
  refine dite_congr rfl (fun h => ?_) (fun _ => ?_)
  · rw [prod_at, prod_at]
    rfl
  · exact zero_int

theorem tap0 (b : Fin 4) (i : Fin 4096) (q : Fin 1024) : tap V0 b i q 0 = P V0 (ix3 b (⟨i.val, by omega⟩ : Fin 4126) q) * aC V0 (ix3 0 0 q) := by
  refine congrArg (fun j => P V0 (ix3 b j q) * aC V0 (ix3 0 0 q)) (Fin.ext ?_)
  change 0 + i.val = i.val
  omega

theorem taps10 (b : Fin 4) (i : Fin 4096) (q : Fin 1024) : res_main_v84 V0 (ix3 b i q) = Conv.tapSum (tap V0 b i q) 10 (by decide) := by
  pointwise [res_main_v84, Conv.tapSum]
  rw [tap0]
  rfl

theorem taps20 (b : Fin 4) (i : Fin 4096) (q : Fin 1024) : res_main_v154 V0 (ix3 b i q) = Conv.tapSum (tap V0 b i q) 20 (by decide) := by
  have h := taps10 V0 b i q
  simp only [Conv.tapSum] at h ⊢
  rw [← h]
  pointwise [res_main_v154]
  rfl

theorem taps30 (b : Fin 4) (i : Fin 4096) (q : Fin 1024) : res_main_v224 V0 (ix3 b i q) = Conv.tapSum (tap V0 b i q) 30 (by decide) := by
  have h := taps20 V0 b i q
  simp only [Conv.tapSum] at h ⊢
  rw [← h]
  pointwise [res_main_v224]
  rfl

theorem conv_at (s : Fin 16384) (q : Fin 1024) : res_main_v235 V0 (ix2 s q) = Conv.conv (A V0) s q := by
  have h := taps30 V0 (⟨s.val / 4096, by omega⟩ : Fin 4) (⟨s.val % 4096, by omega⟩ : Fin 4096) q
  unfold Conv.conv
  refine Eq.trans ?_ (congrArg (· + _) (Conv.tapSum_congr (tap V0 (⟨s.val / 4096, by omega⟩ : Fin 4) (⟨s.val % 4096, by omega⟩ : Fin 4096) q) _ (fun k => congrArg (· * _) (padded_at V0 _ _ q)) 31 (by decide)))
  unfold Conv.tapSum
  rw [← h]
  pointwise [res_main_v235]
  rfl

abbrev T : FVec Ideal S16384x1024 .f32 := res_main_v235 V0
abbrev Z : FVec Ideal S16384x1024 .f32 := res_main_v241 V0
abbrev N : FVec Ideal S16384x1024 .f32 := res_main_v257 V0
abbrev R : FVec Ideal S16384x6208 .f32 := res_main_v0 V0

theorem centred_at (s : Fin 16384) (q : Fin 1024) : Z V0 (ix2 s q) = Conv.conv (A V0) s q - Mem.mean (Conv.conv (A V0) s) := by
  have h : Z V0 (ix2 s q) = T V0 (ix2 s q) - Mem.mean (fun x => T V0 (ix2 s x)) := by
    pointwise [res_main_v241, Mem.mean]
  rw [h]
  simp only [conv_at]

theorem normed_at (s : Fin 16384) (j : Fin 1024) : N V0 (ix2 s j) = Mem.norm (Conv.conv (A V0) s) (A V0).g (A V0).c j := by
  have h : N V0 (ix2 s j) = Z V0 (ix2 s j) * Ideal.rsqrt (Mem.mean (fun x => Z V0 (ix2 s x) * Z V0 (ix2 s x)) + Ideal.ofBits .f32 0x3727C5AC#32) * aG V0 (ix1 j) + aN V0 (ix1 j) := by
    pointwise [res_main_v257, Mem.mean]
  rw [h]
  simp only [centred_at]
  rfl

/-- The result as the program leaves it. -/
def out : FVec Ideal S16384x1024 .bf16 :=
  truncf .bf16 (mulf (mulf (res_main_v257 V0) (Host.divf (broadcastInDim S16384x1024 ![] bcast_S_S16384x1024 (constant S_ .f32 0x3F800000#32)) (addf (broadcastInDim S16384x1024 ![] bcast_S_S16384x1024 (constant S_ .f32 0x3F800000#32)) (Host.exp (Host.negf (res_main_v257 V0)))))) (mulf (res_main_v2 V0) (Host.divf (broadcastInDim S16384x1024 ![] bcast_S_S16384x1024 (constant S_ .f32 0x3F800000#32)) (addf (broadcastInDim S16384x1024 ![] bcast_S_S16384x1024 (constant S_ .f32 0x3F800000#32)) (Host.exp (Host.negf (res_main_v2 V0))))))) bitsLt_bf16_f32

theorem out_at (s : Fin 16384) (j : Fin 1024) : out V0 (ix2 s j) = Conv.out (A V0) s j := by
  have h : out V0 (ix2 s j) = N V0 (ix2 s j) * Ideal.logistic (N V0 (ix2 s j))
      * (R V0 (ix2 s (⟨2048 + j.val, by omega⟩ : Fin 6208)) * Ideal.logistic (R V0 (ix2 s (⟨2048 + j.val, by omega⟩ : Fin 6208)))) := by
    pointwise [out, res_main_v2]
    rfl
  rw [h, normed_at, show R V0 (ix2 s (⟨2048 + j.val, by omega⟩ : Fin 6208)) = _ from prod_at V0 s _]
  rfl

end Cert.InConvRefIdeal.Branch
end
-- ==== Proof.ConvOut.lean ====
/- The convolution's result that the even layer's input projection leaves is the reference's: a point leaves the block
   before its own, from the gated columns that the points before it kept. -/
module
public import proofs.«01_k».proof.Proof.ConvFirst
public import proofs.«01_k».proof.Proof.ConvRef
public import proofs.«01_k».proof.Proof.InConv
public import Idealize.ShloMosaic.Lib.Pipeline.ReadBack
@[expose] public section
set_option maxRecDepth 16384
noncomputable section
open Idealize.ShloMosaic Idealize.ShloMosaic.TcCoe Idealize.SL.Sem
open Idealize.ShloMosaic.Pipeline (Dat)
namespace Cert.InConvIdeal.Prod
open Cert.InConvIdeal Cert.InConvIdeal.Gen

variable (m : (ℓ : Loc nD τ sig) → Buf (Elt Ideal) ℓ)

/-- The taps, their bias, the norm's scale and bias. -/
abbrev Ca (c : Dev nD) : FVec Ideal S31x1x1024 .f32 := m ((c : Thread nD τ).loc main_arg2)
abbrev Ba (c : Dev nD) : FVec Ideal S1024 .f32 := m ((c : Thread nD τ).loc main_arg3)
abbrev Ga (c : Dev nD) : FVec Ideal S1024 .f32 := m ((c : Thread nD τ).loc main_arg4)
abbrev Na (c : Dev nD) : FVec Ideal S1024 .f32 := m ((c : Thread nD τ).loc main_arg5)
abbrev args (c : Dev nD) : Conv.Args := InConvRefIdeal.Branch.argsOf (Xa m c) (Wa m c) (Ca m c) (Ba m c) (Ga m c) (Na m c)

/-- The gated columns that point `t` computes. -/
abbrev gluB (c : Dev nD) (t : Fin cfg0.N) : FVec Ideal S256x1024 .f32 := gluOf (X0_1 m c t) (xb (iblk m c 0 t))

theorem prod_pt (c : Dev nD) (t : Fin cfg0.N) (r : Fin 256) (j : Fin 4096) :
    (∑ k : Fin 1024, xb (iblk m c 0 t) (ix2 r k) * X0_1 m c t (ix2 k j)) = Conv.prod (args m c) (row t r) ⟨j.val, by omega⟩ :=
  Finset.sum_congr rfl fun k _ => congrArg₂ (· * ·) ((xb_at _ r k).trans (x_blk m c t r k)) (a_blk m c t k j)

theorem gluB_at (c : Dev nD) (t : Fin cfg0.N) (r : Fin 256) (q : Fin 1024) : gluB m c t (ix2 r q) = Conv.glu (args m c) (row t r) q :=
  (glu_at _ _ r q).trans (congrArg₂ (· * Ideal.logistic ·) (prod_pt m c t r _) (prod_pt m c t r _))

/-- What a point keeps: its gated columns, the gate's columns, and the last gated rows of the point before. -/
theorem kept2_A (c : Dev nD) (t : Fin cfg0.N) (h0 : t.val % 65 = 0) :
    (outsAt0 m c t.val t.isLt).2.2.1 = keptU (gluB m c t) [⟨Rect.unit ![0, 0] ![256, 1024] inb_S256x1024_S256x1024_0_0, k0_pay2 (F := Ideal)⟩] := by
  rw [outsAt0_A m c t h0]
  dsimp only
  unfold sout0_A_2
  frame_open
  simp (disch := decide) only [View.read_writes_junk_eq_canon, View.readAt_eq_ld, Memref.IsWhole.read_unread, read_unread_whole]
  rfl

theorem kept2_B (c : Dev nD) (t : Fin cfg0.N) (h0 : ¬ t.val % 65 = 0) :
    (outsAt0 m c t.val t.isLt).2.2.1 = keptU (gluB m c t) [] := by
  rw [outsAt0_B m c t h0]
  dsimp only
  unfold sout0_B_2
  frame_open
  simp (disch := decide) only [View.read_writes_junk_eq_canon, View.readAt_eq_ld, Memref.IsWhole.read_unread, read_unread_whole]
  rfl

theorem kept3_A (c : Dev nD) (t : Fin cfg0.N) (h0 : t.val % 65 = 0) :
    (outsAt0 m c t.val t.isLt).2.2.2.1 = gateOf (X0_1 m c t) (xb (iblk m c 0 t)) [⟨Rect.unit ![0, 0] ![256, 1024] inb_S256x1024_S256x1024_0_0, k0_pay3 (F := Ideal)⟩] := by
  rw [outsAt0_A m c t h0]
  dsimp only
  unfold sout0_A_3
  frame_open
  simp (disch := decide) only [View.read_writes_junk_eq_canon, View.readAt_eq_ld, Memref.IsWhole.read_unread, read_unread_whole]
  rfl

theorem kept3_B (c : Dev nD) (t : Fin cfg0.N) (h0 : ¬ t.val % 65 = 0) :
    (outsAt0 m c t.val t.isLt).2.2.2.1 = gateOf (X0_1 m c t) (xb (iblk m c 0 t)) [] := by
  rw [outsAt0_B m c t h0]
  dsimp only
  unfold sout0_B_3
  frame_open
  simp (disch := decide) only [View.read_writes_junk_eq_canon, View.readAt_eq_ld, Memref.IsWhole.read_unread, read_unread_whole]
  rfl

theorem kept5_B (c : Dev nD) (t : Fin cfg0.N) (h0 : ¬ t.val % 65 = 0) :
    (outsAt0 m c t.val t.isLt).2.2.2.2 = keptT (outsAt0 m c (t.val - 1) (by omega)).2.2.1 := by
  rw [outsAt0_B m c t h0]
  dsimp only
  unfold sout0_B_5
  frame_open
  simp (disch := decide) only [View.read_writes_junk_eq_canon, View.readAt_eq_ld, Memref.IsWhole.read_unread, read_unread_whole]
  rfl

/-- What a point after the first leaves in its block of the result. -/
theorem leftC_B (c : Dev nD) (t : Fin cfg0.N) (h0 : ¬ t.val % 65 = 0) :
    (outsAt0 m c t.val t.isLt).2.1 = outBlk (first (BitVec.ofNat 32 ((grid0.coords t) 0).val)
      (outsAt0 m c (t.val - 1) (by omega)).2.2.1 (outsAt0 m c (t.val - 1) (by omega)).2.2.2.2 (gluB m c t))
      (iblk m c 3 t) (iblk m c 4 t) (iblk m c 5 t) (iblk m c 6 t) (outsAt0 m c (t.val - 1) (by omega)).2.2.2.1 := by
  rw [outsAt0_B m c t h0]
  dsimp only
  unfold out0_B_8
  refine (View.read_writes_junk_eq_canon (Val := Elt Ideal) _ _).trans ?_
  frame_open
  simp (disch := decide) only [View.readAt_eq_ld, Memref.IsWhole.read_unread, read_unread_whole]
  sl_kernel_rfl

theorem cur_at (c : Dev nD) (t : Fin cfg0.N) (r : Fin 256) (q : Fin 1024) : (outsAt0 m c t.val t.isLt).2.2.1 (ix2 r q) = Conv.glu (args m c) (row t r) q := by
  refine Eq.trans ?_ (gluB_at m c t r q)
  by_cases h0 : t.val % 65 = 0
  · exact (congrFun (kept2_A m c t h0) _).trans (keptU_at _ _ r q)
  · exact (congrFun (kept2_B m c t h0) _).trans (keptU_at _ _ r q)

theorem gcur_at (c : Dev nD) (t : Fin cfg0.N) (r : Fin 256) (q : Fin 1024) :
    (outsAt0 m c t.val t.isLt).2.2.2.1 (ix2 r q) = Conv.prod (args m c) (row t r) ⟨2048 + q.val, by omega⟩ := by
  refine Eq.trans ?_ (prod_pt m c t r (⟨2048 + q.val, by omega⟩ : Fin 4096))
  by_cases h0 : t.val % 65 = 0
  · exact (congrFun (kept3_A m c t h0) _).trans (gate_at _ _ _ r q)
  · exact (congrFun (kept3_B m c t h0) _).trans (gate_at _ _ _ r q)

theorem tail_at (c : Dev nD) (t : Fin cfg0.N) (h0 : ¬ t.val % 65 = 0) (r : Fin 16) (q : Fin 1024) :
    (outsAt0 m c t.val t.isLt).2.2.2.2 (ix2 r q) = Conv.glu (args m c) (row (⟨t.val - 1, by omega⟩ : Fin cfg0.N) (⟨240 + r.val, by omega⟩ : Fin 256)) q :=
  (congrFun (kept5_B m c t h0) _).trans ((keptT_at _ r q).trans (cur_at m c (⟨t.val - 1, by omega⟩ : Fin cfg0.N) _ q))

/-- The ends of the sequences, the block a point leaves, and the points that leave one. -/
theorem ends : ∀ t : Fin cfg0.N, (isFirst (BitVec.ofNat 32 ((grid0.coords t) 0).val) = 1#1 ↔ t.val % 16 = 1)
    ∧ (isLast (BitVec.ofNat 32 ((grid0.coords t) 0).val) = 1#1 ↔ t.val % 16 = 0) :=
  (by decide +kernel : ∀ t : Fin grid0.N, _)
theorem idxC : ∀ t : Fin cfg0.N, win0_8.index t = ![t.val - 1, 0] ∧ win0_3.index t = ![0, 0, 0] ∧ win0_4.index t = ![0, 0] ∧ win0_5.index t = ![0, 0] ∧ win0_6.index t = ![0, 0] :=
  (by decide +kernel : ∀ t : Fin grid0.N, _)
theorem leaves : ∀ t : Fin cfg0.N, (cfg0.win 8).flush t = true → ¬ t.val % 65 = 0 :=
  (by decide +kernel : ∀ t : Fin grid0.N, _)

theorem V_c (c : Dev nD) : V m c main_v0 = broadcastInDim S31x8x1024 ![0, 1, 2] bcast_S31x1x1024_S31x8x1024_0_1_2 (Ca m c) := by sl_kernel_rfl
theorem V_6 (c : Dev nD) : V m c main_v6 = shapeCast S1x1024 (Ba m c) shapeCasts_S1024_S1x1024 := by sl_kernel_rfl
theorem V_7 (c : Dev nD) : V m c main_v7 = shapeCast S1x1024 (Ga m c) shapeCasts_S1024_S1x1024 := by sl_kernel_rfl
theorem V_8 (c : Dev nD) : V m c main_v8 = shapeCast S1x1024 (Na m c) shapeCasts_S1024_S1x1024 := by sl_kernel_rfl

theorem c_blk (c : Dev nD) (t : Fin cfg0.N) (k : Fin 31) (s : Fin 8) (q : Fin 1024) : iblk m c 3 t (ix3 k s q) = (args m c).taps k q := by
  have e (Y : FVec Ideal S31x1x1024 .f32) : broadcastInDim S31x8x1024 ![0, 1, 2] bcast_S31x1x1024_S31x8x1024_0_1_2 Y (ix3 k s q) = Y (ix3 k 0 q) := by pointwise []
  exact Eq.trans (congrArg (V m c main_v0) (by blk_ext [idxC t])) ((congrFun (V_c m c) (ix3 k s q)).trans (e _))

theorem line (Y : FVec Ideal S1024 .f32) (q : Fin 1024) : shapeCast S1x1024 Y shapeCasts_S1024_S1x1024 (ix2 0 q) = Y (ix1 q) := by pointwise []
theorem b6_blk (c : Dev nD) (t : Fin cfg0.N) (q : Fin 1024) : iblk m c 4 t (ix2 0 q) = (args m c).b q :=
  Eq.trans (congrArg (V m c main_v6) (by blk_ext [idxC t])) ((congrFun (V_6 m c) (ix2 0 q)).trans (line _ q))
theorem b7_blk (c : Dev nD) (t : Fin cfg0.N) (q : Fin 1024) : iblk m c 5 t (ix2 0 q) = (args m c).g q :=
  Eq.trans (congrArg (V m c main_v7) (by blk_ext [idxC t])) ((congrFun (V_7 m c) (ix2 0 q)).trans (line _ q))
theorem b8_blk (c : Dev nD) (t : Fin cfg0.N) (q : Fin 1024) : iblk m c 6 t (ix2 0 q) = (args m c).c q :=
  Eq.trans (congrArg (V m c main_v8) (by blk_ext [idxC t])) ((congrFun (V_8 m c) (ix2 0 q)).trans (line _ q))

/-- The array's row that holds row `r` of the block point `t` leaves. -/
abbrev rowC (t : Fin cfg0.N) (r : Fin 256) : Fin 16384 := ⟨(t.val - 1) * 256 + r.val, by have := t.isLt; change t.val < 65 at this; omega⟩

theorem glu_row (A : Conv.Args) (s s' : Fin 16384) (q : Fin 1024) (h : s.val = s'.val) : Conv.glu A s q = Conv.glu A s' q :=
  congrArg (fun s => Conv.glu A s q) (Fin.ext h)

/-- A row of the slab is the padded sequence's. -/
theorem slab_row (c : Dev nD) (t : Fin cfg0.N) (h0 : ¬ t.val % 65 = 0) (r : Fin 256) (k : Fin 31) (q : Fin 1024) :
    left (first (BitVec.ofNat 32 ((grid0.coords t) 0).val) (outsAt0 m c (t.val - 1) (by omega)).2.2.1 (outsAt0 m c (t.val - 1) (by omega)).2.2.2.2 (gluB m c t))
      (ix3 0 (⟨r.val + 1 + k.val, by omega⟩ : Fin 288) q)
      = Conv.padded (args m c) ⟨(rowC t r).val / 4096, by omega⟩ ⟨k.val + (rowC t r).val % 4096, by omega⟩ q := by
  have ht : t.val < 65 := t.isLt
  obtain ⟨hf, hl⟩ := ends t
  rw [first_at]
  unfold Conv.padded
  dsimp only
  by_cases h : r.val + 1 + k.val < 16
  · rw [dif_pos h]
    by_cases h1 : t.val % 16 = 1
    · rw [if_pos (hf.mpr h1), dif_neg (by omega)]
    · rw [if_neg (fun e => h1 (hf.mp e)), dif_pos (by omega)]
      refine (tail_at m c (⟨t.val - 1, by omega⟩ : Fin cfg0.N) (by dsimp only; omega) _ q).trans (glu_row _ _ _ _ ?_)
      dsimp only
      omega
  rw [dif_neg h]
  by_cases h' : r.val + 1 + k.val < 272
  · rw [dif_pos h', dif_pos (by omega)]
    refine (cur_at m c (⟨t.val - 1, by omega⟩ : Fin cfg0.N) _ q).trans (glu_row _ _ _ _ ?_)
    dsimp only
    omega
  rw [dif_neg h']
  by_cases h1 : t.val % 16 = 0
  · rw [if_pos (hl.mpr h1), dif_neg (by omega)]
  · rw [if_neg (fun e => h1 (hl.mp e)), dif_pos (by omega)]
    refine (gluB_at m c t _ q).trans (glu_row _ _ _ _ ?_)
    dsimp only
    omega

attribute [local irreducible] Conv.tapSum outBlk first

theorem conv_pt (c : Dev nD) (t : Fin cfg0.N) (h0 : ¬ t.val % 65 = 0) (r : Fin 256) :
    convOf (args m c).taps (first (BitVec.ofNat 32 ((grid0.coords t) 0).val) (outsAt0 m c (t.val - 1) (by omega)).2.2.1 (outsAt0 m c (t.val - 1) (by omega)).2.2.2.2 (gluB m c t))
      (fun q => iblk m c 4 t (ix2 0 q)) r = Conv.conv (args m c) (rowC t r) := by
  funext q
  unfold convOf Conv.conv
  refine congrArg₂ (· + ·) (congrArg (fun f => Conv.tapSum f 31 (by decide)) (funext fun k => ?_)) (b6_blk m c t q)
  exact congrArg (· * (args m c).taps k q) (slab_row m c t h0 r k q)

theorem pointC (c : Dev nD) (t : Fin cfg0.N) (h0 : ¬ t.val % 65 = 0) (r : Fin 256) (j : Fin 1024) :
    (outsAt0 m c t.val t.isLt).2.1 (ix2 r j) = Conv.out (args m c) (rowC t r) j := by
  have ht : t.val < 65 := t.isLt
  refine (congrFun (leftC_B m c t h0) _).trans ((outBlk_at (iblk m c 3 t) (args m c).taps (c_blk m c t) _ _ _ _ _ r j).trans ?_)
  have hg : (outsAt0 m c (t.val - 1) (by omega)).2.2.2.1 (ix2 r j) = Conv.prod (args m c) (rowC t r) ⟨2048 + j.val, by omega⟩ :=
    (gcur_at m c (⟨t.val - 1, by omega⟩ : Fin cfg0.N) r j).trans (congrArg (fun s => Conv.prod (args m c) s _) (Fin.ext (by dsimp only; omega)))
  rw [conv_pt m c t h0 r, hg, funext (b7_blk m c t), funext (b8_blk m c t)]
  rfl

/-- The result, entry by entry. -/
def result (c : Dev nD) : FVec Ideal S16384x1024 .bf16 := fun y => Conv.out (args m c) (y 0) (y 1)

theorem result_at (c : Dev nD) (s : Fin 16384) (j : Fin 1024) : result m c (ix2 s j) = Conv.out (args m c) s j := rfl

attribute [local irreducible] result

theorem blockC (c : Dev nD) (t : Fin cfg0.N) (h0 : ¬ t.val % 65 = 0) (y : S256x1024.Idx) :
    (outsAt0 m c t.val t.isLt).2.1 y = result m c (((cfg0.win 8).blk t).view.emb y) := by
  idx_vars y
  have he : ((cfg0.win 8).blk t).view.emb (ix2 y0 y1) = ix2 (rowC t y0) y1 := by blk_ext [idxC t]
  exact (pointC m c t h0 y0 y1).trans ((result_at m c _ _).symm.trans (congrArg (result m c) he.symm))

/-- The convolution's result that the kernel leaves. -/
theorem finalC (c : Dev nD) : (dats m 0 c).arrAt 8 (cfgs 0).N = result m c := by
  refine (dats m 0 c).arrAt_eq_of_covers 8 _ (by decide +kernel) fun t ht y => ?_
  blk_simp
  rw [after0_8]
  exact blockC m c t (leaves t ht) y

/-- The reference's result is the same, entry by entry. -/
theorem reference (c : Dev nD) (V0 : Valuation InConvRefIdeal.τ InConvRefIdeal.sig (Elt Ideal)) (h : InConvRefIdeal.Branch.A V0 = args m c) :
    InConvRefIdeal.Branch.out V0 = result m c := by
  funext y
  idx_vars y
  rw [InConvRefIdeal.Branch.out_at, h]
  exact (result_at m c _ _).symm

end Cert.InConvIdeal.Prod
end
-- ==== Proof.Mla.lean ====
/- Rows of the attention's projections over extended reals: the root-mean-square norm, the rotary turn of a row of sixty-four, and the
   same turn as it is taken on a hundred and twenty-eight lanes, two rows side by side. -/
module
public import proofs.«01_k».proof.Proof.Mem
@[expose] public section
noncomputable section
open Idealize.ShloMosaic
namespace Cert.Mla

/-- One element of a row's root-mean-square norm; `n` is the row's length. -/
def rms {N : ℕ} (n : EReal) (x g : Fin N → EReal) (k : Fin N) : EReal :=
  x k * Ideal.rsqrt (Ideal.div (∑ j, x j * x j) n + Ideal.ofBits .f32 0x358637BD#32) * g k

/-- The rotary turn of a row of sixty-four by the cosines and sines of its thirty-two angles. -/
def rope (x : Fin 64 → EReal) (c s : Fin 32 → EReal) (e : Fin 64) : EReal :=
  if h : e.val < 32 then x e * c ⟨e.val, h⟩ - x ⟨32 + e.val, by omega⟩ * s ⟨e.val, h⟩
  else x ⟨32 + (e.val - 32), by omega⟩ * c ⟨e.val - 32, by omega⟩ + x ⟨e.val - 32, by omega⟩ * s ⟨e.val - 32, by omega⟩

/-- The same on the lanes of two rows side by side, the sign in the sines. -/
theorem rope_lane (x : Fin 128 → EReal) (c s : Fin 32 → EReal) (l : Fin 128) (y C S : EReal)
    (hy : y = if l.val % 64 < 32 then x ⟨(l.val + 128 - 96) % 128, by omega⟩ else x ⟨(l.val + 128 - 32) % 128, by omega⟩)
    (hC : C = c ⟨l.val % 32, by omega⟩) (hS : S = s ⟨l.val % 32, by omega⟩ * (if l.val % 64 < 32 then -1 else 1)) :
    x l * C + y * S = rope (fun e => x ⟨l.val / 64 * 64 + e.val, by omega⟩) c s ⟨l.val % 64, by omega⟩ := by
  unfold rope
  subst hy hC hS
  have hx : ∀ a b : Fin 128, a.val = b.val → x a = x b := fun a b h => congrArg x (Fin.ext h)
  have hc : ∀ a b : Fin 32, a.val = b.val → c a = c b := fun a b h => congrArg c (Fin.ext h)
  have hs : ∀ a b : Fin 32, a.val = b.val → s a = s b := fun a b h => congrArg s (Fin.ext h)
  by_cases h : l.val % 64 < 32
  · rw [if_pos h, if_pos h, dif_pos h, mul_neg, mul_one, mul_neg, sub_eq_add_neg]
    exact congrArg₂ (· + ·) (congrArg₂ (· * ·) (hx _ _ (by dsimp only; omega)) (hc _ _ (by dsimp only; omega)))
      (congrArg Neg.neg (congrArg₂ (· * ·) (hx _ _ (by dsimp only; omega)) (hs _ _ (by dsimp only; omega))))
  · rw [if_neg h, if_neg h, dif_neg h, mul_one]
    exact congrArg₂ (· + ·) (congrArg₂ (· * ·) (hx _ _ (by dsimp only; omega)) (hc _ _ (by dsimp only; omega)))
      (congrArg₂ (· * ·) (hx _ _ (by dsimp only; omega)) (hs _ _ (by dsimp only; omega)))

end Cert.Mla
end
-- ==== Proof.MlaChunk.lean ====
/- What a chunk of the projections computes, from the rows and the rotary tables it reads. -/
module
public import proofs.«01_k».proof.Proof.Gen.MlaProjIdeal.Value
public import proofs.«01_k».proof.Proof.Mla
public import Idealize.ShloMosaic.Lib.Pipeline.ValueKit
@[expose] public section
set_option maxRecDepth 16384
noncomputable section
open Idealize.ShloMosaic Idealize.ShloMosaic.TcCoe Idealize.SL.Sem
namespace Cert.MlaProjIdeal.Out
open Cert.MlaProjIdeal Cert.MlaProjIdeal.Gen

variable (M T : FVec Ideal S128x128 .f32) (B : FVec Ideal S1x128x128 .f32) (g : FVec Ideal S1x128 .f32) (X C S : FVec Ideal S512x128 .f32)

/-- The first thirty-two lanes, repeated four times. -/
def first : FVec Ideal S128x128 .f32 :=
  select (cmpi .slt (iota .tc S128x128 32 [1] iota_S128x128_d1_w32) (broadcast S128x128 32#32)) M (broadcast S128x128 (Scalar.ofBits (F := Ideal) .f32 0x00000000#32))
def twice : FVec Ideal S128x128 .f32 := addf M (dynamicRotate 1 32#32 none M rotates_S128x128_d1)
def fourfold : FVec Ideal S128x128 .f32 := addf M (dynamicRotate 1 64#32 none M rotates_S128x128_d1)
def rep : FVec Ideal S128x128 .f32 := fourfold (twice (first M))

/-- A choice by a comparison's bit. -/
theorem sel {α : Type} (c : BitVec 1) (p : Prop) [Decidable p] (h : c = if p then 1#1 else 0#1) (x y : α) : Scalar.select c x y = if p then x else y := by
  subst h
  by_cases hp : p
  · rw [if_pos hp, if_pos hp]; rfl
  · rw [if_neg hp, if_neg hp]; rfl

theorem below : ∀ l : Fin 128, IntOp.cmpi .slt (BitVec.ofNat 32 l.val) 32#32 = if l.val < 32 then 1#1 else 0#1 := by decide +kernel

theorem rep_at (r l : Fin 128) : rep M (ix2 r l) = M (ix2 r (⟨l.val % 32, by omega⟩ : Fin 128)) := by
  have hf : ∀ k : Fin 128, first M (ix2 r k) = if k.val < 32 then M (ix2 r k) else 0 := fun k => Eq.trans (by pointwise [first]) (sel _ _ (below k) _ _)
  have ht : ∀ k : Fin 128, twice (first M) (ix2 r k) = first M (ix2 r k) + first M (ix2 r (⟨(k.val + 128 - 32) % 128, by omega⟩ : Fin 128)) :=
    fun k => by pointwise [twice]
  have hr : rep M (ix2 r l) = twice (first M) (ix2 r l) + twice (first M) (ix2 r (⟨(l.val + 128 - 64) % 128, by omega⟩ : Fin 128)) := by
    unfold rep; pointwise [fourfold]
  rw [hr, ht, ht, hf, hf, hf, hf]
  have hM : ∀ (k : Fin 128), k.val = l.val % 32 → M (ix2 r k) = M (ix2 r (⟨l.val % 32, by omega⟩ : Fin 128)) := fun k h => congrArg (fun k => M (ix2 r k)) (Fin.ext h)
  have h4 : l.val / 32 = 0 ∨ l.val / 32 = 1 ∨ l.val / 32 = 2 ∨ l.val / 32 = 3 := by omega
  rcases h4 with h | h | h | h
  · rw [if_pos (by (try dsimp only); omega), if_neg (by (try dsimp only); omega), if_neg (by (try dsimp only); omega), if_neg (by (try dsimp only); omega), add_zero, add_zero, add_zero, hM _ (by (try dsimp only); omega)]
  · rw [if_neg (by (try dsimp only); omega), if_pos (by (try dsimp only); omega), if_neg (by (try dsimp only); omega), if_neg (by (try dsimp only); omega), add_zero, add_zero, zero_add, hM _ (by (try dsimp only); omega)]
  · rw [if_neg (by (try dsimp only); omega), if_neg (by (try dsimp only); omega), if_pos (by (try dsimp only); omega), if_neg (by (try dsimp only); omega), add_zero, add_zero, zero_add, hM _ (by (try dsimp only); omega)]
  · rw [if_neg (by (try dsimp only); omega), if_neg (by (try dsimp only); omega), if_neg (by (try dsimp only); omega), if_pos (by (try dsimp only); omega), zero_add, zero_add, zero_add, hM _ (by (try dsimp only); omega)]

/-- A packed table's rows: each holds four positions' thirty-two angles. -/
def tab : FVec Ideal S128x128 .f32 := shapeCast S128x128 B shapeCasts_S1x128x128_S128x128
def c0 : FVec Ideal S128x128 .f32 := shapeCast S128x128 (rep (tab B)) shapeCasts_S128x128_S128x128
def c1 : FVec Ideal S128x128 .f32 := shapeCast S128x128 (rep (dynamicRotate 1 96#32 none (tab B) rotates_S128x128_d1)) shapeCasts_S128x128_S128x128
def c2 : FVec Ideal S128x128 .f32 := shapeCast S128x128 (rep (dynamicRotate 1 64#32 none (tab B) rotates_S128x128_d1)) shapeCasts_S128x128_S128x128
def c3 : FVec Ideal S128x128 .f32 := shapeCast S128x128 (rep (dynamicRotate 1 32#32 none (tab B) rotates_S128x128_d1)) shapeCasts_S128x128_S128x128
def sgn : FVec Ideal S128x128 .f32 := broadcastTo S128x128 (shapeCast S1x128 g shapeCasts_S1x128_S1x128) broadcasts_S1x128_S128x128
def s0 : FVec Ideal S128x128 .f32 := shapeCast S128x128 (mulf (rep (tab B)) (sgn g)) shapeCasts_S128x128_S128x128
def s1 : FVec Ideal S128x128 .f32 := shapeCast S128x128 (mulf (rep (dynamicRotate 1 96#32 none (tab B) rotates_S128x128_d1)) (sgn g)) shapeCasts_S128x128_S128x128
def s2 : FVec Ideal S128x128 .f32 := shapeCast S128x128 (mulf (rep (dynamicRotate 1 64#32 none (tab B) rotates_S128x128_d1)) (sgn g)) shapeCasts_S128x128_S128x128
def s3 : FVec Ideal S128x128 .f32 := shapeCast S128x128 (mulf (rep (dynamicRotate 1 32#32 none (tab B) rotates_S128x128_d1)) (sgn g)) shapeCasts_S128x128_S128x128

theorem tab_at (r l : Fin 128) : tab B (ix2 r l) = B (ix3 0 r l) := by pointwise [tab]
theorem sgn_at (r l : Fin 128) : sgn g (ix2 r l) = g (ix2 0 l) := by pointwise [sgn]
theorem cast_at (r l : Fin 128) : (shapeCast S128x128 M shapeCasts_S128x128_S128x128 : FVec Ideal S128x128 .f32) (ix2 r l) = M (ix2 r l) := by pointwise []
theorem rot96 (r l : Fin 128) (h : l.val < 32) : (dynamicRotate 1 96#32 none M rotates_S128x128_d1 : FVec Ideal S128x128 .f32) (ix2 r l) = M (ix2 r (⟨32 + l.val, by omega⟩ : Fin 128)) := by
  have : (dynamicRotate 1 96#32 none M rotates_S128x128_d1 : FVec Ideal S128x128 .f32) (ix2 r l) = M (ix2 r (⟨(l.val + 128 - 96) % 128, by omega⟩ : Fin 128)) := by pointwise []
  exact this.trans (congrArg (fun k => M (ix2 r k)) (Fin.ext (by dsimp only; omega)))
theorem rot64 (r l : Fin 128) (h : l.val < 32) : (dynamicRotate 1 64#32 none M rotates_S128x128_d1 : FVec Ideal S128x128 .f32) (ix2 r l) = M (ix2 r (⟨64 + l.val, by omega⟩ : Fin 128)) := by
  have : (dynamicRotate 1 64#32 none M rotates_S128x128_d1 : FVec Ideal S128x128 .f32) (ix2 r l) = M (ix2 r (⟨(l.val + 128 - 64) % 128, by omega⟩ : Fin 128)) := by pointwise []
  exact this.trans (congrArg (fun k => M (ix2 r k)) (Fin.ext (by dsimp only; omega)))
theorem rot32 (r l : Fin 128) (h : l.val < 32) : (dynamicRotate 1 32#32 none M rotates_S128x128_d1 : FVec Ideal S128x128 .f32) (ix2 r l) = M (ix2 r (⟨96 + l.val, by omega⟩ : Fin 128)) := by
  have : (dynamicRotate 1 32#32 none M rotates_S128x128_d1 : FVec Ideal S128x128 .f32) (ix2 r l) = M (ix2 r (⟨(l.val + 128 - 32) % 128, by omega⟩ : Fin 128)) := by pointwise []
  exact this.trans (congrArg (fun k => M (ix2 r k)) (Fin.ext (by dsimp only; omega)))

theorem c0_at (r l : Fin 128) : c0 B (ix2 r l) = B (ix3 0 r (⟨l.val % 32, by omega⟩ : Fin 128)) := by
  rw [c0, cast_at, rep_at, tab_at]
theorem c1_at (r l : Fin 128) : c1 B (ix2 r l) = B (ix3 0 r (⟨32 + l.val % 32, by omega⟩ : Fin 128)) := by
  rw [c1, cast_at, rep_at, rot96 _ _ _ (Nat.mod_lt _ (by omega)), tab_at]
theorem c2_at (r l : Fin 128) : c2 B (ix2 r l) = B (ix3 0 r (⟨64 + l.val % 32, by omega⟩ : Fin 128)) := by
  rw [c2, cast_at, rep_at, rot64 _ _ _ (Nat.mod_lt _ (by omega)), tab_at]
theorem c3_at (r l : Fin 128) : c3 B (ix2 r l) = B (ix3 0 r (⟨96 + l.val % 32, by omega⟩ : Fin 128)) := by
  rw [c3, cast_at, rep_at, rot32 _ _ _ (Nat.mod_lt _ (by omega)), tab_at]
theorem s0_at (r l : Fin 128) : s0 B g (ix2 r l) = B (ix3 0 r (⟨l.val % 32, by omega⟩ : Fin 128)) * g (ix2 0 l) := by
  rw [s0, cast_at]; exact congrArg₂ (· * ·) (by rw [rep_at, tab_at]) (sgn_at g r l)
theorem s1_at (r l : Fin 128) : s1 B g (ix2 r l) = B (ix3 0 r (⟨32 + l.val % 32, by omega⟩ : Fin 128)) * g (ix2 0 l) := by
  rw [s1, cast_at]; exact congrArg₂ (· * ·) (by rw [rep_at, rot96 _ _ _ (Nat.mod_lt _ (by omega)), tab_at]) (sgn_at g r l)
theorem s2_at (r l : Fin 128) : s2 B g (ix2 r l) = B (ix3 0 r (⟨64 + l.val % 32, by omega⟩ : Fin 128)) * g (ix2 0 l) := by
  rw [s2, cast_at]; exact congrArg₂ (· * ·) (by rw [rep_at, rot64 _ _ _ (Nat.mod_lt _ (by omega)), tab_at]) (sgn_at g r l)
theorem s3_at (r l : Fin 128) : s3 B g (ix2 r l) = B (ix3 0 r (⟨96 + l.val % 32, by omega⟩ : Fin 128)) * g (ix2 0 l) := by
  rw [s3, cast_at]; exact congrArg₂ (· * ·) (by rw [rep_at, rot32 _ _ _ (Nat.mod_lt _ (by omega)), tab_at]) (sgn_at g r l)

/-- The rotary turn of two rows of sixty-four side by side. -/
def turn : FVec Ideal S512x128 .f32 :=
  addf (mulf X C) (mulf (select (cmpi .slt (andi (iota .tc S512x128 32 [1] iota_S512x128_d1_w32) (broadcast S512x128 63#32)) (broadcast S512x128 32#32))
    (dynamicRotate 1 96#32 none X rotates_S512x128_d1) (dynamicRotate 1 32#32 none X rotates_S512x128_d1)) S)

/-- The lanes of the low half of each row. -/
theorem low : ∀ l : Fin 128, IntOp.cmpi .slt (IntOp.andi (BitVec.ofNat 32 l.val) 63#32) 32#32 = if l.val % 64 < 32 then 1#1 else 0#1 := by decide +kernel

theorem turn_at (c s : Fin 32 → EReal) (r : Fin 512) (l : Fin 128) (hC : C (ix2 r l) = c ⟨l.val % 32, by omega⟩)
    (hS : S (ix2 r l) = s ⟨l.val % 32, by omega⟩ * (if l.val % 64 < 32 then -1 else 1)) :
    turn X C S (ix2 r l) = Mla.rope (fun e => X (ix2 r (⟨l.val / 64 * 64 + e.val, by omega⟩ : Fin 128))) c s ⟨l.val % 64, by omega⟩ := by
  refine Eq.trans ?_ (Mla.rope_lane (fun l => X (ix2 r l)) c s l _ _ _ rfl hC hS)
  rw [← sel _ _ (low l)]
  pointwise [turn]

end Cert.MlaProjIdeal.Out
end
-- ==== Proof.MlaTile.lean ====
/- What a block of the projections holds, from the blocks it reads. -/
module
public import proofs.«01_k».proof.Proof.MlaChunk
@[expose] public section
set_option maxRecDepth 16384
noncomputable section
open Idealize.ShloMosaic Idealize.ShloMosaic.TcCoe Idealize.SL.Sem
namespace Cert.MlaProjIdeal.Out
open Cert.MlaProjIdeal Cert.MlaProjIdeal.Gen

/-- The queries' scale. -/
abbrev qs : EReal := Named.named (F := Ideal) κ "qk_scale" (φ := .f32) 0x3DD53B95#32

/-- A block's function at an index given by its values. -/
theorem at3 {n : ℕ} (f : Fin 8 → Fin 1024 → Fin n → EReal) {h h' : Fin 8} {r r' : Fin 1024} {j j' : Fin n} (a : h'.val = h.val) (b : r'.val = r.val) (e : j'.val = j.val) :
    f h r j = f h' r' j' := by
  rw [Fin.ext a, Fin.ext b, Fin.ext e]

/-- A chunk's row in the block, the two halves of a head's columns, and a lane's angle. -/
abbrev row5 (R : ℕ) (hR : R ≤ 512) (r : Fin 512) : Fin 1024 := ⟨R + r.val, by omega⟩
abbrev low256 (d : Fin 128) : Fin 256 := ⟨d.val, by omega⟩
abbrev high256 (d : Fin 128) : Fin 256 := ⟨128 + d.val, by omega⟩
abbrev lane32 (l : Fin 128) : Fin 32 := ⟨l.val % 32, by omega⟩

section values
variable (qrow : Fin 1024 → Fin 1536 → EReal) (kvrow : Fin 1024 → Fin 2048 → EReal) (krow : Fin 1024 → Fin 128 → EReal) (c s : Fin 1024 → Fin 32 → EReal)

/-- The blocks' elements, from the projected rows and the angles' cosines and sines. -/
def turned (x : Fin 128 → EReal) (r : Fin 1024) (l : Fin 128) : EReal :=
  Mla.rope (fun e => x ⟨l.val / 64 * 64 + e.val, by omega⟩) (c r) (s r) ⟨l.val % 64, by omega⟩
def valQ (h : Fin 8) (r : Fin 1024) (j : Fin 256) : EReal :=
  if hj : j.val < 128 then qrow r ⟨h.val * 128 + j.val, by omega⟩ * qs
  else turned c s (fun l => qrow r ⟨1024 + h.val / 2 * 128 + l.val, by omega⟩) r ⟨j.val - 128, by omega⟩ * qs
def valK (h : Fin 8) (r : Fin 1024) (j : Fin 256) : EReal :=
  if hj : j.val < 128 then kvrow r ⟨h.val * 128 + j.val, by omega⟩
  else turned c s (krow r) r ⟨(j.val - 128 + 128 - h.val % 2 * 64) % 128, by omega⟩
def valV (h : Fin 8) (r : Fin 1024) (d : Fin 128) : EReal := kvrow r ⟨1024 + h.val * 128 + d.val, by omega⟩

theorem valQ_lo (h : Fin 8) (r : Fin 1024) (d : Fin 128) : valQ qrow c s h r ⟨d.val, by omega⟩ = qrow r ⟨h.val * 128 + d.val, by omega⟩ * qs :=
  dif_pos d.isLt
theorem valQ_hi (h : Fin 8) (r : Fin 1024) (d : Fin 128) : valQ qrow c s h r ⟨128 + d.val, by omega⟩
    = turned c s (fun l => qrow r ⟨1024 + h.val / 2 * 128 + l.val, by omega⟩) r d * qs :=
  (dif_neg (by dsimp only; omega)).trans (congrArg (fun l => turned c s _ r l * qs) (Fin.ext (by dsimp only; omega)))
theorem valK_lo (h : Fin 8) (r : Fin 1024) (d : Fin 128) : valK kvrow krow c s h r ⟨d.val, by omega⟩ = kvrow r ⟨h.val * 128 + d.val, by omega⟩ :=
  dif_pos d.isLt
theorem valK_hi (h : Fin 8) (r : Fin 1024) (d : Fin 128) : valK kvrow krow c s h r ⟨128 + d.val, by omega⟩
    = turned c s (krow r) r ⟨(d.val + 128 - h.val % 2 * 64) % 128, by omega⟩ :=
  (dif_neg (by dsimp only; omega)).trans (congrArg (fun l => turned c s _ r l) (Fin.ext (by dsimp only; omega)))

/-- The pieces stored. -/
def piece (X : FVec Ideal S512x128 .f32) : FVec Ideal S1x1x512x128 .bf16 :=
  shapeCast S1x1x512x128 (truncf .bf16 X bitsLt_bf16_f32) shapeCasts_S512x128_S1x1x512x128
def scaled (X : FVec Ideal S512x128 .f32) : FVec Ideal S512x128 .f32 := mulf X (broadcast S512x128 qs)
abbrev cutQ (Q : FVec Ideal S512x1536 .f32) (o : ℕ) (hs : S512x1536.Slices ![0, o] S512x128) : FVec Ideal S512x128 .f32 := extractStridedSlice S512x128 ![0, o] Q hs
abbrev cutK (Q : FVec Ideal S512x2048 .f32) (o : ℕ) (hs : S512x2048.Slices ![0, o] S512x128) : FVec Ideal S512x128 .f32 := extractStridedSlice S512x128 ![0, o] Q hs
abbrev half (X : FVec Ideal S512x128 .f32) : FVec Ideal S512x128 .f32 := dynamicRotate 1 64#32 none X rotates_S512x128_d1

theorem piece_at (X : FVec Ideal S512x128 .f32) (a b : Fin 1) (r : Fin 512) (d : Fin 128) : piece X (ix4 a b r d) = X (ix2 r d) := by
  obtain rfl : a = 0 := Subsingleton.elim _ _
  obtain rfl : b = 0 := Subsingleton.elim _ _
  pointwise [piece]
theorem half_at (X : FVec Ideal S512x128 .f32) (r : Fin 512) (d : Fin 128) : half X (ix2 r d) = X (ix2 r ⟨(d.val + 128 - 64) % 128, by omega⟩) := by pointwise []
theorem cutQ_at (Q : FVec Ideal S512x1536 .f32) (o : ℕ) (hs : S512x1536.Slices ![0, o] S512x128) (r : Fin 512) (d : Fin 128) (ho : o + 128 ≤ 1536) :
    cutQ Q o hs (ix2 r d) = Q (ix2 r ⟨o + d.val, by omega⟩) := by pointwise []
theorem cutK_at (Q : FVec Ideal S512x2048 .f32) (o : ℕ) (hs : S512x2048.Slices ![0, o] S512x128) (r : Fin 512) (d : Fin 128) (ho : o + 128 ≤ 2048) :
    cutK Q o hs (ix2 r d) = Q (ix2 r ⟨o + d.val, by omega⟩) := by pointwise []

variable (R : ℕ) (hR : R ≤ 512) (Q : FVec Ideal S512x1536 .f32) (U : FVec Ideal S512x2048 .f32) (K C S : FVec Ideal S512x128 .f32)
  (hQ : ∀ (r : Fin 512) j, Q (ix2 r j) = qrow (row5 R hR r) j) (hU : ∀ (r : Fin 512) j, U (ix2 r j) = kvrow (row5 R hR r) j)
  (hK : ∀ (r : Fin 512) j, K (ix2 r j) = krow (row5 R hR r) j)
  (hC : ∀ (r : Fin 512) (l : Fin 128), C (ix2 r l) = c (row5 R hR r) (lane32 l))
  (hS : ∀ (r : Fin 512) (l : Fin 128), S (ix2 r l) = s (row5 R hR r) (lane32 l) * (if l.val % 64 < 32 then -1 else 1))
include hR

include hQ in
theorem qlo (o : ℕ) (hs : S512x1536.Slices ![0, o] S512x128) (h : Fin 8) (ho : o = h.val * 128) (a b : Fin 1) (r : Fin 512) (d : Fin 128) :
    piece (scaled (cutQ Q o hs)) (ix4 a b r d) = valQ qrow c s h (row5 R hR r) (low256 d) := by
  rw [piece_at]; refine Eq.trans ?_ (valQ_lo qrow c s h _ d).symm
  refine congrArg (· * qs) ((cutQ_at Q o hs r d (by omega)).trans ((hQ r _).trans (congrArg (qrow _) (Fin.ext (by dsimp only; omega)))))

include hQ hC hS in
theorem qhi (o : ℕ) (hs : S512x1536.Slices ![0, o] S512x128) (h : Fin 8) (ho : o = 1024 + h.val / 2 * 128) (a b : Fin 1) (r : Fin 512) (d : Fin 128) :
    piece (scaled (turn (cutQ Q o hs) C S)) (ix4 a b r d) = valQ qrow c s h (row5 R hR r) (high256 d) := by
  rw [piece_at]; refine Eq.trans ?_ (valQ_hi qrow c s h _ d).symm
  refine congrArg (· * qs) ((turn_at _ C S _ _ r d (hC r d) (hS r d)).trans ?_)
  refine congrArg (fun x => Mla.rope x _ _ _) (funext fun e => ?_)
  exact (cutQ_at Q o hs r _ (by omega)).trans ((hQ r _).trans (congrArg (qrow _) (Fin.ext (by dsimp only; omega))))

include hU in
theorem klo (o : ℕ) (hs : S512x2048.Slices ![0, o] S512x128) (h : Fin 8) (ho : o = h.val * 128) (a b : Fin 1) (r : Fin 512) (d : Fin 128) :
    piece (cutK U o hs) (ix4 a b r d) = valK kvrow krow c s h (row5 R hR r) (low256 d) := by
  rw [piece_at]; refine Eq.trans ?_ (valK_lo kvrow krow c s h _ d).symm
  exact (cutK_at U o hs r d (by omega)).trans ((hU r _).trans (congrArg (kvrow _) (Fin.ext (by dsimp only; omega))))

include hK hC hS in
theorem kturn (r : Fin 512) (d : Fin 128) : turn K C S (ix2 r d) = turned c s (krow (row5 R hR r)) (row5 R hR r) d :=
  (turn_at _ C S _ _ r d (hC r d) (hS r d)).trans (congrArg (fun x => Mla.rope x _ _ _) (funext fun e => hK r _))

include hK hC hS in
theorem keven (h : Fin 8) (hh : h.val % 2 = 0) (a b : Fin 1) (r : Fin 512) (d : Fin 128) :
    piece (turn K C S) (ix4 a b r d) = valK kvrow krow c s h (row5 R hR r) (high256 d) := by
  rw [piece_at]; refine Eq.trans ?_ (valK_hi kvrow krow c s h _ d).symm
  exact (kturn krow c s R hR K C S hK hC hS r d).trans (congrArg (turned c s _ _) (Fin.ext (by dsimp only; omega)))

include hK hC hS in
theorem kodd (h : Fin 8) (hh : h.val % 2 = 1) (a b : Fin 1) (r : Fin 512) (d : Fin 128) :
    piece (half (turn K C S)) (ix4 a b r d) = valK kvrow krow c s h (row5 R hR r) (high256 d) := by
  rw [piece_at]; refine Eq.trans ?_ (valK_hi kvrow krow c s h _ d).symm; rw [half_at]
  exact (kturn krow c s R hR K C S hK hC hS r _).trans (congrArg (turned c s _ _) (Fin.ext (by dsimp only; omega)))

include hU in
theorem vat (o : ℕ) (hs : S512x2048.Slices ![0, o] S512x128) (h : Fin 8) (ho : o = 1024 + h.val * 128) (a b : Fin 1) (r : Fin 512) (d : Fin 128) :
    piece (cutK U o hs) (ix4 a b r d) = valV kvrow h (row5 R hR r) d := by
  rw [piece_at, valV]
  exact (cutK_at U o hs r d (by omega)).trans ((hU r _).trans (congrArg (kvrow _) (Fin.ext (by dsimp only; omega))))

end values

/-- The projected rows of a chunk. -/
abbrev qmat (A : FVec Ideal S512x768 .bf16) (g : FVec Ideal S1x768 .f32) (W : FVec Ideal S768x1536 .bf16) : FVec Ideal S512x1536 .f32 := k0_pay17 (F := Ideal) A g W
abbrev kvmat (A : FVec Ideal S512x256 .bf16) (g : FVec Ideal S1x256 .f32) (W : FVec Ideal S256x2048 .bf16) : FVec Ideal S512x2048 .f32 := k0_pay103 (F := Ideal) A g W
def kmat (A : FVec Ideal S512x128 .bf16) : FVec Ideal S512x128 .f32 := extf .f32 A bitsLt_bf16_f32

theorem qmat_at (A : FVec Ideal S512x768 .bf16) (g : FVec Ideal S1x768 .f32) (W : FVec Ideal S768x1536 .bf16) (r : Fin 512) (j : Fin 1536) : qmat A g W (ix2 r j)
    = ∑ k : Fin 768, Mla.rms (Ideal.ofBits .f32 0x44400000#32) (fun k => A (ix2 r k)) (fun k => g (ix2 0 k)) k * W (ix2 k j) := by
  pointwise [qmat, k0_pay17, Mla.rms]
theorem kvmat_at (A : FVec Ideal S512x256 .bf16) (g : FVec Ideal S1x256 .f32) (W : FVec Ideal S256x2048 .bf16) (r : Fin 512) (j : Fin 2048) : kvmat A g W (ix2 r j)
    = ∑ k : Fin 256, Mla.rms (Ideal.ofBits .f32 0x43800000#32) (fun k => A (ix2 r k)) (fun k => g (ix2 0 k)) k * W (ix2 k j) := by
  pointwise [kvmat, k0_pay103, Mla.rms]
theorem kmat_at (A : FVec Ideal S512x128 .bf16) (r : Fin 512) (j : Fin 128) : kmat A (ix2 r j) = A (ix2 r j) := by
  pointwise [kmat]

end Cert.MlaProjIdeal.Out
end
-- ==== Proof.MlaBlock.lean ====
/- What the projections' scratch tables and output blocks hold. -/
module
public import proofs.«01_k».proof.Proof.MlaTile
@[expose] public section
set_option maxRecDepth 16384
noncomputable section
open Idealize.ShloMosaic Idealize.ShloMosaic.TcCoe Idealize.SL.Sem
namespace Cert.MlaProjIdeal.Out
open Cert.MlaProjIdeal Cert.MlaProjIdeal.Gen

abbrev ld16 {S : Shape} (x : FVec Ideal S .bf16) (r : Rect S) : FVec Ideal r.shape .bf16 := View.ld (Val := Elt Ideal) (e' := .bf16) x r
abbrev ld32 {S : Shape} (x : FVec Ideal S .f32) (r : Rect S) : FVec Ideal r.shape .f32 := View.ld (Val := Elt Ideal) (e' := .f32) x r

variable (x0 : FVec Ideal S1024x768 .bf16) (x1 : FVec Ideal S1024x256 .bf16) (x2 : FVec Ideal S1024x128 .bf16) (x3 x4 : FVec Ideal S1x256x128 .f32)
  (x5 : FVec Ideal S1x128 .f32) (x6 : FVec Ideal S1x768 .f32) (x7 : FVec Ideal S1x256 .f32) (x8 : FVec Ideal S768x1536 .bf16) (x9 : FVec Ideal S256x2048 .bf16)

/-- The halves of the blocks. -/
abbrev a0 : FVec Ideal S512x768 .bf16 := ld16 x0 (Rect.unit ![0, 0] ![512, 768] inb_S1024x768_S512x768_0_0)
abbrev a1 : FVec Ideal S512x768 .bf16 := ld16 x0 (Rect.unit ![512, 0] ![512, 768] inb_S1024x768_S512x768_512_0)
abbrev k0 : FVec Ideal S512x256 .bf16 := ld16 x1 (Rect.unit ![0, 0] ![512, 256] inb_S1024x256_S512x256_0_0)
abbrev k1 : FVec Ideal S512x256 .bf16 := ld16 x1 (Rect.unit ![512, 0] ![512, 256] inb_S1024x256_S512x256_512_0)
abbrev p0 : FVec Ideal S512x128 .bf16 := ld16 x2 (Rect.unit ![0, 0] ![512, 128] inb_S1024x128_S512x128_0_0)
abbrev p1 : FVec Ideal S512x128 .bf16 := ld16 x2 (Rect.unit ![512, 0] ![512, 128] inb_S1024x128_S512x128_512_0)
abbrev tc0 : FVec Ideal S1x128x128 .f32 := ld32 x3 (Rect.unit ![0, 0, 0] ![1, 128, 128] inb_S1x256x128_S1x128x128_0_0_0)
abbrev tc1 : FVec Ideal S1x128x128 .f32 := ld32 x3 (Rect.unit ![0, 128, 0] ![1, 128, 128] inb_S1x256x128_S1x128x128_0_128_0)
abbrev ts0 : FVec Ideal S1x128x128 .f32 := ld32 x4 (Rect.unit ![0, 0, 0] ![1, 128, 128] inb_S1x256x128_S1x128x128_0_0_0)
abbrev ts1 : FVec Ideal S1x128x128 .f32 := ld32 x4 (Rect.unit ![0, 128, 0] ![1, 128, 128] inb_S1x256x128_S1x128x128_0_128_0)
theorem a0_at (r : Fin 512) (j : Fin 768) : a0 x0 (ix2 r j) = x0 (ix2 (⟨0 + r.val, by omega⟩ : Fin 1024) j) := by
  refine congrArg x0 ?_; blk_ext [] <;> (rw [LoadRect.idx_apply]; simp)
theorem a1_at (r : Fin 512) (j : Fin 768) : a1 x0 (ix2 r j) = x0 (ix2 (⟨512 + r.val, by omega⟩ : Fin 1024) j) := by
  refine congrArg x0 ?_; blk_ext [] <;> (rw [LoadRect.idx_apply]; simp)
theorem k0_at (r : Fin 512) (j : Fin 256) : k0 x1 (ix2 r j) = x1 (ix2 (⟨0 + r.val, by omega⟩ : Fin 1024) j) := by
  refine congrArg x1 ?_; blk_ext [] <;> (rw [LoadRect.idx_apply]; simp)
theorem k1_at (r : Fin 512) (j : Fin 256) : k1 x1 (ix2 r j) = x1 (ix2 (⟨512 + r.val, by omega⟩ : Fin 1024) j) := by
  refine congrArg x1 ?_; blk_ext [] <;> (rw [LoadRect.idx_apply]; simp)
theorem p0_at (r : Fin 512) (j : Fin 128) : p0 x2 (ix2 r j) = x2 (ix2 (⟨0 + r.val, by omega⟩ : Fin 1024) j) := by
  refine congrArg x2 ?_; blk_ext [] <;> (rw [LoadRect.idx_apply]; simp)
theorem p1_at (r : Fin 512) (j : Fin 128) : p1 x2 (ix2 r j) = x2 (ix2 (⟨512 + r.val, by omega⟩ : Fin 1024) j) := by
  refine congrArg x2 ?_; blk_ext [] <;> (rw [LoadRect.idx_apply]; simp)
theorem tc0_at (r l : Fin 128) : tc0 x3 (ix3 0 r l) = x3 (ix3 0 (⟨0 + r.val, by omega⟩ : Fin 256) l) := by
  refine congrArg x3 ?_; blk_ext [] <;> (rw [LoadRect.idx_apply]; simp)
theorem tc1_at (r l : Fin 128) : tc1 x3 (ix3 0 r l) = x3 (ix3 0 (⟨128 + r.val, by omega⟩ : Fin 256) l) := by
  refine congrArg x3 ?_; blk_ext [] <;> (rw [LoadRect.idx_apply]; simp)
theorem ts0_at (r l : Fin 128) : ts0 x4 (ix3 0 r l) = x4 (ix3 0 (⟨0 + r.val, by omega⟩ : Fin 256) l) := by
  refine congrArg x4 ?_; blk_ext [] <;> (rw [LoadRect.idx_apply]; simp)
theorem ts1_at (r l : Fin 128) : ts1 x4 (ix3 0 r l) = x4 (ix3 0 (⟨128 + r.val, by omega⟩ : Fin 256) l) := by
  refine congrArg x4 ?_; blk_ext [] <;> (rw [LoadRect.idx_apply]; simp)

/-- The scratch tables as the chunks read them. -/
abbrev cosV : View sig .tc .vmem S512x128 .f32 := View.whole cc0_scratch0
abbrev sinV : View sig .tc .vmem S512x128 .f32 := View.whole cc0_scratch1
def cosT0 : FVec Ideal S512x128 .f32 := cosV.readCov (Val := Elt Ideal) [⟨{ off := ![3, 0], size := ![128, 128], stride := ![4, 1], inb := inb_S512x128_S128x128_3_0_s_4_1, stride_pos := spos_4_1 }, c3 (tc0 x3)⟩,
    ⟨{ off := ![2, 0], size := ![128, 128], stride := ![4, 1], inb := inb_S512x128_S128x128_2_0_s_4_1, stride_pos := spos_4_1 }, c2 (tc0 x3)⟩,
    ⟨{ off := ![1, 0], size := ![128, 128], stride := ![4, 1], inb := inb_S512x128_S128x128_1_0_s_4_1, stride_pos := spos_4_1 }, c1 (tc0 x3)⟩,
    ⟨{ off := ![0, 0], size := ![128, 128], stride := ![4, 1], inb := inb_S512x128_S128x128_0_0_s_4_1, stride_pos := spos_4_1 }, c0 (tc0 x3)⟩]
    (Rect.unit (s := S512x128) ![0, 0] S512x128.size inb_S512x128_S512x128_0_0).toLoadRect
def sinT0 : FVec Ideal S512x128 .f32 := sinV.readCov (Val := Elt Ideal) [⟨{ off := ![3, 0], size := ![128, 128], stride := ![4, 1], inb := inb_S512x128_S128x128_3_0_s_4_1, stride_pos := spos_4_1 }, s3 (ts0 x4) x5⟩,
    ⟨{ off := ![2, 0], size := ![128, 128], stride := ![4, 1], inb := inb_S512x128_S128x128_2_0_s_4_1, stride_pos := spos_4_1 }, s2 (ts0 x4) x5⟩,
    ⟨{ off := ![1, 0], size := ![128, 128], stride := ![4, 1], inb := inb_S512x128_S128x128_1_0_s_4_1, stride_pos := spos_4_1 }, s1 (ts0 x4) x5⟩,
    ⟨{ off := ![0, 0], size := ![128, 128], stride := ![4, 1], inb := inb_S512x128_S128x128_0_0_s_4_1, stride_pos := spos_4_1 }, s0 (ts0 x4) x5⟩]
    (Rect.unit (s := S512x128) ![0, 0] S512x128.size inb_S512x128_S512x128_0_0).toLoadRect
def cosT1 : FVec Ideal S512x128 .f32 := cosV.readCov (Val := Elt Ideal) [⟨{ off := ![3, 0], size := ![128, 128], stride := ![4, 1], inb := inb_S512x128_S128x128_3_0_s_4_1, stride_pos := spos_4_1 }, c3 (tc1 x3)⟩,
    ⟨{ off := ![2, 0], size := ![128, 128], stride := ![4, 1], inb := inb_S512x128_S128x128_2_0_s_4_1, stride_pos := spos_4_1 }, c2 (tc1 x3)⟩,
    ⟨{ off := ![1, 0], size := ![128, 128], stride := ![4, 1], inb := inb_S512x128_S128x128_1_0_s_4_1, stride_pos := spos_4_1 }, c1 (tc1 x3)⟩,
    ⟨{ off := ![0, 0], size := ![128, 128], stride := ![4, 1], inb := inb_S512x128_S128x128_0_0_s_4_1, stride_pos := spos_4_1 }, c0 (tc1 x3)⟩,
    ⟨{ off := ![3, 0], size := ![128, 128], stride := ![4, 1], inb := inb_S512x128_S128x128_3_0_s_4_1, stride_pos := spos_4_1 }, c3 (tc0 x3)⟩,
    ⟨{ off := ![2, 0], size := ![128, 128], stride := ![4, 1], inb := inb_S512x128_S128x128_2_0_s_4_1, stride_pos := spos_4_1 }, c2 (tc0 x3)⟩,
    ⟨{ off := ![1, 0], size := ![128, 128], stride := ![4, 1], inb := inb_S512x128_S128x128_1_0_s_4_1, stride_pos := spos_4_1 }, c1 (tc0 x3)⟩,
    ⟨{ off := ![0, 0], size := ![128, 128], stride := ![4, 1], inb := inb_S512x128_S128x128_0_0_s_4_1, stride_pos := spos_4_1 }, c0 (tc0 x3)⟩]
    (Rect.unit (s := S512x128) ![0, 0] S512x128.size inb_S512x128_S512x128_0_0).toLoadRect
def sinT1 : FVec Ideal S512x128 .f32 := sinV.readCov (Val := Elt Ideal) [⟨{ off := ![3, 0], size := ![128, 128], stride := ![4, 1], inb := inb_S512x128_S128x128_3_0_s_4_1, stride_pos := spos_4_1 }, s3 (ts1 x4) x5⟩,
    ⟨{ off := ![2, 0], size := ![128, 128], stride := ![4, 1], inb := inb_S512x128_S128x128_2_0_s_4_1, stride_pos := spos_4_1 }, s2 (ts1 x4) x5⟩,
    ⟨{ off := ![1, 0], size := ![128, 128], stride := ![4, 1], inb := inb_S512x128_S128x128_1_0_s_4_1, stride_pos := spos_4_1 }, s1 (ts1 x4) x5⟩,
    ⟨{ off := ![0, 0], size := ![128, 128], stride := ![4, 1], inb := inb_S512x128_S128x128_0_0_s_4_1, stride_pos := spos_4_1 }, s0 (ts1 x4) x5⟩,
    ⟨{ off := ![3, 0], size := ![128, 128], stride := ![4, 1], inb := inb_S512x128_S128x128_3_0_s_4_1, stride_pos := spos_4_1 }, s3 (ts0 x4) x5⟩,
    ⟨{ off := ![2, 0], size := ![128, 128], stride := ![4, 1], inb := inb_S512x128_S128x128_2_0_s_4_1, stride_pos := spos_4_1 }, s2 (ts0 x4) x5⟩,
    ⟨{ off := ![1, 0], size := ![128, 128], stride := ![4, 1], inb := inb_S512x128_S128x128_1_0_s_4_1, stride_pos := spos_4_1 }, s1 (ts0 x4) x5⟩,
    ⟨{ off := ![0, 0], size := ![128, 128], stride := ![4, 1], inb := inb_S512x128_S128x128_0_0_s_4_1, stride_pos := spos_4_1 }, s0 (ts0 x4) x5⟩]
    (Rect.unit (s := S512x128) ![0, 0] S512x128.size inb_S512x128_S512x128_0_0).toLoadRect

/-- A row's angles' entries in a packed table. -/
def ent (x : FVec Ideal S1x256x128 .f32) (r : Fin 1024) (e : Fin 32) : EReal := x (ix3 0 (⟨r.val / 4, by omega⟩ : Fin 256) (⟨r.val % 4 * 32 + e.val, by omega⟩ : Fin 128))

/-- A load at every fourth row: on its rows and off them. -/
theorem strip_hit (q : ℕ) (inb) (sp) (w : FVec Ideal S128x128 .f32) (L : List (View.Piece (Elt Ideal) S512x128 .f32)) (r : Fin 512) (l : Fin 128) (h : r.val % 4 = q) :
    View.canon (Val := Elt Ideal) (⟨{ off := ![q, 0], size := ![128, 128], stride := ![4, 1], inb := inb, stride_pos := sp }, w⟩ :: L) (ix2 r l) = w (ix2 (⟨r.val / 4, by omega⟩ : Fin 128) l) := by
  have e : (ix2 r l : S512x128.Idx) = ({ off := ![q, 0], size := ![128, 128], stride := ![4, 1], inb := inb, stride_pos := sp } : Rect S512x128).emb (ix2 (⟨r.val / 4, by omega⟩ : Fin 128) l) := by
    funext a
    refine Fin.ext ?_
    fin_cases a
    · change r.val = q + 4 * (r.val / 4); omega
    · change l.val = 0 + 1 * l.val; omega
  rw [e]
  exact View.canon_cons_emb _ _ _ _
theorem strip_miss (q : ℕ) (inb) (sp) (w : FVec Ideal S128x128 .f32) (L : List (View.Piece (Elt Ideal) S512x128 .f32)) (r : Fin 512) (l : Fin 128) (hq : q < 4) (h : r.val % 4 ≠ q) :
    View.canon (Val := Elt Ideal) (⟨{ off := ![q, 0], size := ![128, 128], stride := ![4, 1], inb := inb, stride_pos := sp }, w⟩ :: L) (ix2 r l) = View.canon (Val := Elt Ideal) L (ix2 r l) := by
  refine View.canon_cons_of_not_mem _ _ fun hm => ?_
  obtain ⟨j, _, e⟩ := (LoadRect.mem_set _).mp hm 0
  change r.val = q + 4 * j at e
  omega
/-- Four such loads cover the rows. -/
theorem strips (i0) (i1) (i2) (i3) (sp) (w0 w1 w2 w3 : FVec Ideal S128x128 .f32) (L : List (View.Piece (Elt Ideal) S512x128 .f32)) (r : Fin 512) (l : Fin 128) (v : EReal)
    (h0 : r.val % 4 = 0 → w0 (ix2 (⟨r.val / 4, by omega⟩ : Fin 128) l) = v) (h1 : r.val % 4 = 1 → w1 (ix2 (⟨r.val / 4, by omega⟩ : Fin 128) l) = v)
    (h2 : r.val % 4 = 2 → w2 (ix2 (⟨r.val / 4, by omega⟩ : Fin 128) l) = v) (h3 : r.val % 4 = 3 → w3 (ix2 (⟨r.val / 4, by omega⟩ : Fin 128) l) = v) :
    View.canon (Val := Elt Ideal) (⟨{ off := ![3, 0], size := ![128, 128], stride := ![4, 1], inb := i3, stride_pos := sp }, w3⟩
      :: ⟨{ off := ![2, 0], size := ![128, 128], stride := ![4, 1], inb := i2, stride_pos := sp }, w2⟩
      :: ⟨{ off := ![1, 0], size := ![128, 128], stride := ![4, 1], inb := i1, stride_pos := sp }, w1⟩
      :: ⟨{ off := ![0, 0], size := ![128, 128], stride := ![4, 1], inb := i0, stride_pos := sp }, w0⟩ :: L) (ix2 r l) = v := by
  by_cases e3 : r.val % 4 = 3
  · exact (strip_hit 3 i3 sp w3 _ r l e3).trans (h3 e3)
  refine (strip_miss 3 i3 sp w3 _ r l (by omega) e3).trans ?_
  by_cases e2 : r.val % 4 = 2
  · exact (strip_hit 2 i2 sp w2 _ r l e2).trans (h2 e2)
  refine (strip_miss 2 i2 sp w2 _ r l (by omega) e2).trans ?_
  by_cases e1 : r.val % 4 = 1
  · exact (strip_hit 1 i1 sp w1 _ r l e1).trans (h1 e1)
  refine (strip_miss 1 i1 sp w1 _ r l (by omega) e1).trans ?_
  have e0 : r.val % 4 = 0 := by omega
  exact (strip_hit 0 i0 sp w0 _ r l e0).trans (h0 e0)
theorem whole_idx (r : Fin 512) (l : Fin 128) :
    (Rect.unit (s := S512x128) ![0, 0] S512x128.size inb_S512x128_S512x128_0_0).toLoadRect.idx (ix2 r l) = (ix2 r l : S512x128.Idx) := by
  funext a
  refine Fin.ext ?_
  fin_cases a
  · change 0 + 1 * r.val = r.val; omega
  · change 0 + 1 * l.val = l.val; omega

theorem ent3 (x : FVec Ideal S1x256x128 .f32) {r r' : Fin 256} {l l' : Fin 128} (a : r.val = r'.val) (b : l.val = l'.val) : x (ix3 0 r l) = x (ix3 0 r' l') := by
  rw [Fin.ext a, Fin.ext b]
theorem cosT0_at (r : Fin 512) (l : Fin 128) : cosT0 x3 (ix2 r l) = ent x3 (⟨0 + r.val, by omega⟩ : Fin 1024) ⟨l.val % 32, by omega⟩ := by
  unfold cosT0 ent
  rw [View.readCov_eq_canon']
  refine (congrArg _ (whole_idx r l)).trans ?_
  apply strips
  · exact fun e => (c0_at _ _ l).trans ((tc0_at x3 _ _).trans (ent3 x3 (by dsimp only; omega) (by dsimp only; omega)))
  · exact fun e => (c1_at _ _ l).trans ((tc0_at x3 _ _).trans (ent3 x3 (by dsimp only; omega) (by dsimp only; omega)))
  · exact fun e => (c2_at _ _ l).trans ((tc0_at x3 _ _).trans (ent3 x3 (by dsimp only; omega) (by dsimp only; omega)))
  · exact fun e => (c3_at _ _ l).trans ((tc0_at x3 _ _).trans (ent3 x3 (by dsimp only; omega) (by dsimp only; omega)))
theorem sinT0_at (r : Fin 512) (l : Fin 128) : sinT0 x4 x5 (ix2 r l) = ent x4 (⟨0 + r.val, by omega⟩ : Fin 1024) ⟨l.val % 32, by omega⟩ * x5 (ix2 0 l) := by
  unfold sinT0 ent
  rw [View.readCov_eq_canon']
  refine (congrArg _ (whole_idx r l)).trans ?_
  apply strips
  · exact fun e => (s0_at _ _ _ l).trans (congrArg (· * x5 (ix2 0 l)) ((ts0_at x4 _ _).trans (ent3 x4 (by dsimp only; omega) (by dsimp only; omega))))
  · exact fun e => (s1_at _ _ _ l).trans (congrArg (· * x5 (ix2 0 l)) ((ts0_at x4 _ _).trans (ent3 x4 (by dsimp only; omega) (by dsimp only; omega))))
  · exact fun e => (s2_at _ _ _ l).trans (congrArg (· * x5 (ix2 0 l)) ((ts0_at x4 _ _).trans (ent3 x4 (by dsimp only; omega) (by dsimp only; omega))))
  · exact fun e => (s3_at _ _ _ l).trans (congrArg (· * x5 (ix2 0 l)) ((ts0_at x4 _ _).trans (ent3 x4 (by dsimp only; omega) (by dsimp only; omega))))
theorem cosT1_at (r : Fin 512) (l : Fin 128) : cosT1 x3 (ix2 r l) = ent x3 (⟨512 + r.val, by omega⟩ : Fin 1024) ⟨l.val % 32, by omega⟩ := by
  unfold cosT1 ent
  rw [View.readCov_eq_canon']
  refine (congrArg _ (whole_idx r l)).trans ?_
  apply strips
  · exact fun e => (c0_at _ _ l).trans ((tc1_at x3 _ _).trans (ent3 x3 (by dsimp only; omega) (by dsimp only; omega)))
  · exact fun e => (c1_at _ _ l).trans ((tc1_at x3 _ _).trans (ent3 x3 (by dsimp only; omega) (by dsimp only; omega)))
  · exact fun e => (c2_at _ _ l).trans ((tc1_at x3 _ _).trans (ent3 x3 (by dsimp only; omega) (by dsimp only; omega)))
  · exact fun e => (c3_at _ _ l).trans ((tc1_at x3 _ _).trans (ent3 x3 (by dsimp only; omega) (by dsimp only; omega)))
theorem sinT1_at (r : Fin 512) (l : Fin 128) : sinT1 x4 x5 (ix2 r l) = ent x4 (⟨512 + r.val, by omega⟩ : Fin 1024) ⟨l.val % 32, by omega⟩ * x5 (ix2 0 l) := by
  unfold sinT1 ent
  rw [View.readCov_eq_canon']
  refine (congrArg _ (whole_idx r l)).trans ?_
  apply strips
  · exact fun e => (s0_at _ _ _ l).trans (congrArg (· * x5 (ix2 0 l)) ((ts1_at x4 _ _).trans (ent3 x4 (by dsimp only; omega) (by dsimp only; omega))))
  · exact fun e => (s1_at _ _ _ l).trans (congrArg (· * x5 (ix2 0 l)) ((ts1_at x4 _ _).trans (ent3 x4 (by dsimp only; omega) (by dsimp only; omega))))
  · exact fun e => (s2_at _ _ _ l).trans (congrArg (· * x5 (ix2 0 l)) ((ts1_at x4 _ _).trans (ent3 x4 (by dsimp only; omega) (by dsimp only; omega))))
  · exact fun e => (s3_at _ _ _ l).trans (congrArg (· * x5 (ix2 0 l)) ((ts1_at x4 _ _).trans (ent3 x4 (by dsimp only; omega) (by dsimp only; omega))))

/-- The blocks' projected rows, of their normalised rows. -/
def qrow (r : Fin 1024) (j : Fin 1536) : EReal :=
  ∑ k : Fin 768, Mla.rms (Ideal.ofBits .f32 0x44400000#32) (fun k => x0 (ix2 r k)) (fun k => x6 (ix2 0 k)) k * x8 (ix2 k j)
def kvrow (r : Fin 1024) (j : Fin 2048) : EReal :=
  ∑ k : Fin 256, Mla.rms (Ideal.ofBits .f32 0x43800000#32) (fun k => x1 (ix2 r k)) (fun k => x7 (ix2 0 k)) k * x9 (ix2 k j)
def krow (r : Fin 1024) (j : Fin 128) : EReal := x2 (ix2 r j)

theorem hQ0 (r : Fin 512) (j : Fin 1536) : qmat (a0 x0) x6 x8 (ix2 r j) = qrow x0 x6 x8 (⟨0 + r.val, by omega⟩ : Fin 1024) j :=
  (qmat_at _ _ _ r j).trans (Finset.sum_congr rfl fun k _ => congrArg (fun x => Mla.rms _ x _ k * _) (funext fun k => a0_at x0 r k))
theorem hU0 (r : Fin 512) (j : Fin 2048) : kvmat (k0 x1) x7 x9 (ix2 r j) = kvrow x1 x7 x9 (⟨0 + r.val, by omega⟩ : Fin 1024) j :=
  (kvmat_at _ _ _ r j).trans (Finset.sum_congr rfl fun k _ => congrArg (fun x => Mla.rms _ x _ k * _) (funext fun k => k0_at x1 r k))
theorem hK0 (r : Fin 512) (j : Fin 128) : kmat (p0 x2) (ix2 r j) = krow x2 (⟨0 + r.val, by omega⟩ : Fin 1024) j :=
  (kmat_at _ r j).trans (p0_at x2 r j)
theorem hS0 (hg : ∀ l : Fin 128, x5 (ix2 0 l) = if l.val % 64 < 32 then -1 else 1) (r : Fin 512) (l : Fin 128) :
    sinT0 x4 x5 (ix2 r l) = ent x4 (⟨0 + r.val, by omega⟩ : Fin 1024) ⟨l.val % 32, by omega⟩ * (if l.val % 64 < 32 then -1 else 1) :=
  (sinT0_at x4 x5 r l).trans (congrArg (_ * ·) (hg l))
theorem hQ1 (r : Fin 512) (j : Fin 1536) : qmat (a1 x0) x6 x8 (ix2 r j) = qrow x0 x6 x8 (⟨512 + r.val, by omega⟩ : Fin 1024) j :=
  (qmat_at _ _ _ r j).trans (Finset.sum_congr rfl fun k _ => congrArg (fun x => Mla.rms _ x _ k * _) (funext fun k => a1_at x0 r k))
theorem hU1 (r : Fin 512) (j : Fin 2048) : kvmat (k1 x1) x7 x9 (ix2 r j) = kvrow x1 x7 x9 (⟨512 + r.val, by omega⟩ : Fin 1024) j :=
  (kvmat_at _ _ _ r j).trans (Finset.sum_congr rfl fun k _ => congrArg (fun x => Mla.rms _ x _ k * _) (funext fun k => k1_at x1 r k))
theorem hK1 (r : Fin 512) (j : Fin 128) : kmat (p1 x2) (ix2 r j) = krow x2 (⟨512 + r.val, by omega⟩ : Fin 1024) j :=
  (kmat_at _ r j).trans (p1_at x2 r j)
theorem hS1 (hg : ∀ l : Fin 128, x5 (ix2 0 l) = if l.val % 64 < 32 then -1 else 1) (r : Fin 512) (l : Fin 128) :
    sinT1 x4 x5 (ix2 r l) = ent x4 (⟨512 + r.val, by omega⟩ : Fin 1024) ⟨l.val % 32, by omega⟩ * (if l.val % 64 < 32 then -1 else 1) :=
  (sinT1_at x4 x5 r l).trans (congrArg (_ * ·) (hg l))

/-- The output block, piece by piece. -/
def blockQ : FVec Ideal S1x8x1024x256 .bf16 := View.canon (Val := Elt Ideal) (s := S1x8x1024x256) (e := .bf16) [
    ⟨Rect.unit ![0, 7, 512, 128] ![1, 1, 512, 128] inb_S1x8x1024x256_S1x1x512x128_0_7_512_128, piece (scaled (turn (cutQ (qmat (a1 x0) x6 x8) 1408 slices_S512x1536_o0_1408_S512x128) (cosT1 x3) (sinT1 x4 x5)))⟩,
    ⟨Rect.unit ![0, 7, 512, 0] ![1, 1, 512, 128] inb_S1x8x1024x256_S1x1x512x128_0_7_512_0, piece (scaled (cutQ (qmat (a1 x0) x6 x8) 896 slices_S512x1536_o0_896_S512x128))⟩,
    ⟨Rect.unit ![0, 6, 512, 128] ![1, 1, 512, 128] inb_S1x8x1024x256_S1x1x512x128_0_6_512_128, piece (scaled (turn (cutQ (qmat (a1 x0) x6 x8) 1408 slices_S512x1536_o0_1408_S512x128) (cosT1 x3) (sinT1 x4 x5)))⟩,
    ⟨Rect.unit ![0, 6, 512, 0] ![1, 1, 512, 128] inb_S1x8x1024x256_S1x1x512x128_0_6_512_0, piece (scaled (cutQ (qmat (a1 x0) x6 x8) 768 slices_S512x1536_o0_768_S512x128))⟩,
    ⟨Rect.unit ![0, 5, 512, 128] ![1, 1, 512, 128] inb_S1x8x1024x256_S1x1x512x128_0_5_512_128, piece (scaled (turn (cutQ (qmat (a1 x0) x6 x8) 1280 slices_S512x1536_o0_1280_S512x128) (cosT1 x3) (sinT1 x4 x5)))⟩,
    ⟨Rect.unit ![0, 5, 512, 0] ![1, 1, 512, 128] inb_S1x8x1024x256_S1x1x512x128_0_5_512_0, piece (scaled (cutQ (qmat (a1 x0) x6 x8) 640 slices_S512x1536_o0_640_S512x128))⟩,
    ⟨Rect.unit ![0, 4, 512, 128] ![1, 1, 512, 128] inb_S1x8x1024x256_S1x1x512x128_0_4_512_128, piece (scaled (turn (cutQ (qmat (a1 x0) x6 x8) 1280 slices_S512x1536_o0_1280_S512x128) (cosT1 x3) (sinT1 x4 x5)))⟩,
    ⟨Rect.unit ![0, 4, 512, 0] ![1, 1, 512, 128] inb_S1x8x1024x256_S1x1x512x128_0_4_512_0, piece (scaled (cutQ (qmat (a1 x0) x6 x8) 512 slices_S512x1536_o0_512_S512x128))⟩,
    ⟨Rect.unit ![0, 3, 512, 128] ![1, 1, 512, 128] inb_S1x8x1024x256_S1x1x512x128_0_3_512_128, piece (scaled (turn (cutQ (qmat (a1 x0) x6 x8) 1152 slices_S512x1536_o0_1152_S512x128) (cosT1 x3) (sinT1 x4 x5)))⟩,
    ⟨Rect.unit ![0, 3, 512, 0] ![1, 1, 512, 128] inb_S1x8x1024x256_S1x1x512x128_0_3_512_0, piece (scaled (cutQ (qmat (a1 x0) x6 x8) 384 slices_S512x1536_o0_384_S512x128))⟩,
    ⟨Rect.unit ![0, 2, 512, 128] ![1, 1, 512, 128] inb_S1x8x1024x256_S1x1x512x128_0_2_512_128, piece (scaled (turn (cutQ (qmat (a1 x0) x6 x8) 1152 slices_S512x1536_o0_1152_S512x128) (cosT1 x3) (sinT1 x4 x5)))⟩,
    ⟨Rect.unit ![0, 2, 512, 0] ![1, 1, 512, 128] inb_S1x8x1024x256_S1x1x512x128_0_2_512_0, piece (scaled (cutQ (qmat (a1 x0) x6 x8) 256 slices_S512x1536_o0_256_S512x128))⟩,
    ⟨Rect.unit ![0, 1, 512, 128] ![1, 1, 512, 128] inb_S1x8x1024x256_S1x1x512x128_0_1_512_128, piece (scaled (turn (cutQ (qmat (a1 x0) x6 x8) 1024 slices_S512x1536_o0_1024_S512x128) (cosT1 x3) (sinT1 x4 x5)))⟩,
    ⟨Rect.unit ![0, 1, 512, 0] ![1, 1, 512, 128] inb_S1x8x1024x256_S1x1x512x128_0_1_512_0, piece (scaled (cutQ (qmat (a1 x0) x6 x8) 128 slices_S512x1536_o0_128_S512x128))⟩,
    ⟨Rect.unit ![0, 0, 512, 128] ![1, 1, 512, 128] inb_S1x8x1024x256_S1x1x512x128_0_0_512_128, piece (scaled (turn (cutQ (qmat (a1 x0) x6 x8) 1024 slices_S512x1536_o0_1024_S512x128) (cosT1 x3) (sinT1 x4 x5)))⟩,
    ⟨Rect.unit ![0, 0, 512, 0] ![1, 1, 512, 128] inb_S1x8x1024x256_S1x1x512x128_0_0_512_0, piece (scaled (cutQ (qmat (a1 x0) x6 x8) 0 slices_S512x1536_o0_0_S512x128))⟩,
    ⟨Rect.unit ![0, 7, 0, 128] ![1, 1, 512, 128] inb_S1x8x1024x256_S1x1x512x128_0_7_0_128, piece (scaled (turn (cutQ (qmat (a0 x0) x6 x8) 1408 slices_S512x1536_o0_1408_S512x128) (cosT0 x3) (sinT0 x4 x5)))⟩,
    ⟨Rect.unit ![0, 7, 0, 0] ![1, 1, 512, 128] inb_S1x8x1024x256_S1x1x512x128_0_7_0_0, piece (scaled (cutQ (qmat (a0 x0) x6 x8) 896 slices_S512x1536_o0_896_S512x128))⟩,
    ⟨Rect.unit ![0, 6, 0, 128] ![1, 1, 512, 128] inb_S1x8x1024x256_S1x1x512x128_0_6_0_128, piece (scaled (turn (cutQ (qmat (a0 x0) x6 x8) 1408 slices_S512x1536_o0_1408_S512x128) (cosT0 x3) (sinT0 x4 x5)))⟩,
    ⟨Rect.unit ![0, 6, 0, 0] ![1, 1, 512, 128] inb_S1x8x1024x256_S1x1x512x128_0_6_0_0, piece (scaled (cutQ (qmat (a0 x0) x6 x8) 768 slices_S512x1536_o0_768_S512x128))⟩,
    ⟨Rect.unit ![0, 5, 0, 128] ![1, 1, 512, 128] inb_S1x8x1024x256_S1x1x512x128_0_5_0_128, piece (scaled (turn (cutQ (qmat (a0 x0) x6 x8) 1280 slices_S512x1536_o0_1280_S512x128) (cosT0 x3) (sinT0 x4 x5)))⟩,
    ⟨Rect.unit ![0, 5, 0, 0] ![1, 1, 512, 128] inb_S1x8x1024x256_S1x1x512x128_0_5_0_0, piece (scaled (cutQ (qmat (a0 x0) x6 x8) 640 slices_S512x1536_o0_640_S512x128))⟩,
    ⟨Rect.unit ![0, 4, 0, 128] ![1, 1, 512, 128] inb_S1x8x1024x256_S1x1x512x128_0_4_0_128, piece (scaled (turn (cutQ (qmat (a0 x0) x6 x8) 1280 slices_S512x1536_o0_1280_S512x128) (cosT0 x3) (sinT0 x4 x5)))⟩,
    ⟨Rect.unit ![0, 4, 0, 0] ![1, 1, 512, 128] inb_S1x8x1024x256_S1x1x512x128_0_4_0_0, piece (scaled (cutQ (qmat (a0 x0) x6 x8) 512 slices_S512x1536_o0_512_S512x128))⟩,
    ⟨Rect.unit ![0, 3, 0, 128] ![1, 1, 512, 128] inb_S1x8x1024x256_S1x1x512x128_0_3_0_128, piece (scaled (turn (cutQ (qmat (a0 x0) x6 x8) 1152 slices_S512x1536_o0_1152_S512x128) (cosT0 x3) (sinT0 x4 x5)))⟩,
    ⟨Rect.unit ![0, 3, 0, 0] ![1, 1, 512, 128] inb_S1x8x1024x256_S1x1x512x128_0_3_0_0, piece (scaled (cutQ (qmat (a0 x0) x6 x8) 384 slices_S512x1536_o0_384_S512x128))⟩,
    ⟨Rect.unit ![0, 2, 0, 128] ![1, 1, 512, 128] inb_S1x8x1024x256_S1x1x512x128_0_2_0_128, piece (scaled (turn (cutQ (qmat (a0 x0) x6 x8) 1152 slices_S512x1536_o0_1152_S512x128) (cosT0 x3) (sinT0 x4 x5)))⟩,
    ⟨Rect.unit ![0, 2, 0, 0] ![1, 1, 512, 128] inb_S1x8x1024x256_S1x1x512x128_0_2_0_0, piece (scaled (cutQ (qmat (a0 x0) x6 x8) 256 slices_S512x1536_o0_256_S512x128))⟩,
    ⟨Rect.unit ![0, 1, 0, 128] ![1, 1, 512, 128] inb_S1x8x1024x256_S1x1x512x128_0_1_0_128, piece (scaled (turn (cutQ (qmat (a0 x0) x6 x8) 1024 slices_S512x1536_o0_1024_S512x128) (cosT0 x3) (sinT0 x4 x5)))⟩,
    ⟨Rect.unit ![0, 1, 0, 0] ![1, 1, 512, 128] inb_S1x8x1024x256_S1x1x512x128_0_1_0_0, piece (scaled (cutQ (qmat (a0 x0) x6 x8) 128 slices_S512x1536_o0_128_S512x128))⟩,
    ⟨Rect.unit ![0, 0, 0, 128] ![1, 1, 512, 128] inb_S1x8x1024x256_S1x1x512x128_0_0_0_128, piece (scaled (turn (cutQ (qmat (a0 x0) x6 x8) 1024 slices_S512x1536_o0_1024_S512x128) (cosT0 x3) (sinT0 x4 x5)))⟩,
    ⟨Rect.unit ![0, 0, 0, 0] ![1, 1, 512, 128] inb_S1x8x1024x256_S1x1x512x128_0_0_0_0, piece (scaled (cutQ (qmat (a0 x0) x6 x8) 0 slices_S512x1536_o0_0_S512x128))⟩]

theorem blockQ_at (hg : ∀ l : Fin 128, x5 (ix2 0 l) = if l.val % 64 < 32 then -1 else 1) (h : Fin 8) (r : Fin 1024) (j : Fin 256) : blockQ x0 x3 x4 x5 x6 x8 (ix4 0 h r j) = valQ (qrow x0 x6 x8) (ent x3) (ent x4) h r j := by
  unfold blockQ
  canon_tiles y hy
  all_goals (
    idx_vars y
    change h.val = _ at hy1
    change r.val = _ at hy2
    change j.val = _ at hy3
    have hz : y1.val < 1 := y1.isLt)
  · exact (qhi (qrow x0 x6 x8) (ent x3) (ent x4) 512 (by omega) (qmat (a1 x0) x6 x8) (cosT1 x3) (sinT1 x4 x5) (hQ1 x0 x6 x8) (cosT1_at x3) (hS1 x4 x5 hg) 1408 slices_S512x1536_o0_1408_S512x128 7 rfl y0 y1 y2 y3).trans (at3 (valQ (qrow x0 x6 x8) (ent x3) (ent x4)) (by change h.val = 7; omega) (by change r.val = 512 + y2.val; omega) (by change j.val = 128 + y3.val; omega))
  · exact (qlo (qrow x0 x6 x8) (ent x3) (ent x4) 512 (by omega) (qmat (a1 x0) x6 x8) (hQ1 x0 x6 x8) 896 slices_S512x1536_o0_896_S512x128 7 rfl y0 y1 y2 y3).trans (at3 (valQ (qrow x0 x6 x8) (ent x3) (ent x4)) (by change h.val = 7; omega) (by change r.val = 512 + y2.val; omega) (by change j.val = y3.val; omega))
  · exact (qhi (qrow x0 x6 x8) (ent x3) (ent x4) 512 (by omega) (qmat (a1 x0) x6 x8) (cosT1 x3) (sinT1 x4 x5) (hQ1 x0 x6 x8) (cosT1_at x3) (hS1 x4 x5 hg) 1408 slices_S512x1536_o0_1408_S512x128 6 rfl y0 y1 y2 y3).trans (at3 (valQ (qrow x0 x6 x8) (ent x3) (ent x4)) (by change h.val = 6; omega) (by change r.val = 512 + y2.val; omega) (by change j.val = 128 + y3.val; omega))
  · exact (qlo (qrow x0 x6 x8) (ent x3) (ent x4) 512 (by omega) (qmat (a1 x0) x6 x8) (hQ1 x0 x6 x8) 768 slices_S512x1536_o0_768_S512x128 6 rfl y0 y1 y2 y3).trans (at3 (valQ (qrow x0 x6 x8) (ent x3) (ent x4)) (by change h.val = 6; omega) (by change r.val = 512 + y2.val; omega) (by change j.val = y3.val; omega))
  · exact (qhi (qrow x0 x6 x8) (ent x3) (ent x4) 512 (by omega) (qmat (a1 x0) x6 x8) (cosT1 x3) (sinT1 x4 x5) (hQ1 x0 x6 x8) (cosT1_at x3) (hS1 x4 x5 hg) 1280 slices_S512x1536_o0_1280_S512x128 5 rfl y0 y1 y2 y3).trans (at3 (valQ (qrow x0 x6 x8) (ent x3) (ent x4)) (by change h.val = 5; omega) (by change r.val = 512 + y2.val; omega) (by change j.val = 128 + y3.val; omega))
  · exact (qlo (qrow x0 x6 x8) (ent x3) (ent x4) 512 (by omega) (qmat (a1 x0) x6 x8) (hQ1 x0 x6 x8) 640 slices_S512x1536_o0_640_S512x128 5 rfl y0 y1 y2 y3).trans (at3 (valQ (qrow x0 x6 x8) (ent x3) (ent x4)) (by change h.val = 5; omega) (by change r.val = 512 + y2.val; omega) (by change j.val = y3.val; omega))
  · exact (qhi (qrow x0 x6 x8) (ent x3) (ent x4) 512 (by omega) (qmat (a1 x0) x6 x8) (cosT1 x3) (sinT1 x4 x5) (hQ1 x0 x6 x8) (cosT1_at x3) (hS1 x4 x5 hg) 1280 slices_S512x1536_o0_1280_S512x128 4 rfl y0 y1 y2 y3).trans (at3 (valQ (qrow x0 x6 x8) (ent x3) (ent x4)) (by change h.val = 4; omega) (by change r.val = 512 + y2.val; omega) (by change j.val = 128 + y3.val; omega))
  · exact (qlo (qrow x0 x6 x8) (ent x3) (ent x4) 512 (by omega) (qmat (a1 x0) x6 x8) (hQ1 x0 x6 x8) 512 slices_S512x1536_o0_512_S512x128 4 rfl y0 y1 y2 y3).trans (at3 (valQ (qrow x0 x6 x8) (ent x3) (ent x4)) (by change h.val = 4; omega) (by change r.val = 512 + y2.val; omega) (by change j.val = y3.val; omega))
  · exact (qhi (qrow x0 x6 x8) (ent x3) (ent x4) 512 (by omega) (qmat (a1 x0) x6 x8) (cosT1 x3) (sinT1 x4 x5) (hQ1 x0 x6 x8) (cosT1_at x3) (hS1 x4 x5 hg) 1152 slices_S512x1536_o0_1152_S512x128 3 rfl y0 y1 y2 y3).trans (at3 (valQ (qrow x0 x6 x8) (ent x3) (ent x4)) (by change h.val = 3; omega) (by change r.val = 512 + y2.val; omega) (by change j.val = 128 + y3.val; omega))
  · exact (qlo (qrow x0 x6 x8) (ent x3) (ent x4) 512 (by omega) (qmat (a1 x0) x6 x8) (hQ1 x0 x6 x8) 384 slices_S512x1536_o0_384_S512x128 3 rfl y0 y1 y2 y3).trans (at3 (valQ (qrow x0 x6 x8) (ent x3) (ent x4)) (by change h.val = 3; omega) (by change r.val = 512 + y2.val; omega) (by change j.val = y3.val; omega))
  · exact (qhi (qrow x0 x6 x8) (ent x3) (ent x4) 512 (by omega) (qmat (a1 x0) x6 x8) (cosT1 x3) (sinT1 x4 x5) (hQ1 x0 x6 x8) (cosT1_at x3) (hS1 x4 x5 hg) 1152 slices_S512x1536_o0_1152_S512x128 2 rfl y0 y1 y2 y3).trans (at3 (valQ (qrow x0 x6 x8) (ent x3) (ent x4)) (by change h.val = 2; omega) (by change r.val = 512 + y2.val; omega) (by change j.val = 128 + y3.val; omega))
  · exact (qlo (qrow x0 x6 x8) (ent x3) (ent x4) 512 (by omega) (qmat (a1 x0) x6 x8) (hQ1 x0 x6 x8) 256 slices_S512x1536_o0_256_S512x128 2 rfl y0 y1 y2 y3).trans (at3 (valQ (qrow x0 x6 x8) (ent x3) (ent x4)) (by change h.val = 2; omega) (by change r.val = 512 + y2.val; omega) (by change j.val = y3.val; omega))
  · exact (qhi (qrow x0 x6 x8) (ent x3) (ent x4) 512 (by omega) (qmat (a1 x0) x6 x8) (cosT1 x3) (sinT1 x4 x5) (hQ1 x0 x6 x8) (cosT1_at x3) (hS1 x4 x5 hg) 1024 slices_S512x1536_o0_1024_S512x128 1 rfl y0 y1 y2 y3).trans (at3 (valQ (qrow x0 x6 x8) (ent x3) (ent x4)) (by change h.val = 1; omega) (by change r.val = 512 + y2.val; omega) (by change j.val = 128 + y3.val; omega))
  · exact (qlo (qrow x0 x6 x8) (ent x3) (ent x4) 512 (by omega) (qmat (a1 x0) x6 x8) (hQ1 x0 x6 x8) 128 slices_S512x1536_o0_128_S512x128 1 rfl y0 y1 y2 y3).trans (at3 (valQ (qrow x0 x6 x8) (ent x3) (ent x4)) (by change h.val = 1; omega) (by change r.val = 512 + y2.val; omega) (by change j.val = y3.val; omega))
  · exact (qhi (qrow x0 x6 x8) (ent x3) (ent x4) 512 (by omega) (qmat (a1 x0) x6 x8) (cosT1 x3) (sinT1 x4 x5) (hQ1 x0 x6 x8) (cosT1_at x3) (hS1 x4 x5 hg) 1024 slices_S512x1536_o0_1024_S512x128 0 rfl y0 y1 y2 y3).trans (at3 (valQ (qrow x0 x6 x8) (ent x3) (ent x4)) (by change h.val = 0; omega) (by change r.val = 512 + y2.val; omega) (by change j.val = 128 + y3.val; omega))
  · exact (qlo (qrow x0 x6 x8) (ent x3) (ent x4) 512 (by omega) (qmat (a1 x0) x6 x8) (hQ1 x0 x6 x8) 0 slices_S512x1536_o0_0_S512x128 0 rfl y0 y1 y2 y3).trans (at3 (valQ (qrow x0 x6 x8) (ent x3) (ent x4)) (by change h.val = 0; omega) (by change r.val = 512 + y2.val; omega) (by change j.val = y3.val; omega))
  · exact (qhi (qrow x0 x6 x8) (ent x3) (ent x4) 0 (by omega) (qmat (a0 x0) x6 x8) (cosT0 x3) (sinT0 x4 x5) (hQ0 x0 x6 x8) (cosT0_at x3) (hS0 x4 x5 hg) 1408 slices_S512x1536_o0_1408_S512x128 7 rfl y0 y1 y2 y3).trans (at3 (valQ (qrow x0 x6 x8) (ent x3) (ent x4)) (by change h.val = 7; omega) (by change r.val = 0 + y2.val; omega) (by change j.val = 128 + y3.val; omega))
  · exact (qlo (qrow x0 x6 x8) (ent x3) (ent x4) 0 (by omega) (qmat (a0 x0) x6 x8) (hQ0 x0 x6 x8) 896 slices_S512x1536_o0_896_S512x128 7 rfl y0 y1 y2 y3).trans (at3 (valQ (qrow x0 x6 x8) (ent x3) (ent x4)) (by change h.val = 7; omega) (by change r.val = 0 + y2.val; omega) (by change j.val = y3.val; omega))
  · exact (qhi (qrow x0 x6 x8) (ent x3) (ent x4) 0 (by omega) (qmat (a0 x0) x6 x8) (cosT0 x3) (sinT0 x4 x5) (hQ0 x0 x6 x8) (cosT0_at x3) (hS0 x4 x5 hg) 1408 slices_S512x1536_o0_1408_S512x128 6 rfl y0 y1 y2 y3).trans (at3 (valQ (qrow x0 x6 x8) (ent x3) (ent x4)) (by change h.val = 6; omega) (by change r.val = 0 + y2.val; omega) (by change j.val = 128 + y3.val; omega))
  · exact (qlo (qrow x0 x6 x8) (ent x3) (ent x4) 0 (by omega) (qmat (a0 x0) x6 x8) (hQ0 x0 x6 x8) 768 slices_S512x1536_o0_768_S512x128 6 rfl y0 y1 y2 y3).trans (at3 (valQ (qrow x0 x6 x8) (ent x3) (ent x4)) (by change h.val = 6; omega) (by change r.val = 0 + y2.val; omega) (by change j.val = y3.val; omega))
  · exact (qhi (qrow x0 x6 x8) (ent x3) (ent x4) 0 (by omega) (qmat (a0 x0) x6 x8) (cosT0 x3) (sinT0 x4 x5) (hQ0 x0 x6 x8) (cosT0_at x3) (hS0 x4 x5 hg) 1280 slices_S512x1536_o0_1280_S512x128 5 rfl y0 y1 y2 y3).trans (at3 (valQ (qrow x0 x6 x8) (ent x3) (ent x4)) (by change h.val = 5; omega) (by change r.val = 0 + y2.val; omega) (by change j.val = 128 + y3.val; omega))
  · exact (qlo (qrow x0 x6 x8) (ent x3) (ent x4) 0 (by omega) (qmat (a0 x0) x6 x8) (hQ0 x0 x6 x8) 640 slices_S512x1536_o0_640_S512x128 5 rfl y0 y1 y2 y3).trans (at3 (valQ (qrow x0 x6 x8) (ent x3) (ent x4)) (by change h.val = 5; omega) (by change r.val = 0 + y2.val; omega) (by change j.val = y3.val; omega))
  · exact (qhi (qrow x0 x6 x8) (ent x3) (ent x4) 0 (by omega) (qmat (a0 x0) x6 x8) (cosT0 x3) (sinT0 x4 x5) (hQ0 x0 x6 x8) (cosT0_at x3) (hS0 x4 x5 hg) 1280 slices_S512x1536_o0_1280_S512x128 4 rfl y0 y1 y2 y3).trans (at3 (valQ (qrow x0 x6 x8) (ent x3) (ent x4)) (by change h.val = 4; omega) (by change r.val = 0 + y2.val; omega) (by change j.val = 128 + y3.val; omega))
  · exact (qlo (qrow x0 x6 x8) (ent x3) (ent x4) 0 (by omega) (qmat (a0 x0) x6 x8) (hQ0 x0 x6 x8) 512 slices_S512x1536_o0_512_S512x128 4 rfl y0 y1 y2 y3).trans (at3 (valQ (qrow x0 x6 x8) (ent x3) (ent x4)) (by change h.val = 4; omega) (by change r.val = 0 + y2.val; omega) (by change j.val = y3.val; omega))
  · exact (qhi (qrow x0 x6 x8) (ent x3) (ent x4) 0 (by omega) (qmat (a0 x0) x6 x8) (cosT0 x3) (sinT0 x4 x5) (hQ0 x0 x6 x8) (cosT0_at x3) (hS0 x4 x5 hg) 1152 slices_S512x1536_o0_1152_S512x128 3 rfl y0 y1 y2 y3).trans (at3 (valQ (qrow x0 x6 x8) (ent x3) (ent x4)) (by change h.val = 3; omega) (by change r.val = 0 + y2.val; omega) (by change j.val = 128 + y3.val; omega))
  · exact (qlo (qrow x0 x6 x8) (ent x3) (ent x4) 0 (by omega) (qmat (a0 x0) x6 x8) (hQ0 x0 x6 x8) 384 slices_S512x1536_o0_384_S512x128 3 rfl y0 y1 y2 y3).trans (at3 (valQ (qrow x0 x6 x8) (ent x3) (ent x4)) (by change h.val = 3; omega) (by change r.val = 0 + y2.val; omega) (by change j.val = y3.val; omega))
  · exact (qhi (qrow x0 x6 x8) (ent x3) (ent x4) 0 (by omega) (qmat (a0 x0) x6 x8) (cosT0 x3) (sinT0 x4 x5) (hQ0 x0 x6 x8) (cosT0_at x3) (hS0 x4 x5 hg) 1152 slices_S512x1536_o0_1152_S512x128 2 rfl y0 y1 y2 y3).trans (at3 (valQ (qrow x0 x6 x8) (ent x3) (ent x4)) (by change h.val = 2; omega) (by change r.val = 0 + y2.val; omega) (by change j.val = 128 + y3.val; omega))
  · exact (qlo (qrow x0 x6 x8) (ent x3) (ent x4) 0 (by omega) (qmat (a0 x0) x6 x8) (hQ0 x0 x6 x8) 256 slices_S512x1536_o0_256_S512x128 2 rfl y0 y1 y2 y3).trans (at3 (valQ (qrow x0 x6 x8) (ent x3) (ent x4)) (by change h.val = 2; omega) (by change r.val = 0 + y2.val; omega) (by change j.val = y3.val; omega))
  · exact (qhi (qrow x0 x6 x8) (ent x3) (ent x4) 0 (by omega) (qmat (a0 x0) x6 x8) (cosT0 x3) (sinT0 x4 x5) (hQ0 x0 x6 x8) (cosT0_at x3) (hS0 x4 x5 hg) 1024 slices_S512x1536_o0_1024_S512x128 1 rfl y0 y1 y2 y3).trans (at3 (valQ (qrow x0 x6 x8) (ent x3) (ent x4)) (by change h.val = 1; omega) (by change r.val = 0 + y2.val; omega) (by change j.val = 128 + y3.val; omega))
  · exact (qlo (qrow x0 x6 x8) (ent x3) (ent x4) 0 (by omega) (qmat (a0 x0) x6 x8) (hQ0 x0 x6 x8) 128 slices_S512x1536_o0_128_S512x128 1 rfl y0 y1 y2 y3).trans (at3 (valQ (qrow x0 x6 x8) (ent x3) (ent x4)) (by change h.val = 1; omega) (by change r.val = 0 + y2.val; omega) (by change j.val = y3.val; omega))
  · exact (qhi (qrow x0 x6 x8) (ent x3) (ent x4) 0 (by omega) (qmat (a0 x0) x6 x8) (cosT0 x3) (sinT0 x4 x5) (hQ0 x0 x6 x8) (cosT0_at x3) (hS0 x4 x5 hg) 1024 slices_S512x1536_o0_1024_S512x128 0 rfl y0 y1 y2 y3).trans (at3 (valQ (qrow x0 x6 x8) (ent x3) (ent x4)) (by change h.val = 0; omega) (by change r.val = 0 + y2.val; omega) (by change j.val = 128 + y3.val; omega))
  · exact (qlo (qrow x0 x6 x8) (ent x3) (ent x4) 0 (by omega) (qmat (a0 x0) x6 x8) (hQ0 x0 x6 x8) 0 slices_S512x1536_o0_0_S512x128 0 rfl y0 y1 y2 y3).trans (at3 (valQ (qrow x0 x6 x8) (ent x3) (ent x4)) (by change h.val = 0; omega) (by change r.val = 0 + y2.val; omega) (by change j.val = y3.val; omega))

/-- The output block, piece by piece. -/
def blockK : FVec Ideal S1x8x1024x256 .bf16 := View.canon (Val := Elt Ideal) (s := S1x8x1024x256) (e := .bf16) [
    ⟨Rect.unit ![0, 7, 512, 128] ![1, 1, 512, 128] inb_S1x8x1024x256_S1x1x512x128_0_7_512_128, piece (half (turn (kmat (p1 x2)) (cosT1 x3) (sinT1 x4 x5)))⟩,
    ⟨Rect.unit ![0, 7, 512, 0] ![1, 1, 512, 128] inb_S1x8x1024x256_S1x1x512x128_0_7_512_0, piece (cutK (kvmat (k1 x1) x7 x9) 896 slices_S512x2048_o0_896_S512x128)⟩,
    ⟨Rect.unit ![0, 6, 512, 128] ![1, 1, 512, 128] inb_S1x8x1024x256_S1x1x512x128_0_6_512_128, piece (turn (kmat (p1 x2)) (cosT1 x3) (sinT1 x4 x5))⟩,
    ⟨Rect.unit ![0, 6, 512, 0] ![1, 1, 512, 128] inb_S1x8x1024x256_S1x1x512x128_0_6_512_0, piece (cutK (kvmat (k1 x1) x7 x9) 768 slices_S512x2048_o0_768_S512x128)⟩,
    ⟨Rect.unit ![0, 5, 512, 128] ![1, 1, 512, 128] inb_S1x8x1024x256_S1x1x512x128_0_5_512_128, piece (half (turn (kmat (p1 x2)) (cosT1 x3) (sinT1 x4 x5)))⟩,
    ⟨Rect.unit ![0, 5, 512, 0] ![1, 1, 512, 128] inb_S1x8x1024x256_S1x1x512x128_0_5_512_0, piece (cutK (kvmat (k1 x1) x7 x9) 640 slices_S512x2048_o0_640_S512x128)⟩,
    ⟨Rect.unit ![0, 4, 512, 128] ![1, 1, 512, 128] inb_S1x8x1024x256_S1x1x512x128_0_4_512_128, piece (turn (kmat (p1 x2)) (cosT1 x3) (sinT1 x4 x5))⟩,
    ⟨Rect.unit ![0, 4, 512, 0] ![1, 1, 512, 128] inb_S1x8x1024x256_S1x1x512x128_0_4_512_0, piece (cutK (kvmat (k1 x1) x7 x9) 512 slices_S512x2048_o0_512_S512x128)⟩,
    ⟨Rect.unit ![0, 3, 512, 128] ![1, 1, 512, 128] inb_S1x8x1024x256_S1x1x512x128_0_3_512_128, piece (half (turn (kmat (p1 x2)) (cosT1 x3) (sinT1 x4 x5)))⟩,
    ⟨Rect.unit ![0, 3, 512, 0] ![1, 1, 512, 128] inb_S1x8x1024x256_S1x1x512x128_0_3_512_0, piece (cutK (kvmat (k1 x1) x7 x9) 384 slices_S512x2048_o0_384_S512x128)⟩,
    ⟨Rect.unit ![0, 2, 512, 128] ![1, 1, 512, 128] inb_S1x8x1024x256_S1x1x512x128_0_2_512_128, piece (turn (kmat (p1 x2)) (cosT1 x3) (sinT1 x4 x5))⟩,
    ⟨Rect.unit ![0, 2, 512, 0] ![1, 1, 512, 128] inb_S1x8x1024x256_S1x1x512x128_0_2_512_0, piece (cutK (kvmat (k1 x1) x7 x9) 256 slices_S512x2048_o0_256_S512x128)⟩,
    ⟨Rect.unit ![0, 1, 512, 128] ![1, 1, 512, 128] inb_S1x8x1024x256_S1x1x512x128_0_1_512_128, piece (half (turn (kmat (p1 x2)) (cosT1 x3) (sinT1 x4 x5)))⟩,
    ⟨Rect.unit ![0, 1, 512, 0] ![1, 1, 512, 128] inb_S1x8x1024x256_S1x1x512x128_0_1_512_0, piece (cutK (kvmat (k1 x1) x7 x9) 128 slices_S512x2048_o0_128_S512x128)⟩,
    ⟨Rect.unit ![0, 0, 512, 128] ![1, 1, 512, 128] inb_S1x8x1024x256_S1x1x512x128_0_0_512_128, piece (turn (kmat (p1 x2)) (cosT1 x3) (sinT1 x4 x5))⟩,
    ⟨Rect.unit ![0, 0, 512, 0] ![1, 1, 512, 128] inb_S1x8x1024x256_S1x1x512x128_0_0_512_0, piece (cutK (kvmat (k1 x1) x7 x9) 0 slices_S512x2048_o0_0_S512x128)⟩,
    ⟨Rect.unit ![0, 7, 0, 128] ![1, 1, 512, 128] inb_S1x8x1024x256_S1x1x512x128_0_7_0_128, piece (half (turn (kmat (p0 x2)) (cosT0 x3) (sinT0 x4 x5)))⟩,
    ⟨Rect.unit ![0, 7, 0, 0] ![1, 1, 512, 128] inb_S1x8x1024x256_S1x1x512x128_0_7_0_0, piece (cutK (kvmat (k0 x1) x7 x9) 896 slices_S512x2048_o0_896_S512x128)⟩,
    ⟨Rect.unit ![0, 6, 0, 128] ![1, 1, 512, 128] inb_S1x8x1024x256_S1x1x512x128_0_6_0_128, piece (turn (kmat (p0 x2)) (cosT0 x3) (sinT0 x4 x5))⟩,
    ⟨Rect.unit ![0, 6, 0, 0] ![1, 1, 512, 128] inb_S1x8x1024x256_S1x1x512x128_0_6_0_0, piece (cutK (kvmat (k0 x1) x7 x9) 768 slices_S512x2048_o0_768_S512x128)⟩,
    ⟨Rect.unit ![0, 5, 0, 128] ![1, 1, 512, 128] inb_S1x8x1024x256_S1x1x512x128_0_5_0_128, piece (half (turn (kmat (p0 x2)) (cosT0 x3) (sinT0 x4 x5)))⟩,
    ⟨Rect.unit ![0, 5, 0, 0] ![1, 1, 512, 128] inb_S1x8x1024x256_S1x1x512x128_0_5_0_0, piece (cutK (kvmat (k0 x1) x7 x9) 640 slices_S512x2048_o0_640_S512x128)⟩,
    ⟨Rect.unit ![0, 4, 0, 128] ![1, 1, 512, 128] inb_S1x8x1024x256_S1x1x512x128_0_4_0_128, piece (turn (kmat (p0 x2)) (cosT0 x3) (sinT0 x4 x5))⟩,
    ⟨Rect.unit ![0, 4, 0, 0] ![1, 1, 512, 128] inb_S1x8x1024x256_S1x1x512x128_0_4_0_0, piece (cutK (kvmat (k0 x1) x7 x9) 512 slices_S512x2048_o0_512_S512x128)⟩,
    ⟨Rect.unit ![0, 3, 0, 128] ![1, 1, 512, 128] inb_S1x8x1024x256_S1x1x512x128_0_3_0_128, piece (half (turn (kmat (p0 x2)) (cosT0 x3) (sinT0 x4 x5)))⟩,
    ⟨Rect.unit ![0, 3, 0, 0] ![1, 1, 512, 128] inb_S1x8x1024x256_S1x1x512x128_0_3_0_0, piece (cutK (kvmat (k0 x1) x7 x9) 384 slices_S512x2048_o0_384_S512x128)⟩,
    ⟨Rect.unit ![0, 2, 0, 128] ![1, 1, 512, 128] inb_S1x8x1024x256_S1x1x512x128_0_2_0_128, piece (turn (kmat (p0 x2)) (cosT0 x3) (sinT0 x4 x5))⟩,
    ⟨Rect.unit ![0, 2, 0, 0] ![1, 1, 512, 128] inb_S1x8x1024x256_S1x1x512x128_0_2_0_0, piece (cutK (kvmat (k0 x1) x7 x9) 256 slices_S512x2048_o0_256_S512x128)⟩,
    ⟨Rect.unit ![0, 1, 0, 128] ![1, 1, 512, 128] inb_S1x8x1024x256_S1x1x512x128_0_1_0_128, piece (half (turn (kmat (p0 x2)) (cosT0 x3) (sinT0 x4 x5)))⟩,
    ⟨Rect.unit ![0, 1, 0, 0] ![1, 1, 512, 128] inb_S1x8x1024x256_S1x1x512x128_0_1_0_0, piece (cutK (kvmat (k0 x1) x7 x9) 128 slices_S512x2048_o0_128_S512x128)⟩,
    ⟨Rect.unit ![0, 0, 0, 128] ![1, 1, 512, 128] inb_S1x8x1024x256_S1x1x512x128_0_0_0_128, piece (turn (kmat (p0 x2)) (cosT0 x3) (sinT0 x4 x5))⟩,
    ⟨Rect.unit ![0, 0, 0, 0] ![1, 1, 512, 128] inb_S1x8x1024x256_S1x1x512x128_0_0_0_0, piece (cutK (kvmat (k0 x1) x7 x9) 0 slices_S512x2048_o0_0_S512x128)⟩]

theorem blockK_at (hg : ∀ l : Fin 128, x5 (ix2 0 l) = if l.val % 64 < 32 then -1 else 1) (h : Fin 8) (r : Fin 1024) (j : Fin 256) : blockK x1 x2 x3 x4 x5 x7 x9 (ix4 0 h r j) = valK (kvrow x1 x7 x9) (krow x2) (ent x3) (ent x4) h r j := by
  unfold blockK
  canon_tiles y hy
  all_goals (
    idx_vars y
    change h.val = _ at hy1
    change r.val = _ at hy2
    change j.val = _ at hy3
    have hz : y1.val < 1 := y1.isLt)
  · exact (kodd (kvrow x1 x7 x9) (krow x2) (ent x3) (ent x4) 512 (by omega) (kmat (p1 x2)) (cosT1 x3) (sinT1 x4 x5) (hK1 x2) (cosT1_at x3) (hS1 x4 x5 hg) 7 rfl y0 y1 y2 y3).trans (at3 (valK (kvrow x1 x7 x9) (krow x2) (ent x3) (ent x4)) (by change h.val = 7; omega) (by change r.val = 512 + y2.val; omega) (by change j.val = 128 + y3.val; omega))
  · exact (klo (kvrow x1 x7 x9) (krow x2) (ent x3) (ent x4) 512 (by omega) (kvmat (k1 x1) x7 x9) (hU1 x1 x7 x9) 896 slices_S512x2048_o0_896_S512x128 7 rfl y0 y1 y2 y3).trans (at3 (valK (kvrow x1 x7 x9) (krow x2) (ent x3) (ent x4)) (by change h.val = 7; omega) (by change r.val = 512 + y2.val; omega) (by change j.val = y3.val; omega))
  · exact (keven (kvrow x1 x7 x9) (krow x2) (ent x3) (ent x4) 512 (by omega) (kmat (p1 x2)) (cosT1 x3) (sinT1 x4 x5) (hK1 x2) (cosT1_at x3) (hS1 x4 x5 hg) 6 rfl y0 y1 y2 y3).trans (at3 (valK (kvrow x1 x7 x9) (krow x2) (ent x3) (ent x4)) (by change h.val = 6; omega) (by change r.val = 512 + y2.val; omega) (by change j.val = 128 + y3.val; omega))
  · exact (klo (kvrow x1 x7 x9) (krow x2) (ent x3) (ent x4) 512 (by omega) (kvmat (k1 x1) x7 x9) (hU1 x1 x7 x9) 768 slices_S512x2048_o0_768_S512x128 6 rfl y0 y1 y2 y3).trans (at3 (valK (kvrow x1 x7 x9) (krow x2) (ent x3) (ent x4)) (by change h.val = 6; omega) (by change r.val = 512 + y2.val; omega) (by change j.val = y3.val; omega))
  · exact (kodd (kvrow x1 x7 x9) (krow x2) (ent x3) (ent x4) 512 (by omega) (kmat (p1 x2)) (cosT1 x3) (sinT1 x4 x5) (hK1 x2) (cosT1_at x3) (hS1 x4 x5 hg) 5 rfl y0 y1 y2 y3).trans (at3 (valK (kvrow x1 x7 x9) (krow x2) (ent x3) (ent x4)) (by change h.val = 5; omega) (by change r.val = 512 + y2.val; omega) (by change j.val = 128 + y3.val; omega))
  · exact (klo (kvrow x1 x7 x9) (krow x2) (ent x3) (ent x4) 512 (by omega) (kvmat (k1 x1) x7 x9) (hU1 x1 x7 x9) 640 slices_S512x2048_o0_640_S512x128 5 rfl y0 y1 y2 y3).trans (at3 (valK (kvrow x1 x7 x9) (krow x2) (ent x3) (ent x4)) (by change h.val = 5; omega) (by change r.val = 512 + y2.val; omega) (by change j.val = y3.val; omega))
  · exact (keven (kvrow x1 x7 x9) (krow x2) (ent x3) (ent x4) 512 (by omega) (kmat (p1 x2)) (cosT1 x3) (sinT1 x4 x5) (hK1 x2) (cosT1_at x3) (hS1 x4 x5 hg) 4 rfl y0 y1 y2 y3).trans (at3 (valK (kvrow x1 x7 x9) (krow x2) (ent x3) (ent x4)) (by change h.val = 4; omega) (by change r.val = 512 + y2.val; omega) (by change j.val = 128 + y3.val; omega))
  · exact (klo (kvrow x1 x7 x9) (krow x2) (ent x3) (ent x4) 512 (by omega) (kvmat (k1 x1) x7 x9) (hU1 x1 x7 x9) 512 slices_S512x2048_o0_512_S512x128 4 rfl y0 y1 y2 y3).trans (at3 (valK (kvrow x1 x7 x9) (krow x2) (ent x3) (ent x4)) (by change h.val = 4; omega) (by change r.val = 512 + y2.val; omega) (by change j.val = y3.val; omega))
  · exact (kodd (kvrow x1 x7 x9) (krow x2) (ent x3) (ent x4) 512 (by omega) (kmat (p1 x2)) (cosT1 x3) (sinT1 x4 x5) (hK1 x2) (cosT1_at x3) (hS1 x4 x5 hg) 3 rfl y0 y1 y2 y3).trans (at3 (valK (kvrow x1 x7 x9) (krow x2) (ent x3) (ent x4)) (by change h.val = 3; omega) (by change r.val = 512 + y2.val; omega) (by change j.val = 128 + y3.val; omega))
  · exact (klo (kvrow x1 x7 x9) (krow x2) (ent x3) (ent x4) 512 (by omega) (kvmat (k1 x1) x7 x9) (hU1 x1 x7 x9) 384 slices_S512x2048_o0_384_S512x128 3 rfl y0 y1 y2 y3).trans (at3 (valK (kvrow x1 x7 x9) (krow x2) (ent x3) (ent x4)) (by change h.val = 3; omega) (by change r.val = 512 + y2.val; omega) (by change j.val = y3.val; omega))
  · exact (keven (kvrow x1 x7 x9) (krow x2) (ent x3) (ent x4) 512 (by omega) (kmat (p1 x2)) (cosT1 x3) (sinT1 x4 x5) (hK1 x2) (cosT1_at x3) (hS1 x4 x5 hg) 2 rfl y0 y1 y2 y3).trans (at3 (valK (kvrow x1 x7 x9) (krow x2) (ent x3) (ent x4)) (by change h.val = 2; omega) (by change r.val = 512 + y2.val; omega) (by change j.val = 128 + y3.val; omega))
  · exact (klo (kvrow x1 x7 x9) (krow x2) (ent x3) (ent x4) 512 (by omega) (kvmat (k1 x1) x7 x9) (hU1 x1 x7 x9) 256 slices_S512x2048_o0_256_S512x128 2 rfl y0 y1 y2 y3).trans (at3 (valK (kvrow x1 x7 x9) (krow x2) (ent x3) (ent x4)) (by change h.val = 2; omega) (by change r.val = 512 + y2.val; omega) (by change j.val = y3.val; omega))
  · exact (kodd (kvrow x1 x7 x9) (krow x2) (ent x3) (ent x4) 512 (by omega) (kmat (p1 x2)) (cosT1 x3) (sinT1 x4 x5) (hK1 x2) (cosT1_at x3) (hS1 x4 x5 hg) 1 rfl y0 y1 y2 y3).trans (at3 (valK (kvrow x1 x7 x9) (krow x2) (ent x3) (ent x4)) (by change h.val = 1; omega) (by change r.val = 512 + y2.val; omega) (by change j.val = 128 + y3.val; omega))
  · exact (klo (kvrow x1 x7 x9) (krow x2) (ent x3) (ent x4) 512 (by omega) (kvmat (k1 x1) x7 x9) (hU1 x1 x7 x9) 128 slices_S512x2048_o0_128_S512x128 1 rfl y0 y1 y2 y3).trans (at3 (valK (kvrow x1 x7 x9) (krow x2) (ent x3) (ent x4)) (by change h.val = 1; omega) (by change r.val = 512 + y2.val; omega) (by change j.val = y3.val; omega))
  · exact (keven (kvrow x1 x7 x9) (krow x2) (ent x3) (ent x4) 512 (by omega) (kmat (p1 x2)) (cosT1 x3) (sinT1 x4 x5) (hK1 x2) (cosT1_at x3) (hS1 x4 x5 hg) 0 rfl y0 y1 y2 y3).trans (at3 (valK (kvrow x1 x7 x9) (krow x2) (ent x3) (ent x4)) (by change h.val = 0; omega) (by change r.val = 512 + y2.val; omega) (by change j.val = 128 + y3.val; omega))
  · exact (klo (kvrow x1 x7 x9) (krow x2) (ent x3) (ent x4) 512 (by omega) (kvmat (k1 x1) x7 x9) (hU1 x1 x7 x9) 0 slices_S512x2048_o0_0_S512x128 0 rfl y0 y1 y2 y3).trans (at3 (valK (kvrow x1 x7 x9) (krow x2) (ent x3) (ent x4)) (by change h.val = 0; omega) (by change r.val = 512 + y2.val; omega) (by change j.val = y3.val; omega))
  · exact (kodd (kvrow x1 x7 x9) (krow x2) (ent x3) (ent x4) 0 (by omega) (kmat (p0 x2)) (cosT0 x3) (sinT0 x4 x5) (hK0 x2) (cosT0_at x3) (hS0 x4 x5 hg) 7 rfl y0 y1 y2 y3).trans (at3 (valK (kvrow x1 x7 x9) (krow x2) (ent x3) (ent x4)) (by change h.val = 7; omega) (by change r.val = 0 + y2.val; omega) (by change j.val = 128 + y3.val; omega))
  · exact (klo (kvrow x1 x7 x9) (krow x2) (ent x3) (ent x4) 0 (by omega) (kvmat (k0 x1) x7 x9) (hU0 x1 x7 x9) 896 slices_S512x2048_o0_896_S512x128 7 rfl y0 y1 y2 y3).trans (at3 (valK (kvrow x1 x7 x9) (krow x2) (ent x3) (ent x4)) (by change h.val = 7; omega) (by change r.val = 0 + y2.val; omega) (by change j.val = y3.val; omega))
  · exact (keven (kvrow x1 x7 x9) (krow x2) (ent x3) (ent x4) 0 (by omega) (kmat (p0 x2)) (cosT0 x3) (sinT0 x4 x5) (hK0 x2) (cosT0_at x3) (hS0 x4 x5 hg) 6 rfl y0 y1 y2 y3).trans (at3 (valK (kvrow x1 x7 x9) (krow x2) (ent x3) (ent x4)) (by change h.val = 6; omega) (by change r.val = 0 + y2.val; omega) (by change j.val = 128 + y3.val; omega))
  · exact (klo (kvrow x1 x7 x9) (krow x2) (ent x3) (ent x4) 0 (by omega) (kvmat (k0 x1) x7 x9) (hU0 x1 x7 x9) 768 slices_S512x2048_o0_768_S512x128 6 rfl y0 y1 y2 y3).trans (at3 (valK (kvrow x1 x7 x9) (krow x2) (ent x3) (ent x4)) (by change h.val = 6; omega) (by change r.val = 0 + y2.val; omega) (by change j.val = y3.val; omega))
  · exact (kodd (kvrow x1 x7 x9) (krow x2) (ent x3) (ent x4) 0 (by omega) (kmat (p0 x2)) (cosT0 x3) (sinT0 x4 x5) (hK0 x2) (cosT0_at x3) (hS0 x4 x5 hg) 5 rfl y0 y1 y2 y3).trans (at3 (valK (kvrow x1 x7 x9) (krow x2) (ent x3) (ent x4)) (by change h.val = 5; omega) (by change r.val = 0 + y2.val; omega) (by change j.val = 128 + y3.val; omega))
  · exact (klo (kvrow x1 x7 x9) (krow x2) (ent x3) (ent x4) 0 (by omega) (kvmat (k0 x1) x7 x9) (hU0 x1 x7 x9) 640 slices_S512x2048_o0_640_S512x128 5 rfl y0 y1 y2 y3).trans (at3 (valK (kvrow x1 x7 x9) (krow x2) (ent x3) (ent x4)) (by change h.val = 5; omega) (by change r.val = 0 + y2.val; omega) (by change j.val = y3.val; omega))
  · exact (keven (kvrow x1 x7 x9) (krow x2) (ent x3) (ent x4) 0 (by omega) (kmat (p0 x2)) (cosT0 x3) (sinT0 x4 x5) (hK0 x2) (cosT0_at x3) (hS0 x4 x5 hg) 4 rfl y0 y1 y2 y3).trans (at3 (valK (kvrow x1 x7 x9) (krow x2) (ent x3) (ent x4)) (by change h.val = 4; omega) (by change r.val = 0 + y2.val; omega) (by change j.val = 128 + y3.val; omega))
  · exact (klo (kvrow x1 x7 x9) (krow x2) (ent x3) (ent x4) 0 (by omega) (kvmat (k0 x1) x7 x9) (hU0 x1 x7 x9) 512 slices_S512x2048_o0_512_S512x128 4 rfl y0 y1 y2 y3).trans (at3 (valK (kvrow x1 x7 x9) (krow x2) (ent x3) (ent x4)) (by change h.val = 4; omega) (by change r.val = 0 + y2.val; omega) (by change j.val = y3.val; omega))
  · exact (kodd (kvrow x1 x7 x9) (krow x2) (ent x3) (ent x4) 0 (by omega) (kmat (p0 x2)) (cosT0 x3) (sinT0 x4 x5) (hK0 x2) (cosT0_at x3) (hS0 x4 x5 hg) 3 rfl y0 y1 y2 y3).trans (at3 (valK (kvrow x1 x7 x9) (krow x2) (ent x3) (ent x4)) (by change h.val = 3; omega) (by change r.val = 0 + y2.val; omega) (by change j.val = 128 + y3.val; omega))
  · exact (klo (kvrow x1 x7 x9) (krow x2) (ent x3) (ent x4) 0 (by omega) (kvmat (k0 x1) x7 x9) (hU0 x1 x7 x9) 384 slices_S512x2048_o0_384_S512x128 3 rfl y0 y1 y2 y3).trans (at3 (valK (kvrow x1 x7 x9) (krow x2) (ent x3) (ent x4)) (by change h.val = 3; omega) (by change r.val = 0 + y2.val; omega) (by change j.val = y3.val; omega))
  · exact (keven (kvrow x1 x7 x9) (krow x2) (ent x3) (ent x4) 0 (by omega) (kmat (p0 x2)) (cosT0 x3) (sinT0 x4 x5) (hK0 x2) (cosT0_at x3) (hS0 x4 x5 hg) 2 rfl y0 y1 y2 y3).trans (at3 (valK (kvrow x1 x7 x9) (krow x2) (ent x3) (ent x4)) (by change h.val = 2; omega) (by change r.val = 0 + y2.val; omega) (by change j.val = 128 + y3.val; omega))
  · exact (klo (kvrow x1 x7 x9) (krow x2) (ent x3) (ent x4) 0 (by omega) (kvmat (k0 x1) x7 x9) (hU0 x1 x7 x9) 256 slices_S512x2048_o0_256_S512x128 2 rfl y0 y1 y2 y3).trans (at3 (valK (kvrow x1 x7 x9) (krow x2) (ent x3) (ent x4)) (by change h.val = 2; omega) (by change r.val = 0 + y2.val; omega) (by change j.val = y3.val; omega))
  · exact (kodd (kvrow x1 x7 x9) (krow x2) (ent x3) (ent x4) 0 (by omega) (kmat (p0 x2)) (cosT0 x3) (sinT0 x4 x5) (hK0 x2) (cosT0_at x3) (hS0 x4 x5 hg) 1 rfl y0 y1 y2 y3).trans (at3 (valK (kvrow x1 x7 x9) (krow x2) (ent x3) (ent x4)) (by change h.val = 1; omega) (by change r.val = 0 + y2.val; omega) (by change j.val = 128 + y3.val; omega))
  · exact (klo (kvrow x1 x7 x9) (krow x2) (ent x3) (ent x4) 0 (by omega) (kvmat (k0 x1) x7 x9) (hU0 x1 x7 x9) 128 slices_S512x2048_o0_128_S512x128 1 rfl y0 y1 y2 y3).trans (at3 (valK (kvrow x1 x7 x9) (krow x2) (ent x3) (ent x4)) (by change h.val = 1; omega) (by change r.val = 0 + y2.val; omega) (by change j.val = y3.val; omega))
  · exact (keven (kvrow x1 x7 x9) (krow x2) (ent x3) (ent x4) 0 (by omega) (kmat (p0 x2)) (cosT0 x3) (sinT0 x4 x5) (hK0 x2) (cosT0_at x3) (hS0 x4 x5 hg) 0 rfl y0 y1 y2 y3).trans (at3 (valK (kvrow x1 x7 x9) (krow x2) (ent x3) (ent x4)) (by change h.val = 0; omega) (by change r.val = 0 + y2.val; omega) (by change j.val = 128 + y3.val; omega))
  · exact (klo (kvrow x1 x7 x9) (krow x2) (ent x3) (ent x4) 0 (by omega) (kvmat (k0 x1) x7 x9) (hU0 x1 x7 x9) 0 slices_S512x2048_o0_0_S512x128 0 rfl y0 y1 y2 y3).trans (at3 (valK (kvrow x1 x7 x9) (krow x2) (ent x3) (ent x4)) (by change h.val = 0; omega) (by change r.val = 0 + y2.val; omega) (by change j.val = y3.val; omega))

/-- The output block, piece by piece. -/
def blockV : FVec Ideal S1x8x1024x128 .bf16 := View.canon (Val := Elt Ideal) (s := S1x8x1024x128) (e := .bf16) [
    ⟨Rect.unit ![0, 7, 512, 0] ![1, 1, 512, 128] inb_S1x8x1024x128_S1x1x512x128_0_7_512_0, piece (cutK (kvmat (k1 x1) x7 x9) 1920 slices_S512x2048_o0_1920_S512x128)⟩,
    ⟨Rect.unit ![0, 6, 512, 0] ![1, 1, 512, 128] inb_S1x8x1024x128_S1x1x512x128_0_6_512_0, piece (cutK (kvmat (k1 x1) x7 x9) 1792 slices_S512x2048_o0_1792_S512x128)⟩,
    ⟨Rect.unit ![0, 5, 512, 0] ![1, 1, 512, 128] inb_S1x8x1024x128_S1x1x512x128_0_5_512_0, piece (cutK (kvmat (k1 x1) x7 x9) 1664 slices_S512x2048_o0_1664_S512x128)⟩,
    ⟨Rect.unit ![0, 4, 512, 0] ![1, 1, 512, 128] inb_S1x8x1024x128_S1x1x512x128_0_4_512_0, piece (cutK (kvmat (k1 x1) x7 x9) 1536 slices_S512x2048_o0_1536_S512x128)⟩,
    ⟨Rect.unit ![0, 3, 512, 0] ![1, 1, 512, 128] inb_S1x8x1024x128_S1x1x512x128_0_3_512_0, piece (cutK (kvmat (k1 x1) x7 x9) 1408 slices_S512x2048_o0_1408_S512x128)⟩,
    ⟨Rect.unit ![0, 2, 512, 0] ![1, 1, 512, 128] inb_S1x8x1024x128_S1x1x512x128_0_2_512_0, piece (cutK (kvmat (k1 x1) x7 x9) 1280 slices_S512x2048_o0_1280_S512x128)⟩,
    ⟨Rect.unit ![0, 1, 512, 0] ![1, 1, 512, 128] inb_S1x8x1024x128_S1x1x512x128_0_1_512_0, piece (cutK (kvmat (k1 x1) x7 x9) 1152 slices_S512x2048_o0_1152_S512x128)⟩,
    ⟨Rect.unit ![0, 0, 512, 0] ![1, 1, 512, 128] inb_S1x8x1024x128_S1x1x512x128_0_0_512_0, piece (cutK (kvmat (k1 x1) x7 x9) 1024 slices_S512x2048_o0_1024_S512x128)⟩,
    ⟨Rect.unit ![0, 7, 0, 0] ![1, 1, 512, 128] inb_S1x8x1024x128_S1x1x512x128_0_7_0_0, piece (cutK (kvmat (k0 x1) x7 x9) 1920 slices_S512x2048_o0_1920_S512x128)⟩,
    ⟨Rect.unit ![0, 6, 0, 0] ![1, 1, 512, 128] inb_S1x8x1024x128_S1x1x512x128_0_6_0_0, piece (cutK (kvmat (k0 x1) x7 x9) 1792 slices_S512x2048_o0_1792_S512x128)⟩,
    ⟨Rect.unit ![0, 5, 0, 0] ![1, 1, 512, 128] inb_S1x8x1024x128_S1x1x512x128_0_5_0_0, piece (cutK (kvmat (k0 x1) x7 x9) 1664 slices_S512x2048_o0_1664_S512x128)⟩,
    ⟨Rect.unit ![0, 4, 0, 0] ![1, 1, 512, 128] inb_S1x8x1024x128_S1x1x512x128_0_4_0_0, piece (cutK (kvmat (k0 x1) x7 x9) 1536 slices_S512x2048_o0_1536_S512x128)⟩,
    ⟨Rect.unit ![0, 3, 0, 0] ![1, 1, 512, 128] inb_S1x8x1024x128_S1x1x512x128_0_3_0_0, piece (cutK (kvmat (k0 x1) x7 x9) 1408 slices_S512x2048_o0_1408_S512x128)⟩,
    ⟨Rect.unit ![0, 2, 0, 0] ![1, 1, 512, 128] inb_S1x8x1024x128_S1x1x512x128_0_2_0_0, piece (cutK (kvmat (k0 x1) x7 x9) 1280 slices_S512x2048_o0_1280_S512x128)⟩,
    ⟨Rect.unit ![0, 1, 0, 0] ![1, 1, 512, 128] inb_S1x8x1024x128_S1x1x512x128_0_1_0_0, piece (cutK (kvmat (k0 x1) x7 x9) 1152 slices_S512x2048_o0_1152_S512x128)⟩,
    ⟨Rect.unit ![0, 0, 0, 0] ![1, 1, 512, 128] inb_S1x8x1024x128_S1x1x512x128_0_0_0_0, piece (cutK (kvmat (k0 x1) x7 x9) 1024 slices_S512x2048_o0_1024_S512x128)⟩]

theorem blockV_at (h : Fin 8) (r : Fin 1024) (j : Fin 128) : blockV x1 x7 x9 (ix4 0 h r j) = valV (kvrow x1 x7 x9) h r j := by
  unfold blockV
  canon_tiles y hy
  all_goals (
    idx_vars y
    change h.val = _ at hy1
    change r.val = _ at hy2
    change j.val = _ at hy3
    have hz : y1.val < 1 := y1.isLt)
  · exact (vat (kvrow x1 x7 x9) 512 (by omega) (kvmat (k1 x1) x7 x9) (hU1 x1 x7 x9) 1920 slices_S512x2048_o0_1920_S512x128 7 rfl y0 y1 y2 y3).trans (at3 (valV (kvrow x1 x7 x9)) (by change h.val = 7; omega) (by change r.val = 512 + y2.val; omega) (by change j.val = y3.val; omega))
  · exact (vat (kvrow x1 x7 x9) 512 (by omega) (kvmat (k1 x1) x7 x9) (hU1 x1 x7 x9) 1792 slices_S512x2048_o0_1792_S512x128 6 rfl y0 y1 y2 y3).trans (at3 (valV (kvrow x1 x7 x9)) (by change h.val = 6; omega) (by change r.val = 512 + y2.val; omega) (by change j.val = y3.val; omega))
  · exact (vat (kvrow x1 x7 x9) 512 (by omega) (kvmat (k1 x1) x7 x9) (hU1 x1 x7 x9) 1664 slices_S512x2048_o0_1664_S512x128 5 rfl y0 y1 y2 y3).trans (at3 (valV (kvrow x1 x7 x9)) (by change h.val = 5; omega) (by change r.val = 512 + y2.val; omega) (by change j.val = y3.val; omega))
  · exact (vat (kvrow x1 x7 x9) 512 (by omega) (kvmat (k1 x1) x7 x9) (hU1 x1 x7 x9) 1536 slices_S512x2048_o0_1536_S512x128 4 rfl y0 y1 y2 y3).trans (at3 (valV (kvrow x1 x7 x9)) (by change h.val = 4; omega) (by change r.val = 512 + y2.val; omega) (by change j.val = y3.val; omega))
  · exact (vat (kvrow x1 x7 x9) 512 (by omega) (kvmat (k1 x1) x7 x9) (hU1 x1 x7 x9) 1408 slices_S512x2048_o0_1408_S512x128 3 rfl y0 y1 y2 y3).trans (at3 (valV (kvrow x1 x7 x9)) (by change h.val = 3; omega) (by change r.val = 512 + y2.val; omega) (by change j.val = y3.val; omega))
  · exact (vat (kvrow x1 x7 x9) 512 (by omega) (kvmat (k1 x1) x7 x9) (hU1 x1 x7 x9) 1280 slices_S512x2048_o0_1280_S512x128 2 rfl y0 y1 y2 y3).trans (at3 (valV (kvrow x1 x7 x9)) (by change h.val = 2; omega) (by change r.val = 512 + y2.val; omega) (by change j.val = y3.val; omega))
  · exact (vat (kvrow x1 x7 x9) 512 (by omega) (kvmat (k1 x1) x7 x9) (hU1 x1 x7 x9) 1152 slices_S512x2048_o0_1152_S512x128 1 rfl y0 y1 y2 y3).trans (at3 (valV (kvrow x1 x7 x9)) (by change h.val = 1; omega) (by change r.val = 512 + y2.val; omega) (by change j.val = y3.val; omega))
  · exact (vat (kvrow x1 x7 x9) 512 (by omega) (kvmat (k1 x1) x7 x9) (hU1 x1 x7 x9) 1024 slices_S512x2048_o0_1024_S512x128 0 rfl y0 y1 y2 y3).trans (at3 (valV (kvrow x1 x7 x9)) (by change h.val = 0; omega) (by change r.val = 512 + y2.val; omega) (by change j.val = y3.val; omega))
  · exact (vat (kvrow x1 x7 x9) 0 (by omega) (kvmat (k0 x1) x7 x9) (hU0 x1 x7 x9) 1920 slices_S512x2048_o0_1920_S512x128 7 rfl y0 y1 y2 y3).trans (at3 (valV (kvrow x1 x7 x9)) (by change h.val = 7; omega) (by change r.val = 0 + y2.val; omega) (by change j.val = y3.val; omega))
  · exact (vat (kvrow x1 x7 x9) 0 (by omega) (kvmat (k0 x1) x7 x9) (hU0 x1 x7 x9) 1792 slices_S512x2048_o0_1792_S512x128 6 rfl y0 y1 y2 y3).trans (at3 (valV (kvrow x1 x7 x9)) (by change h.val = 6; omega) (by change r.val = 0 + y2.val; omega) (by change j.val = y3.val; omega))
  · exact (vat (kvrow x1 x7 x9) 0 (by omega) (kvmat (k0 x1) x7 x9) (hU0 x1 x7 x9) 1664 slices_S512x2048_o0_1664_S512x128 5 rfl y0 y1 y2 y3).trans (at3 (valV (kvrow x1 x7 x9)) (by change h.val = 5; omega) (by change r.val = 0 + y2.val; omega) (by change j.val = y3.val; omega))
  · exact (vat (kvrow x1 x7 x9) 0 (by omega) (kvmat (k0 x1) x7 x9) (hU0 x1 x7 x9) 1536 slices_S512x2048_o0_1536_S512x128 4 rfl y0 y1 y2 y3).trans (at3 (valV (kvrow x1 x7 x9)) (by change h.val = 4; omega) (by change r.val = 0 + y2.val; omega) (by change j.val = y3.val; omega))
  · exact (vat (kvrow x1 x7 x9) 0 (by omega) (kvmat (k0 x1) x7 x9) (hU0 x1 x7 x9) 1408 slices_S512x2048_o0_1408_S512x128 3 rfl y0 y1 y2 y3).trans (at3 (valV (kvrow x1 x7 x9)) (by change h.val = 3; omega) (by change r.val = 0 + y2.val; omega) (by change j.val = y3.val; omega))
  · exact (vat (kvrow x1 x7 x9) 0 (by omega) (kvmat (k0 x1) x7 x9) (hU0 x1 x7 x9) 1280 slices_S512x2048_o0_1280_S512x128 2 rfl y0 y1 y2 y3).trans (at3 (valV (kvrow x1 x7 x9)) (by change h.val = 2; omega) (by change r.val = 0 + y2.val; omega) (by change j.val = y3.val; omega))
  · exact (vat (kvrow x1 x7 x9) 0 (by omega) (kvmat (k0 x1) x7 x9) (hU0 x1 x7 x9) 1152 slices_S512x2048_o0_1152_S512x128 1 rfl y0 y1 y2 y3).trans (at3 (valV (kvrow x1 x7 x9)) (by change h.val = 1; omega) (by change r.val = 0 + y2.val; omega) (by change j.val = y3.val; omega))
  · exact (vat (kvrow x1 x7 x9) 0 (by omega) (kvmat (k0 x1) x7 x9) (hU0 x1 x7 x9) 1024 slices_S512x2048_o0_1024_S512x128 0 rfl y0 y1 y2 y3).trans (at3 (valV (kvrow x1 x7 x9)) (by change h.val = 0; omega) (by change r.val = 0 + y2.val; omega) (by change j.val = y3.val; omega))
end Cert.MlaProjIdeal.Out
end
-- ==== Proof.MlaRef.lean ====
/- The reference of the attention's projections read at an index. -/
module
public import proofs.«01_k».proof.Proof.Gen.MlaProjRefIdeal.Run
public import proofs.«01_k».proof.Proof.Mla
public import Idealize.ShloMosaic.Lib.Pointwise
@[expose] public section
set_option maxRecDepth 16384
noncomputable section
open Idealize.ShloMosaic
namespace Cert.MlaProjRefIdeal.Out
open Cert.MlaProjRefIdeal Cert.MlaProjRefIdeal.Gen

variable (H : FVec Ideal S16384x3200 .bf16) (P : IVec S4x4096 32) (G : FVec Ideal S768 .f32) (W : FVec Ideal S768x1536 .f32)
  (K : FVec Ideal S256 .f32) (U : FVec Ideal S256x2048 .f32)
  (Q : FVec Ideal S4x4096x8x192 .f32) (V : FVec Ideal S4x4096x8x256 .f32) (C S : FVec Ideal S4x4096x32 .f32)
  (R : FVec Ideal S4x4096x8x64 .f32) (T : FVec Ideal S4x4096x64 .f32) (f : FVec Ideal S32 .f32)

/-- The frequencies. -/
def freq : FVec Ideal S32 .f32 :=
  Host.powf (broadcastInDim S32 ![] bcast_S_S32 (constant S_ .f32 0x461C4000#32)) (Host.divf (Host.negf (addf (broadcastInDim S32 ![] bcast_S_S32 (constant S_ .f32 0x00000000#32)) (mulf (broadcastInDim S32 ![] bcast_S_S32 (constant S_ .f32 0x40000000#32)) (sitofp .f32 (iotaInDim S32 32 0))))) (broadcastInDim S32 ![] bcast_S_S32 (constant S_ .f32 0x42800000#32)))

/-- The angles. -/
def angle : FVec Ideal S4x4096x32 .f32 :=
  mulf (broadcastInDim S4x4096x32 ![0, 1, 2] bcast_S4x4096x1_S4x4096x32_0_1_2 (broadcastInDim S4x4096x1 ![0, 1] bcast_S4x4096_S4x4096x1_0_1 (sitofp .f32 P))) (broadcastInDim S4x4096x32 ![0, 1, 2] bcast_S1x1x32_S4x4096x32_0_1_2 (broadcastInDim S1x1x32 ![2] bcast_S32_S1x1x32_2 f))

/-- The queries of every head. -/
def qall : FVec Ideal S4x4096x8x192 .f32 :=
  shapeCast _ (Host.dotGeneral dot_S16384x768_S768x1536_S16384x1536_1_0_0_1_n_n none (mulf (mulf (extractStridedSlice S16384x768 ![0, 0] (extf .f32 H bitsLt_bf16_f32) slices_S16384x3200_S16384x768_0_0) (broadcastInDim S16384x768 ![0, 1] bcast_S16384x1_S16384x768_0_1 (Host.rsqrt (addf (Host.divf (broadcastInDim S16384x1 ![0] bcast_S16384_S16384x1_0 (Host.reduceAdd (mulf (extractStridedSlice S16384x768 ![0, 0] (extf .f32 H bitsLt_bf16_f32) slices_S16384x3200_S16384x768_0_0) (extractStridedSlice S16384x768 ![0, 0] (extf .f32 H bitsLt_bf16_f32) slices_S16384x3200_S16384x768_0_0)) (constant S_ .f32 0x00000000#32) reducesTo_S16384x768_S16384_d1 h_S_)) (broadcastInDim S16384x1 ![] bcast_S_S16384x1 (constant S_ .f32 0x44400000#32))) (broadcastInDim S16384x1 ![] bcast_S_S16384x1 (constant S_ .f32 0x358637BD#32)))))) (broadcastInDim S16384x768 ![0, 1] bcast_S1x768_S16384x768_0_1 (broadcastInDim S1x768 ![1] bcast_S768_S1x768_1 G))) W) shapeCasts_S16384x1536_S4x4096x8x192

/-- The keys and values of every head. -/
def kvall : FVec Ideal S4x4096x8x256 .f32 :=
  shapeCast _ (Host.dotGeneral dot_S16384x256_S256x2048_S16384x2048_1_0_0_1_n_n none (mulf (mulf (extractStridedSlice S16384x256 ![0, 768] (extf .f32 H bitsLt_bf16_f32) slices_S16384x3200_S16384x256_0_768) (broadcastInDim S16384x256 ![0, 1] bcast_S16384x1_S16384x256_0_1 (Host.rsqrt (addf (Host.divf (broadcastInDim S16384x1 ![0] bcast_S16384_S16384x1_0 (Host.reduceAdd (mulf (extractStridedSlice S16384x256 ![0, 768] (extf .f32 H bitsLt_bf16_f32) slices_S16384x3200_S16384x256_0_768) (extractStridedSlice S16384x256 ![0, 768] (extf .f32 H bitsLt_bf16_f32) slices_S16384x3200_S16384x256_0_768)) (constant S_ .f32 0x00000000#32) reducesTo_S16384x256_S16384_d1 h_S_)) (broadcastInDim S16384x1 ![] bcast_S_S16384x1 (constant S_ .f32 0x43800000#32))) (broadcastInDim S16384x1 ![] bcast_S_S16384x1 (constant S_ .f32 0x358637BD#32)))))) (broadcastInDim S16384x256 ![0, 1] bcast_S1x256_S16384x256_0_1 (broadcastInDim S1x256 ![1] bcast_S256_S1x256_1 K))) U) shapeCasts_S16384x2048_S4x4096x8x256

/-- The rotary columns of the keys. -/
def kr : FVec Ideal S4x4096x64 .f32 :=
  shapeCast _ (extractStridedSlice S16384x64 ![0, 3072] (extf .f32 H bitsLt_bf16_f32) slices_S16384x3200_S16384x64_0_3072) shapeCasts_S16384x64_S4x4096x64

/-- The turned columns of the queries. -/
def qturn : FVec Ideal S4x4096x8x64 .f32 :=
  concatenate S4x4096x8x64 3 [⟨S4x4096x8x32, (subf (mulf (extractStridedSlice S4x4096x8x32 ![0, 0, 0, 0] R slices_S4x4096x8x64_S4x4096x8x32_0_0_0_0) (broadcastInDim S4x4096x8x32 ![0, 1, 2, 3] bcast_S4x4096x1x32_S4x4096x8x32_0_1_2_3 (broadcastInDim S4x4096x1x32 ![0, 1, 3] bcast_S4x4096x32_S4x4096x1x32_0_1_3 C))) (mulf (extractStridedSlice S4x4096x8x32 ![0, 0, 0, 32] R slices_S4x4096x8x64_S4x4096x8x32_0_0_0_32) (broadcastInDim S4x4096x8x32 ![0, 1, 2, 3] bcast_S4x4096x1x32_S4x4096x8x32_0_1_2_3 (broadcastInDim S4x4096x1x32 ![0, 1, 3] bcast_S4x4096x32_S4x4096x1x32_0_1_3 S))))⟩, ⟨S4x4096x8x32, (addf (mulf (extractStridedSlice S4x4096x8x32 ![0, 0, 0, 32] R slices_S4x4096x8x64_S4x4096x8x32_0_0_0_32) (broadcastInDim S4x4096x8x32 ![0, 1, 2, 3] bcast_S4x4096x1x32_S4x4096x8x32_0_1_2_3 (broadcastInDim S4x4096x1x32 ![0, 1, 3] bcast_S4x4096x32_S4x4096x1x32_0_1_3 C))) (mulf (extractStridedSlice S4x4096x8x32 ![0, 0, 0, 0] R slices_S4x4096x8x64_S4x4096x8x32_0_0_0_0) (broadcastInDim S4x4096x8x32 ![0, 1, 2, 3] bcast_S4x4096x1x32_S4x4096x8x32_0_1_2_3 (broadcastInDim S4x4096x1x32 ![0, 1, 3] bcast_S4x4096x32_S4x4096x1x32_0_1_3 S))))⟩] concatenates_S4x4096x8x32_S4x4096x8x32_S4x4096x8x64_d3

/-- The turned columns of a head and its neighbour, for each head. -/
def pair : FVec Ideal S4x4096x8x128 .f32 :=
  shapeCast _ (broadcastInDim S4x4096x4x2x128 ![0, 1, 2, 3, 4] bcast_S4x4096x4x1x128_S4x4096x4x2x128_0_1_2_3_4 (shapeCast S4x4096x4x1x128 R shapeCasts_S4x4096x8x64_S4x4096x4x1x128)) shapeCasts_S4x4096x4x2x128_S4x4096x8x128

/-- The queries, scaled. -/
def qout (X : FVec Ideal S4x4096x8x128 .f32) : FVec Ideal S4x8x4096x256 .bf16 :=
  truncf .bf16 (transpose S4x8x4096x256 [0, 2, 1, 3] (Host.divf (concatenate S4x4096x8x256 3 [⟨S4x4096x8x128, (extractStridedSlice S4x4096x8x128 ![0, 0, 0, 0] Q slices_S4x4096x8x192_S4x4096x8x128_0_0_0_0)⟩, ⟨S4x4096x8x128, X⟩] concatenates_S4x4096x8x128_S4x4096x8x128_S4x4096x8x256_d3) (broadcastInDim S4x4096x8x256 ![] bcast_S_S4x4096x8x256 (mulf (Host.sqrt (constant S_ .f32 0x43400000#32)) (Host.log (constant S_ .f32 0x40000000#32))))) transposes_S4x4096x8x256_S4x8x4096x256_0_2_1_3) bitsLt_bf16_f32

/-- The turned columns of the keys. -/
def kturn : FVec Ideal S4x4096x64 .f32 :=
  concatenate S4x4096x64 2 [⟨S4x4096x32, (subf (mulf (extractStridedSlice S4x4096x32 ![0, 0, 0] T slices_S4x4096x64_S4x4096x32_0_0_0) C) (mulf (extractStridedSlice S4x4096x32 ![0, 0, 32] T slices_S4x4096x64_S4x4096x32_0_0_32) S))⟩, ⟨S4x4096x32, (addf (mulf (extractStridedSlice S4x4096x32 ![0, 0, 32] T slices_S4x4096x64_S4x4096x32_0_0_32) C) (mulf (extractStridedSlice S4x4096x32 ![0, 0, 0] T slices_S4x4096x64_S4x4096x32_0_0_0) S))⟩] concatenates_S4x4096x32_S4x4096x32_S4x4096x64_d2

/-- The turned columns of the keys beside zeros, at the place of an even head and of an odd one. -/
def own : FVec Ideal S4x4096x2x128 .f32 :=
  concatenate S4x4096x2x128 2 [⟨S4x4096x1x128, (broadcastInDim S4x4096x1x128 ![0, 1, 3] bcast_S4x4096x128_S4x4096x1x128_0_1_3 (concatenate S4x4096x128 2 [⟨S4x4096x64, T⟩, ⟨S4x4096x64, (broadcastInDim S4x4096x64 ![] bcast_S_S4x4096x64 (constant S_ .f32 0x00000000#32))⟩] concatenates_S4x4096x64_S4x4096x64_S4x4096x128_d2))⟩, ⟨S4x4096x1x128, (broadcastInDim S4x4096x1x128 ![0, 1, 3] bcast_S4x4096x128_S4x4096x1x128_0_1_3 (concatenate S4x4096x128 2 [⟨S4x4096x64, (broadcastInDim S4x4096x64 ![] bcast_S_S4x4096x64 (constant S_ .f32 0x00000000#32))⟩, ⟨S4x4096x64, T⟩] concatenates_S4x4096x64_S4x4096x64_S4x4096x128_d2))⟩] concatenates_S4x4096x1x128_S4x4096x1x128_S4x4096x2x128_d2

/-- The keys. -/
def kout (X : FVec Ideal S4x4096x2x128 .f32) : FVec Ideal S4x8x4096x256 .bf16 :=
  truncf .bf16 (transpose S4x8x4096x256 [0, 2, 1, 3] (concatenate S4x4096x8x256 3 [⟨S4x4096x8x128, (extractStridedSlice S4x4096x8x128 ![0, 0, 0, 0] V slices_S4x4096x8x256_S4x4096x8x128_0_0_0_0)⟩, ⟨S4x4096x8x128, (shapeCast _ (broadcastInDim S4x4096x4x2x128 ![0, 1, 2, 3, 4] bcast_S4x4096x1x2x128_S4x4096x4x2x128_0_1_2_3_4 (broadcastInDim S4x4096x1x2x128 ![0, 1, 3, 4] bcast_S4x4096x2x128_S4x4096x1x2x128_0_1_3_4 X)) shapeCasts_S4x4096x4x2x128_S4x4096x8x128)⟩] concatenates_S4x4096x8x128_S4x4096x8x128_S4x4096x8x256_d3) transposes_S4x4096x8x256_S4x8x4096x256_0_2_1_3) bitsLt_bf16_f32

/-- The values. -/
def vout : FVec Ideal S4x8x4096x128 .bf16 :=
  truncf .bf16 (transpose S4x8x4096x128 [0, 2, 1, 3] (extractStridedSlice S4x4096x8x128 ![0, 0, 0, 128] V slices_S4x4096x8x256_S4x4096x8x128_0_0_0_128) transposes_S4x4096x8x128_S4x8x4096x128_0_2_1_3) bitsLt_bf16_f32

/-- The three results. -/
abbrev cosT : FVec Ideal S4x4096x32 .f32 := Host.cos (angle P freq)
abbrev sinT : FVec Ideal S4x4096x32 .f32 := Host.sin (angle P freq)
def outQ : FVec Ideal S4x8x4096x256 .bf16 :=
  qout (qall H G W) (pair (qturn (cosT P) (sinT P) (extractStridedSlice S4x4096x8x64 ![0, 0, 0, 128] (qall H G W) slices_S4x4096x8x192_S4x4096x8x64_0_0_0_128)))
def outK : FVec Ideal S4x8x4096x256 .bf16 := kout (kvall H K U) (own (kturn (cosT P) (sinT P) (kr H)))
def outV : FVec Ideal S4x8x4096x128 .bf16 := vout (kvall H K U)

theorem resQ (m : (ℓ : Loc nD τ sig) → Buf (Elt Ideal) ℓ) (c : Dev nD) : Value.res_main_v101 m c
    = outQ (m (c.tc.loc main_arg0)) (m (c.tc.loc main_arg1)) (m (c.tc.loc main_arg2)) (m (c.tc.loc main_arg3)) := rfl
theorem resK (m : (ℓ : Loc nD τ sig) → Buf (Elt Ideal) ℓ) (c : Dev nD) : Value.res_main_v103 m c
    = outK (m (c.tc.loc main_arg0)) (m (c.tc.loc main_arg1)) (m (c.tc.loc main_arg4)) (m (c.tc.loc main_arg5)) := rfl

/-- The rows the projections read. -/
abbrev cq (i : Fin 16384) (j : Fin 768) : EReal := H (ix2 i (⟨j.val, by omega⟩ : Fin 3200))
abbrev ckv (i : Fin 16384) (j : Fin 256) : EReal := H (ix2 i (⟨768 + j.val, by omega⟩ : Fin 3200))
abbrev krope (i : Fin 16384) (e : Fin 64) : EReal := H (ix2 i (⟨3072 + e.val, by omega⟩ : Fin 3200))

/-- An angle. -/
def ang (b : Fin 4) (s : Fin 4096) (e : Fin 32) : EReal := (sitofp .f32 P : FVec Ideal S4x4096 .f32) (ix2 b s) * freq (ix1 e)

theorem cos_at (b : Fin 4) (s : Fin 4096) (e : Fin 32) : cosT P (ix3 b s e) = Ideal.cos (ang P b s e) := by
  pointwise [cosT, angle, ang]
theorem sin_at (b : Fin 4) (s : Fin 4096) (e : Fin 32) : sinT P (ix3 b s e) = Ideal.sin (ang P b s e) := by
  pointwise [sinT, angle, ang]

theorem qall_at (b : Fin 4) (s : Fin 4096) (h : Fin 8) (j : Fin 192) : qall H G W (ix4 b s h j)
    = ∑ k : Fin 768, Mla.rms (Ideal.ofBits .f32 0x44400000#32) (cq H ⟨b.val * 4096 + s.val, by omega⟩) (fun k => G (ix1 k)) k
        * W (ix2 k (⟨h.val * 192 + j.val, by omega⟩ : Fin 1536)) := by
  pointwise [qall, Mla.rms]

theorem kvall_at (b : Fin 4) (s : Fin 4096) (h : Fin 8) (j : Fin 256) : kvall H K U (ix4 b s h j)
    = ∑ k : Fin 256, Mla.rms (Ideal.ofBits .f32 0x43800000#32) (ckv H ⟨b.val * 4096 + s.val, by omega⟩) (fun k => K (ix1 k)) k
        * U (ix2 k (⟨h.val * 256 + j.val, by omega⟩ : Fin 2048)) := by
  pointwise [kvall, Mla.rms]

theorem kr_at (b : Fin 4) (s : Fin 4096) (e : Fin 64) : kr H (ix3 b s e) = krope H ⟨b.val * 4096 + s.val, by omega⟩ e := by
  pointwise [kr]

theorem qturn_at (b : Fin 4) (s : Fin 4096) (h : Fin 8) (e : Fin 64) : qturn C S R (ix4 b s h e)
    = Mla.rope (fun e => R (ix4 b s h e)) (fun e => C (ix3 b s e)) (fun e => S (ix3 b s e)) e := by
  pointwise [qturn, Mla.rope]

theorem kturn_at (b : Fin 4) (s : Fin 4096) (e : Fin 64) : kturn C S T (ix3 b s e)
    = Mla.rope (fun e => T (ix3 b s e)) (fun e => C (ix3 b s e)) (fun e => S (ix3 b s e)) e := by
  pointwise [kturn, Mla.rope]

theorem pair_at (b : Fin 4) (s : Fin 4096) (h : Fin 8) (l : Fin 128) : pair R (ix4 b s h l)
    = R (ix4 b s (⟨h.val / 2 * 2 + l.val / 64, by omega⟩ : Fin 8) (⟨l.val % 64, by omega⟩ : Fin 64)) := by
  pointwise [pair]

/-- What the scores are divided by, in the queries. -/
def scale : EReal := Ideal.sqrt (Ideal.ofBits .f32 0x43400000#32) * Ideal.log (Ideal.ofBits .f32 0x40000000#32)

theorem qout_lo (X : FVec Ideal S4x4096x8x128 .f32) (b : Fin 4) (h : Fin 8) (s : Fin 4096) (d : Fin 128) :
    qout Q X (ix4 b h s (⟨d.val, by omega⟩ : Fin 256)) = Ideal.div (Q (ix4 b s h (⟨d.val, by omega⟩ : Fin 192))) scale := by
  pointwise [qout, scale]

theorem qout_hi (X : FVec Ideal S4x4096x8x128 .f32) (b : Fin 4) (h : Fin 8) (s : Fin 4096) (d : Fin 128) :
    qout Q X (ix4 b h s (⟨128 + d.val, by omega⟩ : Fin 256)) = Ideal.div (X (ix4 b s h d)) scale := by
  pointwise [qout, scale]

theorem qcols_at (b : Fin 4) (s : Fin 4096) (h : Fin 8) (e : Fin 64) :
    (extractStridedSlice S4x4096x8x64 ![0, 0, 0, 128] Q slices_S4x4096x8x192_S4x4096x8x64_0_0_0_128 : FVec Ideal S4x4096x8x64 .f32) (ix4 b s h e)
      = Q (ix4 b s h (⟨128 + e.val, by omega⟩ : Fin 192)) := by
  pointwise []

theorem own_at (b : Fin 4) (s : Fin 4096) (g : Fin 2) (l : Fin 128) : own T (ix4 b s g l)
    = if l.val / 64 = g.val then T (ix3 b s (⟨l.val % 64, by omega⟩ : Fin 64)) else 0 := by
  have key : own T (ix4 b s g l) = if h : g.val < 1 then if h : l.val < 64 then T (ix3 b s ⟨l.val, h⟩) else 0
      else if h : l.val < 64 then 0 else T (ix3 b s ⟨l.val - 64, by omega⟩) := by pointwise [own]
  rw [key]
  by_cases hg : g.val < 1 <;> by_cases hl : l.val < 64
  · rw [dif_pos hg, dif_pos hl, if_pos (by omega)]; exact congrArg (fun e => T (ix3 b s e)) (Fin.ext (by dsimp only; omega))
  · rw [dif_pos hg, dif_neg hl, if_neg (by omega)]
  · rw [dif_neg hg, dif_pos hl, if_neg (by omega)]
  · rw [dif_neg hg, dif_neg hl, if_pos (by omega)]; exact congrArg (fun e => T (ix3 b s e)) (Fin.ext (by dsimp only; omega))

theorem kout_lo (X : FVec Ideal S4x4096x2x128 .f32) (b : Fin 4) (h : Fin 8) (s : Fin 4096) (d : Fin 128) :
    kout V X (ix4 b h s (⟨d.val, by omega⟩ : Fin 256)) = V (ix4 b s h (⟨d.val, by omega⟩ : Fin 256)) := by
  pointwise [kout]

theorem kout_hi (X : FVec Ideal S4x4096x2x128 .f32) (b : Fin 4) (h : Fin 8) (s : Fin 4096) (d : Fin 128) :
    kout V X (ix4 b h s (⟨128 + d.val, by omega⟩ : Fin 256)) = X (ix4 b s (⟨h.val % 2, by omega⟩ : Fin 2) d) := by
  pointwise [kout]

theorem vout_at (b : Fin 4) (h : Fin 8) (s : Fin 4096) (d : Fin 128) :
    vout V (ix4 b h s d) = V (ix4 b s h (⟨128 + d.val, by omega⟩ : Fin 256)) := by
  pointwise [vout]

end Cert.MlaProjRefIdeal.Out
end
-- ==== Proof.MlaReads.lean ====
/- The blocks of the attention's projections, read from the arguments. -/
module
public import proofs.«01_k».proof.Proof.Gen.MlaProjIdeal.Value
public import proofs.«01_k».proof.Proof.MlaBlock
public import proofs.«01_k».proof.Proof.MlaRef
public import Idealize.ShloMosaic.Lib.Pipeline.ValueKit
@[expose] public section
set_option maxRecDepth 16384
noncomputable section
open Idealize.ShloMosaic Idealize.ShloMosaic.TcCoe Idealize.SL.Sem
namespace Cert.MlaProjIdeal.Out
open Cert.MlaProjIdeal Cert.MlaProjIdeal.Gen

variable (m : (ℓ : Loc nD τ sig) → Buf (Elt Ideal) ℓ)

theorem idx : ∀ t : Fin cfg0.N, win0_0.index t = ![t.val, 0] ∧ win0_1.index t = ![t.val, 3] ∧ win0_2.index t = ![t.val, 24] ∧ win0_3.index t = ![t.val / 4, t.val % 4, 0]
    ∧ win0_4.index t = ![t.val / 4, t.val % 4, 0] ∧ win0_5.index t = ![0, 0] ∧ win0_6.index t = ![0, 0] ∧ win0_7.index t = ![0, 0]
    ∧ win0_8.index t = ![0, 0] ∧ win0_9.index t = ![0, 0] ∧ win0_10.index t = ![t.val / 4, 0, t.val % 4, 0] ∧ win0_11.index t = ![t.val / 4, 0, t.val % 4, 0]
    ∧ win0_12.index t = ![t.val / 4, 0, t.val % 4, 0] :=
  (by decide +kernel : ∀ t : Fin grid0.N, _)

theorem lt16 : ∀ t : Fin cfg0.N, t.val < 16 := (by decide +kernel : ∀ t : Fin grid0.N, _)

/-- The arguments: the projected rows, the positions, and each projection's norm scale and weights. -/
abbrev Ha (c : Dev nD) : FVec Ideal S16384x3200 .bf16 := m ((c : Thread nD τ).loc main_arg0)
abbrev Pa (c : Dev nD) : IVec S4x4096 32 := m ((c : Thread nD τ).loc main_arg1)
abbrev Ga (c : Dev nD) : FVec Ideal S768 .f32 := m ((c : Thread nD τ).loc main_arg2)
abbrev Wa (c : Dev nD) : FVec Ideal S768x1536 .f32 := m ((c : Thread nD τ).loc main_arg3)
abbrev Ka (c : Dev nD) : FVec Ideal S256 .f32 := m ((c : Thread nD τ).loc main_arg4)
abbrev Ua (c : Dev nD) : FVec Ideal S256x2048 .f32 := m ((c : Thread nD τ).loc main_arg5)

/-- The array's row that holds row `r` of block `t`, its sequence and its place there. -/
abbrev at' (t : Fin cfg0.N) (r : Fin 1024) : Fin 16384 := ⟨t.val * 1024 + r.val, by have := lt16 t; omega⟩
abbrev bt (t : Fin cfg0.N) : Fin 4 := ⟨t.val / 4, by have := lt16 t; omega⟩
abbrev st (t : Fin cfg0.N) (r : Fin 1024) : Fin 4096 := ⟨t.val % 4 * 1024 + r.val, by omega⟩

theorem cq_blk (c : Dev nD) (t : Fin cfg0.N) (r : Fin 1024) (j : Fin 768) : X0_0 m c t (ix2 r j) = MlaProjRefIdeal.Out.cq (Ha m c) (at' t r) j := by
  unfold X0_0 Pipeline.Window.fill
  rw [dif_pos (moved0_0 t _)]
  blk_ext [iblk, V, idx t]

theorem ckv_blk (c : Dev nD) (t : Fin cfg0.N) (r : Fin 1024) (j : Fin 256) : X0_1 m c t (ix2 r j) = MlaProjRefIdeal.Out.ckv (Ha m c) (at' t r) j := by
  unfold X0_1 Pipeline.Window.fill
  rw [dif_pos (moved0_1 t _)]
  blk_ext [iblk, V, idx t]

theorem kr_blk (c : Dev nD) (t : Fin cfg0.N) (r : Fin 1024) (j : Fin 128) : iblk m c 2 t (ix2 r j) = Ha m c (ix2 (at' t r) (⟨3072 + j.val, by omega⟩ : Fin 3200)) := by
  blk_ext [iblk, V, idx t]

theorem g_blk (c : Dev nD) (t : Fin cfg0.N) (k : Fin 768) : iblk m c 6 t (ix2 0 k) = Ga m c (ix1 k) := by
  blk_point [iblk, V, idx t]

theorem k_blk (c : Dev nD) (t : Fin cfg0.N) (k : Fin 256) : iblk m c 7 t (ix2 0 k) = Ka m c (ix1 k) := by
  blk_point [iblk, V, idx t]

/-- The host's arrays the blocks are cut from. -/
def hostW (W : FVec Ideal S768x1536 .f32) : FVec Ideal S768x1536 .bf16 :=
  truncf .bf16 (concatenate S768x1536 1 [⟨S768x1024, shapeCast S768x1024 (extractStridedSlice S768x8x128 ![0, 0, 0] (shapeCast S768x8x192 W shapeCasts_S768x1536_S768x8x192) slices_S768x8x192_S768x8x128_0_0_0) shapeCasts_S768x8x128_S768x1024⟩,
    ⟨S768x512, shapeCast S768x512 (extractStridedSlice S768x8x64 ![0, 0, 128] (shapeCast S768x8x192 W shapeCasts_S768x1536_S768x8x192) slices_S768x8x192_S768x8x64_0_0_128) shapeCasts_S768x8x64_S768x512⟩] concatenates_S768x1024_S768x512_S768x1536_d1) bitsLt_bf16_f32
def hostU (U : FVec Ideal S256x2048 .f32) : FVec Ideal S256x2048 .bf16 :=
  truncf .bf16 (concatenate S256x2048 1 [⟨S256x1024, shapeCast S256x1024 (extractStridedSlice S256x8x128 ![0, 0, 0] (shapeCast S256x8x256 U shapeCasts_S256x2048_S256x8x256) slices_S256x8x256_S256x8x128_0_0_0) shapeCasts_S256x8x128_S256x1024⟩,
    ⟨S256x1024, shapeCast S256x1024 (extractStridedSlice S256x8x128 ![0, 0, 128] (shapeCast S256x8x256 U shapeCasts_S256x2048_S256x8x256) slices_S256x8x256_S256x8x128_0_0_128) shapeCasts_S256x8x128_S256x1024⟩] concatenates_S256x1024_S256x1024_S256x2048_d1) bitsLt_bf16_f32
def hostS : FVec Ideal S1x128 .f32 :=
  shapeCast S1x128 (shapeCast S128 (broadcastInDim S2x64 ![0, 1] bcast_S1x64_S2x64_0_1 (shapeCast S1x64 (concatenate S64 0 [⟨S32, Host.negf (broadcastInDim S32 ![] bcast_S_S32 (constant S_ .f32 0x3F800000#32))⟩,
    ⟨S32, broadcastInDim S32 ![] bcast_S_S32 (constant S_ .f32 0x3F800000#32)⟩] concatenates_S32_S32_S64_d0) shapeCasts_S64_S1x64)) shapeCasts_S2x64_S128) shapeCasts_S128_S1x128
def hostA (P : IVec S4x4096 32) (f : FVec Ideal S32 .f32) : FVec Ideal S4x1024x128 .f32 :=
  mulf (shapeCast S4x1024x128 (broadcastInDim S4x1024x4x32 ![0, 1, 2] bcast_S4x1024x4_S4x1024x4x32_0_1_2 (shapeCast S4x1024x4 (sitofp .f32 P) shapeCasts_S4x4096_S4x1024x4)) shapeCasts_S4x1024x4x32_S4x1024x128)
    (broadcastInDim S4x1024x128 ![0, 1, 2] bcast_S1x1x128_S4x1024x128_0_1_2 (broadcastInDim S1x1x128 ![2] bcast_S128_S1x1x128_2
      (shapeCast S128 (broadcastInDim S4x32 ![0, 1] bcast_S1x32_S4x32_0_1 (shapeCast S1x32 f shapeCasts_S32_S1x32)) shapeCasts_S4x32_S128)))

theorem V_w (c : Dev nD) : V m c main_v38 = hostW (Wa m c) := by entry_read <;> rfl
theorem V_u (c : Dev nD) : V m c main_v45 = hostU (Ua m c) := by entry_read <;> rfl
theorem V_s (c : Dev nD) : V m c main_v29 = hostS := by entry_read <;> rfl
theorem V_cos (c : Dev nD) : V m c main_v27 = Host.cos (hostA (Pa m c) MlaProjRefIdeal.Out.freq) := by entry_read <;> rfl
theorem V_sin (c : Dev nD) : V m c main_v28 = Host.sin (hostA (Pa m c) MlaProjRefIdeal.Out.freq) := by entry_read <;> rfl

theorem hostW_lo (W : FVec Ideal S768x1536 .f32) (k : Fin 768) (h : Fin 8) (d : Fin 128) :
    hostW W (ix2 k (⟨h.val * 128 + d.val, by omega⟩ : Fin 1536)) = W (ix2 k (⟨h.val * 192 + d.val, by omega⟩ : Fin 1536)) := by
  pointwise [hostW]
  exact dif_pos (by omega)
theorem hostW_hi (W : FVec Ideal S768x1536 .f32) (k : Fin 768) (h : Fin 8) (e : Fin 64) :
    hostW W (ix2 k (⟨1024 + (h.val * 64 + e.val), by omega⟩ : Fin 1536)) = W (ix2 k (⟨h.val * 192 + (128 + e.val), by omega⟩ : Fin 1536)) := by
  pointwise [hostW]
theorem hostU_lo (U : FVec Ideal S256x2048 .f32) (k : Fin 256) (h : Fin 8) (d : Fin 128) :
    hostU U (ix2 k (⟨h.val * 128 + d.val, by omega⟩ : Fin 2048)) = U (ix2 k (⟨h.val * 256 + d.val, by omega⟩ : Fin 2048)) := by
  pointwise [hostU]
  exact dif_pos (by omega)
theorem hostU_hi (U : FVec Ideal S256x2048 .f32) (k : Fin 256) (h : Fin 8) (d : Fin 128) :
    hostU U (ix2 k (⟨1024 + (h.val * 128 + d.val), by omega⟩ : Fin 2048)) = U (ix2 k (⟨h.val * 256 + (128 + d.val), by omega⟩ : Fin 2048)) := by
  pointwise [hostU]
theorem hostS_at (l : Fin 128) : hostS (ix2 0 l) = if l.val % 64 < 32 then (-1 : EReal) else 1 := by
  pointwise [hostS]
  by_cases h : l.val % 64 < 32
  · rw [dif_pos h, if_pos h]
  · rw [dif_neg h, if_neg h]
theorem hostA_at (P : IVec S4x4096 32) (f : FVec Ideal S32 .f32) (b : Fin 4) (a : Fin 1024) (q : Fin 4) (e : Fin 32) :
    hostA P f (ix3 b a (⟨q.val * 32 + e.val, by omega⟩ : Fin 128)) = (sitofp .f32 P : FVec Ideal S4x4096 .f32) (ix2 b (⟨a.val * 4 + q.val, by omega⟩ : Fin 4096)) * f (ix1 e) := by
  pointwise [hostA]

theorem b_w (c : Dev nD) (t : Fin cfg0.N) (k : Fin 768) (j : Fin 1536) : iblk m c 8 t (ix2 k j) = hostW (Wa m c) (ix2 k j) :=
  Eq.trans (congrArg (V m c main_v38) (by blk_ext [idx t])) (congrFun (V_w m c) _)
theorem b_u (c : Dev nD) (t : Fin cfg0.N) (k : Fin 256) (j : Fin 2048) : iblk m c 9 t (ix2 k j) = hostU (Ua m c) (ix2 k j) :=
  Eq.trans (congrArg (V m c main_v45) (by blk_ext [idx t])) (congrFun (V_u m c) _)
theorem b_s (c : Dev nD) (t : Fin cfg0.N) (l : Fin 128) : iblk m c 5 t (ix2 0 l) = hostS (ix2 0 l) :=
  Eq.trans (congrArg (V m c main_v29) (by blk_ext [idx t])) (congrFun (V_s m c) _)

theorem sgn_blk (c : Dev nD) (t : Fin cfg0.N) (l : Fin 128) : (iblk m c 5 t (ix2 0 l) : EReal) = if l.val % 64 < 32 then (-1 : EReal) else 1 :=
  (b_s m c t l).trans (hostS_at l)

theorem cos_blk (c : Dev nD) (t : Fin cfg0.N) (r : Fin 1024) (e : Fin 32) : ent (iblk m c 3 t) r e = Ideal.cos (MlaProjRefIdeal.Out.ang (Pa m c) (bt t) (st t r) e) := by
  have h : iblk m c 3 t (ix3 0 (⟨r.val / 4, by omega⟩ : Fin 256) (⟨r.val % 4 * 32 + e.val, by omega⟩ : Fin 128))
      = V m c main_v27 (ix3 (bt t) (⟨t.val % 4 * 256 + r.val / 4, by omega⟩ : Fin 1024) (⟨r.val % 4 * 32 + e.val, by omega⟩ : Fin 128)) :=
    congrArg (V m c main_v27) (by blk_ext [idx t])
  refine h.trans ((congrFun (V_cos m c) _).trans (congrArg Ideal.cos ?_))
  refine (hostA_at (Pa m c) _ (bt t) _ ⟨r.val % 4, by omega⟩ e).trans ?_
  exact congrArg (fun s => (sitofp .f32 (Pa m c) : FVec Ideal S4x4096 .f32) (ix2 (bt t) s) * _) (Fin.ext (by dsimp only; omega))

theorem sin_blk (c : Dev nD) (t : Fin cfg0.N) (r : Fin 1024) (e : Fin 32) : ent (iblk m c 4 t) r e = Ideal.sin (MlaProjRefIdeal.Out.ang (Pa m c) (bt t) (st t r) e) := by
  have h : iblk m c 4 t (ix3 0 (⟨r.val / 4, by omega⟩ : Fin 256) (⟨r.val % 4 * 32 + e.val, by omega⟩ : Fin 128))
      = V m c main_v28 (ix3 (bt t) (⟨t.val % 4 * 256 + r.val / 4, by omega⟩ : Fin 1024) (⟨r.val % 4 * 32 + e.val, by omega⟩ : Fin 128)) :=
    congrArg (V m c main_v28) (by blk_ext [idx t])
  refine h.trans ((congrFun (V_sin m c) _).trans (congrArg Ideal.sin ?_))
  refine (hostA_at (Pa m c) _ (bt t) _ ⟨r.val % 4, by omega⟩ e).trans ?_
  exact congrArg (fun s => (sitofp .f32 (Pa m c) : FVec Ideal S4x4096 .f32) (ix2 (bt t) s) * _) (Fin.ext (by dsimp only; omega))

end Cert.MlaProjIdeal.Out
end
-- ==== Proof.MlaOut.lean ====
/- The results of the attention's projections are the reference's. -/
module
public import proofs.«01_k».proof.Proof.MlaReads
@[expose] public section
set_option maxRecDepth 16384
noncomputable section
open Idealize.ShloMosaic Idealize.ShloMosaic.TcCoe Idealize.SL.Sem
namespace Cert.MlaProjIdeal.Out
open Cert.MlaProjIdeal Cert.MlaProjIdeal.Gen

/-- The pattern of one hundred and ninety-two. -/
theorem ofBits_192 : Ideal.ofBits .f32 0x43400000#32 = ((192 : ℝ) : EReal) := by
  simp [Ideal.ofBits, Ideal.ieee, -EReal.coe_mul]; norm_num

/-- The queries' scale is what the reference divides by. -/
theorem mul_qs (x : EReal) : x * qs = Ideal.div x MlaProjRefIdeal.Out.scale := by
  have hsq : Real.sqrt 192 ≠ 0 := (Real.sqrt_pos.mpr (by norm_num)).ne'
  have hlog : Real.log 2 ≠ 0 := (Real.log_pos (by norm_num)).ne'
  have hq : qs = (((Real.sqrt 192)⁻¹ * (Real.log 2)⁻¹ : ℝ) : EReal) := IdealRules.named_const.ideal_named_scalar _ _ _ _ rfl
  rw [hq, MlaProjRefIdeal.Out.scale, ofBits_192, Softmax.log_two, Ideal.sqrt_coe, if_neg (by norm_num), ← EReal.coe_mul, Ideal.div_coe (mul_ne_zero hsq hlog)]
  exact congrArg (fun y : ℝ => x * (y : EReal)) (by rw [one_div, mul_inv])

/-- The turn of a row of zeros. -/
theorem rope_zero (c s : Fin 32 → EReal) (e : Fin 64) : Mla.rope (fun _ => 0) c s e = 0 := by
  unfold Mla.rope
  by_cases h : e.val < 32
  · rw [dif_pos h, zero_mul, zero_mul, sub_zero]
  · rw [dif_neg h, zero_mul, zero_mul, add_zero]

variable (m : (ℓ : Loc nD τ sig) → Buf (Elt Ideal) ℓ)

abbrev Qr (c : Dev nD) : FVec Ideal MlaProjRefIdeal.S4x4096x8x192 .f32 := MlaProjRefIdeal.Out.qall (Ha m c) (Ga m c) (Wa m c)
abbrev Vr (c : Dev nD) : FVec Ideal MlaProjRefIdeal.S4x4096x8x256 .f32 := MlaProjRefIdeal.Out.kvall (Ha m c) (Ka m c) (Ua m c)
abbrev qr (c : Dev nD) (t : Fin cfg0.N) := qrow (X0_0 m c t) (iblk m c 6 t) (iblk m c 8 t)
abbrev vr (c : Dev nD) (t : Fin cfg0.N) := kvrow (X0_1 m c t) (iblk m c 7 t) (iblk m c 9 t)
abbrev kr (c : Dev nD) (t : Fin cfg0.N) := krow (iblk m c 2 t)

theorem q_lo (c : Dev nD) (t : Fin cfg0.N) (r : Fin 1024) (h : Fin 8) (d : Fin 128) :
    qr m c t r (⟨h.val * 128 + d.val, by omega⟩ : Fin 1536) = Qr m c (ix4 (bt t) (st t r) h (⟨d.val, by omega⟩ : Fin 192)) := by
  rw [Qr, MlaProjRefIdeal.Out.qall_at]
  unfold qr qrow
  have hi : at' t r = (⟨(bt t).val * 4096 + (st t r).val, by omega⟩ : Fin 16384) := Fin.ext (by dsimp only [at', bt, st]; omega)
  simp only [cq_blk, g_blk, b_w, hostW_lo, hi]

theorem q_hi (c : Dev nD) (t : Fin cfg0.N) (r : Fin 1024) (h : Fin 8) (e : Fin 64) :
    qr m c t r (⟨1024 + (h.val * 64 + e.val), by omega⟩ : Fin 1536) = Qr m c (ix4 (bt t) (st t r) h (⟨128 + e.val, by omega⟩ : Fin 192)) := by
  rw [Qr, MlaProjRefIdeal.Out.qall_at]
  unfold qr qrow
  have hi : at' t r = (⟨(bt t).val * 4096 + (st t r).val, by omega⟩ : Fin 16384) := Fin.ext (by dsimp only [at', bt, st]; omega)
  simp only [cq_blk, g_blk, b_w, hostW_hi, hi]

theorem v_lo (c : Dev nD) (t : Fin cfg0.N) (r : Fin 1024) (h : Fin 8) (d : Fin 128) :
    vr m c t r (⟨h.val * 128 + d.val, by omega⟩ : Fin 2048) = Vr m c (ix4 (bt t) (st t r) h (⟨d.val, by omega⟩ : Fin 256)) := by
  rw [Vr, MlaProjRefIdeal.Out.kvall_at]
  unfold vr kvrow
  have hi : at' t r = (⟨(bt t).val * 4096 + (st t r).val, by omega⟩ : Fin 16384) := Fin.ext (by dsimp only [at', bt, st]; omega)
  simp only [ckv_blk, k_blk, b_u, hostU_lo, hi]

theorem v_hi (c : Dev nD) (t : Fin cfg0.N) (r : Fin 1024) (h : Fin 8) (d : Fin 128) :
    vr m c t r (⟨1024 + (h.val * 128 + d.val), by omega⟩ : Fin 2048) = Vr m c (ix4 (bt t) (st t r) h (⟨128 + d.val, by omega⟩ : Fin 256)) := by
  rw [Vr, MlaProjRefIdeal.Out.kvall_at]
  unfold vr kvrow
  have hi : at' t r = (⟨(bt t).val * 4096 + (st t r).val, by omega⟩ : Fin 16384) := Fin.ext (by dsimp only [at', bt, st]; omega)
  simp only [ckv_blk, k_blk, b_u, hostU_hi, hi]

theorem cosrow (c : Dev nD) (t : Fin cfg0.N) (r : Fin 1024) : ent (iblk m c 3 t) r = fun e => MlaProjRefIdeal.Out.cosT (Pa m c) (ix3 (bt t) (st t r) e) :=
  funext fun e => (cos_blk m c t r e).trans (MlaProjRefIdeal.Out.cos_at _ _ _ _).symm
theorem sinrow (c : Dev nD) (t : Fin cfg0.N) (r : Fin 1024) : ent (iblk m c 4 t) r = fun e => MlaProjRefIdeal.Out.sinT (Pa m c) (ix3 (bt t) (st t r) e) :=
  funext fun e => (sin_blk m c t r e).trans (MlaProjRefIdeal.Out.sin_at _ _ _ _).symm

/-- The results the reference writes. -/
abbrev refQ (c : Dev nD) : FVec Ideal S4x8x4096x256 .bf16 := MlaProjRefIdeal.Out.outQ (Ha m c) (Pa m c) (Ga m c) (Wa m c)
abbrev refK (c : Dev nD) : FVec Ideal S4x8x4096x256 .bf16 := MlaProjRefIdeal.Out.outK (Ha m c) (Pa m c) (Ka m c) (Ua m c)
abbrev refV (c : Dev nD) : FVec Ideal S4x8x4096x128 .bf16 := MlaProjRefIdeal.Out.outV (Ha m c) (Ka m c) (Ua m c)

theorem pointQ_lo (c : Dev nD) (t : Fin cfg0.N) (h : Fin 8) (r : Fin 1024) (d : Fin 128) :
    valQ (qr m c t) (ent (iblk m c 3 t)) (ent (iblk m c 4 t)) h r (low256 d) = refQ m c (ix4 (bt t) h (st t r) (low256 d)) := by
  refine (valQ_lo _ _ _ h r d).trans ((mul_qs _).trans ?_)
  refine Eq.trans ?_ (MlaProjRefIdeal.Out.qout_lo _ _ (bt t) h (st t r) d).symm
  exact congrArg (Ideal.div · _) (q_lo m c t r h d)

theorem pointQ_hi (c : Dev nD) (t : Fin cfg0.N) (h : Fin 8) (r : Fin 1024) (d : Fin 128) :
    valQ (qr m c t) (ent (iblk m c 3 t)) (ent (iblk m c 4 t)) h r (high256 d) = refQ m c (ix4 (bt t) h (st t r) (high256 d)) := by
  refine (valQ_hi _ _ _ h r d).trans ((mul_qs _).trans ?_)
  refine Eq.trans ?_ (MlaProjRefIdeal.Out.qout_hi _ _ (bt t) h (st t r) d).symm
  refine congrArg (Ideal.div · _) (Eq.trans ?_ ((MlaProjRefIdeal.Out.pair_at _ _ _ _ _).trans (MlaProjRefIdeal.Out.qturn_at _ _ _ _ _ _ _)).symm)
  unfold turned
  rw [cosrow, sinrow]
  refine congrArg (fun x => Mla.rope x _ _ _) (funext fun e => ?_)
  refine Eq.trans ?_ (MlaProjRefIdeal.Out.qcols_at _ _ _ _ _).symm
  exact Eq.trans (congrArg (qr m c t r) (Fin.ext (by dsimp only; omega))) (q_hi m c t r (⟨h.val / 2 * 2 + d.val / 64, by omega⟩ : Fin 8) e)

theorem pointK_lo (c : Dev nD) (t : Fin cfg0.N) (h : Fin 8) (r : Fin 1024) (d : Fin 128) :
    valK (vr m c t) (kr m c t) (ent (iblk m c 3 t)) (ent (iblk m c 4 t)) h r (low256 d) = refK m c (ix4 (bt t) h (st t r) (low256 d)) := by
  refine (valK_lo _ _ _ _ h r d).trans ?_
  refine Eq.trans ?_ (MlaProjRefIdeal.Out.kout_lo _ _ (bt t) h (st t r) d).symm
  exact v_lo m c t r h d

theorem pointK_hi (c : Dev nD) (hz : ∀ (i : Fin 16384) (j : Fin 64), Ha m c (ix2 i (⟨3136 + j.val, by omega⟩ : Fin 3200)) = (0 : EReal))
    (t : Fin cfg0.N) (h : Fin 8) (r : Fin 1024) (d : Fin 128) :
    valK (vr m c t) (kr m c t) (ent (iblk m c 3 t)) (ent (iblk m c 4 t)) h r (high256 d) = refK m c (ix4 (bt t) h (st t r) (high256 d)) := by
  refine (valK_hi _ _ _ _ h r d).trans ?_
  refine Eq.trans ?_ (MlaProjRefIdeal.Out.kout_hi _ _ (bt t) h (st t r) d).symm
  refine Eq.trans ?_ (MlaProjRefIdeal.Out.own_at _ _ _ _ _).symm
  unfold turned
  rw [cosrow, sinrow]
  by_cases hd : d.val / 64 = h.val % 2
  · rw [if_pos hd, MlaProjRefIdeal.Out.kturn_at]
    refine congrArg₂ (fun x e => Mla.rope x _ _ e) (funext fun e => ?_) (Fin.ext (by dsimp only; omega))
    rw [MlaProjRefIdeal.Out.kr_at]
    refine (kr_blk m c t r _).trans ?_
    exact congrArg₂ (fun i j => Ha m c (ix2 i j)) (Fin.ext (by dsimp only [at', bt, st]; omega)) (Fin.ext (by dsimp only; omega))
  · rw [if_neg hd]
    refine Eq.trans (congrArg (fun x => Mla.rope x _ _ _) (funext fun e => ?_)) (rope_zero _ _ _)
    refine (kr_blk m c t r _).trans (Eq.trans ?_ (hz (at' t r) e))
    exact congrArg (fun j => Ha m c (ix2 (at' t r) j)) (Fin.ext (by dsimp only; omega))

theorem pointV (c : Dev nD) (t : Fin cfg0.N) (h : Fin 8) (r : Fin 1024) (d : Fin 128) :
    valV (vr m c t) h r d = refV m c (ix4 (bt t) h (st t r) d) := by
  refine Eq.trans ?_ (MlaProjRefIdeal.Out.vout_at _ (bt t) h (st t r) d).symm
  exact Eq.trans (congrArg (vr m c t r) (Fin.ext (by dsimp only; omega))) (v_hi m c t r h d)

/-- A statement of a head's two halves is one of all its columns. -/
theorem halves {f g : Fin 256 → EReal} (lo : ∀ d, f (low256 d) = g (low256 d)) (hi : ∀ d, f (high256 d) = g (high256 d)) (j : Fin 256) : f j = g j := by
  by_cases hj : j.val < 128
  · exact lo ⟨j.val, hj⟩
  · have e : j = high256 ⟨j.val - 128, by omega⟩ := Fin.ext (by dsimp only; omega)
    exact e ▸ hi _

theorem finalQ (c : Dev nD) : (dats m 0 c).arrAt 10 (cfgs 0).N = refQ m c := by
  refine (dats m 0 c).arrAt_eq_of_covers 10 _ (by decide +kernel) fun t _ y => ?_
  blk_simp
  rw [after0_10]
  unfold outsAt0
  frame_out
  refine Eq.trans (b := blockQ (X0_0 m c t) (iblk m c 3 t) (iblk m c 4 t) (iblk m c 5 t) (iblk m c 6 t) (iblk m c 8 t) y) rfl ?_
  idx_vars y
  obtain rfl : y0 = 0 := Subsingleton.elim _ _
  have he : ((cfg0.win 10).blk t).view.emb (ix4 0 y1 y2 y3) = ix4 (bt t) y1 (st t y2) y3 := by blk_ext [idx t]
  refine (blockQ_at _ _ _ _ _ _ (sgn_blk m c t) y1 y2 y3).trans (Eq.trans ?_ (congrArg (refQ m c) he.symm))
  exact halves (f := fun j => valQ (qr m c t) _ _ y1 y2 j) (g := fun j => refQ m c (ix4 (bt t) y1 (st t y2) j)) (pointQ_lo m c t y1 y2) (pointQ_hi m c t y1 y2) y3

theorem finalK (c : Dev nD) (hz : ∀ (i : Fin 16384) (j : Fin 64), Ha m c (ix2 i (⟨3136 + j.val, by omega⟩ : Fin 3200)) = (0 : EReal)) :
    (dats m 0 c).arrAt 11 (cfgs 0).N = refK m c := by
  refine (dats m 0 c).arrAt_eq_of_covers 11 _ (by decide +kernel) fun t _ y => ?_
  blk_simp
  rw [after0_11]
  unfold outsAt0
  frame_out
  refine Eq.trans (b := blockK (X0_1 m c t) (iblk m c 2 t) (iblk m c 3 t) (iblk m c 4 t) (iblk m c 5 t) (iblk m c 7 t) (iblk m c 9 t) y) rfl ?_
  idx_vars y
  obtain rfl : y0 = 0 := Subsingleton.elim _ _
  have he : ((cfg0.win 11).blk t).view.emb (ix4 0 y1 y2 y3) = ix4 (bt t) y1 (st t y2) y3 := by blk_ext [idx t]
  refine (blockK_at _ _ _ _ _ _ _ (sgn_blk m c t) y1 y2 y3).trans (Eq.trans ?_ (congrArg (refK m c) he.symm))
  exact halves (f := fun j => valK (vr m c t) (kr m c t) _ _ y1 y2 j) (g := fun j => refK m c (ix4 (bt t) y1 (st t y2) j)) (pointK_lo m c t y1 y2) (pointK_hi m c hz t y1 y2) y3

theorem finalV (c : Dev nD) : (dats m 0 c).arrAt 12 (cfgs 0).N = refV m c := by
  refine (dats m 0 c).arrAt_eq_of_covers 12 _ (by decide +kernel) fun t _ y => ?_
  blk_simp
  rw [after0_12]
  unfold outsAt0
  frame_out
  refine Eq.trans (b := blockV (X0_1 m c t) (iblk m c 7 t) (iblk m c 9 t) y) rfl ?_
  idx_vars y
  obtain rfl : y0 = 0 := Subsingleton.elim _ _
  have he : ((cfg0.win 12).blk t).view.emb (ix4 0 y1 y2 y3) = ix4 (bt t) y1 (st t y2) y3 := by blk_ext [idx t]
  exact (blockV_at _ _ _ y1 y2 y3).trans ((pointV m c t y1 y2 y3).trans (congrArg (refV m c) he.symm))

end Cert.MlaProjIdeal.Out
end
-- ==== Proof.Pre.lean ====
/- The precondition read: every query and every key is a real number, so every product of a query and a key is one. -/
module
public import proofs.«01_k».proof.Pre_finite_scores
public import proofs.«01_k».proof.Proof.Softmax
public import Idealize.ShloMosaic.Lib.Pointwise
public import Idealize.ShloMosaic.PureOps.Reduce
@[expose] public section
noncomputable section
open Idealize.ShloMosaic
namespace Cert.Pre_finite_scores

theorem facts : Facts where
  bitsLt_bf16_f32 := by decide
  bcast_S_S4x8x4096x256 := by decide
  reducesTo_S4x8x4096x256_S_d0_1_2_3 := by decide
  h_S_ := by decide

instance : Facts := facts

/-- A conjunction of bits is one only where every bit is one. -/
theorem fold_and_one {ι : Type*} (S : Finset ι) (f : ι → BitVec 1) (b : BitVec 1) (h : S.fold IntOp.andi b f = 1#1) :
    ∀ i ∈ S, f i = 1#1 := by
  classical
  have and_one : ∀ x y : BitVec 1, IntOp.andi x y = 1#1 → x = 1#1 ∧ y = 1#1 := by decide
  induction S using Finset.induction_on with
  | empty => simp
  | insert a S ha ih =>
    rw [Finset.fold_insert ha] at h
    obtain ⟨h1, h2⟩ := and_one _ _ h
    intro i hi
    rcases Finset.mem_insert.mp hi with rfl | hi
    · exact h1
    · exact ih h2 i hi

/-- The pattern of infinity. -/
theorem posInf : Ideal.ofBits FTy.f32 2139095040#32 = (⊤ : EReal) := by simp [Ideal.ofBits, Ideal.ieee]

/-- One argument's half of the precondition. -/
def half (x : FVec Ideal S4x8x4096x256 .bf16) : IVec S_ 1 :=
  Host.reduce IntOp.andi (cmpf .olt (Host.absf (extf .f32 x Facts.bitsLt_bf16_f32)) (broadcastInDim S4x8x4096x256 ![] Facts.bcast_S_S4x8x4096x256 (constant S_ .f32 0x7F800000#32)))
    (constantI S_ 1 1#1) Facts.reducesTo_S4x8x4096x256_S_d0_1_2_3 Facts.h_S_

theorem half_real (x : FVec Ideal S4x8x4096x256 .bf16) (h : half x ix0 = 1#1) (i : S4x8x4096x256.Idx) : ∃ r : ℝ, x i = (r : EReal) := by
  unfold half at h
  rw [Host.reduce_eq_fold] at h
  have h1 := fold_and_one _ _ _ h i (by
    rw [Finset.mem_filter]; exact ⟨Finset.mem_univ _, funext fun a => Fin.elim0 a⟩)
  idx_vars i
  have h2 : cmpf CmpFPredicate.olt (Host.absf (extf .f32 x Facts.bitsLt_bf16_f32)) (broadcastInDim S4x8x4096x256 ![] Facts.bcast_S_S4x8x4096x256 (constant S_ .f32 0x7F800000#32)) (ix4 i0 i1 i2 i3)
      = BitVec.ofBool (decide (FloatOps.absf (φ := .f32) (F := Ideal) (x (ix4 i0 i1 i2 i3)) < Ideal.ofBits FTy.f32 2139095040#32)) := by
    pointwise
  rw [h2, posInf] at h1
  have h3 : FloatOps.absf (φ := .f32) (F := Ideal) (x (ix4 i0 i1 i2 i3)) < (⊤ : EReal) := by
    by_contra hn
    rw [decide_eq_false hn] at h1
    exact absurd h1 (by decide)
  generalize x (ix4 i0 i1 i2 i3) = z at h3
  change EReal at z
  induction z with
  | bot => exact absurd h3 (by simp [FloatOps.absf])
  | top => exact absurd h3 (by simp [FloatOps.absf])
  | coe r => exact ⟨r, rfl⟩

theorem scores_real (Q K : FVec Ideal S4x8x4096x256 .bf16) (V : FVec Ideal S4x8x4096x128 .bf16) (H : FVec Ideal S16384x3200 .bf16)
    (h : fn (F := Ideal) Q K V H = fun _ => 1#1) (b : Fin 4) (g : Fin 8) (i k : Fin 4096) :
    ∃ s : ℝ, ∑ x : Fin 256, Q (ix4 b g i x) * K (ix4 b g k x) = (s : EReal) := by
  have and_one : ∀ x y : BitVec 1, IntOp.andi x y = 1#1 → x = 1#1 ∧ y = 1#1 := by decide
  obtain ⟨hQ, hK⟩ := and_one (half Q ix0) (half K ix0) (congrFun h ix0)
  choose q hq using half_real Q hQ
  choose k' hk using half_real K hK
  refine ⟨∑ x : Fin 256, q (ix4 b g i x) * k' (ix4 b g k x), ?_⟩
  rw [← Softmax.sum_coe]
  refine Finset.sum_congr rfl fun x _ => ?_
  rw [hq, hk, EReal.coe_mul]

end Cert.Pre_finite_scores
end
-- ==== Proof.MlaPre.lean ====
/- The precondition of the attention's projections read: the columns after the keys' rotary ones are zero. -/
module
public import proofs.«01_k».proof.Pre_zero_padding
public import proofs.«01_k».proof.Proof.Pre
@[expose] public section
noncomputable section
open Idealize.ShloMosaic
namespace Cert.Pre_zero_padding

theorem facts : Facts where
  bitsLt_bf16_f32 := by decide
  slices_S16384x3200_S16384x64_0_3136 := by decide
  bcast_S_S16384x64 := by decide
  reducesTo_S16384x64_S_d0_1 := by decide
  h_S_ := by decide

instance : Facts := facts

theorem zero (H : FVec Ideal S16384x3200 .bf16) (P : IVec S4x4096 32) (G : FVec Ideal S768 .f32) (W : FVec Ideal S768x1536 .f32) (K : FVec Ideal S256 .f32)
    (U : FVec Ideal S256x2048 .f32) (h : fn (F := Ideal) H P G W K U = fun _ => 1#1) (i : Fin 16384) (j : Fin 64) :
    H (ix2 i (⟨3136 + j.val, by omega⟩ : Fin 3200)) = (0 : EReal) := by
  have h0 := congrFun h ix0
  unfold fn at h0
  dsimp only at h0
  rw [Host.reduce_eq_fold] at h0
  have h1 := Pre_finite_scores.fold_and_one _ _ _ h0 (ix2 i j) (by
    rw [Finset.mem_filter]; exact ⟨Finset.mem_univ _, funext fun a => Fin.elim0 a⟩)
  have h2 : BitVec.ofBool (decide (H (ix2 i (⟨3136 + j.val, by omega⟩ : Fin 3200)) = (0 : EReal))) = 1#1 := by
    refine Eq.trans ?_ h1
    pointwise
  by_contra hn
  rw [decide_eq_false hn] at h2
  exact absurd h2 (by decide)

end Cert.Pre_zero_padding
end
-- ==== Proof.InProj.lean ====
/- What the odd layer's projection leaves in its two result arrays: at each index a column of the product of the rows and the
   weights. -/
module
public import proofs.«01_k».proof.Proof.Gen.InProjIdeal.Value
public import proofs.«01_k».proof.Proof.Gen.InProjRefIdeal.Run
public import Idealize.ShloMosaic.Lib.Pipeline.ValueKit
@[expose] public section
set_option maxRecDepth 16384
noncomputable section
open Idealize.ShloMosaic Idealize.ShloMosaic.TcCoe Idealize.SL.Sem
open Idealize.ShloMosaic.Pipeline (Dat)

namespace Cert.InProjRefIdeal.Prod
open Cert.InProjRefIdeal Cert.InProjRefIdeal.Gen

/-- The first columns of the product: the input of the state space branch. -/
def outU (x : FVec Ideal S16384x1024 .f32) (w : FVec Ideal S1024x3072 .f32) : FVec Ideal S16384x1024 .f32 :=
  extractStridedSlice S16384x1024 ![0, 0] (Host.dotGeneral dot_S16384x1024_S1024x3072_S16384x3072_1_0_0_1_n_n none x w) slices_S16384x3072_S16384x1024_0_0

/-- The other columns of the product: the gates and the memory's queries. -/
def outH (x : FVec Ideal S16384x1024 .f32) (w : FVec Ideal S1024x3072 .f32) : FVec Ideal S16384x2048 .bf16 :=
  truncf .bf16 (extractStridedSlice S16384x2048 ![0, 1024] (Host.dotGeneral dot_S16384x1024_S1024x3072_S16384x3072_1_0_0_1_n_n none x w) slices_S16384x3072_S16384x2048_0_1024) bitsLt_bf16_f32

end Cert.InProjRefIdeal.Prod

namespace Cert.InProjIdeal.Prod
open Cert.InProjIdeal Cert.InProjIdeal.Gen
variable (m : (ℓ : Loc nD τ sig) → Buf (Elt Ideal) ℓ)

theorem idx : ∀ t : Fin cfg0.N, win0_0.index t = ![t.val, 0] ∧ win0_1.index t = ![0, 0] ∧ win0_2.index t = ![t.val, 0]
    ∧ win0_3.index t = ![t.val, 0] :=
  (by decide +kernel : ∀ t : Fin grid0.N, _)

/-- The rows and the weights. -/
abbrev Xa (c : Dev nD) : FVec Ideal S16384x1024 .f32 := m ((c : Thread nD τ).loc main_arg0)
abbrev Wa (c : Dev nD) : FVec Ideal S1024x3072 .f32 := m ((c : Thread nD τ).loc main_arg1)

theorem pointU (c : Dev nD) (t : Fin cfg0.N) (y : S1024x1024.Idx) :
    k0_pay2 (iblk m c 0 t) (iblk m c 1 t) y = InProjRefIdeal.Prod.outU (Xa m c) (Wa m c) (((cfg0.win 2).blk t).view.emb y) := by
  pointwise [k0_pay2, k0_pay1, InProjRefIdeal.Prod.outU]
  blk_point [iblk, V, idx t]

theorem pointH (c : Dev nD) (t : Fin cfg0.N) (y : S1024x2048.Idx) :
    k0_pay3 (iblk m c 0 t) (iblk m c 1 t) y = InProjRefIdeal.Prod.outH (Xa m c) (Wa m c) (((cfg0.win 3).blk t).view.emb y) := by
  pointwise [k0_pay3, k0_pay1, InProjRefIdeal.Prod.outH]
  blk_point [iblk, V, idx t]

theorem finalU (c : Dev nD) : (dats m 0 c).arrAt 2 (cfgs 0).N = InProjRefIdeal.Prod.outU (Xa m c) (Wa m c) := by
  refine (dats m 0 c).arrAt_eq_of_covers 2 _ (by decide +kernel) fun t _ y => ?_
  blk_simp
  rw [after0_2]
  frame_out
  exact pointU m c t y

theorem finalH (c : Dev nD) : (dats m 0 c).arrAt 3 (cfgs 0).N = InProjRefIdeal.Prod.outH (Xa m c) (Wa m c) := by
  refine (dats m 0 c).arrAt_eq_of_covers 3 _ (by decide +kernel) fun t _ y => ?_
  blk_simp
  rw [after0_3]
  frame_out
  exact pointH m c t y

end Cert.InProjIdeal.Prod
end
-- ==== Proof.Glu.lean ====
/- What the gated linear unit's result array holds: at each index the value of the reference's gated linear unit. -/
module
public import proofs.«01_k».proof.Proof.Gen.GluIdeal.Value
public import proofs.«01_k».proof.Proof.Gen.GluRefIdeal.Run
public import Idealize.ShloMosaic.Lib.Pipeline.ValueKit
@[expose] public section
set_option maxRecDepth 16384
noncomputable section
open Idealize.ShloMosaic Idealize.ShloMosaic.TcCoe Idealize.SL.Sem
open Idealize.ShloMosaic.Pipeline (Dat)

namespace Cert.GluRefIdeal.Unit
open Cert.GluRefIdeal Cert.GluRefIdeal.Gen

/-- The product of the branch and the unit's weights. -/
def prod (g : FVec Ideal S16384x1024 .bf16) (w : FVec Ideal S1024x2048 .f32) : FVec Ideal S16384x2048 .f32 :=
  Host.dotGeneral dot_S16384x1024_S1024x2048_S16384x2048_1_0_0_1_n_n none (extf .f32 g bitsLt_bf16_f32) w

/-- The logistic function, element by element. -/
def sigm (x : FVec Ideal S16384x1024 .f32) : FVec Ideal S16384x1024 .f32 :=
  Host.divf (broadcastInDim S16384x1024 ![] bcast_S_S16384x1024 (constant S_ .f32 0x3F800000#32)) (addf (broadcastInDim S16384x1024 ![] bcast_S_S16384x1024 (constant S_ .f32 0x3F800000#32)) (Host.exp (Host.negf x)))

/-- The gated linear unit times the gate. -/
def out (g : FVec Ideal S16384x1024 .bf16) (w : FVec Ideal S1024x2048 .f32) (h : FVec Ideal S16384x2048 .bf16) : FVec Ideal S16384x1024 .bf16 :=
  truncf .bf16 (mulf (mulf (extractStridedSlice S16384x1024 ![0, 0] (prod g w) slices_S16384x2048_S16384x1024_0_0)
    (sigm (extractStridedSlice S16384x1024 ![0, 1024] (prod g w) slices_S16384x2048_S16384x1024_0_1024)))
    (mulf (extractStridedSlice S16384x1024 ![0, 0] (extf .f32 h bitsLt_bf16_f32) slices_S16384x2048_S16384x1024_0_0)
      (sigm (extractStridedSlice S16384x1024 ![0, 0] (extf .f32 h bitsLt_bf16_f32) slices_S16384x2048_S16384x1024_0_0)))) bitsLt_bf16_f32

theorem sigm_at (x : FVec Ideal S16384x1024 .f32) (i : S16384x1024.Idx) : sigm x i = Ideal.logistic (x i) := by
  pointwise [sigm]
  rfl

end Cert.GluRefIdeal.Unit

namespace Cert.GluIdeal.Unit
open Cert.GluIdeal Cert.GluIdeal.Gen
variable (m : (ℓ : Loc nD τ sig) → Buf (Elt Ideal) ℓ)

theorem idx : ∀ t : Fin cfg0.N, win0_0.index t = ![t.val, 0] ∧ win0_1.index t = ![0, 0] ∧ win0_2.index t = ![t.val, 0]
    ∧ win0_3.index t = ![t.val, 0] :=
  (by decide +kernel : ∀ t : Fin grid0.N, _)

/-- The branch, the unit's weights and the gates. -/
abbrev Ga (c : Dev nD) : FVec Ideal S16384x1024 .bf16 := m ((c : Thread nD τ).loc main_arg0)
abbrev Wa (c : Dev nD) : FVec Ideal S1024x2048 .f32 := m ((c : Thread nD τ).loc main_arg1)
abbrev Ha (c : Dev nD) : FVec Ideal S16384x2048 .bf16 := m ((c : Thread nD τ).loc main_arg2)

/-- An element of the block, at row `r` and column `c`, from the blocks read. -/
def val (g : FVec Ideal S1024x1024 .bf16) (w : FVec Ideal S1024x2048 .bf16) (h : FVec Ideal S1024x1024 .bf16) (r c : Fin 1024) : EReal :=
  (∑ k : Fin 1024, g (ix2 r k) * w (ix2 k (⟨c.val, by omega⟩ : Fin 2048)))
        * Ideal.logistic (∑ k : Fin 1024, g (ix2 r k) * w (ix2 k (⟨1024 + c.val, by omega⟩ : Fin 2048)))
      * (h (ix2 r c) * Ideal.logistic (h (ix2 r c)))

/-- One tile of columns. -/
theorem tile (g : FVec Ideal S1024x1024 .bf16) (a b h : FVec Ideal S1024x256 .bf16) (r : Fin 1024) (c : Fin 256) :
    k0_pay3 g a b h (ix2 r c) = (∑ k : Fin 1024, g (ix2 r k) * a (ix2 k c))
        * Ideal.logistic (∑ k : Fin 1024, g (ix2 r k) * b (ix2 k c)) * (h (ix2 r c) * Ideal.logistic (h (ix2 r c))) := by
  pointwise [k0_pay3]

theorem block (g : FVec Ideal S1024x1024 .bf16) (w : FVec Ideal S1024x2048 .bf16) (h : FVec Ideal S1024x1024 .bf16) (r c : Fin 1024) :
    out0_3 (F := Ideal) g w h (ix2 r c) = val g w h r c := by
  unfold out0_3
  canon_tiles x hx
  all_goals (
    change r.val = _ at hx0
    change c.val = _ at hx1
    pointwise [k0_pay1, k0_pay2, k0_pay3, k0_pay4, k0_pay5, val]
    blk_point [])

theorem point (c : Dev nD) (t : Fin cfg0.N) (r k : Fin 1024) :
    val (iblk m c 0 t) (iblk m c 1 t) (iblk m c 2 t) r k = GluRefIdeal.Unit.out (Ga m c) (Wa m c) (Ha m c) (((cfg0.win 3).blk t).view.emb (ix2 r k)) := by
  pointwise [val, GluRefIdeal.Unit.out, GluRefIdeal.Unit.prod, GluRefIdeal.Unit.sigm_at]
  blk_point [iblk, V, idx t]

/-- The result array is the reference's. -/
theorem final (c : Dev nD) : (dats m 0 c).arrAt 3 (cfgs 0).N = GluRefIdeal.Unit.out (Ga m c) (Wa m c) (Ha m c) := by
  refine (dats m 0 c).arrAt_eq_of_covers 3 _ (by decide +kernel) fun t _ y => ?_
  blk_simp
  rw [after0_3]
  idx_vars y
  exact (block _ _ _ y0 y1).trans (point m c t y0 y1)

end Cert.GluIdeal.Unit
end
-- ==== Proof.Steps.lean ====
/- The attention block's text, told as sixteen equal steps. The printed body is cut into named payloads at places
   that have nothing to do with the algorithm; each payload here is rewritten into the two step functions `stepM`
   (the running maximum) and `stepA` (the running sums), and the whole block becomes `fin` of the sixteenth state. -/
module

public import proofs.«01_k».proof.Proof.Gen.KernelIdeal.Skeleton
public import Idealize.ShloMosaic.Lib.Pointwise

@[expose] public section
set_option maxRecDepth 16384
noncomputable section
open Idealize.ShloMosaic
namespace Cert.KernelIdeal.Att
open Cert.KernelIdeal Cert.KernelIdeal.Gen

/-- The scores of a block of queries against one tile of keys. -/
def sc (q : FVec Ideal S2048x256 .bf16) (k : Vec Ideal S1x1x256x256 .bf16) : FVec Ideal S2048x256 .f32 := k0_pay11 q k

/-- The running maximum after one more tile of keys. -/
def stepM (q : FVec Ideal S2048x256 .bf16) (m : FVec Ideal S2048x1 .f32) (k : Vec Ideal S1x1x256x256 .bf16) :
    FVec Ideal S2048x1 .f32 :=
  maximumf m (shapeCast S2048x1 (multiReduction .maximumf [1] S2048 (sc q k) 0xFF800000#32 Gen.reduces_S2048x256_S2048 (.inl rfl) rfl)
    Gen.shapeCasts_S2048_S2048x1)

/-- The running sums after one more tile of keys and values: the weighted values in the first 128 columns, the weights'
    sum in each of the last 128. -/
def stepA (q : FVec Ideal S2048x256 .bf16) (m : FVec Ideal S2048x1 .f32) (acc : FVec Ideal S2048x256 .f32)
    (k : Vec Ideal S1x1x256x256 .bf16) (v : Vec Ideal S1x1x256x128 .bf16) : FVec Ideal S2048x256 .f32 :=
  addf (mulf (broadcastTo S2048x256 (exp2 (subf m (stepM q m k))) Gen.broadcasts_S2048x1_S2048x256) acc)
    (matmul dot_S2048x256_S256x256_S2048x256_1_0_0_1_n_n none
      (truncf .bf16 (exp2 (subf (sc q k) (broadcastTo S2048x256 (stepM q m k) Gen.broadcasts_S2048x1_S2048x256))) Gen.bitsLt_bf16_f32)
      (concatenate S256x256 1 [⟨S256x128, shapeCast S256x128 v Gen.shapeCasts_S1x1x256x128_S256x128⟩, ⟨S256x128, k0_pay3⟩]
        Gen.concatenates_S256x128_S256x128_S256x256_d1)
      (constant S2048x256 .f32 0x00000000#32))

/-- The empty sums. -/
def acc0 : FVec Ideal S2048x256 .f32 := broadcast S2048x256 (Scalar.ofBits .f32 0x00000000#32)

/-- The block's last lines: the division, and the gate. -/
def fin (acc : FVec Ideal S2048x256 .f32) (g : Vec Ideal S2048x128 .bf16) : FVec Ideal S2048x128 .bf16 :=
  truncf .bf16 (mulf (divf (extractStridedSlice S2048x128 ![0, 0] acc Gen.slices_S2048x256_o0_0_S2048x128)
      (extractStridedSlice S2048x128 ![0, 128] acc Gen.slices_S2048x256_o0_128_S2048x128))
    (mulf (extf .f32 g Gen.bitsLt_bf16_f32) (logistic (extf .f32 g Gen.bitsLt_bf16_f32)))) Gen.bitsLt_bf16_f32

section
variable (q : FVec Ideal S2048x256 .bf16) (m : FVec Ideal S2048x1 .f32) (a : FVec Ideal S2048x256 .f32)
  (q0 : Vec Ideal S1x1x2048x256 .bf16)
  (k k' : Vec Ideal S1x1x256x256 .bf16) (v v' : Vec Ideal S1x1x256x128 .bf16) (g : Vec Ideal S2048x128 .bf16)

theorem pay6 : k0_pay6 q0 k = stepM (k0_pay2 q0) k0_pay4 k := rfl
theorem pay7 : k0_pay7 q0 k v = stepA (k0_pay2 q0) k0_pay4 acc0 k v := rfl
theorem pay12 : k0_pay12 q m (k0_pay8 k) k' = stepM q (stepM q m k) k' := rfl
theorem pay13 : k0_pay13 q k0_pay3 m a (k0_pay8 k) v k' v' = stepA q (stepM q m k) (stepA q m a k v) k' v' := rfl
theorem pay16 : k0_pay16 q k0_pay3 m a k v = stepA q m a k v := rfl
theorem pay19 : k0_pay19 q m k k' = stepM q (stepM q m k) k' := rfl
theorem pay23 : k0_pay23 q m k = stepM q m k := rfl
theorem pay24 (k₀ : Vec Ideal S1x1x256x256 .bf16) : k0_pay24 q k0_pay3 a (k0_pay17 k0_pay3 v) (stepM q (stepM q m k₀) k) (k0_pay20 q m k₀ k) (k0_pay21 q m k₀ k) k' v'
    = stepA q (stepM q (stepM q m k₀) k) (stepA q (stepM q m k₀) a k v) k' v' := rfl
theorem pay30 : k0_pay30 q m (k0_pay27 q k) k' = stepM q (stepM q m k) k' := rfl
theorem pay31 : k0_pay31 q k0_pay3 m a (k0_pay25 k0_pay3 v) (k0_pay26 q k) (k0_pay27 q k) k' v'
    = stepA q (stepM q m k) (stepA q m a k v) k' v' := rfl
theorem pay36 : k0_pay36 q m (k0_pay32 k) k' = stepM q (stepM q m k) k' := rfl
theorem pay37 : k0_pay37 q k0_pay3 m a (k0_pay32 k) v k' v' = stepA q (stepM q m k) (stepA q m a k v) k' v' := rfl
theorem pay42 : k0_pay42 q m k k' = stepM q (stepM q m k) k' := rfl
theorem pay47 (k₀ : Vec Ideal S1x1x256x256 .bf16) (v₀ : Vec Ideal S1x1x256x128 .bf16) :
    k0_pay47 q k0_pay3 (k0_pay40 k0_pay3 v) (stepM q (stepM q m k₀) k) (k0_pay43 q k0_pay3 m a k₀ v₀ k) (k0_pay44 q m k₀ k) k' v'
    = stepA q (stepM q (stepM q m k₀) k) (stepA q (stepM q m k₀) (stepA q m a k₀ v₀) k v) k' v' := rfl
theorem pay46 : k0_pay46 q m k = stepM q m k := rfl
theorem pay50 : k0_pay50 q m k k' = stepM q (stepM q m k) k' := rfl
theorem pay52 : k0_pay52 q m k = stepM q m k := rfl
theorem pay53 : k0_pay53 q k0_pay3 m a (k0_pay48 k0_pay3 v) (k0_pay49 q k) (stepM q m k) k' v'
    = stepA q (stepM q m k) (stepA q m a k v) k' v' := rfl
theorem pay1 : k0_pay1 q k0_pay3 m a (k0_pay54 k) v g = fin (stepA q m a k v) g := rfl
end

/-- The running maximum after `n` tiles. -/
def M (q : FVec Ideal S2048x256 .bf16) (K : ℕ → Vec Ideal S1x1x256x256 .bf16) : ℕ → FVec Ideal S2048x1 .f32
  | 0 => k0_pay4
  | n + 1 => stepM q (M q K n) (K n)

/-- The running sums after `n` tiles. -/
def A (q : FVec Ideal S2048x256 .bf16) (K : ℕ → Vec Ideal S1x1x256x256 .bf16) (V : ℕ → Vec Ideal S1x1x256x128 .bf16) :
    ℕ → FVec Ideal S2048x256 .f32
  | 0 => acc0
  | n + 1 => stepA q (M q K n) (A q K V n) (K n) (V n)

end Cert.KernelIdeal.Att
end
-- ==== Proof.StepVals.lean ====
/- The attention kernel's step over one tile of keys, read at an index, and one block's output: the online softmax over
   the sixteen tiles. -/
module
public import proofs.«01_k».proof.Proof.Steps
public import proofs.«01_k».proof.Proof.Softmax
@[expose] public section
set_option maxRecDepth 16384
noncomputable section
open Idealize.ShloMosaic
namespace Cert.KernelIdeal.Att
open Cert.KernelIdeal Cert.KernelIdeal.Gen
section
variable (q : FVec Ideal S2048x256 .bf16) (m : FVec Ideal S2048x1 .f32) (a : FVec Ideal S2048x256 .f32)
  (q0 : Vec Ideal S1x1x2048x256 .bf16)
  (k : Vec Ideal S1x1x256x256 .bf16) (v : Vec Ideal S1x1x256x128 .bf16) (g : Vec Ideal S2048x128 .bf16)

theorem sc_at (r : Fin 2048) (j : Fin 256) : sc q k (ix2 r j) = ∑ x : Fin 256, q (ix2 r x) * k (ix4 0 0 j x) := by
  pointwise [sc, k0_pay11]

theorem stepM_at (r : Fin 2048) : stepM q m k (ix2 r (0 : Fin 1))
    = max (m (ix2 r (0 : Fin 1))) (Finset.univ.fold max (Ideal.ofBits FTy.f32 4286578688#32) fun x : Fin 256 => sc q k (ix2 r x)) := by
  pointwise [stepM]

theorem stepA_at (r : Fin 2048) (d : Fin 128) : stepA q m a k v (ix2 r (⟨d.val, by omega⟩ : Fin 256))
    = FloatOps.exp2 (m (ix2 r (0 : Fin 1)) - stepM q m k (ix2 r (0 : Fin 1))) * a (ix2 r (⟨d.val, by omega⟩ : Fin 256))
      + ∑ x : Fin 256, FloatOps.exp2 (sc q k (ix2 r x) - stepM q m k (ix2 r (0 : Fin 1))) * v (ix4 0 0 x d) := by
  pointwise [stepA]

theorem stepA_at' (r : Fin 2048) (d : Fin 128) : stepA q m a k v (ix2 r (⟨128 + d.val, by omega⟩ : Fin 256))
    = FloatOps.exp2 (m (ix2 r (0 : Fin 1)) - stepM q m k (ix2 r (0 : Fin 1))) * a (ix2 r (⟨128 + d.val, by omega⟩ : Fin 256))
      + ∑ x : Fin 256, FloatOps.exp2 (sc q k (ix2 r x) - stepM q m k (ix2 r (0 : Fin 1))) := by
  pointwise [stepA, k0_pay3]

theorem acc0_at (i : S2048x256.Idx) : acc0 i = 0 := by
  pointwise [acc0]

theorem m0_at (i : S2048x1.Idx) : (k0_pay4 : FVec Ideal S2048x1 .f32) i = (⊥ : EReal) := by
  refine Eq.trans ?_ Softmax.negInf
  pointwise [k0_pay4]

theorem fin_at (r : Fin 2048) (d : Fin 128) : fin a g (ix2 r d)
    = Ideal.div (a (ix2 r (⟨d.val, by omega⟩ : Fin 256))) (a (ix2 r (⟨128 + d.val, by omega⟩ : Fin 256)))
      * (g (ix2 r d) * Ideal.logistic (g (ix2 r d))) := by
  pointwise [fin]

theorem q_at (r : Fin 2048) (d : Fin 256) : k0_pay2 q0 (ix2 r d) = q0 (ix4 0 0 r d) := by
  pointwise [k0_pay2]
end

/-- Every tile of 256 keys lies inside the block of 4096. -/
theorem inbK (n : ℕ) : ∀ a, (![0, 0, 256 * (n % 16), 0] : Fin 4 → ℕ) a + (![1, 1, 256, 256] : Fin 4 → ℕ) a ≤ S1x1x4096x256.size a := by
  have : n % 16 < 16 := Nat.mod_lt _ (by decide)
  intro a; fin_cases a <;> simp <;> omega

/-- Every tile of 256 values lies inside the block of 4096. -/
theorem inbV (n : ℕ) : ∀ a, (![0, 0, 256 * (n % 16), 0] : Fin 4 → ℕ) a + (![1, 1, 256, 128] : Fin 4 → ℕ) a ≤ S1x1x4096x128.size a := by
  have : n % 16 < 16 := Nat.mod_lt _ (by decide)
  intro a; fin_cases a <;> simp <;> omega

/-- Tile `n` of the keys. -/
def Kt (x : Vec Ideal S1x1x4096x256 .bf16) (n : ℕ) : Vec Ideal S1x1x256x256 .bf16 :=
  View.ld x (Rect.unit ![0, 0, 256 * (n % 16), 0] ![1, 1, 256, 256] (inbK n))

/-- Tile `n` of the values. -/
def Vt (x : Vec Ideal S1x1x4096x128 .bf16) (n : ℕ) : Vec Ideal S1x1x256x128 .bf16 :=
  View.ld x (Rect.unit ![0, 0, 256 * (n % 16), 0] ![1, 1, 256, 128] (inbV n))

theorem Kt_at (x : Vec Ideal S1x1x4096x256 .bf16) (n : ℕ) (hn : n < 16) (j d : Fin 256) :
    Kt x n (ix4 0 0 j d) = x (ix4 0 0 (⟨256 * n + j.val, by omega⟩ : Fin 4096) d) := by
  show x _ = x _
  congr 1
  funext a
  apply Fin.ext
  have : n % 16 = n := Nat.mod_eq_of_lt hn
  fin_cases a <;> simp [Rect.emb, Rect.unit, ix4, this]

theorem Vt_at (x : Vec Ideal S1x1x4096x128 .bf16) (n : ℕ) (hn : n < 16) (j : Fin 256) (d : Fin 128) :
    Vt x n (ix4 0 0 j d) = x (ix4 0 0 (⟨256 * n + j.val, by omega⟩ : Fin 4096) d) := by
  show x _ = x _
  congr 1
  funext a
  apply Fin.ext
  have : n % 16 = n := Nat.mod_eq_of_lt hn
  fin_cases a <;> simp [Rect.emb, Rect.unit, ix4, this]

/-- One block's output: where a row's products of queries and keys are real numbers, the weighted values over the
    weights, against some real number, gated. -/
theorem block (q0 : Vec Ideal S1x1x2048x256 .bf16) (kx : Vec Ideal S1x1x4096x256 .bf16) (vx : Vec Ideal S1x1x4096x128 .bf16)
    (g : Vec Ideal S2048x128 .bf16) (r : Fin 2048) (d : Fin 128) (s : Fin 4096 → ℝ)
    (hs : ∀ k : Fin 4096, ∑ x : Fin 256, q0 (ix4 0 0 r x) * kx (ix4 0 0 k x) = (s k : EReal)) :
    ∃ μ : ℝ, fin (A (k0_pay2 q0) (Kt kx) (Vt vx) 16) g (ix2 r d)
      = Ideal.div (∑ k : Fin 4096, (Softmax.wt (s k) μ : EReal) * vx (ix4 0 0 k d)) (∑ k : Fin 4096, (Softmax.wt (s k) μ : EReal))
        * (g (ix2 r d) * Ideal.logistic (g (ix2 r d))) := by
  let s' : ℕ → ℝ := fun n => if h : n < 4096 then s ⟨n, h⟩ else 0
  let v' : ℕ → EReal := fun n => if h : n < 4096 then vx (ix4 0 0 (⟨n, h⟩ : Fin 4096) d) else 0
  have hsc (n : ℕ) (hn : n < 16) (x : Fin 256) : sc (k0_pay2 q0) (Kt kx n) (ix2 r x) = (s' (256 * n + x.val) : EReal) := by
    have hx : 256 * n + x.val < 4096 := by omega
    rw [sc_at]
    simp only [q_at, Kt_at _ n hn, s', dif_pos hx]
    exact hs ⟨_, hx⟩
  have hv (n : ℕ) (hn : n < 16) (x : Fin 256) : Vt vx n (ix4 0 0 x d) = v' (256 * n + x.val) := by
    have hx : 256 * n + x.val < 4096 := by omega
    rw [Vt_at _ n hn]
    simp only [v', dif_pos hx]
  let m' : ℕ → EReal := fun n => M (k0_pay2 q0) (Kt kx) n (ix2 r (0 : Fin 1))
  have hM0 : m' 0 = ⊥ := m0_at _
  have hM : ∀ n < 16, m' (n + 1) = max (m' n) (Finset.univ.fold max ⊥ fun x : Fin 256 => (s' (256 * n + x) : EReal)) := by
    intro n hn
    refine (stepM_at _ _ _ _).trans ?_
    simp only [hsc n hn, show Ideal.ofBits FTy.f32 4286578688#32 = (⊥ : EReal) from Softmax.negInf]
    rfl
  have hR := Softmax.max_real 256 16 (by decide) s' m' hM0 hM
  obtain ⟨μ, hμ⟩ := hR 15 (by decide)
  refine ⟨μ, ?_⟩
  have hA := Softmax.acc_eq 256 16 s' v' m' (fun n => A (k0_pay2 q0) (Kt kx) (Vt vx) n (ix2 r (⟨d.val, by omega⟩ : Fin 256)))
    hM0 (acc0_at _) hR (fun n hn => by
      refine (stepA_at _ _ _ _ _ _ _).trans ?_
      simp only [hsc n hn, hv n hn]
      rfl) 15 (by decide) μ hμ
  have hL := Softmax.acc_eq 256 16 s' (fun _ => 1) m' (fun n => A (k0_pay2 q0) (Kt kx) (Vt vx) n (ix2 r (⟨128 + d.val, by omega⟩ : Fin 256)))
    hM0 (acc0_at _) hR (fun n hn => by
      refine (stepA_at' _ _ _ _ _ _ _).trans ?_
      simp only [hsc n hn, mul_one]
      rfl) 15 (by decide) μ hμ
  rw [fin_at]
  simp only [Nat.reduceAdd, Nat.reduceMul, mul_one] at hA hL
  rw [hA, hL, Finset.sum_range, Finset.sum_range]
  simp only [s', v', Fin.is_lt, dif_pos, Fin.eta]

end Cert.KernelIdeal.Att
end
-- ==== Proof.Ref.lean ====
/- The attention reference read at an index: the scores, their exponentials against the row's maximum, the weights,
   and the gated weighted values, each as a sum over `Fin`. -/
module
public import proofs.«01_k».proof.Proof.Gen.ReferenceIdeal.Run
public import proofs.«01_k».proof.Proof.Softmax
public import Idealize.ShloMosaic.Lib.Pointwise
@[expose] public section
set_option maxRecDepth 16384
noncomputable section
open Idealize.ShloMosaic
namespace Cert.ReferenceIdeal.Att
open Cert.ReferenceIdeal Cert.ReferenceIdeal.Gen

variable (Q K : FVec Ideal S4x8x4096x256 .bf16) (V : FVec Ideal S4x8x4096x128 .bf16) (H : FVec Ideal S16384x3200 .bf16)
  (S E P : FVec Ideal S4x8x4096x4096 .f32) (R : FVec Ideal S4x8x4096 .f32)

/-- The natural scores. -/
def scores : FVec Ideal S4x8x4096x4096 .f32 :=
  mulf (Host.dotGeneral dot_S4x8x4096x256_S4x8x4096x256_S4x8x4096x4096_3_3_2_2_01_01 none (extf .f32 Q bitsLt_bf16_f32) (extf .f32 K bitsLt_bf16_f32)) (broadcastInDim S4x8x4096x4096 ![] bcast_S_S4x8x4096x4096 (Host.log (constant S_ .f32 0x40000000#32)))

/-- The maximum of each row. -/
def rowMax : FVec Ideal S4x8x4096 .f32 :=
  Host.reduce FloatOps.maximumf S (constant S_ .f32 0xFF800000#32) reducesTo_S4x8x4096x4096_S4x8x4096_d3 h_S_

/-- The exponentials of the scores against their row's maximum. -/
def expo : FVec Ideal S4x8x4096x4096 .f32 :=
  Host.exp (subf S (broadcastInDim S4x8x4096x4096 ![0, 1, 2, 3] bcast_S4x8x4096x1_S4x8x4096x4096_0_1_2_3 (broadcastInDim S4x8x4096x1 ![0, 1, 2] bcast_S4x8x4096_S4x8x4096x1_0_1_2 (maximumf (broadcastInDim S4x8x4096 ![] bcast_S_S4x8x4096 (constant S_ .f32 0xFF800000#32)) R))))

/-- The weights. -/
def weights : FVec Ideal S4x8x4096x4096 .f32 :=
  Host.divf E (broadcastInDim S4x8x4096x4096 ![0, 1, 2, 3] bcast_S4x8x4096x1_S4x8x4096x4096_0_1_2_3 (broadcastInDim S4x8x4096x1 ![0, 1, 2] bcast_S4x8x4096_S4x8x4096x1_0_1_2 (Host.reduceAdd E (constant S_ .f32 0x00000000#32) reducesTo_S4x8x4096x4096_S4x8x4096_d3 h_S_)))

/-- The weighted values, gated. -/
def out : FVec Ideal S16384x1024 .bf16 :=
  truncf .bf16 (mulf (shapeCast _ (transpose S4x4096x8x128 [0, 3, 1, 2] (Host.dotGeneral dot_S4x8x4096x128_S4x8x4096x4096_S4x8x128x4096_2_3_3_2_01_01 none (extf .f32 V bitsLt_bf16_f32) P) transposes_S4x8x128x4096_S4x4096x8x128_0_3_1_2) shapeCasts_S4x4096x8x128_S16384x1024) (mulf (extractStridedSlice S16384x1024 ![0, 1024] (extf .f32 H bitsLt_bf16_f32) slices_S16384x3200_S16384x1024_0_1024) (Host.divf (broadcastInDim S16384x1024 ![] bcast_S_S16384x1024 (constant S_ .f32 0x3F800000#32)) (addf (broadcastInDim S16384x1024 ![] bcast_S_S16384x1024 (constant S_ .f32 0x3F800000#32)) (Host.exp (Host.negf (extractStridedSlice S16384x1024 ![0, 1024] (extf .f32 H bitsLt_bf16_f32) slices_S16384x3200_S16384x1024_0_1024))))))) bitsLt_bf16_f32

theorem scores_at (b : Fin 4) (h : Fin 8) (i k : Fin 4096) : scores Q K (ix4 b h i k)
    = (∑ x : Fin 256, Q (ix4 b h i x) * K (ix4 b h k x)) * Ideal.log (Ideal.ofBits FTy.f32 1073741824#32) := by
  pointwise [scores]

theorem rowMax_at (b : Fin 4) (h : Fin 8) (i : Fin 4096) : rowMax S (ix3 b h i)
    = Finset.univ.fold max (⊥ : EReal) (fun x : Fin 4096 => S (ix4 b h i x)) := by
  unfold rowMax
  rw [Host.reduce_eq_fold]
  refine (Shape.ReducesTo.fold_fiber_r4_a3 _ _ _ _ _).trans ?_
  rw [show (constant (F := Ideal) S_ .f32 0xFF800000#32) (Shape.Idx.first h_S_) = (⊥ : EReal) from Softmax.negInf]
  rfl

theorem expo_at (b : Fin 4) (h : Fin 8) (i k : Fin 4096) : expo S R (ix4 b h i k)
    = Ideal.exp (S (ix4 b h i k) - max (Ideal.ofBits FTy.f32 4286578688#32) (R (ix3 b h i))) := by
  pointwise [expo]

theorem weights_at (b : Fin 4) (h : Fin 8) (i k : Fin 4096) : weights E (ix4 b h i k)
    = Ideal.div (E (ix4 b h i k)) (∑ x : Fin 4096, E (ix4 b h i x)) := by
  pointwise [weights]

theorem out_at (i : Fin 16384) (j : Fin 1024) : out V H P (ix2 i j)
    = (∑ x : Fin 4096, V (ix4 (⟨i.val / 4096, by omega⟩ : Fin 4) (⟨j.val / 128, by omega⟩ : Fin 8) x (⟨j.val % 128, by omega⟩ : Fin 128))
        * P (ix4 (⟨i.val / 4096, by omega⟩ : Fin 4) (⟨j.val / 128, by omega⟩ : Fin 8) (⟨i.val % 4096, by omega⟩ : Fin 4096) x))
      * (H (ix2 i (⟨1024 + j.val, by omega⟩ : Fin 3200)) * Ideal.logistic (H (ix2 i (⟨1024 + j.val, by omega⟩ : Fin 3200)))) := by
  pointwise [out]
  rfl

/-- The whole reference. -/
def attention : FVec Ideal S16384x1024 .bf16 := out V H (weights (expo (scores Q K) (rowMax (scores Q K))))

/-- Where a row's products of queries and keys are real numbers, the row's output, against some real number. -/
theorem attention_at (i : Fin 16384) (j : Fin 1024) (s : Fin 4096 → ℝ)
    (hs : ∀ k : Fin 4096, ∑ x : Fin 256, Q (ix4 (⟨i.val / 4096, by omega⟩ : Fin 4) (⟨j.val / 128, by omega⟩ : Fin 8) (⟨i.val % 4096, by omega⟩ : Fin 4096) x)
      * K (ix4 (⟨i.val / 4096, by omega⟩ : Fin 4) (⟨j.val / 128, by omega⟩ : Fin 8) k x) = (s k : EReal)) :
    ∃ ν : ℝ, attention Q K V H (ix2 i j) =
      (∑ k : Fin 4096, V (ix4 (⟨i.val / 4096, by omega⟩ : Fin 4) (⟨j.val / 128, by omega⟩ : Fin 8) k (⟨j.val % 128, by omega⟩ : Fin 128))
        * Ideal.div (Ideal.exp ((s k : EReal) * ((Real.log 2 : ℝ) : EReal) - (ν : EReal)))
          (∑ k : Fin 4096, Ideal.exp ((s k : EReal) * ((Real.log 2 : ℝ) : EReal) - (ν : EReal))))
      * (H (ix2 i (⟨1024 + j.val, by omega⟩ : Fin 3200)) * Ideal.logistic (H (ix2 i (⟨1024 + j.val, by omega⟩ : Fin 3200)))) := by
  have hS (k : Fin 4096) : scores Q K (ix4 (⟨i.val / 4096, by omega⟩ : Fin 4) (⟨j.val / 128, by omega⟩ : Fin 8) (⟨i.val % 4096, by omega⟩ : Fin 4096) k)
      = (s k : EReal) * ((Real.log 2 : ℝ) : EReal) := by
    rw [scores_at, hs, Softmax.log_two]
  obtain ⟨ν, hν⟩ := Softmax.fold_max_real (Finset.univ : Finset (Fin 4096)) Finset.univ_nonempty (fun k => s k * Real.log 2)
  refine ⟨ν, ?_⟩
  have hR : max (Ideal.ofBits FTy.f32 4286578688#32) (rowMax (scores Q K) (ix3 (⟨i.val / 4096, by omega⟩ : Fin 4) (⟨j.val / 128, by omega⟩ : Fin 8) (⟨i.val % 4096, by omega⟩ : Fin 4096))) = (ν : EReal) := by
    rw [rowMax_at, show Ideal.ofBits FTy.f32 4286578688#32 = (⊥ : EReal) from Softmax.negInf]
    simp only [hS, ← EReal.coe_mul]
    rw [hν]
    exact max_eq_right bot_le
  unfold attention
  rw [out_at]
  simp only [weights_at, expo_at, hR, hS]

/-- The same, the row and the column given by batch entry, head, query and feature. -/
theorem attention_at' (i : Fin 16384) (j : Fin 1024) (b : Fin 4) (h : Fin 8) (r : Fin 4096) (d : Fin 128)
    (hi : i.val = b.val * 4096 + r.val) (hj : j.val = h.val * 128 + d.val) (s : Fin 4096 → ℝ)
    (hs : ∀ k : Fin 4096, ∑ x : Fin 256, Q (ix4 b h r x) * K (ix4 b h k x) = (s k : EReal)) :
    ∃ ν : ℝ, attention Q K V H (ix2 i j) =
      (∑ k : Fin 4096, V (ix4 b h k d)
        * Ideal.div (Ideal.exp ((s k : EReal) * ((Real.log 2 : ℝ) : EReal) - (ν : EReal)))
          (∑ k : Fin 4096, Ideal.exp ((s k : EReal) * ((Real.log 2 : ℝ) : EReal) - (ν : EReal))))
      * (H (ix2 i (⟨1024 + j.val, by omega⟩ : Fin 3200)) * Ideal.logistic (H (ix2 i (⟨1024 + j.val, by omega⟩ : Fin 3200)))) := by
  have hb : (⟨i.val / 4096, by omega⟩ : Fin 4) = b := Fin.ext (by show i.val / 4096 = b.val; omega)
  have hh : (⟨j.val / 128, by omega⟩ : Fin 8) = h := Fin.ext (by show j.val / 128 = h.val; omega)
  have hr : (⟨i.val % 4096, by omega⟩ : Fin 4096) = r := Fin.ext (by show i.val % 4096 = r.val; omega)
  have hd : (⟨j.val % 128, by omega⟩ : Fin 128) = d := Fin.ext (by show j.val % 128 = d.val; omega)
  have key := attention_at Q K V H i j s
  rw [hb, hh, hr, hd] at key
  exact key hs

end Cert.ReferenceIdeal.Att
end
-- ==== Proof.Block.lean ====
/- What the attention kernel's result array holds: at each block the gated online softmax of the block's queries over the
   keys and values of its batch entry and head, so at each index the reference's value. -/
module
public import proofs.«01_k».proof.Proof.Gen.KernelIdeal.Value
public import proofs.«01_k».proof.Proof.StepVals
public import proofs.«01_k».proof.Proof.Ref
public import Idealize.ShloMosaic.Lib.Pipeline.ValueKit
@[expose] public section
set_option maxRecDepth 16384
noncomputable section
open Idealize.ShloMosaic Idealize.ShloMosaic.TcCoe Idealize.SL.Sem
open Idealize.ShloMosaic.Pipeline (Dat)
namespace Cert.KernelIdeal.Att
open Cert.KernelIdeal Cert.KernelIdeal.Gen
variable (m : (ℓ : Loc nD τ sig) → Buf (Elt Ideal) ℓ)

theorem idx : ∀ t : Fin cfg0.N, win0_0.index t = ![t.val / 16, t.val / 2 % 8, t.val % 2, 0]
    ∧ win0_1.index t = ![t.val / 16, t.val / 2 % 8, 0, 0] ∧ win0_2.index t = ![t.val / 16, t.val / 2 % 8, 0, 0]
    ∧ win0_3.index t = ![t.val / 16 * 2 + t.val % 2, 8 + t.val / 2 % 8] ∧ win0_4.index t = ![t.val / 16 * 2 + t.val % 2, t.val / 2 % 8] :=
  (by decide +kernel : ∀ t : Fin grid0.N, _)

theorem lt64 : ∀ t : Fin cfg0.N, t.val < 64 := (by decide +kernel : ∀ t : Fin grid0.N, _)

theorem q_blk (c : Dev nD) (t : Fin cfg0.N) (r : Fin 2048) (x : Fin 256) : iblk m c 0 t (ix4 0 0 r x)
    = m ((c : Thread nD τ).loc main_arg0) (ix4 (⟨t.val / 16, by have := lt64 t; omega⟩ : Fin 4) (⟨t.val / 2 % 8, by omega⟩ : Fin 8) (⟨t.val % 2 * 2048 + r.val, by omega⟩ : Fin 4096) x) := by
  blk_ext [iblk, V, idx t]

theorem k_blk (c : Dev nD) (t : Fin cfg0.N) (r : Fin 4096) (x : Fin 256) : iblk m c 1 t (ix4 0 0 r x)
    = m ((c : Thread nD τ).loc main_arg1) (ix4 (⟨t.val / 16, by have := lt64 t; omega⟩ : Fin 4) (⟨t.val / 2 % 8, by omega⟩ : Fin 8) r x) := by
  blk_ext [iblk, V, idx t]

theorem v_blk (c : Dev nD) (t : Fin cfg0.N) (r : Fin 4096) (x : Fin 128) : iblk m c 2 t (ix4 0 0 r x)
    = m ((c : Thread nD τ).loc main_arg2) (ix4 (⟨t.val / 16, by have := lt64 t; omega⟩ : Fin 4) (⟨t.val / 2 % 8, by omega⟩ : Fin 8) r x) := by
  blk_ext [iblk, V, idx t]

theorem g_blk (c : Dev nD) (t : Fin cfg0.N) (r : Fin 2048) (x : Fin 128) : iblk m c 3 t (ix2 r x)
    = m ((c : Thread nD τ).loc main_arg3) (ix2 (⟨(t.val / 16 * 2 + t.val % 2) * 2048 + r.val, by have := lt64 t; omega⟩ : Fin 16384)
        (⟨1024 + (t.val / 2 % 8 * 128 + x.val), by omega⟩ : Fin 3200)) := by
  blk_ext [iblk, V, idx t]

/-- The queries, the keys, the values and the gates' array. -/
abbrev Qa (c : Dev nD) : FVec Ideal S4x8x4096x256 .bf16 := m ((c : Thread nD τ).loc main_arg0)
abbrev Ka (c : Dev nD) : FVec Ideal S4x8x4096x256 .bf16 := m ((c : Thread nD τ).loc main_arg1)
abbrev Va (c : Dev nD) : FVec Ideal S4x8x4096x128 .bf16 := m ((c : Thread nD τ).loc main_arg2)
abbrev Ha (c : Dev nD) : FVec Ideal S16384x3200 .bf16 := m ((c : Thread nD τ).loc main_arg3)

/-- The result array is the reference's, where every product of a query and a key is a real number. -/
theorem final (c : Dev nD)
    (hs : ∀ (b : Fin 4) (h : Fin 8) (i k : Fin 4096), ∃ s : ℝ, ∑ x : Fin 256, Qa m c (ix4 b h i x) * Ka m c (ix4 b h k x) = (s : EReal)) :
    (dats m 0 c).arrAt 4 (cfgs 0).N = ReferenceIdeal.Att.attention (Qa m c) (Ka m c) (Va m c) (Ha m c) := by
  refine (dats m 0 c).arrAt_eq_of_covers 4 _ (by decide +kernel) fun t _ y => ?_
  have ht := lt64 t
  blk_simp
  rw [after0_4]; unfold outsAt0; frame_out
  simp only [pay6, pay7, pay12, pay13, pay16, pay19, pay23, pay24, pay30, pay31, pay36, pay37, pay42, pay47, pay46, pay50, pay52, pay53, pay1]
  refine Eq.trans (b := fin (A (k0_pay2 (iblk m c 0 t)) (Kt (iblk m c 1 t)) (Vt (iblk m c 2 t)) 16) (iblk m c 3 t) y) rfl ?_
  idx_vars y
  choose s hs using fun k => hs (⟨t.val / 16, by omega⟩ : Fin 4) (⟨t.val / 2 % 8, by omega⟩ : Fin 8) (⟨t.val % 2 * 2048 + y0.val, by omega⟩ : Fin 4096) k
  have he : ((View.whole main_v0).slice (win0_4.rect t)).emb (ix2 y0 y1)
      = ix2 (⟨(t.val / 16 * 2 + t.val % 2) * 2048 + y0.val, by omega⟩ : Fin 16384) (⟨t.val / 2 % 8 * 128 + y1.val, by omega⟩ : Fin 1024) := by
    blk_ext [idx t]
  obtain ⟨μ, hμ⟩ := block (iblk m c 0 t) (iblk m c 1 t) (iblk m c 2 t) (iblk m c 3 t) y0 y1 s (fun k => by
    refine Eq.trans (Finset.sum_congr rfl fun x _ => ?_) (hs k)
    rw [q_blk, k_blk])
  obtain ⟨ν, hν⟩ := ReferenceIdeal.Att.attention_at' (Qa m c) (Ka m c) (Va m c) (Ha m c)
    (⟨(t.val / 16 * 2 + t.val % 2) * 2048 + y0.val, by omega⟩ : Fin 16384) (⟨t.val / 2 % 8 * 128 + y1.val, by omega⟩ : Fin 1024)
    (⟨t.val / 16, by omega⟩ : Fin 4) (⟨t.val / 2 % 8, by omega⟩ : Fin 8) (⟨t.val % 2 * 2048 + y0.val, by omega⟩ : Fin 4096) y1
    (by dsimp only; omega) rfl s hs
  rw [hμ]
  refine Eq.trans ?_ ((hν.symm).trans (congrArg _ he.symm))
  rw [Softmax.quotient Finset.univ Finset.univ_nonempty s _ μ ν]
  simp only [v_blk, g_blk]

end Cert.KernelIdeal.Att
end
-- ==== Proof.OddChunk.lean ====
module
public import proofs.«01_k».proof.Proof.Gen.OddOutIdeal.Value
public import proofs.«01_k».proof.Proof.Mem
public import Idealize.ShloMosaic.Lib.Pipeline.ValueKit
@[expose] public section
set_option maxRecDepth 16384
noncomputable section
open Idealize.ShloMosaic Idealize.ShloMosaic.TcCoe Idealize.SL.Sem
namespace Cert.OddOutIdeal.Out
open Cert.OddOutIdeal Cert.OddOutIdeal.Gen

theorem head_at (K V : FVec Ideal S1x256x128 .bf16) (q g : FVec Ideal S256x128 .bf16) (r : Fin 256) (d : Fin 128) :
    k0_pay3 (F := Ideal) K V q g (ix2 r d)
      = Mem.weighed2 (fun x => q (ix2 r x)) (fun k x => K (ix3 0 k x)) (fun k => V (ix3 0 k d)) * (g (ix2 r d) * Ideal.logistic (g (ix2 r d))) := by
  have hs : Named.named (F := Ideal) κ "mem_scale" (φ := .f32) 0x3E0293EE#32 = (Mem.scale : EReal) :=
    IdealRules.named_const.ideal_named_scalar _ _ _ _ rfl
  pointwise [k0_pay3, k0_pay2, Mem.weighed2]
  simp only [hs]
  rfl

/-- The rows before the norm. -/
def pre (h0 h1 h2 h3 : FVec Ideal S256x128 .bf16) (c : FVec Ideal S256x1024 .bf16) (w : FVec Ideal S1536x1024 .bf16) (x : FVec Ideal S256x1024 .f32) : FVec Ideal S256x1024 .f32 :=
  addf (mulf (broadcast S256x1024 (Scalar.ofBits .f32 0x3FB504F3#32 : Ideal .f32)) x)
    (matmul dot_S256x1536_S1536x1024_S256x1024_1_0_0_1_n_n none
      (concatenate S256x1536 1 [⟨S256x1024, c⟩, ⟨S256x512, (concatenate S256x512 1 [⟨S256x128, h0⟩, ⟨S256x128, h1⟩, ⟨S256x128, h2⟩, ⟨S256x128, h3⟩] concatenates_S256x128_S256x128_S256x128_S256x128_S256x512_d1 : FVec Ideal S256x512 .bf16)⟩] concatenates_S256x1024_S256x512_S256x1536_d1 : FVec Ideal S256x1536 .bf16)
      (shapeCast S1536x1024 w shapeCasts_S1536x1024_S1536x1024) (constant S256x1024 .f32 0x00000000#32))

/-- One row before the norm. -/
def row (c : Fin 1024 → EReal) (O : Fin 512 → EReal) (w : FVec Ideal S1536x1024 .bf16) (x : Fin 1024 → EReal) (j : Fin 1024) : EReal :=
  Ideal.ofBits .f32 0x3FB504F3#32 * x j
    + ((∑ k : Fin 1024, c k * w (ix2 (⟨k.val, by omega⟩ : Fin 1536) j)) + ∑ k : Fin 512, O k * w (ix2 (⟨1024 + k.val, by omega⟩ : Fin 1536) j))

theorem pre_at (h : Fin 4 → FVec Ideal S256x128 .bf16) (c : FVec Ideal S256x1024 .bf16) (w : FVec Ideal S1536x1024 .bf16) (x : FVec Ideal S256x1024 .f32)
    (r : Fin 256) (O : Fin 512 → EReal) (hO : ∀ (a : Fin 4) (d : Fin 128), h a (ix2 r d) = O ⟨a.val * 128 + d.val, by omega⟩) (j : Fin 1024) :
    pre (h 0) (h 1) (h 2) (h 3) c w x (ix2 r j) = row (fun k => c (ix2 r k)) O w (fun k => x (ix2 r k)) j := by
  pointwise [pre, row]
  rw [Mem.sum_two 1024 512 1536 rfl]
  refine congrArg (_ + ·) (congrArg₂ (· + ·) ?_ ?_)
  · refine Finset.sum_congr rfl fun k _ => ?_
    exact congrArg (· * _) (dif_pos k.isLt)
  · refine Finset.sum_congr rfl fun k _ => ?_
    refine congrArg (· * _) ((dif_neg (by dsimp only; omega)).trans ?_)
    by_cases h0 : 1024 + k.val - 1024 < 128
    · exact (dif_pos h0).trans ((hO 0 _).trans (congrArg O (Fin.ext (by show 0 * 128 + (1024 + k.val - 1024) = k.val; omega))))
    refine (dif_neg h0).trans ?_
    by_cases h1 : 1024 + k.val - 1024 - 128 < 128
    · exact (dif_pos h1).trans ((hO 1 _).trans (congrArg O (Fin.ext (by show 1 * 128 + (1024 + k.val - 1024 - 128) = k.val; omega))))
    refine (dif_neg h1).trans ?_
    by_cases h2 : 1024 + k.val - 1024 - 128 - 128 < 128
    · exact (dif_pos h2).trans ((hO 2 _).trans (congrArg O (Fin.ext (by show 2 * 128 + (1024 + k.val - 1024 - 128 - 128) = k.val; omega))))
    refine (dif_neg h2).trans ?_
    exact (hO 3 _).trans (congrArg O (Fin.ext (by show 3 * 128 + (1024 + k.val - 1024 - 128 - 128 - 128) = k.val; omega)))

/-- The norm of the rows. -/
def norm (p : FVec Ideal S256x1024 .f32) (g b : FVec Ideal S1x1024 .f32) : FVec Ideal S256x1024 .f32 :=
  k0_pay11 p (shapeCast S256x1 (multiReduction .add [1] S256 p 0x00000000#32 reduces_S256x1024_S256 (.inl rfl) rfl) shapeCasts_S256_S256x1) g b

theorem norm_at (p : FVec Ideal S256x1024 .f32) (g b : FVec Ideal S1x1024 .f32) (r : Fin 256) (j : Fin 1024) :
    norm p g b (ix2 r j) = Mem.norm (fun x => p (ix2 r x)) (fun x => g (ix2 0 x)) (fun x => b (ix2 0 x)) j := by
  pointwise [norm, k0_pay11, Mem.norm, Mem.mean]

/-- One chunk of rows: four heads of the memory attention, the rows before the norm, and the norm. -/
def chunk (K V : Fin 4 → FVec Ideal S1x256x128 .bf16) (q g : Fin 4 → FVec Ideal S256x128 .bf16) (c : FVec Ideal S256x1024 .bf16) (w : FVec Ideal S1536x1024 .bf16)
    (x : FVec Ideal S256x1024 .f32) (lg lb : FVec Ideal S1x1024 .f32) : FVec Ideal S256x1024 .f32 :=
  norm (pre (k0_pay3 (F := Ideal) (K 0) (V 0) (q 0) (g 0)) (k0_pay3 (F := Ideal) (K 1) (V 1) (q 1) (g 1)) (k0_pay3 (F := Ideal) (K 2) (V 2) (q 2) (g 2))
    (k0_pay3 (F := Ideal) (K 3) (V 3) (q 3) (g 3)) c w x) lg lb

theorem chunk_at (K V : Fin 4 → FVec Ideal S1x256x128 .bf16) (q g : Fin 4 → FVec Ideal S256x128 .bf16) (c : FVec Ideal S256x1024 .bf16) (w : FVec Ideal S1536x1024 .bf16)
    (x : FVec Ideal S256x1024 .f32) (lg lb : FVec Ideal S1x1024 .f32) (r : Fin 256) (j : Fin 1024)
    (q' : Fin 512 → EReal) (K' V' : Fin 256 → Fin 512 → EReal) (g' : Fin 512 → EReal)
    (hq : ∀ (a : Fin 4) (d : Fin 128), q a (ix2 r d) = q' ⟨a.val * 128 + d.val, by omega⟩)
    (hg : ∀ (a : Fin 4) (d : Fin 128), g a (ix2 r d) = g' ⟨a.val * 128 + d.val, by omega⟩)
    (hK : ∀ (a : Fin 4) (k : Fin 256) (d : Fin 128), K a (ix3 0 k d) = K' k ⟨a.val * 128 + d.val, by omega⟩)
    (hV : ∀ (a : Fin 4) (k : Fin 256) (d : Fin 128), V a (ix3 0 k d) = V' k ⟨a.val * 128 + d.val, by omega⟩) :
    chunk K V q g c w x lg lb (ix2 r j)
      = Mem.norm (row (fun k => c (ix2 r k)) (Mem.gated Mem.weighed2 q' K' V' g') w (fun k => x (ix2 r k))) (fun k => lg (ix2 0 k)) (fun k => lb (ix2 0 k)) j := by
  rw [chunk, norm_at]
  congr 1
  funext k
  refine pre_at (fun a => k0_pay3 (F := Ideal) (K a) (V a) (q a) (g a)) c w x r _ (fun a d => ?_) k
  rw [head_at]
  have ha (e : Fin 128) (p : (a.val * 128 + d.val) / 128 * 128 + e.val < 512) :
      (⟨(a.val * 128 + d.val) / 128 * 128 + e.val, p⟩ : Fin 512) = ⟨a.val * 128 + e.val, by omega⟩ := Fin.ext (by dsimp only; omega)
  unfold Mem.gated
  simp only [ha, hq, hg, hK, hV]

/-- What a load of a rectangle reads. -/
abbrev ld16 {S : Shape} (X : FVec Ideal S .bf16) (r : Rect S) : FVec Ideal r.shape .bf16 := View.ld (Val := Elt Ideal) (e' := .bf16) X r
abbrev ld32 {S : Shape} (X : FVec Ideal S .f32) (r : Rect S) : FVec Ideal r.shape .f32 := View.ld (Val := Elt Ideal) (e' := .f32) X r

variable (x0 : FVec Ideal S1024x1024 .bf16) (x1 x2 : FVec Ideal S1024x512 .bf16) (x3 : FVec Ideal S1x256x1024 .bf16) (x4 : FVec Ideal S1536x1024 .bf16)
  (x5 : FVec Ideal S1024x1024 .f32) (x6 x7 : FVec Ideal S1x1024 .f32)

/-- The keys and values of the four heads. -/
abbrev Ks : Fin 4 → FVec Ideal S1x256x128 .bf16 := ![ld16 x3 r0_0, ld16 x3 r0_3, ld16 x3 r0_6, ld16 x3 r0_9]
abbrev Vs : Fin 4 → FVec Ideal S1x256x128 .bf16 := ![ld16 x3 r0_1, ld16 x3 r0_4, ld16 x3 r0_7, ld16 x3 r0_10]

/-- The four chunks. -/
abbrev c0 : FVec Ideal S256x1024 .f32 := chunk (Ks x3) (Vs x3) ![ld16 x1 r0_2, ld16 x1 r0_5, ld16 x1 r0_8, ld16 x1 r0_11]
  ![ld16 x2 r0_2, ld16 x2 r0_5, ld16 x2 r0_8, ld16 x2 r0_11] (ld16 x0 r0_12) (ld16 x4 r0_13) (ld32 x5 r0_12) (ld32 x6 r0_14) (ld32 x7 r0_14)
abbrev c1 : FVec Ideal S256x1024 .f32 := chunk (Ks x3) (Vs x3) ![ld16 x1 r0_15, ld16 x1 r0_16, ld16 x1 r0_17, ld16 x1 r0_18]
  ![ld16 x2 r0_15, ld16 x2 r0_16, ld16 x2 r0_17, ld16 x2 r0_18] (ld16 x0 r0_19) (ld16 x4 r0_13) (ld32 x5 r0_19) (ld32 x6 r0_14) (ld32 x7 r0_14)
abbrev c2 : FVec Ideal S256x1024 .f32 := chunk (Ks x3) (Vs x3) ![ld16 x1 r0_20, ld16 x1 r0_21, ld16 x1 r0_22, ld16 x1 r0_23]
  ![ld16 x2 r0_20, ld16 x2 r0_21, ld16 x2 r0_22, ld16 x2 r0_23] (ld16 x0 r0_24) (ld16 x4 r0_13) (ld32 x5 r0_24) (ld32 x6 r0_14) (ld32 x7 r0_14)
abbrev c3 : FVec Ideal S256x1024 .f32 := chunk (Ks x3) (Vs x3) ![ld16 x1 r0_25, ld16 x1 r0_26, ld16 x1 r0_27, ld16 x1 r0_28]
  ![ld16 x2 r0_25, ld16 x2 r0_26, ld16 x2 r0_27, ld16 x2 r0_28] (ld16 x0 r0_29) (ld16 x4 r0_13) (ld32 x5 r0_29) (ld32 x6 r0_14) (ld32 x7 r0_14)

theorem out_eq : out0_8 (F := Ideal) x0 x1 x2 x3 x4 x5 x6 x7
    = View.canon [⟨r0_29, c3 x0 x1 x2 x3 x4 x5 x6 x7⟩, ⟨r0_24, c2 x0 x1 x2 x3 x4 x5 x6 x7⟩, ⟨r0_19, c1 x0 x1 x2 x3 x4 x5 x6 x7⟩, ⟨r0_12, c0 x0 x1 x2 x3 x4 x5 x6 x7⟩] := by
  unfold out0_8
  rfl

end Cert.OddOutIdeal.Out
end
-- ==== Proof.OddRef.lean ====
/- The reference of the odd layer's output read at an index: the memory's scores, their exponentials against the row's maximum,
   the weights, the gated weighted values, the rows before the norm, and the norm. -/
module
public import proofs.«01_k».proof.Proof.Gen.OddOutRefIdeal.Run
public import proofs.«01_k».proof.Proof.Mem
public import Idealize.ShloMosaic.Lib.Pointwise
@[expose] public section
set_option maxRecDepth 16384
noncomputable section
open Idealize.ShloMosaic
namespace Cert.OddOutRefIdeal.Out
open Cert.OddOutRefIdeal Cert.OddOutRefIdeal.Gen

variable (C : FVec Ideal S16384x1024 .bf16) (H : FVec Ideal S16384x2048 .bf16) (M : FVec Ideal S4x256x1024 .bf16)
  (W : FVec Ideal S1536x1024 .f32) (X : FVec Ideal S16384x1024 .f32) (G B : FVec Ideal S1024 .f32)
  (S E P : FVec Ideal S4x4x4096x256 .f32) (R : FVec Ideal S4x4x4096 .f32) (O : FVec Ideal S16384x512 .f32)
  (Y : FVec Ideal S16384x1024 .f32)

/-- The scores of the memory. -/
def scores : FVec Ideal S4x4x4096x256 .f32 :=
  Host.divf (Host.dotGeneral dot_S4x4096x4x128_S4x256x4x128_S4x4x4096x256_3_3_1_1_02_02 none (shapeCast _ (extractStridedSlice S16384x512 ![0, 1024] (extf .f32 H bitsLt_bf16_f32) slices_S16384x2048_S16384x512_0_1024) shapeCasts_S16384x512_S4x4096x4x128) (shapeCast _ (extractStridedSlice S4x256x512 ![0, 0, 0] (extf .f32 M bitsLt_bf16_f32) slices_S4x256x1024_S4x256x512_0_0_0) shapeCasts_S4x256x512_S4x256x4x128)) (broadcastInDim S4x4x4096x256 ![] bcast_S_S4x4x4096x256 (Host.sqrt (constant S_ .f32 0x43000000#32)))

/-- The maximum of each row. -/
def rowMax : FVec Ideal S4x4x4096 .f32 :=
  Host.reduce FloatOps.maximumf S (constant S_ .f32 0xFF800000#32) reducesTo_S4x4x4096x256_S4x4x4096_d3 h_S_

/-- The exponentials of the scores against their row's maximum. -/
def expo : FVec Ideal S4x4x4096x256 .f32 :=
  Host.exp (subf S (broadcastInDim S4x4x4096x256 ![0, 1, 2, 3] bcast_S4x4x4096x1_S4x4x4096x256_0_1_2_3 (broadcastInDim S4x4x4096x1 ![0, 1, 2] bcast_S4x4x4096_S4x4x4096x1_0_1_2 (maximumf (broadcastInDim S4x4x4096 ![] bcast_S_S4x4x4096 (constant S_ .f32 0xFF800000#32)) R))))

/-- The weights. -/
def weights : FVec Ideal S4x4x4096x256 .f32 :=
  Host.divf E (broadcastInDim S4x4x4096x256 ![0, 1, 2, 3] bcast_S4x4x4096x1_S4x4x4096x256_0_1_2_3 (broadcastInDim S4x4x4096x1 ![0, 1, 2] bcast_S4x4x4096_S4x4x4096x1_0_1_2 (Host.reduceAdd E (constant S_ .f32 0x00000000#32) reducesTo_S4x4x4096x256_S4x4x4096_d3 h_S_)))

/-- The weighted values, gated. -/
def gated : FVec Ideal S16384x512 .f32 :=
  mulf (shapeCast _ (transpose S4x4096x4x128 [0, 3, 1, 2] (Host.dotGeneral dot_S4x256x4x128_S4x4x4096x256_S4x4x128x4096_1_3_3_2_02_01 none (shapeCast _ (extractStridedSlice S4x256x512 ![0, 0, 512] (extf .f32 M bitsLt_bf16_f32) slices_S4x256x1024_S4x256x512_0_0_512) shapeCasts_S4x256x512_S4x256x4x128) P) transposes_S4x4x128x4096_S4x4096x4x128_0_3_1_2) shapeCasts_S4x4096x4x128_S16384x512)
    (mulf (extractStridedSlice S16384x512 ![0, 1536] (extf .f32 H bitsLt_bf16_f32) slices_S16384x2048_S16384x512_0_1536) (Host.divf (broadcastInDim S16384x512 ![] bcast_S_S16384x512 (constant S_ .f32 0x3F800000#32)) (addf (broadcastInDim S16384x512 ![] bcast_S_S16384x512 (constant S_ .f32 0x3F800000#32)) (Host.exp (Host.negf (extractStridedSlice S16384x512 ![0, 1536] (extf .f32 H bitsLt_bf16_f32) slices_S16384x2048_S16384x512_0_1536))))))

/-- The rows before the norm. -/
def pre : FVec Ideal S16384x1024 .f32 :=
  addf (mulf (broadcastInDim S16384x1024 ![] bcast_S_S16384x1024 (constant S_ .f32 0x3FB504F3#32)) X) (Host.dotGeneral dot_S16384x1536_S1536x1024_S16384x1024_1_0_0_1_n_n none (concatenate S16384x1536 1 [⟨S16384x1024, (extf .f32 C bitsLt_bf16_f32)⟩, ⟨S16384x512, O⟩] concatenates_S16384x1024_S16384x512_S16384x1536_d1) W)

/-- The mean of each row, in a column. -/
def mean : FVec Ideal S16384x1 .f32 :=
  Host.divf (broadcastInDim S16384x1 ![0] bcast_S16384_S16384x1_0 (Host.reduceAdd Y (constant S_ .f32 0x00000000#32) reducesTo_S16384x1024_S16384_d1 h_S_)) (broadcastInDim S16384x1 ![] bcast_S_S16384x1 (constant S_ .f32 0x44800000#32))

/-- The rows less their mean. -/
def centred : FVec Ideal S16384x1024 .f32 :=
  subf Y (broadcastInDim S16384x1024 ![0, 1] bcast_S16384x1_S16384x1024_0_1 (mean Y))

/-- The norm of the rows less their mean. -/
def scaled : FVec Ideal S16384x1024 .f32 :=
  addf (mulf (mulf Y (broadcastInDim S16384x1024 ![0, 1] bcast_S16384x1_S16384x1024_0_1 (Host.rsqrt (addf (mean (mulf Y Y)) (broadcastInDim S16384x1 ![] bcast_S_S16384x1 (constant S_ .f32 0x3727C5AC#32))))))
    (broadcastInDim S16384x1024 ![0, 1] bcast_S1x1024_S16384x1024_0_1 (broadcastInDim S1x1024 ![1] bcast_S1024_S1x1024_1 G)))
    (broadcastInDim S16384x1024 ![0, 1] bcast_S1x1024_S16384x1024_0_1 (broadcastInDim S1x1024 ![1] bcast_S1024_S1x1024_1 B))

/-- The whole reference. -/
def out : FVec Ideal S16384x1024 .f32 :=
  scaled G B (centred (pre C W X (gated H M (weights (expo (scores H M) (rowMax (scores H M)))))))

theorem res_eq (m : (ℓ : Loc nD τ sig) → Buf (Elt Ideal) ℓ) (c : Dev nD) : Value.res_main_v56 m c
    = out (m (c.tc.loc main_arg0)) (m (c.tc.loc main_arg1)) (m (c.tc.loc main_arg2)) (m (c.tc.loc main_arg3)) (m (c.tc.loc main_arg4)) (m (c.tc.loc main_arg5)) (m (c.tc.loc main_arg6)) := rfl

/-- The queries, keys, values and gates of row `i`. -/
abbrev q (i : Fin 16384) (j : Fin 512) : EReal := H (ix2 i (⟨1024 + j.val, by omega⟩ : Fin 2048))
abbrev k (i : Fin 16384) (x : Fin 256) (j : Fin 512) : EReal := M (ix3 (⟨i.val / 4096, by omega⟩ : Fin 4) x (⟨j.val, by omega⟩ : Fin 1024))
abbrev v (i : Fin 16384) (x : Fin 256) (j : Fin 512) : EReal := M (ix3 (⟨i.val / 4096, by omega⟩ : Fin 4) x (⟨512 + j.val, by omega⟩ : Fin 1024))
abbrev g (i : Fin 16384) (j : Fin 512) : EReal := H (ix2 i (⟨1536 + j.val, by omega⟩ : Fin 2048))

theorem scores_at (i : Fin 16384) (j : Fin 512) (x : Fin 256) :
    scores H M (ix4 (⟨i.val / 4096, by omega⟩ : Fin 4) (⟨j.val / 128, by omega⟩ : Fin 4) (⟨i.val % 4096, by omega⟩ : Fin 4096) x)
      = Mem.score (fun d => q H i ⟨j.val / 128 * 128 + d.val, by omega⟩) (fun d => k M i x ⟨j.val / 128 * 128 + d.val, by omega⟩) := by
  pointwise [scores, Mem.score]

theorem rowMax_at (b h : Fin 4) (i : Fin 4096) : rowMax S (ix3 b h i)
    = Finset.univ.fold max (⊥ : EReal) (fun x : Fin 256 => S (ix4 b h i x)) := by
  unfold rowMax
  rw [Host.reduce_eq_fold]
  refine (Shape.ReducesTo.fold_fiber_r4_a3 _ _ _ _ _).trans ?_
  rw [show (constant (F := Ideal) S_ .f32 0xFF800000#32) (Shape.Idx.first h_S_) = (⊥ : EReal) from Softmax.negInf]
  rfl

theorem expo_at (b h : Fin 4) (i : Fin 4096) (k : Fin 256) : expo S R (ix4 b h i k)
    = Ideal.exp (S (ix4 b h i k) - max (Ideal.ofBits FTy.f32 4286578688#32) (R (ix3 b h i))) := by
  pointwise [expo]

theorem weights_at (b h : Fin 4) (i : Fin 4096) (k : Fin 256) : weights E (ix4 b h i k)
    = Ideal.div (E (ix4 b h i k)) (∑ x : Fin 256, E (ix4 b h i x)) := by
  pointwise [weights]

theorem expo_at' (i : Fin 16384) (j : Fin 512) (x : Fin 256) :
    expo (scores H M) (rowMax (scores H M)) (ix4 (⟨i.val / 4096, by omega⟩ : Fin 4) (⟨j.val / 128, by omega⟩ : Fin 4) (⟨i.val % 4096, by omega⟩ : Fin 4096) x)
      = Mem.expo (fun d => q H i ⟨j.val / 128 * 128 + d.val, by omega⟩) (fun x d => k M i x ⟨j.val / 128 * 128 + d.val, by omega⟩) x := by
  rw [expo_at, rowMax_at]
  simp only [scores_at]
  rfl

/-- The memory's contribution. -/
abbrev mem : FVec Ideal S16384x512 .f32 := gated H M (weights (expo (scores H M) (rowMax (scores H M))))

theorem mem_at (i : Fin 16384) (j : Fin 512) : mem H M (ix2 i j) = Mem.gated Mem.weighed (q H i) (k M i) (v M i) (g H i) j := by
  have h (P : FVec Ideal S4x4x4096x256 .f32) : gated H M P (ix2 i j)
      = (∑ x : Fin 256, v M i x j * P (ix4 (⟨i.val / 4096, by omega⟩ : Fin 4) (⟨j.val / 128, by omega⟩ : Fin 4) (⟨i.val % 4096, by omega⟩ : Fin 4096) x))
        * (g H i j * Ideal.logistic (g H i j)) := by
    pointwise [gated]
    rfl
  rw [mem, h]
  simp only [weights_at, expo_at']
  rfl

/-- A row before the norm. -/
def row (i : Fin 16384) (O : Fin 512 → EReal) (j : Fin 1024) : EReal :=
  Ideal.ofBits .f32 0x3FB504F3#32 * X (ix2 i j)
    + ((∑ x : Fin 1024, C (ix2 i x) * W (ix2 (⟨x.val, by omega⟩ : Fin 1536) j)) + ∑ x : Fin 512, O x * W (ix2 (⟨1024 + x.val, by omega⟩ : Fin 1536) j))

theorem pre_at (i : Fin 16384) (j : Fin 1024) : pre C W X O (ix2 i j) = row C W X i (fun x => O (ix2 i x)) j := by
  pointwise [pre, row]

theorem norm_at (i : Fin 16384) (j : Fin 1024) :
    scaled G B (centred Y) (ix2 i j) = Mem.norm (fun x => Y (ix2 i x)) (fun x => G (ix1 x)) (fun x => B (ix1 x)) j := by
  have hc (x : Fin 1024) : centred Y (ix2 i x) = Y (ix2 i x) - Mem.mean (fun x => Y (ix2 i x)) := by
    pointwise [centred, mean, Mem.mean]
  have hs (Z : FVec Ideal S16384x1024 .f32) : scaled G B Z (ix2 i j)
      = Z (ix2 i j) * Ideal.rsqrt (Mem.mean (fun x => Z (ix2 i x) * Z (ix2 i x)) + Ideal.ofBits .f32 0x3727C5AC#32) * G (ix1 j) + B (ix1 j) := by
    pointwise [scaled, mean, Mem.mean]
  rw [hs]
  simp only [hc]
  rfl

theorem out_at (i : Fin 16384) (j : Fin 1024) : out C H M W X G B (ix2 i j)
    = Mem.norm (row C W X i (Mem.gated Mem.weighed (q H i) (k M i) (v M i) (g H i))) (fun x => G (ix1 x)) (fun x => B (ix1 x)) j := by
  rw [out, norm_at]
  simp only [pre_at]
  have hm : (fun x => gated H M (weights (expo (scores H M) (rowMax (scores H M)))) (ix2 i x)) = Mem.gated Mem.weighed (q H i) (k M i) (v M i) (g H i) :=
    funext (mem_at H M i)
  rw [hm]

end Cert.OddOutRefIdeal.Out
end
-- ==== Proof.OddBlock.lean ====
/- What the odd layer's output array holds: at each index the value of the reference's output. -/
module
public import proofs.«01_k».proof.Proof.OddChunk
public import proofs.«01_k».proof.Proof.OddRef
@[expose] public section
set_option maxRecDepth 16384
noncomputable section
open Idealize.ShloMosaic Idealize.ShloMosaic.TcCoe Idealize.SL.Sem
open Idealize.ShloMosaic.Pipeline (Dat)
namespace Cert.OddOutIdeal.Out
open Cert.OddOutIdeal Cert.OddOutIdeal.Gen

section
variable (x0 : FVec Ideal S1024x1024 .bf16) (x1 x2 : FVec Ideal S1024x512 .bf16) (x3 : FVec Ideal S1x256x1024 .bf16) (x4 : FVec Ideal S1536x1024 .bf16)
  (x5 : FVec Ideal S1024x1024 .f32) (x6 x7 : FVec Ideal S1x1024 .f32)

/-- An element of the block, from the blocks read. -/
def val (r j : Fin 1024) : EReal :=
  Mem.norm (row (fun k => x0 (ix2 r k)) (Mem.gated Mem.weighed2 (fun k => x1 (ix2 r k)) (fun k d => x3 (ix3 0 k (⟨d.val, by omega⟩ : Fin 1024)))
      (fun k d => x3 (ix3 0 k (⟨512 + d.val, by omega⟩ : Fin 1024))) (fun k => x2 (ix2 r k))) x4 (fun k => x5 (ix2 r k)))
    (fun k => x6 (ix2 0 k)) (fun k => x7 (ix2 0 k)) j

theorem Ks_at (a : Fin 4) (k : Fin 256) (d : Fin 128) : Ks x3 a (ix3 0 k d) = x3 (ix3 0 k (⟨a.val * 128 + d.val, by omega⟩ : Fin 1024)) := by
  fin_cases a <;> (refine congrArg x3 ?_; blk_ext [] <;> (rw [LoadRect.idx_apply]; simp) <;> omega)

theorem Vs_at (a : Fin 4) (k : Fin 256) (d : Fin 128) : Vs x3 a (ix3 0 k d) = x3 (ix3 0 k (⟨512 + (a.val * 128 + d.val), by omega⟩ : Fin 1024)) := by
  fin_cases a <;> (refine congrArg x3 ?_; blk_ext [] <;> (rw [LoadRect.idx_apply]; simp) <;> omega)

theorem q0_at (x : FVec Ideal S1024x512 .bf16) (a : Fin 4) (r : Fin 256) (d : Fin 128) :
    (![ld16 x r0_2, ld16 x r0_5, ld16 x r0_8, ld16 x r0_11] : Fin 4 → FVec Ideal S256x128 .bf16) a (ix2 r d)
      = x (ix2 (⟨r.val, by omega⟩ : Fin 1024) (⟨a.val * 128 + d.val, by omega⟩ : Fin 512)) := by
  fin_cases a <;> (refine congrArg x ?_; blk_ext [] <;> (rw [LoadRect.idx_apply]; simp) <;> omega)

theorem q1_at (x : FVec Ideal S1024x512 .bf16) (a : Fin 4) (r : Fin 256) (d : Fin 128) :
    (![ld16 x r0_15, ld16 x r0_16, ld16 x r0_17, ld16 x r0_18] : Fin 4 → FVec Ideal S256x128 .bf16) a (ix2 r d)
      = x (ix2 (⟨256 + r.val, by omega⟩ : Fin 1024) (⟨a.val * 128 + d.val, by omega⟩ : Fin 512)) := by
  fin_cases a <;> (refine congrArg x ?_; blk_ext [] <;> (rw [LoadRect.idx_apply]; simp) <;> omega)

theorem q2_at (x : FVec Ideal S1024x512 .bf16) (a : Fin 4) (r : Fin 256) (d : Fin 128) :
    (![ld16 x r0_20, ld16 x r0_21, ld16 x r0_22, ld16 x r0_23] : Fin 4 → FVec Ideal S256x128 .bf16) a (ix2 r d)
      = x (ix2 (⟨512 + r.val, by omega⟩ : Fin 1024) (⟨a.val * 128 + d.val, by omega⟩ : Fin 512)) := by
  fin_cases a <;> (refine congrArg x ?_; blk_ext [] <;> (rw [LoadRect.idx_apply]; simp) <;> omega)

theorem q3_at (x : FVec Ideal S1024x512 .bf16) (a : Fin 4) (r : Fin 256) (d : Fin 128) :
    (![ld16 x r0_25, ld16 x r0_26, ld16 x r0_27, ld16 x r0_28] : Fin 4 → FVec Ideal S256x128 .bf16) a (ix2 r d)
      = x (ix2 (⟨768 + r.val, by omega⟩ : Fin 1024) (⟨a.val * 128 + d.val, by omega⟩ : Fin 512)) := by
  fin_cases a <;> (refine congrArg x ?_; blk_ext [] <;> (rw [LoadRect.idx_apply]; simp) <;> omega)

theorem crow0 (x : FVec Ideal S1024x1024 .bf16) (r : Fin 256) (j : Fin 1024) : ld16 x r0_12 (ix2 r j) = x (ix2 (⟨r.val, by omega⟩ : Fin 1024) j) := by
  refine congrArg x ?_; blk_ext [] <;> (rw [LoadRect.idx_apply]; simp)

theorem xrow0 (x : FVec Ideal S1024x1024 .f32) (r : Fin 256) (j : Fin 1024) : ld32 x r0_12 (ix2 r j) = x (ix2 (⟨r.val, by omega⟩ : Fin 1024) j) := by
  refine congrArg x ?_; blk_ext [] <;> (rw [LoadRect.idx_apply]; simp)

theorem crow1 (x : FVec Ideal S1024x1024 .bf16) (r : Fin 256) (j : Fin 1024) : ld16 x r0_19 (ix2 r j) = x (ix2 (⟨256 + r.val, by omega⟩ : Fin 1024) j) := by
  refine congrArg x ?_; blk_ext [] <;> (rw [LoadRect.idx_apply]; simp)

theorem xrow1 (x : FVec Ideal S1024x1024 .f32) (r : Fin 256) (j : Fin 1024) : ld32 x r0_19 (ix2 r j) = x (ix2 (⟨256 + r.val, by omega⟩ : Fin 1024) j) := by
  refine congrArg x ?_; blk_ext [] <;> (rw [LoadRect.idx_apply]; simp)

theorem crow2 (x : FVec Ideal S1024x1024 .bf16) (r : Fin 256) (j : Fin 1024) : ld16 x r0_24 (ix2 r j) = x (ix2 (⟨512 + r.val, by omega⟩ : Fin 1024) j) := by
  refine congrArg x ?_; blk_ext [] <;> (rw [LoadRect.idx_apply]; simp)

theorem xrow2 (x : FVec Ideal S1024x1024 .f32) (r : Fin 256) (j : Fin 1024) : ld32 x r0_24 (ix2 r j) = x (ix2 (⟨512 + r.val, by omega⟩ : Fin 1024) j) := by
  refine congrArg x ?_; blk_ext [] <;> (rw [LoadRect.idx_apply]; simp)

theorem crow3 (x : FVec Ideal S1024x1024 .bf16) (r : Fin 256) (j : Fin 1024) : ld16 x r0_29 (ix2 r j) = x (ix2 (⟨768 + r.val, by omega⟩ : Fin 1024) j) := by
  refine congrArg x ?_; blk_ext [] <;> (rw [LoadRect.idx_apply]; simp)

theorem xrow3 (x : FVec Ideal S1024x1024 .f32) (r : Fin 256) (j : Fin 1024) : ld32 x r0_29 (ix2 r j) = x (ix2 (⟨768 + r.val, by omega⟩ : Fin 1024) j) := by
  refine congrArg x ?_; blk_ext [] <;> (rw [LoadRect.idx_apply]; simp)

theorem w_at : ld16 x4 r0_13 = x4 := by
  funext y; refine congrArg x4 ?_; funext a; apply Fin.ext; rw [LoadRect.idx_apply]; fin_cases a <;> simp

theorem l_at (x : FVec Ideal S1x1024 .f32) : ld32 x r0_14 = x := by
  funext y; refine congrArg x ?_; funext a; apply Fin.ext; rw [LoadRect.idx_apply]; fin_cases a <;> simp

theorem c0_at (r : Fin 256) (j : Fin 1024) : c0 x0 x1 x2 x3 x4 x5 x6 x7 (ix2 r j) = val x0 x1 x2 x3 x4 x5 x6 x7 (⟨r.val, by omega⟩ : Fin 1024) j := by
  rw [c0, w_at, l_at, l_at]
  refine (chunk_at _ _ _ _ _ _ _ _ _ r j (fun k => x1 (ix2 (⟨r.val, by omega⟩ : Fin 1024) k)) (fun k d => x3 (ix3 0 k (⟨d.val, by omega⟩ : Fin 1024)))
      (fun k d => x3 (ix3 0 k (⟨512 + d.val, by omega⟩ : Fin 1024))) (fun k => x2 (ix2 (⟨r.val, by omega⟩ : Fin 1024) k))
    (fun a d => q0_at x1 a r d) (fun a d => q0_at x2 a r d) (fun a k d => Ks_at x3 a k d) (fun a k d => Vs_at x3 a k d)).trans ?_
  exact congrArg₂ (fun a b => Mem.norm (row a _ x4 b) _ _ j) (funext (crow0 x0 r)) (funext (xrow0 x5 r))

theorem c1_at (r : Fin 256) (j : Fin 1024) : c1 x0 x1 x2 x3 x4 x5 x6 x7 (ix2 r j) = val x0 x1 x2 x3 x4 x5 x6 x7 (⟨256 + r.val, by omega⟩ : Fin 1024) j := by
  rw [c1, w_at, l_at, l_at]
  refine (chunk_at _ _ _ _ _ _ _ _ _ r j (fun k => x1 (ix2 (⟨256 + r.val, by omega⟩ : Fin 1024) k)) (fun k d => x3 (ix3 0 k (⟨d.val, by omega⟩ : Fin 1024)))
      (fun k d => x3 (ix3 0 k (⟨512 + d.val, by omega⟩ : Fin 1024))) (fun k => x2 (ix2 (⟨256 + r.val, by omega⟩ : Fin 1024) k))
    (fun a d => q1_at x1 a r d) (fun a d => q1_at x2 a r d) (fun a k d => Ks_at x3 a k d) (fun a k d => Vs_at x3 a k d)).trans ?_
  exact congrArg₂ (fun a b => Mem.norm (row a _ x4 b) _ _ j) (funext (crow1 x0 r)) (funext (xrow1 x5 r))

theorem c2_at (r : Fin 256) (j : Fin 1024) : c2 x0 x1 x2 x3 x4 x5 x6 x7 (ix2 r j) = val x0 x1 x2 x3 x4 x5 x6 x7 (⟨512 + r.val, by omega⟩ : Fin 1024) j := by
  rw [c2, w_at, l_at, l_at]
  refine (chunk_at _ _ _ _ _ _ _ _ _ r j (fun k => x1 (ix2 (⟨512 + r.val, by omega⟩ : Fin 1024) k)) (fun k d => x3 (ix3 0 k (⟨d.val, by omega⟩ : Fin 1024)))
      (fun k d => x3 (ix3 0 k (⟨512 + d.val, by omega⟩ : Fin 1024))) (fun k => x2 (ix2 (⟨512 + r.val, by omega⟩ : Fin 1024) k))
    (fun a d => q2_at x1 a r d) (fun a d => q2_at x2 a r d) (fun a k d => Ks_at x3 a k d) (fun a k d => Vs_at x3 a k d)).trans ?_
  exact congrArg₂ (fun a b => Mem.norm (row a _ x4 b) _ _ j) (funext (crow2 x0 r)) (funext (xrow2 x5 r))

theorem c3_at (r : Fin 256) (j : Fin 1024) : c3 x0 x1 x2 x3 x4 x5 x6 x7 (ix2 r j) = val x0 x1 x2 x3 x4 x5 x6 x7 (⟨768 + r.val, by omega⟩ : Fin 1024) j := by
  rw [c3, w_at, l_at, l_at]
  refine (chunk_at _ _ _ _ _ _ _ _ _ r j (fun k => x1 (ix2 (⟨768 + r.val, by omega⟩ : Fin 1024) k)) (fun k d => x3 (ix3 0 k (⟨d.val, by omega⟩ : Fin 1024)))
      (fun k d => x3 (ix3 0 k (⟨512 + d.val, by omega⟩ : Fin 1024))) (fun k => x2 (ix2 (⟨768 + r.val, by omega⟩ : Fin 1024) k))
    (fun a d => q3_at x1 a r d) (fun a d => q3_at x2 a r d) (fun a k d => Ks_at x3 a k d) (fun a k d => Vs_at x3 a k d)).trans ?_
  exact congrArg₂ (fun a b => Mem.norm (row a _ x4 b) _ _ j) (funext (crow3 x0 r)) (funext (xrow3 x5 r))

theorem block (r j : Fin 1024) : out0_8 (F := Ideal) x0 x1 x2 x3 x4 x5 x6 x7 (ix2 r j) = val x0 x1 x2 x3 x4 x5 x6 x7 r j := by
  rw [out_eq]
  canon_tiles y hy
  all_goals (
    idx_vars y
    change r.val = _ at hy0
    change j.val = _ at hy1
    obtain rfl : j = y1 := Fin.ext hy1)
  · exact (c3_at x0 x1 x2 x3 x4 x5 x6 x7 y0 j).trans (congrArg (fun r => val x0 x1 x2 x3 x4 x5 x6 x7 r j) (Fin.ext hy0.symm))
  · exact (c2_at x0 x1 x2 x3 x4 x5 x6 x7 y0 j).trans (congrArg (fun r => val x0 x1 x2 x3 x4 x5 x6 x7 r j) (Fin.ext hy0.symm))
  · exact (c1_at x0 x1 x2 x3 x4 x5 x6 x7 y0 j).trans (congrArg (fun r => val x0 x1 x2 x3 x4 x5 x6 x7 r j) (Fin.ext hy0.symm))
  · exact (c0_at x0 x1 x2 x3 x4 x5 x6 x7 y0 j).trans (congrArg (fun r => val x0 x1 x2 x3 x4 x5 x6 x7 r j) (Fin.ext hy0.symm))

end

variable (m : (ℓ : Loc nD τ sig) → Buf (Elt Ideal) ℓ)

theorem idx : ∀ t : Fin cfg0.N, win0_0.index t = ![t.val, 0] ∧ win0_1.index t = ![t.val, 2] ∧ win0_2.index t = ![t.val, 3]
    ∧ win0_3.index t = ![t.val / 4, 0, 0] ∧ win0_4.index t = ![0, 0] ∧ win0_5.index t = ![t.val, 0] ∧ win0_6.index t = ![0, 0]
    ∧ win0_7.index t = ![0, 0] ∧ win0_8.index t = ![t.val, 0] :=
  (by decide +kernel : ∀ t : Fin grid0.N, _)

theorem lt16 : ∀ t : Fin cfg0.N, t.val < 16 := (by decide +kernel : ∀ t : Fin grid0.N, _)

/-- The arguments: the gated unit's output, the projection, the memory's keys and values, the weights, the rows, and the norm's scale and shift. -/
abbrev Ca (c : Dev nD) : FVec Ideal S16384x1024 .bf16 := m ((c : Thread nD τ).loc main_arg0)
abbrev Ha (c : Dev nD) : FVec Ideal S16384x2048 .bf16 := m ((c : Thread nD τ).loc main_arg1)
abbrev Ma (c : Dev nD) : FVec Ideal S4x256x1024 .bf16 := m ((c : Thread nD τ).loc main_arg2)
abbrev Wa (c : Dev nD) : FVec Ideal S1536x1024 .f32 := m ((c : Thread nD τ).loc main_arg3)
abbrev Xa (c : Dev nD) : FVec Ideal S16384x1024 .f32 := m ((c : Thread nD τ).loc main_arg4)
abbrev Ga (c : Dev nD) : FVec Ideal S1024 .f32 := m ((c : Thread nD τ).loc main_arg5)
abbrev Ba (c : Dev nD) : FVec Ideal S1024 .f32 := m ((c : Thread nD τ).loc main_arg6)

/-- The array's row that holds row `r` of block `t`. -/
abbrev at' (t : Fin cfg0.N) (r : Fin 1024) : Fin 16384 := ⟨t.val * 1024 + r.val, by have := lt16 t; omega⟩

theorem c_blk (c : Dev nD) (t : Fin cfg0.N) (r j : Fin 1024) : iblk m c 0 t (ix2 r j) = Ca m c (ix2 (at' t r) j) := by
  blk_ext [iblk, V, idx t]

theorem q_blk (c : Dev nD) (t : Fin cfg0.N) (r : Fin 1024) (j : Fin 512) : iblk m c 1 t (ix2 r j) = OddOutRefIdeal.Out.q (Ha m c) (at' t r) j := by
  blk_ext [iblk, V, idx t]

theorem g_blk (c : Dev nD) (t : Fin cfg0.N) (r : Fin 1024) (j : Fin 512) : iblk m c 2 t (ix2 r j) = OddOutRefIdeal.Out.g (Ha m c) (at' t r) j := by
  blk_ext [iblk, V, idx t]

theorem m_blk (c : Dev nD) (t : Fin cfg0.N) (k : Fin 256) (j : Fin 1024) (r : Fin 1024) : iblk m c 3 t (ix3 0 k j)
    = Ma m c (ix3 (⟨(t.val * 1024 + r.val) / 4096, by have := lt16 t; omega⟩ : Fin 4) k j) := by
  blk_ext [iblk, V, idx t]

theorem w_blk (c : Dev nD) (t : Fin cfg0.N) (x : Fin 1536) (j : Fin 1024) : iblk m c 4 t (ix2 x j) = Wa m c (ix2 x j) := by
  blk_point [iblk, V, idx t]

theorem x_blk (c : Dev nD) (t : Fin cfg0.N) (r j : Fin 1024) : iblk m c 5 t (ix2 r j) = Xa m c (ix2 (at' t r) j) := by
  blk_ext [iblk, V, idx t]

theorem lg_blk (c : Dev nD) (t : Fin cfg0.N) (j : Fin 1024) : iblk m c 6 t (ix2 0 j) = Ga m c (ix1 j) := by
  blk_point [iblk, V, idx t]

theorem lb_blk (c : Dev nD) (t : Fin cfg0.N) (j : Fin 1024) : iblk m c 7 t (ix2 0 j) = Ba m c (ix1 j) := by
  blk_point [iblk, V, idx t]

/-- The reference's output of the arguments. -/
abbrev ref (c : Dev nD) : FVec Ideal S16384x1024 .f32 := OddOutRefIdeal.Out.out (Ca m c) (Ha m c) (Ma m c) (Wa m c) (Xa m c) (Ga m c) (Ba m c)

theorem point (c : Dev nD) (hq : ∀ i j, ∃ r : ℝ, OddOutRefIdeal.Out.q (Ha m c) i j = r) (hk : ∀ i k j, ∃ r : ℝ, OddOutRefIdeal.Out.k (Ma m c) i k j = r)
    (t : Fin cfg0.N) (r j : Fin 1024) :
    val (iblk m c 0 t) (iblk m c 1 t) (iblk m c 2 t) (iblk m c 3 t) (iblk m c 4 t) (iblk m c 5 t) (iblk m c 6 t) (iblk m c 7 t) r j
      = ref m c (((cfg0.win 8).blk t).view.emb (ix2 r j)) := by
  have he : ((cfg0.win 8).blk t).view.emb (ix2 r j) = ix2 (at' t r) j := by
    blk_ext [idx t]
  refine Eq.trans ?_ (congrArg (ref m c) he.symm)
  rw [ref, OddOutRefIdeal.Out.out_at]
  unfold val row OddOutRefIdeal.Out.row
  have hO := funext fun j => Mem.gated_eq (OddOutRefIdeal.Out.q (Ha m c) (at' t r)) (OddOutRefIdeal.Out.k (Ma m c) (at' t r)) (OddOutRefIdeal.Out.v (Ma m c) (at' t r))
    (OddOutRefIdeal.Out.g (Ha m c) (at' t r)) j (hq _) (hk _)
  rw [← hO]
  simp only [c_blk, q_blk, g_blk, m_blk m c t _ _ r, w_blk, x_blk, lg_blk, lb_blk]

/-- The result array is the reference's, where the queries and the keys are real numbers. -/
theorem final (c : Dev nD) (hq : ∀ i j, ∃ r : ℝ, OddOutRefIdeal.Out.q (Ha m c) i j = r) (hk : ∀ i k j, ∃ r : ℝ, OddOutRefIdeal.Out.k (Ma m c) i k j = r) :
    (dats m 0 c).arrAt 8 (cfgs 0).N = ref m c := by
  refine (dats m 0 c).arrAt_eq_of_covers 8 _ (by decide +kernel) fun t _ y => ?_
  blk_simp
  rw [after0_8]
  idx_vars y
  exact (block _ _ _ _ _ _ _ _ y0 y1).trans (point m c hq hk t y0 y1)

end Cert.OddOutIdeal.Out
end
-- ==== Proof.OddPre.lean ====
/- The precondition of the odd layer's output read: every query and every key of the memory is a real number. -/
module
public import proofs.«01_k».proof.Pre_finite_memory_scores
public import proofs.«01_k».proof.Proof.Pre
@[expose] public section
noncomputable section
open Idealize.ShloMosaic
namespace Cert.Pre_finite_memory_scores

theorem facts : Facts where
  bitsLt_bf16_f32 := by decide
  slices_S16384x2048_S16384x512_0_1024 := by decide
  slices_S4x256x1024_S4x256x512_0_0_0 := by decide
  bcast_S_S16384x512 := by decide
  reducesTo_S16384x512_S_d0_1 := by decide
  h_S_ := by decide
  bcast_S_S4x256x512 := by decide
  reducesTo_S4x256x512_S_d0_1_2 := by decide

instance : Facts := facts

/-- A number whose magnitude is below infinity is real. -/
theorem real_of_abs (z : EReal) (h : BitVec.ofBool (decide (FloatOps.absf (φ := .f32) (F := Ideal) z < Ideal.ofBits FTy.f32 2139095040#32)) = 1#1) :
    ∃ r : ℝ, z = (r : EReal) := by
  rw [Pre_finite_scores.posInf] at h
  have h3 : FloatOps.absf (φ := .f32) (F := Ideal) z < (⊤ : EReal) := by
    by_contra hn
    rw [decide_eq_false hn] at h
    exact absurd h (by decide)
  induction z with
  | bot => exact absurd h3 (by simp [FloatOps.absf])
  | top => exact absurd h3 (by simp [FloatOps.absf])
  | coe r => exact ⟨r, rfl⟩

/-- The queries' half of the precondition. -/
def halfQ (x : FVec Ideal S16384x2048 .bf16) : IVec S_ 1 :=
  Host.reduce IntOp.andi (cmpf .olt (Host.absf (extractStridedSlice S16384x512 ![0, 1024] (extf .f32 x Facts.bitsLt_bf16_f32) Facts.slices_S16384x2048_S16384x512_0_1024))
      (broadcastInDim S16384x512 ![] Facts.bcast_S_S16384x512 (constant S_ .f32 0x7F800000#32)))
    (constantI S_ 1 1#1) Facts.reducesTo_S16384x512_S_d0_1 Facts.h_S_

/-- The keys' half of the precondition. -/
def halfK (x : FVec Ideal S4x256x1024 .bf16) : IVec S_ 1 :=
  Host.reduce IntOp.andi (cmpf .olt (Host.absf (extractStridedSlice S4x256x512 ![0, 0, 0] (extf .f32 x Facts.bitsLt_bf16_f32) Facts.slices_S4x256x1024_S4x256x512_0_0_0))
      (broadcastInDim S4x256x512 ![] Facts.bcast_S_S4x256x512 (constant S_ .f32 0x7F800000#32)))
    (constantI S_ 1 1#1) Facts.reducesTo_S4x256x512_S_d0_1_2 Facts.h_S_

theorem halfQ_real (x : FVec Ideal S16384x2048 .bf16) (h : halfQ x ix0 = 1#1) (i : Fin 16384) (j : Fin 512) :
    ∃ r : ℝ, x (ix2 i (⟨1024 + j.val, by omega⟩ : Fin 2048)) = (r : EReal) := by
  unfold halfQ at h
  rw [Host.reduce_eq_fold] at h
  have h1 := Pre_finite_scores.fold_and_one _ _ _ h (ix2 i j) (by
    rw [Finset.mem_filter]; exact ⟨Finset.mem_univ _, funext fun a => Fin.elim0 a⟩)
  refine real_of_abs _ (Eq.trans ?_ h1)
  pointwise

theorem halfK_real (x : FVec Ideal S4x256x1024 .bf16) (h : halfK x ix0 = 1#1) (b : Fin 4) (k : Fin 256) (j : Fin 512) :
    ∃ r : ℝ, x (ix3 b k (⟨j.val, by omega⟩ : Fin 1024)) = (r : EReal) := by
  unfold halfK at h
  rw [Host.reduce_eq_fold] at h
  have h1 := Pre_finite_scores.fold_and_one _ _ _ h (ix3 b k j) (by
    rw [Finset.mem_filter]; exact ⟨Finset.mem_univ _, funext fun a => Fin.elim0 a⟩)
  refine real_of_abs _ (Eq.trans ?_ h1)
  pointwise

theorem real (C : FVec Ideal S16384x1024 .bf16) (H : FVec Ideal S16384x2048 .bf16) (M : FVec Ideal S4x256x1024 .bf16) (W : FVec Ideal S1536x1024 .f32)
    (X : FVec Ideal S16384x1024 .f32) (G B : FVec Ideal S1024 .f32) (h : fn (F := Ideal) C H M W X G B = fun _ => 1#1) :
    (∀ (i : Fin 16384) (j : Fin 512), ∃ r : ℝ, H (ix2 i (⟨1024 + j.val, by omega⟩ : Fin 2048)) = (r : EReal))
      ∧ ∀ (b : Fin 4) (k : Fin 256) (j : Fin 512), ∃ r : ℝ, M (ix3 b k (⟨j.val, by omega⟩ : Fin 1024)) = (r : EReal) := by
  have and_one : ∀ x y : BitVec 1, IntOp.andi x y = 1#1 → x = 1#1 ∧ y = 1#1 := by decide
  obtain ⟨hQ, hK⟩ := and_one (halfQ H ix0) (halfK M ix0) (congrFun h ix0)
  exact ⟨halfQ_real H hQ, halfK_real M hK⟩

end Cert.Pre_finite_memory_scores
end
-- ==== Proof.EvenChunk.lean ====
module
public import proofs.«01_k».proof.Proof.Gen.EvenOutIdeal.Value
public import proofs.«01_k».proof.Proof.Mem
public import Idealize.ShloMosaic.Lib.Pipeline.ValueKit
@[expose] public section
set_option maxRecDepth 16384
noncomputable section
open Idealize.ShloMosaic Idealize.ShloMosaic.TcCoe Idealize.SL.Sem
namespace Cert.EvenOutIdeal.Out
open Cert.EvenOutIdeal Cert.EvenOutIdeal.Gen

theorem head_at (K V : FVec Ideal S1x256x128 .bf16) (q g : FVec Ideal S256x128 .bf16) (r : Fin 256) (d : Fin 128) :
    k0_pay3 (F := Ideal) K V q g (ix2 r d)
      = Mem.weighed2 (fun x => q (ix2 r x)) (fun k x => K (ix3 0 k x)) (fun k => V (ix3 0 k d)) * (g (ix2 r d) * Ideal.logistic (g (ix2 r d))) := by
  have hs : Named.named (F := Ideal) κ "mem_scale" (φ := .f32) 0x3E0293EE#32 = (Mem.scale : EReal) :=
    IdealRules.named_const.ideal_named_scalar _ _ _ _ rfl
  pointwise [k0_pay3, k0_pay2, Mem.weighed2]
  simp only [hs]
  rfl

/-- The rows before the norm. -/
def pre (h0 h1 h2 h3 : FVec Ideal S256x128 .bf16) (e c : FVec Ideal S256x1024 .bf16) (w : FVec Ideal S2560x1024 .bf16) (x : FVec Ideal S256x1024 .f32) : FVec Ideal S256x1024 .f32 :=
  addf (mulf (broadcast S256x1024 (Scalar.ofBits .f32 0x3FB504F3#32 : Ideal .f32)) x)
    (matmul dot_S256x2560_S2560x1024_S256x1024_1_0_0_1_n_n none
      (concatenate S256x2560 1 [⟨S256x1024, e⟩, ⟨S256x1024, c⟩, ⟨S256x512, (concatenate S256x512 1 [⟨S256x128, h0⟩, ⟨S256x128, h1⟩, ⟨S256x128, h2⟩, ⟨S256x128, h3⟩] concatenates_S256x128_S256x128_S256x128_S256x128_S256x512_d1 : FVec Ideal S256x512 .bf16)⟩] concatenates_S256x1024_S256x1024_S256x512_S256x2560_d1 : FVec Ideal S256x2560 .bf16)
      (shapeCast S2560x1024 w shapeCasts_S2560x1024_S2560x1024) (constant S256x1024 .f32 0x00000000#32))

/-- One row before the norm. -/
def row (e c : Fin 1024 → EReal) (O : Fin 512 → EReal) (w : FVec Ideal S2560x1024 .bf16) (x : Fin 1024 → EReal) (j : Fin 1024) : EReal :=
  Ideal.ofBits .f32 0x3FB504F3#32 * x j
    + ((∑ k : Fin 1024, e k * w (ix2 (⟨k.val, by omega⟩ : Fin 2560) j)) + ((∑ k : Fin 1024, c k * w (ix2 (⟨1024 + k.val, by omega⟩ : Fin 2560) j))
      + ∑ k : Fin 512, O k * w (ix2 (⟨1024 + (1024 + k.val), by omega⟩ : Fin 2560) j)))

theorem pre_at (h : Fin 4 → FVec Ideal S256x128 .bf16) (e c : FVec Ideal S256x1024 .bf16) (w : FVec Ideal S2560x1024 .bf16) (x : FVec Ideal S256x1024 .f32)
    (r : Fin 256) (O : Fin 512 → EReal) (hO : ∀ (a : Fin 4) (d : Fin 128), h a (ix2 r d) = O ⟨a.val * 128 + d.val, by omega⟩) (j : Fin 1024) :
    pre (h 0) (h 1) (h 2) (h 3) e c w x (ix2 r j) = row (fun k => e (ix2 r k)) (fun k => c (ix2 r k)) O w (fun k => x (ix2 r k)) j := by
  pointwise [pre, row]
  refine congrArg (_ + ·) (Eq.trans (Finset.sum_congr rfl fun k _ => congrArg (· * _) ?_)
    (Mem.cat3 (fun k => e (ix2 r k)) (fun k => c (ix2 r k)) O (fun k => w (ix2 k j))))
  refine dite_congr rfl (fun _ => rfl) fun h1 => dite_congr rfl (fun _ => rfl) fun h2 => ?_
  exact Mem.cat4 (fun a d => h a (ix2 r d)) O hO (k.val - 1024 - 1024) _

/-- The norm of the rows. -/
abbrev norm (p : FVec Ideal S256x1024 .f32) (g b : FVec Ideal S1x1024 .f32) : FVec Ideal S256x1024 .f32 := k0_pay10 (F := Ideal) p g b

theorem norm_at (p : FVec Ideal S256x1024 .f32) (g b : FVec Ideal S1x1024 .f32) (r : Fin 256) (j : Fin 1024) :
    norm p g b (ix2 r j) = Mem.norm (fun x => p (ix2 r x)) (fun x => g (ix2 0 x)) (fun x => b (ix2 0 x)) j := by
  pointwise [norm, k0_pay10, Mem.norm, Mem.mean]

/-- One chunk of rows: four heads of the memory attention, the rows before the norm, and the norm. -/
def chunk (K V : Fin 4 → FVec Ideal S1x256x128 .bf16) (q g : Fin 4 → FVec Ideal S256x128 .bf16) (e c : FVec Ideal S256x1024 .bf16) (w : FVec Ideal S2560x1024 .bf16)
    (x : FVec Ideal S256x1024 .f32) (lg lb : FVec Ideal S1x1024 .f32) : FVec Ideal S256x1024 .f32 :=
  norm (pre (k0_pay3 (F := Ideal) (K 0) (V 0) (q 0) (g 0)) (k0_pay3 (F := Ideal) (K 1) (V 1) (q 1) (g 1)) (k0_pay3 (F := Ideal) (K 2) (V 2) (q 2) (g 2))
    (k0_pay3 (F := Ideal) (K 3) (V 3) (q 3) (g 3)) e c w x) lg lb

theorem chunk_at (K V : Fin 4 → FVec Ideal S1x256x128 .bf16) (q g : Fin 4 → FVec Ideal S256x128 .bf16) (e c : FVec Ideal S256x1024 .bf16) (w : FVec Ideal S2560x1024 .bf16)
    (x : FVec Ideal S256x1024 .f32) (lg lb : FVec Ideal S1x1024 .f32) (r : Fin 256) (j : Fin 1024)
    (q' : Fin 512 → EReal) (K' V' : Fin 256 → Fin 512 → EReal) (g' : Fin 512 → EReal)
    (hq : ∀ (a : Fin 4) (d : Fin 128), q a (ix2 r d) = q' ⟨a.val * 128 + d.val, by omega⟩)
    (hg : ∀ (a : Fin 4) (d : Fin 128), g a (ix2 r d) = g' ⟨a.val * 128 + d.val, by omega⟩)
    (hK : ∀ (a : Fin 4) (k : Fin 256) (d : Fin 128), K a (ix3 0 k d) = K' k ⟨a.val * 128 + d.val, by omega⟩)
    (hV : ∀ (a : Fin 4) (k : Fin 256) (d : Fin 128), V a (ix3 0 k d) = V' k ⟨a.val * 128 + d.val, by omega⟩) :
    chunk K V q g e c w x lg lb (ix2 r j)
      = Mem.norm (row (fun k => e (ix2 r k)) (fun k => c (ix2 r k)) (Mem.gated Mem.weighed2 q' K' V' g') w (fun k => x (ix2 r k))) (fun k => lg (ix2 0 k)) (fun k => lb (ix2 0 k)) j := by
  rw [chunk, norm_at]
  congr 1
  funext k
  refine pre_at (fun a => k0_pay3 (F := Ideal) (K a) (V a) (q a) (g a)) e c w x r _ (fun a d => ?_) k
  rw [head_at]
  have ha (e : Fin 128) (p : (a.val * 128 + d.val) / 128 * 128 + e.val < 512) :
      (⟨(a.val * 128 + d.val) / 128 * 128 + e.val, p⟩ : Fin 512) = ⟨a.val * 128 + e.val, by omega⟩ := Fin.ext (by dsimp only; omega)
  unfold Mem.gated
  simp only [ha, hq, hg, hK, hV]

end Cert.EvenOutIdeal.Out
end
-- ==== Proof.EvenRef.lean ====
/- The reference of the even layer's output read at an index: the memory's scores, their exponentials against the row's maximum,
   the weights, the gated weighted values, the rows before the norm, and the norm. -/
module
public import proofs.«01_k».proof.Proof.Gen.EvenOutRefIdeal.Run
public import proofs.«01_k».proof.Proof.Mem
public import Idealize.ShloMosaic.Lib.Pointwise
@[expose] public section
set_option maxRecDepth 16384
noncomputable section
open Idealize.ShloMosaic
namespace Cert.EvenOutRefIdeal.Out
open Cert.EvenOutRefIdeal Cert.EvenOutRefIdeal.Gen

variable (A C : FVec Ideal S16384x1024 .bf16) (H : FVec Ideal S16384x3200 .bf16) (M : FVec Ideal S4x256x1024 .bf16)
  (W : FVec Ideal S2560x1024 .f32) (X : FVec Ideal S16384x1024 .f32) (G B : FVec Ideal S1024 .f32)
  (S E P : FVec Ideal S4x4x4096x256 .f32) (R : FVec Ideal S4x4x4096 .f32) (O : FVec Ideal S16384x512 .f32)
  (Y : FVec Ideal S16384x1024 .f32)

/-- The scores of the memory. -/
def scores : FVec Ideal S4x4x4096x256 .f32 :=
  Host.divf (Host.dotGeneral dot_S4x4096x4x128_S4x256x4x128_S4x4x4096x256_3_3_1_1_02_02 none (shapeCast _ (extractStridedSlice S16384x512 ![0, 2048] (extf .f32 H bitsLt_bf16_f32) slices_S16384x3200_S16384x512_0_2048) shapeCasts_S16384x512_S4x4096x4x128) (shapeCast _ (extractStridedSlice S4x256x512 ![0, 0, 0] (extf .f32 M bitsLt_bf16_f32) slices_S4x256x1024_S4x256x512_0_0_0) shapeCasts_S4x256x512_S4x256x4x128)) (broadcastInDim S4x4x4096x256 ![] bcast_S_S4x4x4096x256 (Host.sqrt (constant S_ .f32 0x43000000#32)))

/-- The maximum of each row. -/
def rowMax : FVec Ideal S4x4x4096 .f32 :=
  Host.reduce FloatOps.maximumf S (constant S_ .f32 0xFF800000#32) reducesTo_S4x4x4096x256_S4x4x4096_d3 h_S_

/-- The exponentials of the scores against their row's maximum. -/
def expo : FVec Ideal S4x4x4096x256 .f32 :=
  Host.exp (subf S (broadcastInDim S4x4x4096x256 ![0, 1, 2, 3] bcast_S4x4x4096x1_S4x4x4096x256_0_1_2_3 (broadcastInDim S4x4x4096x1 ![0, 1, 2] bcast_S4x4x4096_S4x4x4096x1_0_1_2 (maximumf (broadcastInDim S4x4x4096 ![] bcast_S_S4x4x4096 (constant S_ .f32 0xFF800000#32)) R))))

/-- The weights. -/
def weights : FVec Ideal S4x4x4096x256 .f32 :=
  Host.divf E (broadcastInDim S4x4x4096x256 ![0, 1, 2, 3] bcast_S4x4x4096x1_S4x4x4096x256_0_1_2_3 (broadcastInDim S4x4x4096x1 ![0, 1, 2] bcast_S4x4x4096_S4x4x4096x1_0_1_2 (Host.reduceAdd E (constant S_ .f32 0x00000000#32) reducesTo_S4x4x4096x256_S4x4x4096_d3 h_S_)))

/-- The weighted values, gated. -/
def gated : FVec Ideal S16384x512 .f32 :=
  mulf (shapeCast _ (transpose S4x4096x4x128 [0, 3, 1, 2] (Host.dotGeneral dot_S4x256x4x128_S4x4x4096x256_S4x4x128x4096_1_3_3_2_02_01 none (shapeCast _ (extractStridedSlice S4x256x512 ![0, 0, 512] (extf .f32 M bitsLt_bf16_f32) slices_S4x256x1024_S4x256x512_0_0_512) shapeCasts_S4x256x512_S4x256x4x128) P) transposes_S4x4x128x4096_S4x4096x4x128_0_3_1_2) shapeCasts_S4x4096x4x128_S16384x512)
    (mulf (extractStridedSlice S16384x512 ![0, 2560] (extf .f32 H bitsLt_bf16_f32) slices_S16384x3200_S16384x512_0_2560) (Host.divf (broadcastInDim S16384x512 ![] bcast_S_S16384x512 (constant S_ .f32 0x3F800000#32)) (addf (broadcastInDim S16384x512 ![] bcast_S_S16384x512 (constant S_ .f32 0x3F800000#32)) (Host.exp (Host.negf (extractStridedSlice S16384x512 ![0, 2560] (extf .f32 H bitsLt_bf16_f32) slices_S16384x3200_S16384x512_0_2560))))))

/-- The rows before the norm. -/
def pre : FVec Ideal S16384x1024 .f32 :=
  addf (mulf (broadcastInDim S16384x1024 ![] bcast_S_S16384x1024 (constant S_ .f32 0x3FB504F3#32)) X) (Host.dotGeneral dot_S16384x2560_S2560x1024_S16384x1024_1_0_0_1_n_n none (concatenate S16384x2560 1 [⟨S16384x1024, (extf .f32 A bitsLt_bf16_f32)⟩, ⟨S16384x1024, (extf .f32 C bitsLt_bf16_f32)⟩, ⟨S16384x512, O⟩] concatenates_S16384x1024_S16384x1024_S16384x512_S16384x2560_d1) W)

/-- The mean of each row, in a column. -/
def mean : FVec Ideal S16384x1 .f32 :=
  Host.divf (broadcastInDim S16384x1 ![0] bcast_S16384_S16384x1_0 (Host.reduceAdd Y (constant S_ .f32 0x00000000#32) reducesTo_S16384x1024_S16384_d1 h_S_)) (broadcastInDim S16384x1 ![] bcast_S_S16384x1 (constant S_ .f32 0x44800000#32))

/-- The rows less their mean. -/
def centred : FVec Ideal S16384x1024 .f32 :=
  subf Y (broadcastInDim S16384x1024 ![0, 1] bcast_S16384x1_S16384x1024_0_1 (mean Y))

/-- The norm of the rows less their mean. -/
def scaled : FVec Ideal S16384x1024 .f32 :=
  addf (mulf (mulf Y (broadcastInDim S16384x1024 ![0, 1] bcast_S16384x1_S16384x1024_0_1 (Host.rsqrt (addf (mean (mulf Y Y)) (broadcastInDim S16384x1 ![] bcast_S_S16384x1 (constant S_ .f32 0x3727C5AC#32))))))
    (broadcastInDim S16384x1024 ![0, 1] bcast_S1x1024_S16384x1024_0_1 (broadcastInDim S1x1024 ![1] bcast_S1024_S1x1024_1 G)))
    (broadcastInDim S16384x1024 ![0, 1] bcast_S1x1024_S16384x1024_0_1 (broadcastInDim S1x1024 ![1] bcast_S1024_S1x1024_1 B))

/-- The whole reference. -/
def out : FVec Ideal S16384x1024 .f32 :=
  scaled G B (centred (pre A C W X (gated H M (weights (expo (scores H M) (rowMax (scores H M)))))))

theorem res_eq (m : (ℓ : Loc nD τ sig) → Buf (Elt Ideal) ℓ) (c : Dev nD) : Value.res_main_v57 m c
    = out (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) := rfl

/-- The queries, keys, values and gates of row `i`. -/
abbrev q (i : Fin 16384) (j : Fin 512) : EReal := H (ix2 i (⟨2048 + j.val, by omega⟩ : Fin 3200))
abbrev k (i : Fin 16384) (x : Fin 256) (j : Fin 512) : EReal := M (ix3 (⟨i.val / 4096, by omega⟩ : Fin 4) x (⟨j.val, by omega⟩ : Fin 1024))
abbrev v (i : Fin 16384) (x : Fin 256) (j : Fin 512) : EReal := M (ix3 (⟨i.val / 4096, by omega⟩ : Fin 4) x (⟨512 + j.val, by omega⟩ : Fin 1024))
abbrev g (i : Fin 16384) (j : Fin 512) : EReal := H (ix2 i (⟨2560 + j.val, by omega⟩ : Fin 3200))

theorem scores_at (i : Fin 16384) (j : Fin 512) (x : Fin 256) :
    scores H M (ix4 (⟨i.val / 4096, by omega⟩ : Fin 4) (⟨j.val / 128, by omega⟩ : Fin 4) (⟨i.val % 4096, by omega⟩ : Fin 4096) x)
      = Mem.score (fun d => q H i ⟨j.val / 128 * 128 + d.val, by omega⟩) (fun d => k M i x ⟨j.val / 128 * 128 + d.val, by omega⟩) := by
  pointwise [scores, Mem.score]

theorem rowMax_at (b h : Fin 4) (i : Fin 4096) : rowMax S (ix3 b h i)
    = Finset.univ.fold max (⊥ : EReal) (fun x : Fin 256 => S (ix4 b h i x)) := by
  unfold rowMax
  rw [Host.reduce_eq_fold]
  refine (Shape.ReducesTo.fold_fiber_r4_a3 _ _ _ _ _).trans ?_
  rw [show (constant (F := Ideal) S_ .f32 0xFF800000#32) (Shape.Idx.first h_S_) = (⊥ : EReal) from Softmax.negInf]
  rfl

theorem expo_at (b h : Fin 4) (i : Fin 4096) (k : Fin 256) : expo S R (ix4 b h i k)
    = Ideal.exp (S (ix4 b h i k) - max (Ideal.ofBits FTy.f32 4286578688#32) (R (ix3 b h i))) := by
  pointwise [expo]

theorem weights_at (b h : Fin 4) (i : Fin 4096) (k : Fin 256) : weights E (ix4 b h i k)
    = Ideal.div (E (ix4 b h i k)) (∑ x : Fin 256, E (ix4 b h i x)) := by
  pointwise [weights]

theorem expo_at' (i : Fin 16384) (j : Fin 512) (x : Fin 256) :
    expo (scores H M) (rowMax (scores H M)) (ix4 (⟨i.val / 4096, by omega⟩ : Fin 4) (⟨j.val / 128, by omega⟩ : Fin 4) (⟨i.val % 4096, by omega⟩ : Fin 4096) x)
      = Mem.expo (fun d => q H i ⟨j.val / 128 * 128 + d.val, by omega⟩) (fun x d => k M i x ⟨j.val / 128 * 128 + d.val, by omega⟩) x := by
  rw [expo_at, rowMax_at]
  simp only [scores_at]
  rfl

/-- The memory's contribution. -/
abbrev mem : FVec Ideal S16384x512 .f32 := gated H M (weights (expo (scores H M) (rowMax (scores H M))))

theorem mem_at (i : Fin 16384) (j : Fin 512) : mem H M (ix2 i j) = Mem.gated Mem.weighed (q H i) (k M i) (v M i) (g H i) j := by
  have h (P : FVec Ideal S4x4x4096x256 .f32) : gated H M P (ix2 i j)
      = (∑ x : Fin 256, v M i x j * P (ix4 (⟨i.val / 4096, by omega⟩ : Fin 4) (⟨j.val / 128, by omega⟩ : Fin 4) (⟨i.val % 4096, by omega⟩ : Fin 4096) x))
        * (g H i j * Ideal.logistic (g H i j)) := by
    pointwise [gated]
    rfl
  rw [mem, h]
  simp only [weights_at, expo_at']
  rfl

/-- A row before the norm. -/
def row (i : Fin 16384) (O : Fin 512 → EReal) (j : Fin 1024) : EReal :=
  Ideal.ofBits .f32 0x3FB504F3#32 * X (ix2 i j)
    + ((∑ x : Fin 1024, A (ix2 i x) * W (ix2 (⟨x.val, by omega⟩ : Fin 2560) j)) + ((∑ x : Fin 1024, C (ix2 i x) * W (ix2 (⟨1024 + x.val, by omega⟩ : Fin 2560) j))
      + ∑ x : Fin 512, O x * W (ix2 (⟨1024 + (1024 + x.val), by omega⟩ : Fin 2560) j)))

theorem pre_at (i : Fin 16384) (j : Fin 1024) : pre A C W X O (ix2 i j) = row A C W X i (fun x => O (ix2 i x)) j := by
  pointwise [pre, row]
  exact congrArg (_ + ·) (Mem.cat3 (fun x => A (ix2 i x)) (fun x => C (ix2 i x)) (fun x => O (ix2 i x)) (fun x => W (ix2 x j)))

theorem norm_at (i : Fin 16384) (j : Fin 1024) :
    scaled G B (centred Y) (ix2 i j) = Mem.norm (fun x => Y (ix2 i x)) (fun x => G (ix1 x)) (fun x => B (ix1 x)) j := by
  have hc (x : Fin 1024) : centred Y (ix2 i x) = Y (ix2 i x) - Mem.mean (fun x => Y (ix2 i x)) := by
    pointwise [centred, mean, Mem.mean]
  have hs (Z : FVec Ideal S16384x1024 .f32) : scaled G B Z (ix2 i j)
      = Z (ix2 i j) * Ideal.rsqrt (Mem.mean (fun x => Z (ix2 i x) * Z (ix2 i x)) + Ideal.ofBits .f32 0x3727C5AC#32) * G (ix1 j) + B (ix1 j) := by
    pointwise [scaled, mean, Mem.mean]
  rw [hs]
  simp only [hc]
  rfl

theorem out_at (i : Fin 16384) (j : Fin 1024) : out A C H M W X G B (ix2 i j)
    = Mem.norm (row A C W X i (Mem.gated Mem.weighed (q H i) (k M i) (v M i) (g H i))) (fun x => G (ix1 x)) (fun x => B (ix1 x)) j := by
  rw [out, norm_at]
  simp only [pre_at]
  have hm : (fun x => gated H M (weights (expo (scores H M) (rowMax (scores H M)))) (ix2 i x)) = Mem.gated Mem.weighed (q H i) (k M i) (v M i) (g H i) :=
    funext (mem_at H M i)
  rw [hm]

end Cert.EvenOutRefIdeal.Out
end
-- ==== Proof.EvenBlock.lean ====
/- What the even layer's output array holds: at each index the value of the reference's output. -/
module
public import proofs.«01_k».proof.Proof.EvenChunk
public import proofs.«01_k».proof.Proof.EvenRef
@[expose] public section
set_option maxRecDepth 16384
noncomputable section
open Idealize.ShloMosaic Idealize.ShloMosaic.TcCoe Idealize.SL.Sem
open Idealize.ShloMosaic.Pipeline (Dat)
namespace Cert.EvenOutIdeal.Out
open Cert.EvenOutIdeal Cert.EvenOutIdeal.Gen

/-- What a load of a rectangle reads. -/
abbrev ld16 {S : Shape} (X : FVec Ideal S .bf16) (r : Rect S) : FVec Ideal r.shape .bf16 := View.ld (Val := Elt Ideal) (e' := .bf16) X r
abbrev ld32 {S : Shape} (X : FVec Ideal S .f32) (r : Rect S) : FVec Ideal r.shape .f32 := View.ld (Val := Elt Ideal) (e' := .f32) X r

section
variable (x0 x1 : FVec Ideal S1024x1024 .bf16) (x2 x3 : FVec Ideal S1024x512 .bf16) (x4 : FVec Ideal S1x256x1024 .bf16) (x5 : FVec Ideal S2560x1024 .bf16)
  (x6 : FVec Ideal S1024x1024 .f32) (x7 x8 : FVec Ideal S1x1024 .f32)

/-- The keys and values of the four heads. -/
abbrev Ks : Fin 4 → FVec Ideal S1x256x128 .bf16 := ![ld16 x4 (Rect.unit ![0, 0, 0] ![1, 256, 128] inb_S1x256x1024_S1x256x128_0_0_0),
  ld16 x4 (Rect.unit ![0, 0, 128] ![1, 256, 128] inb_S1x256x1024_S1x256x128_0_0_128),
  ld16 x4 (Rect.unit ![0, 0, 256] ![1, 256, 128] inb_S1x256x1024_S1x256x128_0_0_256),
  ld16 x4 (Rect.unit ![0, 0, 384] ![1, 256, 128] inb_S1x256x1024_S1x256x128_0_0_384)]
abbrev Vs : Fin 4 → FVec Ideal S1x256x128 .bf16 := ![ld16 x4 (Rect.unit ![0, 0, 512] ![1, 256, 128] inb_S1x256x1024_S1x256x128_0_0_512),
  ld16 x4 (Rect.unit ![0, 0, 640] ![1, 256, 128] inb_S1x256x1024_S1x256x128_0_0_640),
  ld16 x4 (Rect.unit ![0, 0, 768] ![1, 256, 128] inb_S1x256x1024_S1x256x128_0_0_768),
  ld16 x4 (Rect.unit ![0, 0, 896] ![1, 256, 128] inb_S1x256x1024_S1x256x128_0_0_896)]

/-- The queries or gates of rows 0 to 255, by head. -/
abbrev Qs0 (x : FVec Ideal S1024x512 .bf16) : Fin 4 → FVec Ideal S256x128 .bf16 := ![ld16 x (Rect.unit ![0, 0] ![256, 128] inb_S1024x512_S256x128_0_0),
  ld16 x (Rect.unit ![0, 128] ![256, 128] inb_S1024x512_S256x128_0_128),
  ld16 x (Rect.unit ![0, 256] ![256, 128] inb_S1024x512_S256x128_0_256),
  ld16 x (Rect.unit ![0, 384] ![256, 128] inb_S1024x512_S256x128_0_384)]
/-- The queries or gates of rows 256 to 511, by head. -/
abbrev Qs1 (x : FVec Ideal S1024x512 .bf16) : Fin 4 → FVec Ideal S256x128 .bf16 := ![ld16 x (Rect.unit ![256, 0] ![256, 128] inb_S1024x512_S256x128_256_0),
  ld16 x (Rect.unit ![256, 128] ![256, 128] inb_S1024x512_S256x128_256_128),
  ld16 x (Rect.unit ![256, 256] ![256, 128] inb_S1024x512_S256x128_256_256),
  ld16 x (Rect.unit ![256, 384] ![256, 128] inb_S1024x512_S256x128_256_384)]
/-- The queries or gates of rows 512 to 767, by head. -/
abbrev Qs2 (x : FVec Ideal S1024x512 .bf16) : Fin 4 → FVec Ideal S256x128 .bf16 := ![ld16 x (Rect.unit ![512, 0] ![256, 128] inb_S1024x512_S256x128_512_0),
  ld16 x (Rect.unit ![512, 128] ![256, 128] inb_S1024x512_S256x128_512_128),
  ld16 x (Rect.unit ![512, 256] ![256, 128] inb_S1024x512_S256x128_512_256),
  ld16 x (Rect.unit ![512, 384] ![256, 128] inb_S1024x512_S256x128_512_384)]
/-- The queries or gates of rows 768 to 1023, by head. -/
abbrev Qs3 (x : FVec Ideal S1024x512 .bf16) : Fin 4 → FVec Ideal S256x128 .bf16 := ![ld16 x (Rect.unit ![768, 0] ![256, 128] inb_S1024x512_S256x128_768_0),
  ld16 x (Rect.unit ![768, 128] ![256, 128] inb_S1024x512_S256x128_768_128),
  ld16 x (Rect.unit ![768, 256] ![256, 128] inb_S1024x512_S256x128_768_256),
  ld16 x (Rect.unit ![768, 384] ![256, 128] inb_S1024x512_S256x128_768_384)]

/-- The four chunks. -/
abbrev c0 : FVec Ideal S256x1024 .f32 := chunk (Ks x4) (Vs x4) (Qs0 x2) (Qs0 x3) (ld16 x0 (Rect.unit ![0, 0] ![256, 1024] inb_S1024x1024_S256x1024_0_0))
  (ld16 x1 (Rect.unit ![0, 0] ![256, 1024] inb_S1024x1024_S256x1024_0_0)) x5 (ld32 x6 (Rect.unit ![0, 0] ![256, 1024] inb_S1024x1024_S256x1024_0_0)) x7 x8
abbrev c1 : FVec Ideal S256x1024 .f32 := chunk (Ks x4) (Vs x4) (Qs1 x2) (Qs1 x3) (ld16 x0 (Rect.unit ![256, 0] ![256, 1024] inb_S1024x1024_S256x1024_256_0))
  (ld16 x1 (Rect.unit ![256, 0] ![256, 1024] inb_S1024x1024_S256x1024_256_0)) x5 (ld32 x6 (Rect.unit ![256, 0] ![256, 1024] inb_S1024x1024_S256x1024_256_0)) x7 x8
abbrev c2 : FVec Ideal S256x1024 .f32 := chunk (Ks x4) (Vs x4) (Qs2 x2) (Qs2 x3) (ld16 x0 (Rect.unit ![512, 0] ![256, 1024] inb_S1024x1024_S256x1024_512_0))
  (ld16 x1 (Rect.unit ![512, 0] ![256, 1024] inb_S1024x1024_S256x1024_512_0)) x5 (ld32 x6 (Rect.unit ![512, 0] ![256, 1024] inb_S1024x1024_S256x1024_512_0)) x7 x8
abbrev c3 : FVec Ideal S256x1024 .f32 := chunk (Ks x4) (Vs x4) (Qs3 x2) (Qs3 x3) (ld16 x0 (Rect.unit ![768, 0] ![256, 1024] inb_S1024x1024_S256x1024_768_0))
  (ld16 x1 (Rect.unit ![768, 0] ![256, 1024] inb_S1024x1024_S256x1024_768_0)) x5 (ld32 x6 (Rect.unit ![768, 0] ![256, 1024] inb_S1024x1024_S256x1024_768_0)) x7 x8

/-- An element of the block, from the blocks read. -/
def val (r j : Fin 1024) : EReal :=
  Mem.norm (row (fun k => x0 (ix2 r k)) (fun k => x1 (ix2 r k)) (Mem.gated Mem.weighed2 (fun k => x2 (ix2 r k)) (fun k d => x4 (ix3 0 k (⟨d.val, by omega⟩ : Fin 1024)))
      (fun k d => x4 (ix3 0 k (⟨512 + d.val, by omega⟩ : Fin 1024))) (fun k => x3 (ix2 r k))) x5 (fun k => x6 (ix2 r k)))
    (fun k => x7 (ix2 0 k)) (fun k => x8 (ix2 0 k)) j

theorem Ks_at (a : Fin 4) (k : Fin 256) (d : Fin 128) : Ks x4 a (ix3 0 k d) = x4 (ix3 0 k (⟨a.val * 128 + d.val, by omega⟩ : Fin 1024)) := by
  fin_cases a <;> (refine congrArg x4 ?_; blk_ext [] <;> (rw [LoadRect.idx_apply]; simp) <;> omega)

theorem Vs_at (a : Fin 4) (k : Fin 256) (d : Fin 128) : Vs x4 a (ix3 0 k d) = x4 (ix3 0 k (⟨512 + (a.val * 128 + d.val), by omega⟩ : Fin 1024)) := by
  fin_cases a <;> (refine congrArg x4 ?_; blk_ext [] <;> (rw [LoadRect.idx_apply]; simp) <;> omega)

theorem q0_at (x : FVec Ideal S1024x512 .bf16) (a : Fin 4) (r : Fin 256) (d : Fin 128) :
    Qs0 x a (ix2 r d) = x (ix2 (⟨r.val, by omega⟩ : Fin 1024) (⟨a.val * 128 + d.val, by omega⟩ : Fin 512)) := by
  fin_cases a <;> (refine congrArg x ?_; blk_ext [] <;> (rw [LoadRect.idx_apply]; simp) <;> omega)

theorem crow0 (x : FVec Ideal S1024x1024 .bf16) (r : Fin 256) (j : Fin 1024) :
    ld16 x (Rect.unit ![0, 0] ![256, 1024] inb_S1024x1024_S256x1024_0_0) (ix2 r j) = x (ix2 (⟨r.val, by omega⟩ : Fin 1024) j) := by
  refine congrArg x ?_; blk_ext [] <;> (rw [LoadRect.idx_apply]; simp)

theorem xrow0 (x : FVec Ideal S1024x1024 .f32) (r : Fin 256) (j : Fin 1024) :
    ld32 x (Rect.unit ![0, 0] ![256, 1024] inb_S1024x1024_S256x1024_0_0) (ix2 r j) = x (ix2 (⟨r.val, by omega⟩ : Fin 1024) j) := by
  refine congrArg x ?_; blk_ext [] <;> (rw [LoadRect.idx_apply]; simp)

theorem q1_at (x : FVec Ideal S1024x512 .bf16) (a : Fin 4) (r : Fin 256) (d : Fin 128) :
    Qs1 x a (ix2 r d) = x (ix2 (⟨256 + r.val, by omega⟩ : Fin 1024) (⟨a.val * 128 + d.val, by omega⟩ : Fin 512)) := by
  fin_cases a <;> (refine congrArg x ?_; blk_ext [] <;> (rw [LoadRect.idx_apply]; simp) <;> omega)

theorem crow1 (x : FVec Ideal S1024x1024 .bf16) (r : Fin 256) (j : Fin 1024) :
    ld16 x (Rect.unit ![256, 0] ![256, 1024] inb_S1024x1024_S256x1024_256_0) (ix2 r j) = x (ix2 (⟨256 + r.val, by omega⟩ : Fin 1024) j) := by
  refine congrArg x ?_; blk_ext [] <;> (rw [LoadRect.idx_apply]; simp)

theorem xrow1 (x : FVec Ideal S1024x1024 .f32) (r : Fin 256) (j : Fin 1024) :
    ld32 x (Rect.unit ![256, 0] ![256, 1024] inb_S1024x1024_S256x1024_256_0) (ix2 r j) = x (ix2 (⟨256 + r.val, by omega⟩ : Fin 1024) j) := by
  refine congrArg x ?_; blk_ext [] <;> (rw [LoadRect.idx_apply]; simp)

theorem q2_at (x : FVec Ideal S1024x512 .bf16) (a : Fin 4) (r : Fin 256) (d : Fin 128) :
    Qs2 x a (ix2 r d) = x (ix2 (⟨512 + r.val, by omega⟩ : Fin 1024) (⟨a.val * 128 + d.val, by omega⟩ : Fin 512)) := by
  fin_cases a <;> (refine congrArg x ?_; blk_ext [] <;> (rw [LoadRect.idx_apply]; simp) <;> omega)

theorem crow2 (x : FVec Ideal S1024x1024 .bf16) (r : Fin 256) (j : Fin 1024) :
    ld16 x (Rect.unit ![512, 0] ![256, 1024] inb_S1024x1024_S256x1024_512_0) (ix2 r j) = x (ix2 (⟨512 + r.val, by omega⟩ : Fin 1024) j) := by
  refine congrArg x ?_; blk_ext [] <;> (rw [LoadRect.idx_apply]; simp)

theorem xrow2 (x : FVec Ideal S1024x1024 .f32) (r : Fin 256) (j : Fin 1024) :
    ld32 x (Rect.unit ![512, 0] ![256, 1024] inb_S1024x1024_S256x1024_512_0) (ix2 r j) = x (ix2 (⟨512 + r.val, by omega⟩ : Fin 1024) j) := by
  refine congrArg x ?_; blk_ext [] <;> (rw [LoadRect.idx_apply]; simp)

theorem q3_at (x : FVec Ideal S1024x512 .bf16) (a : Fin 4) (r : Fin 256) (d : Fin 128) :
    Qs3 x a (ix2 r d) = x (ix2 (⟨768 + r.val, by omega⟩ : Fin 1024) (⟨a.val * 128 + d.val, by omega⟩ : Fin 512)) := by
  fin_cases a <;> (refine congrArg x ?_; blk_ext [] <;> (rw [LoadRect.idx_apply]; simp) <;> omega)

theorem crow3 (x : FVec Ideal S1024x1024 .bf16) (r : Fin 256) (j : Fin 1024) :
    ld16 x (Rect.unit ![768, 0] ![256, 1024] inb_S1024x1024_S256x1024_768_0) (ix2 r j) = x (ix2 (⟨768 + r.val, by omega⟩ : Fin 1024) j) := by
  refine congrArg x ?_; blk_ext [] <;> (rw [LoadRect.idx_apply]; simp)

theorem xrow3 (x : FVec Ideal S1024x1024 .f32) (r : Fin 256) (j : Fin 1024) :
    ld32 x (Rect.unit ![768, 0] ![256, 1024] inb_S1024x1024_S256x1024_768_0) (ix2 r j) = x (ix2 (⟨768 + r.val, by omega⟩ : Fin 1024) j) := by
  refine congrArg x ?_; blk_ext [] <;> (rw [LoadRect.idx_apply]; simp)

theorem c0_at (r : Fin 256) (j : Fin 1024) : c0 x0 x1 x2 x3 x4 x5 x6 x7 x8 (ix2 r j) = val x0 x1 x2 x3 x4 x5 x6 x7 x8 (⟨r.val, by omega⟩ : Fin 1024) j := by
  refine (chunk_at _ _ _ _ _ _ _ _ _ _ r j (fun k => x2 (ix2 (⟨r.val, by omega⟩ : Fin 1024) k)) (fun k d => x4 (ix3 0 k (⟨d.val, by omega⟩ : Fin 1024)))
      (fun k d => x4 (ix3 0 k (⟨512 + d.val, by omega⟩ : Fin 1024))) (fun k => x3 (ix2 (⟨r.val, by omega⟩ : Fin 1024) k))
    (fun a d => q0_at x2 a r d) (fun a d => q0_at x3 a r d) (fun a k d => Ks_at x4 a k d) (fun a k d => Vs_at x4 a k d)).trans ?_
  rw [show (fun k => ld16 x0 (Rect.unit ![0, 0] ![256, 1024] inb_S1024x1024_S256x1024_0_0) (ix2 r k)) = fun k => x0 (ix2 (⟨r.val, by omega⟩ : Fin 1024) k) from funext (crow0 x0 r)]
  exact congrArg₂ (fun a b => Mem.norm (row _ a _ x5 b) _ _ j) (funext (crow0 x1 r)) (funext (xrow0 x6 r))

theorem c1_at (r : Fin 256) (j : Fin 1024) : c1 x0 x1 x2 x3 x4 x5 x6 x7 x8 (ix2 r j) = val x0 x1 x2 x3 x4 x5 x6 x7 x8 (⟨256 + r.val, by omega⟩ : Fin 1024) j := by
  refine (chunk_at _ _ _ _ _ _ _ _ _ _ r j (fun k => x2 (ix2 (⟨256 + r.val, by omega⟩ : Fin 1024) k)) (fun k d => x4 (ix3 0 k (⟨d.val, by omega⟩ : Fin 1024)))
      (fun k d => x4 (ix3 0 k (⟨512 + d.val, by omega⟩ : Fin 1024))) (fun k => x3 (ix2 (⟨256 + r.val, by omega⟩ : Fin 1024) k))
    (fun a d => q1_at x2 a r d) (fun a d => q1_at x3 a r d) (fun a k d => Ks_at x4 a k d) (fun a k d => Vs_at x4 a k d)).trans ?_
  rw [show (fun k => ld16 x0 (Rect.unit ![256, 0] ![256, 1024] inb_S1024x1024_S256x1024_256_0) (ix2 r k)) = fun k => x0 (ix2 (⟨256 + r.val, by omega⟩ : Fin 1024) k) from funext (crow1 x0 r)]
  exact congrArg₂ (fun a b => Mem.norm (row _ a _ x5 b) _ _ j) (funext (crow1 x1 r)) (funext (xrow1 x6 r))

theorem c2_at (r : Fin 256) (j : Fin 1024) : c2 x0 x1 x2 x3 x4 x5 x6 x7 x8 (ix2 r j) = val x0 x1 x2 x3 x4 x5 x6 x7 x8 (⟨512 + r.val, by omega⟩ : Fin 1024) j := by
  refine (chunk_at _ _ _ _ _ _ _ _ _ _ r j (fun k => x2 (ix2 (⟨512 + r.val, by omega⟩ : Fin 1024) k)) (fun k d => x4 (ix3 0 k (⟨d.val, by omega⟩ : Fin 1024)))
      (fun k d => x4 (ix3 0 k (⟨512 + d.val, by omega⟩ : Fin 1024))) (fun k => x3 (ix2 (⟨512 + r.val, by omega⟩ : Fin 1024) k))
    (fun a d => q2_at x2 a r d) (fun a d => q2_at x3 a r d) (fun a k d => Ks_at x4 a k d) (fun a k d => Vs_at x4 a k d)).trans ?_
  rw [show (fun k => ld16 x0 (Rect.unit ![512, 0] ![256, 1024] inb_S1024x1024_S256x1024_512_0) (ix2 r k)) = fun k => x0 (ix2 (⟨512 + r.val, by omega⟩ : Fin 1024) k) from funext (crow2 x0 r)]
  exact congrArg₂ (fun a b => Mem.norm (row _ a _ x5 b) _ _ j) (funext (crow2 x1 r)) (funext (xrow2 x6 r))

theorem c3_at (r : Fin 256) (j : Fin 1024) : c3 x0 x1 x2 x3 x4 x5 x6 x7 x8 (ix2 r j) = val x0 x1 x2 x3 x4 x5 x6 x7 x8 (⟨768 + r.val, by omega⟩ : Fin 1024) j := by
  refine (chunk_at _ _ _ _ _ _ _ _ _ _ r j (fun k => x2 (ix2 (⟨768 + r.val, by omega⟩ : Fin 1024) k)) (fun k d => x4 (ix3 0 k (⟨d.val, by omega⟩ : Fin 1024)))
      (fun k d => x4 (ix3 0 k (⟨512 + d.val, by omega⟩ : Fin 1024))) (fun k => x3 (ix2 (⟨768 + r.val, by omega⟩ : Fin 1024) k))
    (fun a d => q3_at x2 a r d) (fun a d => q3_at x3 a r d) (fun a k d => Ks_at x4 a k d) (fun a k d => Vs_at x4 a k d)).trans ?_
  rw [show (fun k => ld16 x0 (Rect.unit ![768, 0] ![256, 1024] inb_S1024x1024_S256x1024_768_0) (ix2 r k)) = fun k => x0 (ix2 (⟨768 + r.val, by omega⟩ : Fin 1024) k) from funext (crow3 x0 r)]
  exact congrArg₂ (fun a b => Mem.norm (row _ a _ x5 b) _ _ j) (funext (crow3 x1 r)) (funext (xrow3 x6 r))

/-- The block the body writes. -/
abbrev blockOut : FVec Ideal S1024x1024 .f32 := View.canon (Val := Elt Ideal) (e := .f32) [⟨Rect.unit ![768, 0] ![256, 1024] inb_S1024x1024_S256x1024_768_0, c3 x0 x1 x2 x3 x4 x5 x6 x7 x8⟩,
    ⟨Rect.unit ![512, 0] ![256, 1024] inb_S1024x1024_S256x1024_512_0, c2 x0 x1 x2 x3 x4 x5 x6 x7 x8⟩,
    ⟨Rect.unit ![256, 0] ![256, 1024] inb_S1024x1024_S256x1024_256_0, c1 x0 x1 x2 x3 x4 x5 x6 x7 x8⟩,
    ⟨Rect.unit ![0, 0] ![256, 1024] inb_S1024x1024_S256x1024_0_0, c0 x0 x1 x2 x3 x4 x5 x6 x7 x8⟩]

theorem block (r j : Fin 1024) : blockOut x0 x1 x2 x3 x4 x5 x6 x7 x8 (ix2 r j) = val x0 x1 x2 x3 x4 x5 x6 x7 x8 r j := by
  unfold blockOut
  canon_tiles y hy
  all_goals (
    idx_vars y
    change r.val = _ at hy0
    change j.val = _ at hy1
    obtain rfl : j = y1 := Fin.ext hy1)
  · exact (c3_at x0 x1 x2 x3 x4 x5 x6 x7 x8 y0 j).trans (congrArg (fun r => val x0 x1 x2 x3 x4 x5 x6 x7 x8 r j) (Fin.ext hy0.symm))
  · exact (c2_at x0 x1 x2 x3 x4 x5 x6 x7 x8 y0 j).trans (congrArg (fun r => val x0 x1 x2 x3 x4 x5 x6 x7 x8 r j) (Fin.ext hy0.symm))
  · exact (c1_at x0 x1 x2 x3 x4 x5 x6 x7 x8 y0 j).trans (congrArg (fun r => val x0 x1 x2 x3 x4 x5 x6 x7 x8 r j) (Fin.ext hy0.symm))
  · exact (c0_at x0 x1 x2 x3 x4 x5 x6 x7 x8 y0 j).trans (congrArg (fun r => val x0 x1 x2 x3 x4 x5 x6 x7 x8 r j) (Fin.ext hy0.symm))

end

variable (m : (ℓ : Loc nD τ sig) → Buf (Elt Ideal) ℓ)

theorem idx : ∀ t : Fin cfg0.N, win0_0.index t = ![t.val, 0] ∧ win0_1.index t = ![t.val, 0] ∧ win0_2.index t = ![t.val, 4] ∧ win0_3.index t = ![t.val, 5]
    ∧ win0_4.index t = ![t.val / 4, 0, 0] ∧ win0_5.index t = ![0, 0] ∧ win0_6.index t = ![t.val, 0] ∧ win0_7.index t = ![0, 0]
    ∧ win0_8.index t = ![0, 0] ∧ win0_9.index t = ![t.val, 0] :=
  (by decide +kernel : ∀ t : Fin grid0.N, _)

theorem lt16 : ∀ t : Fin cfg0.N, t.val < 16 := (by decide +kernel : ∀ t : Fin grid0.N, _)

/-- The arguments: the branch's and the attention's outputs, the projection, the memory's keys and values, the weights, the rows, and the norm's scale and shift. -/
abbrev Ea (c : Dev nD) : FVec Ideal S16384x1024 .bf16 := m ((c : Thread nD τ).loc main_arg0)
abbrev Ca (c : Dev nD) : FVec Ideal S16384x1024 .bf16 := m ((c : Thread nD τ).loc main_arg1)
abbrev Ha (c : Dev nD) : FVec Ideal S16384x3200 .bf16 := m ((c : Thread nD τ).loc main_arg2)
abbrev Ma (c : Dev nD) : FVec Ideal S4x256x1024 .bf16 := m ((c : Thread nD τ).loc main_arg3)
abbrev Wa (c : Dev nD) : FVec Ideal S2560x1024 .f32 := m ((c : Thread nD τ).loc main_arg4)
abbrev Xa (c : Dev nD) : FVec Ideal S16384x1024 .f32 := m ((c : Thread nD τ).loc main_arg5)
abbrev Ga (c : Dev nD) : FVec Ideal S1024 .f32 := m ((c : Thread nD τ).loc main_arg6)
abbrev Ba (c : Dev nD) : FVec Ideal S1024 .f32 := m ((c : Thread nD τ).loc main_arg7)

/-- The array's row that holds row `r` of block `t`. -/
abbrev at' (t : Fin cfg0.N) (r : Fin 1024) : Fin 16384 := ⟨t.val * 1024 + r.val, by have := lt16 t; omega⟩

theorem c_blk (c : Dev nD) (t : Fin cfg0.N) (r j : Fin 1024) : iblk m c 1 t (ix2 r j) = Ca m c (ix2 (at' t r) j) := by
  blk_ext [iblk, V, idx t]

theorem e_blk (c : Dev nD) (t : Fin cfg0.N) (r j : Fin 1024) : iblk m c 0 t (ix2 r j) = Ea m c (ix2 (at' t r) j) := by
  blk_ext [iblk, V, idx t]

theorem q_blk (c : Dev nD) (t : Fin cfg0.N) (r : Fin 1024) (j : Fin 512) : X0_2 m c t (ix2 r j) = EvenOutRefIdeal.Out.q (Ha m c) (at' t r) j := by
  unfold X0_2 Pipeline.Window.fill
  rw [dif_pos (moved0_2 t _)]
  blk_ext [iblk, V, idx t]

theorem g_blk (c : Dev nD) (t : Fin cfg0.N) (r : Fin 1024) (j : Fin 512) : X0_3 m c t (ix2 r j) = EvenOutRefIdeal.Out.g (Ha m c) (at' t r) j := by
  unfold X0_3 Pipeline.Window.fill
  rw [dif_pos (moved0_3 t _)]
  blk_ext [iblk, V, idx t]

theorem m_blk (c : Dev nD) (t : Fin cfg0.N) (k : Fin 256) (j : Fin 1024) (r : Fin 1024) : iblk m c 4 t (ix3 0 k j)
    = Ma m c (ix3 (⟨(t.val * 1024 + r.val) / 4096, by have := lt16 t; omega⟩ : Fin 4) k j) := by
  blk_ext [iblk, V, idx t]

theorem w_blk (c : Dev nD) (t : Fin cfg0.N) (x : Fin 2560) (j : Fin 1024) : iblk m c 5 t (ix2 x j) = Wa m c (ix2 x j) := by
  blk_point [iblk, V, idx t]

theorem x_blk (c : Dev nD) (t : Fin cfg0.N) (r j : Fin 1024) : iblk m c 6 t (ix2 r j) = Xa m c (ix2 (at' t r) j) := by
  blk_ext [iblk, V, idx t]

theorem lg_blk (c : Dev nD) (t : Fin cfg0.N) (j : Fin 1024) : iblk m c 7 t (ix2 0 j) = Ga m c (ix1 j) := by
  blk_point [iblk, V, idx t]

theorem lb_blk (c : Dev nD) (t : Fin cfg0.N) (j : Fin 1024) : iblk m c 8 t (ix2 0 j) = Ba m c (ix1 j) := by
  blk_point [iblk, V, idx t]

/-- The reference's output of the arguments. -/
abbrev ref (c : Dev nD) : FVec Ideal S16384x1024 .f32 := EvenOutRefIdeal.Out.out (Ea m c) (Ca m c) (Ha m c) (Ma m c) (Wa m c) (Xa m c) (Ga m c) (Ba m c)

theorem point (c : Dev nD) (hq : ∀ i j, ∃ r : ℝ, EvenOutRefIdeal.Out.q (Ha m c) i j = r) (hk : ∀ i k j, ∃ r : ℝ, EvenOutRefIdeal.Out.k (Ma m c) i k j = r)
    (t : Fin cfg0.N) (r j : Fin 1024) :
    val (iblk m c 0 t) (iblk m c 1 t) (X0_2 m c t) (X0_3 m c t) (iblk m c 4 t) (iblk m c 5 t) (iblk m c 6 t) (iblk m c 7 t) (iblk m c 8 t) r j
      = ref m c (((cfg0.win 9).blk t).view.emb (ix2 r j)) := by
  have he : ((cfg0.win 9).blk t).view.emb (ix2 r j) = ix2 (at' t r) j := by
    blk_ext [idx t]
  refine Eq.trans ?_ (congrArg (ref m c) he.symm)
  rw [ref, EvenOutRefIdeal.Out.out_at]
  unfold val row EvenOutRefIdeal.Out.row
  have hO := funext fun j => Mem.gated_eq (EvenOutRefIdeal.Out.q (Ha m c) (at' t r)) (EvenOutRefIdeal.Out.k (Ma m c) (at' t r)) (EvenOutRefIdeal.Out.v (Ma m c) (at' t r))
    (EvenOutRefIdeal.Out.g (Ha m c) (at' t r)) j (hq _) (hk _)
  rw [← hO]
  simp only [e_blk, c_blk, q_blk, g_blk, m_blk m c t _ _ r, w_blk, x_blk, lg_blk, lb_blk]

/-- The result array is the reference's, where the queries and the keys are real numbers. -/
theorem final (c : Dev nD) (hq : ∀ i j, ∃ r : ℝ, EvenOutRefIdeal.Out.q (Ha m c) i j = r) (hk : ∀ i k j, ∃ r : ℝ, EvenOutRefIdeal.Out.k (Ma m c) i k j = r) :
    (dats m 0 c).arrAt 9 (cfgs 0).N = ref m c := by
  refine (dats m 0 c).arrAt_eq_of_covers 9 _ (by decide +kernel) fun t _ y => ?_
  blk_simp
  rw [after0_9]
  unfold outsAt0
  frame_out
  refine Eq.trans (b := blockOut (iblk m c 0 t) (iblk m c 1 t) (X0_2 m c t) (X0_3 m c t) (iblk m c 4 t) (iblk m c 5 t) (iblk m c 6 t) (iblk m c 7 t) (iblk m c 8 t) y) rfl ?_
  idx_vars y
  exact (block _ _ _ _ _ _ _ _ _ y0 y1).trans (point m c hq hk t y0 y1)

end Cert.EvenOutIdeal.Out
end
-- ==== Proof.EvenPre.lean ====
/- The precondition of the even layer's output read: every query and every key of the memory is a real number. -/
module
public import proofs.«01_k».proof.Pre_finite_memory_scores_even
public import proofs.«01_k».proof.Proof.OddPre
@[expose] public section
noncomputable section
open Idealize.ShloMosaic
namespace Cert.Pre_finite_memory_scores_even

theorem facts : Facts where
  bitsLt_bf16_f32 := by decide
  slices_S16384x3200_S16384x512_0_2048 := by decide
  slices_S4x256x1024_S4x256x512_0_0_0 := by decide
  bcast_S_S16384x512 := by decide
  reducesTo_S16384x512_S_d0_1 := by decide
  h_S_ := by decide
  bcast_S_S4x256x512 := by decide
  reducesTo_S4x256x512_S_d0_1_2 := by decide

instance : Facts := facts

/-- The queries' half of the precondition. -/
def halfQ (x : FVec Ideal S16384x3200 .bf16) : IVec S_ 1 :=
  Host.reduce IntOp.andi (cmpf .olt (Host.absf (extractStridedSlice S16384x512 ![0, 2048] (extf .f32 x Facts.bitsLt_bf16_f32) Facts.slices_S16384x3200_S16384x512_0_2048))
      (broadcastInDim S16384x512 ![] Facts.bcast_S_S16384x512 (constant S_ .f32 0x7F800000#32)))
    (constantI S_ 1 1#1) Facts.reducesTo_S16384x512_S_d0_1 Facts.h_S_

/-- The keys' half of the precondition. -/
def halfK (x : FVec Ideal S4x256x1024 .bf16) : IVec S_ 1 :=
  Host.reduce IntOp.andi (cmpf .olt (Host.absf (extractStridedSlice S4x256x512 ![0, 0, 0] (extf .f32 x Facts.bitsLt_bf16_f32) Facts.slices_S4x256x1024_S4x256x512_0_0_0))
      (broadcastInDim S4x256x512 ![] Facts.bcast_S_S4x256x512 (constant S_ .f32 0x7F800000#32)))
    (constantI S_ 1 1#1) Facts.reducesTo_S4x256x512_S_d0_1_2 Facts.h_S_

theorem halfQ_real (x : FVec Ideal S16384x3200 .bf16) (h : halfQ x ix0 = 1#1) (i : Fin 16384) (j : Fin 512) :
    ∃ r : ℝ, x (ix2 i (⟨2048 + j.val, by omega⟩ : Fin 3200)) = (r : EReal) := by
  unfold halfQ at h
  rw [Host.reduce_eq_fold] at h
  have h1 := Pre_finite_scores.fold_and_one _ _ _ h (ix2 i j) (by
    rw [Finset.mem_filter]; exact ⟨Finset.mem_univ _, funext fun a => Fin.elim0 a⟩)
  refine Pre_finite_memory_scores.real_of_abs _ (Eq.trans ?_ h1)
  pointwise

theorem halfK_real (x : FVec Ideal S4x256x1024 .bf16) (h : halfK x ix0 = 1#1) (b : Fin 4) (k : Fin 256) (j : Fin 512) :
    ∃ r : ℝ, x (ix3 b k (⟨j.val, by omega⟩ : Fin 1024)) = (r : EReal) := by
  unfold halfK at h
  rw [Host.reduce_eq_fold] at h
  have h1 := Pre_finite_scores.fold_and_one _ _ _ h (ix3 b k j) (by
    rw [Finset.mem_filter]; exact ⟨Finset.mem_univ _, funext fun a => Fin.elim0 a⟩)
  refine Pre_finite_memory_scores.real_of_abs _ (Eq.trans ?_ h1)
  pointwise

theorem real (A C : FVec Ideal S16384x1024 .bf16) (H : FVec Ideal S16384x3200 .bf16) (M : FVec Ideal S4x256x1024 .bf16) (W : FVec Ideal S2560x1024 .f32)
    (X : FVec Ideal S16384x1024 .f32) (G B : FVec Ideal S1024 .f32) (h : fn (F := Ideal) A C H M W X G B = fun _ => 1#1) :
    (∀ (i : Fin 16384) (j : Fin 512), ∃ r : ℝ, H (ix2 i (⟨2048 + j.val, by omega⟩ : Fin 3200)) = (r : EReal))
      ∧ ∀ (b : Fin 4) (k : Fin 256) (j : Fin 512), ∃ r : ℝ, M (ix3 b k (⟨j.val, by omega⟩ : Fin 1024)) = (r : EReal) := by
  have and_one : ∀ x y : BitVec 1, IntOp.andi x y = 1#1 → x = 1#1 ∧ y = 1#1 := by decide
  obtain ⟨hQ, hK⟩ := and_one (halfQ H ix0) (halfK M ix0) (congrFun h ix0)
  exact ⟨halfQ_real H hQ, halfK_real M hK⟩

end Cert.Pre_finite_memory_scores_even
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.MemKv
public import proofs.«01_k».proof.Proof.InConv
public import proofs.«01_k».proof.Proof.ConvOut
public import proofs.«01_k».proof.Proof.MlaOut
public import proofs.«01_k».proof.Proof.MlaPre
public import proofs.«01_k».proof.Proof.InProj
public import proofs.«01_k».proof.Proof.Glu
public import proofs.«01_k».proof.Proof.Gen.InProj
public import proofs.«01_k».proof.Proof.Gen.InProj.Skeleton
public import proofs.«01_k».proof.Proof.Gen.InProj.Launch
public import proofs.«01_k».proof.Proof.Gen.InProj.Points
public import proofs.«01_k».proof.Proof.Gen.InProj.Frame
public import proofs.«01_k».proof.Proof.Gen.InProjIdeal
public import proofs.«01_k».proof.Proof.Gen.InProjIdeal.Skeleton
public import proofs.«01_k».proof.Proof.Gen.InProjIdeal.Launch
public import proofs.«01_k».proof.Proof.Gen.InProjIdeal.Points
public import proofs.«01_k».proof.Proof.Gen.InProjIdeal.Frame
public import proofs.«01_k».proof.Proof.Gen.InProjIdeal.Value
public import proofs.«01_k».proof.Proof.Gen.InProjRefIdeal
public import proofs.«01_k».proof.Proof.Gen.InProjRefIdeal.Run
public import proofs.«01_k».proof.Proof.Gen.Glu
public import proofs.«01_k».proof.Proof.Gen.Glu.Skeleton
public import proofs.«01_k».proof.Proof.Gen.Glu.Launch
public import proofs.«01_k».proof.Proof.Gen.Glu.Points
public import proofs.«01_k».proof.Proof.Gen.Glu.Frame
public import proofs.«01_k».proof.Proof.Gen.GluIdeal
public import proofs.«01_k».proof.Proof.Gen.GluIdeal.Skeleton
public import proofs.«01_k».proof.Proof.Gen.GluIdeal.Launch
public import proofs.«01_k».proof.Proof.Gen.GluIdeal.Points
public import proofs.«01_k».proof.Proof.Gen.GluIdeal.Frame
public import proofs.«01_k».proof.Proof.Gen.GluIdeal.Value
public import proofs.«01_k».proof.Proof.Gen.GluRefIdeal
public import proofs.«01_k».proof.Proof.Gen.GluRefIdeal.Run
public import proofs.«01_k».proof.Proof.Gen.MemKv
public import proofs.«01_k».proof.Proof.Gen.MemKv.Skeleton
public import proofs.«01_k».proof.Proof.Gen.MemKv.Launch
public import proofs.«01_k».proof.Proof.Gen.MemKv.Points
public import proofs.«01_k».proof.Proof.Gen.MemKv.Frame
public import proofs.«01_k».proof.Proof.Gen.MemKvIdeal
public import proofs.«01_k».proof.Proof.Gen.MemKvIdeal.Skeleton
public import proofs.«01_k».proof.Proof.Gen.MemKvIdeal.Launch
public import proofs.«01_k».proof.Proof.Gen.MemKvIdeal.Points
public import proofs.«01_k».proof.Proof.Gen.MemKvIdeal.Frame
public import proofs.«01_k».proof.Proof.Gen.MemKvIdeal.Value
public import proofs.«01_k».proof.Proof.Gen.MemKvRefIdeal
public import proofs.«01_k».proof.Proof.Gen.InConv
public import proofs.«01_k».proof.Proof.Gen.InConv.Skeleton
public import proofs.«01_k».proof.Proof.Gen.InConv.Launch
public import proofs.«01_k».proof.Proof.Gen.InConv.Points
public import proofs.«01_k».proof.Proof.Gen.InConv.Frame
public import proofs.«01_k».proof.Proof.Gen.InConvIdeal
public import proofs.«01_k».proof.Proof.Gen.InConvIdeal.Skeleton
public import proofs.«01_k».proof.Proof.Gen.InConvIdeal.Launch
public import proofs.«01_k».proof.Proof.Gen.InConvIdeal.Points
public import proofs.«01_k».proof.Proof.Gen.InConvIdeal.Frame
public import proofs.«01_k».proof.Proof.Gen.InConvIdeal.Value
public import proofs.«01_k».proof.Proof.Gen.InConvRefIdeal
public import proofs.«01_k».proof.Proof.Gen.InConvRefIdeal.Run
public import proofs.«01_k».proof.Proof.Gen.MlaProj
public import proofs.«01_k».proof.Proof.Gen.MlaProj.Skeleton
public import proofs.«01_k».proof.Proof.Gen.MlaProj.Launch
public import proofs.«01_k».proof.Proof.Gen.MlaProj.Points
public import proofs.«01_k».proof.Proof.Gen.MlaProj.Frame
public import proofs.«01_k».proof.Proof.Gen.MlaProjIdeal
public import proofs.«01_k».proof.Proof.Gen.MlaProjIdeal.Skeleton
public import proofs.«01_k».proof.Proof.Gen.MlaProjIdeal.Launch
public import proofs.«01_k».proof.Proof.Gen.MlaProjIdeal.Points
public import proofs.«01_k».proof.Proof.Gen.MlaProjIdeal.Frame
public import proofs.«01_k».proof.Proof.Gen.MlaProjIdeal.Value
public import proofs.«01_k».proof.Proof.Gen.MlaProjRefIdeal
public import proofs.«01_k».proof.Proof.Gen.MlaProjRefIdeal.Run
public import proofs.«01_k».proof.Proof.Gen.OddOut
public import proofs.«01_k».proof.Proof.Gen.OddOut.Skeleton
public import proofs.«01_k».proof.Proof.Gen.OddOut.Launch
public import proofs.«01_k».proof.Proof.Gen.OddOut.Points
public import proofs.«01_k».proof.Proof.Gen.OddOut.Frame
public import proofs.«01_k».proof.Proof.Gen.OddOutIdeal
public import proofs.«01_k».proof.Proof.Gen.OddOutIdeal.Skeleton
public import proofs.«01_k».proof.Proof.Gen.OddOutIdeal.Launch
public import proofs.«01_k».proof.Proof.Gen.OddOutIdeal.Points
public import proofs.«01_k».proof.Proof.Gen.OddOutIdeal.Frame
public import proofs.«01_k».proof.Proof.Gen.OddOutIdeal.Value
public import proofs.«01_k».proof.Proof.Gen.OddOutRefIdeal
public import proofs.«01_k».proof.Proof.Gen.OddOutRefIdeal.Run
public import proofs.«01_k».proof.Proof.Gen.EvenOut
public import proofs.«01_k».proof.Proof.Gen.EvenOut.Skeleton
public import proofs.«01_k».proof.Proof.Gen.EvenOut.Launch
public import proofs.«01_k».proof.Proof.Gen.EvenOut.Points
public import proofs.«01_k».proof.Proof.Gen.EvenOut.Frame
public import proofs.«01_k».proof.Proof.Gen.EvenOutIdeal
public import proofs.«01_k».proof.Proof.Gen.EvenOutIdeal.Skeleton
public import proofs.«01_k».proof.Proof.Gen.EvenOutIdeal.Launch
public import proofs.«01_k».proof.Proof.Gen.EvenOutIdeal.Points
public import proofs.«01_k».proof.Proof.Gen.EvenOutIdeal.Frame
public import proofs.«01_k».proof.Proof.Gen.EvenOutIdeal.Value
public import proofs.«01_k».proof.Proof.Gen.EvenOutRefIdeal
public import proofs.«01_k».proof.Proof.Gen.EvenOutRefIdeal.Run
public import proofs.«01_k».proof.Proof.Gen.MemKvRefIdeal.Run
public import proofs.«01_k».proof.Proof.Block
public import proofs.«01_k».proof.Proof.OddBlock
public import proofs.«01_k».proof.Proof.OddPre
public import proofs.«01_k».proof.Proof.EvenBlock
public import proofs.«01_k».proof.Proof.EvenPre
public import proofs.«01_k».proof.Proof.Pre
public import Idealize.ShloMosaic.Adequacy
public import Idealize.ShloMosaic.Init

@[expose] public section

noncomputable section

namespace Cert.Proof

open Idealize.ShloMosaic Idealize.SL.Sem

theorem frame_kernel : Cert.quiescent_Kernel := fun m ρ _ => Cert.Kernel.Gen.frame m ρ

theorem frame_kernelIdeal : Cert.quiescent_KernelIdeal := fun m ρ _ => Cert.KernelIdeal.Gen.frame m ρ

theorem frame_kernelIdeal_pre : Cert.quiescent_KernelIdeal_pre_finite_scores := fun m ρ _ => Cert.KernelIdeal.Gen.frame m ρ

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem frame_reference_pre : Cert.quiescent_ReferenceIdeal_pre_finite_scores := fun m ρ _ => frame_reference m ρ trivial

theorem attention_algebraic : Cert.algebraic_KernelIdeal_ReferenceIdeal_pre_finite_scores := by
  intro m ρ m' ρ' hpre hargs
  have hfinal (c : Dev Cert.KernelIdeal.nD) := Cert.KernelIdeal.Att.final m c (fun b h i k =>
    Cert.Pre_finite_scores.scores_real _ _ _ _ (hpre c) b h i k)
  refine ⟨fun c => Cert.ReferenceIdeal.Att.attention (Cert.KernelIdeal.Att.Qa m c) (Cert.KernelIdeal.Att.Ka m c)
    (Cert.KernelIdeal.Att.Va m c) (Cert.KernelIdeal.Att.Ha m c), ?_, ?_⟩
  · refine (θ_run _ _ _).mono (fun r h c => ?_) (Cert.KernelIdeal.Value.run_blocks m ρ)
    obtain ⟨h0, h1⟩ := h c
    exact ⟨h0.trans (hfinal c), h1⟩
  · refine (θ_run _ _ _).mono (fun r h c => ?_) (Cert.ReferenceIdeal.Value.run m' ρ')
    obtain ⟨h0, h1⟩ := h c
    obtain ⟨a0, a1, a2, a3⟩ := hargs c
    refine ⟨h0.trans ?_, h1⟩
    rw [a0, a1, a2, a3]
    rfl

theorem frame_inProj : Cert.quiescent_InProj := fun m ρ _ => Cert.InProj.Gen.frame m ρ

theorem frame_inProjIdeal : Cert.quiescent_InProjIdeal := fun m ρ _ => Cert.InProjIdeal.Gen.frame m ρ

theorem frame_inProjRef : Cert.quiescent_InProjRefIdeal := fun m ρ _ =>
  (θ_run Cert.InProjRefIdeal.defs _ _).mono (fun r h => ⟨fun c => (h c).2.2, sem_eq_zero_of_no_sems (by decide) r.2⟩)
    (Cert.InProjRefIdeal.Value.run (F := Ideal) m ρ)

theorem frame_glu : Cert.quiescent_Glu := fun m ρ _ => Cert.Glu.Gen.frame m ρ

theorem frame_gluIdeal : Cert.quiescent_GluIdeal := fun m ρ _ => Cert.GluIdeal.Gen.frame m ρ

theorem frame_gluRef : Cert.quiescent_GluRefIdeal := fun m ρ _ =>
  (θ_run Cert.GluRefIdeal.defs _ _).mono (fun r h => ⟨fun c => (h c).2, sem_eq_zero_of_no_sems (by decide) r.2⟩)
    (Cert.GluRefIdeal.Value.run (F := Ideal) m ρ)

theorem frame_memKv : Cert.quiescent_MemKv := fun m ρ _ => Cert.MemKv.Gen.frame m ρ

theorem frame_memKvIdeal : Cert.quiescent_MemKvIdeal := fun m ρ _ => Cert.MemKvIdeal.Gen.frame m ρ

theorem frame_memKvRef : Cert.quiescent_MemKvRefIdeal := fun m ρ _ =>
  (θ_run Cert.MemKvRefIdeal.defs _ _).mono (fun r h => ⟨fun c => (h c).2, sem_eq_zero_of_no_sems (by decide) r.2⟩)
    (Cert.MemKvRefIdeal.Value.run (F := Ideal) m ρ)

theorem inProj_algebraic : Cert.algebraic_InProjIdeal_InProjRefIdeal := by
  intro m ρ m' ρ' _ hargs
  refine ⟨fun c => Cert.InProjRefIdeal.Prod.outU (Cert.InProjIdeal.Prod.Xa m c) (Cert.InProjIdeal.Prod.Wa m c),
    fun c => Cert.InProjRefIdeal.Prod.outH (Cert.InProjIdeal.Prod.Xa m c) (Cert.InProjIdeal.Prod.Wa m c), ?_, ?_⟩
  · refine (θ_run _ _ _).mono (fun r h c => ?_) (Cert.InProjIdeal.Value.run_blocks m ρ)
    obtain ⟨h0, h1, h2⟩ := h c
    exact ⟨h0.trans (Cert.InProjIdeal.Prod.finalU m c), h1.trans (Cert.InProjIdeal.Prod.finalH m c), h2⟩
  · refine (θ_run _ _ _).mono (fun r h c => ?_) (Cert.InProjRefIdeal.Value.run m' ρ')
    obtain ⟨h0, h1, h2⟩ := h c
    obtain ⟨a0, a1⟩ := hargs c
    refine ⟨h0.trans ?_, h1.trans ?_, h2⟩ <;> rw [a0, a1] <;> rfl

theorem glu_algebraic : Cert.algebraic_GluIdeal_GluRefIdeal := by
  intro m ρ m' ρ' _ hargs
  refine ⟨fun c => Cert.GluRefIdeal.Unit.out (Cert.GluIdeal.Unit.Ga m c) (Cert.GluIdeal.Unit.Wa m c) (Cert.GluIdeal.Unit.Ha m c), ?_, ?_⟩
  · refine (θ_run _ _ _).mono (fun r h c => ?_) (Cert.GluIdeal.Value.run_blocks m ρ)
    obtain ⟨h0, h1⟩ := h c
    exact ⟨h0.trans (Cert.GluIdeal.Unit.final m c), h1⟩
  · refine (θ_run _ _ _).mono (fun r h c => ?_) (Cert.GluRefIdeal.Value.run m' ρ')
    obtain ⟨h0, h1⟩ := h c
    obtain ⟨a0, a1, a2⟩ := hargs c
    refine ⟨h0.trans ?_, h1⟩
    rw [a0, a1, a2]
    rfl

theorem memKv_algebraic : Cert.algebraic_MemKvIdeal_MemKvRefIdeal := by
  intro m ρ m' ρ' _ hargs
  refine ⟨fun c => Cert.MemKvRefIdeal.Prod.out (Cert.MemKvIdeal.Prod.Aa m c) (Cert.MemKvIdeal.Prod.Wa m c), ?_, ?_⟩
  · refine (θ_run _ _ _).mono (fun r h c => ?_) (Cert.MemKvIdeal.Value.run_blocks m ρ)
    obtain ⟨h0, h1⟩ := h c
    exact ⟨h0.trans (Cert.MemKvIdeal.Prod.final m c), h1⟩
  · refine (θ_run _ _ _).mono (fun r h c => ?_) (Cert.MemKvRefIdeal.Value.run m' ρ')
    obtain ⟨h0, h1⟩ := h c
    obtain ⟨a0, a1⟩ := hargs c
    refine ⟨h0.trans ?_, h1⟩
    rw [a0, a1]
    rfl

theorem frame_oddOut : Cert.quiescent_OddOut := fun m ρ _ => Cert.OddOut.Gen.frame m ρ

theorem frame_oddOutIdeal : Cert.quiescent_OddOutIdeal := fun m ρ _ => Cert.OddOutIdeal.Gen.frame m ρ

theorem frame_oddOutIdeal_pre : Cert.quiescent_OddOutIdeal_pre_finite_memory_scores := fun m ρ _ => Cert.OddOutIdeal.Gen.frame m ρ

theorem frame_oddOutRef : Cert.quiescent_OddOutRefIdeal := fun m ρ _ =>
  (θ_run Cert.OddOutRefIdeal.defs _ _).mono (fun r h => ⟨fun c => (h c).2, sem_eq_zero_of_no_sems (by decide) r.2⟩)
    (Cert.OddOutRefIdeal.Value.run (F := Ideal) m ρ)

theorem frame_oddOutRef_pre : Cert.quiescent_OddOutRefIdeal_pre_finite_memory_scores := fun m ρ _ => frame_oddOutRef m ρ trivial

theorem oddOut_preserves : Cert.preserves_OddOut_OddOutIdeal :=
  IdealRules.named_const.statement Cert.OddOutIdeal.κ "mem_scale" .f32 0x3E0293EE#32 (((Real.sqrt 128)⁻¹ * (Real.log 2)⁻¹ : ℝ) : EReal) rfl

theorem oddOut_algebraic : Cert.algebraic_OddOutIdeal_OddOutRefIdeal_pre_finite_memory_scores := by
  intro m ρ m' ρ' hpre hargs
  have hfinal (c : Dev Cert.OddOutIdeal.nD) := by
    obtain ⟨hq, hk⟩ := Cert.Pre_finite_memory_scores.real _ _ _ _ _ _ _ (hpre c)
    exact Cert.OddOutIdeal.Out.final m c hq (fun _ k j => hk _ k j)
  refine ⟨fun c => Cert.OddOutIdeal.Out.ref m c, ?_, ?_⟩
  · refine (θ_run _ _ _).mono (fun r h c => ?_) (Cert.OddOutIdeal.Value.run_blocks m ρ)
    obtain ⟨h0, h1⟩ := h c
    exact ⟨h0.trans (hfinal c), h1⟩
  · refine (θ_run _ _ _).mono (fun r h c => ?_) (Cert.OddOutRefIdeal.Value.run m' ρ')
    obtain ⟨h0, h1⟩ := h c
    obtain ⟨a0, a1, a2, a3, a4, a5, a6⟩ := hargs c
    refine ⟨h0.trans ((Cert.OddOutRefIdeal.Out.res_eq m' c).trans ?_), h1⟩
    rw [a0, a1, a2, a3, a4, a5, a6]

theorem frame_evenOut : Cert.quiescent_EvenOut := fun m ρ _ => Cert.EvenOut.Gen.frame m ρ

theorem frame_evenOutIdeal : Cert.quiescent_EvenOutIdeal := fun m ρ _ => Cert.EvenOutIdeal.Gen.frame m ρ

theorem frame_evenOutIdeal_pre : Cert.quiescent_EvenOutIdeal_pre_finite_memory_scores_even := fun m ρ _ => Cert.EvenOutIdeal.Gen.frame m ρ

theorem frame_evenOutRef : Cert.quiescent_EvenOutRefIdeal := fun m ρ _ =>
  (θ_run Cert.EvenOutRefIdeal.defs _ _).mono (fun r h => ⟨fun c => (h c).2, sem_eq_zero_of_no_sems (by decide) r.2⟩)
    (Cert.EvenOutRefIdeal.Value.run (F := Ideal) m ρ)

theorem frame_evenOutRef_pre : Cert.quiescent_EvenOutRefIdeal_pre_finite_memory_scores_even := fun m ρ _ => frame_evenOutRef m ρ trivial

theorem evenOut_preserves : Cert.preserves_EvenOut_EvenOutIdeal :=
  IdealRules.named_const.statement Cert.EvenOutIdeal.κ "mem_scale" .f32 0x3E0293EE#32 (((Real.sqrt 128)⁻¹ * (Real.log 2)⁻¹ : ℝ) : EReal) rfl

theorem evenOut_algebraic : Cert.algebraic_EvenOutIdeal_EvenOutRefIdeal_pre_finite_memory_scores_even := by
  intro m ρ m' ρ' hpre hargs
  have hfinal (c : Dev Cert.EvenOutIdeal.nD) := by
    obtain ⟨hq, hk⟩ := Cert.Pre_finite_memory_scores_even.real _ _ _ _ _ _ _ _ (hpre c)
    exact Cert.EvenOutIdeal.Out.final m c hq (fun _ k j => hk _ k j)
  refine ⟨fun c => Cert.EvenOutIdeal.Out.ref m c, ?_, ?_⟩
  · refine (θ_run _ _ _).mono (fun r h c => ?_) (Cert.EvenOutIdeal.Value.run_blocks m ρ)
    obtain ⟨h0, h1⟩ := h c
    exact ⟨h0.trans (hfinal c), h1⟩
  · refine (θ_run _ _ _).mono (fun r h c => ?_) (Cert.EvenOutRefIdeal.Value.run m' ρ')
    obtain ⟨h0, h1⟩ := h c
    obtain ⟨a0, a1, a2, a3, a4, a5, a6, a7⟩ := hargs c
    refine ⟨h0.trans ((Cert.EvenOutRefIdeal.Out.res_eq m' c).trans ?_), h1⟩
    rw [a0, a1, a2, a3, a4, a5, a6, a7]

theorem frame_mlaProj : Cert.quiescent_MlaProj := fun m ρ _ => Cert.MlaProj.Gen.frame m ρ

theorem frame_mlaProjIdeal : Cert.quiescent_MlaProjIdeal := fun m ρ _ => Cert.MlaProjIdeal.Gen.frame m ρ

theorem frame_mlaProjIdeal_pre : Cert.quiescent_MlaProjIdeal_pre_zero_padding := fun m ρ _ => Cert.MlaProjIdeal.Gen.frame m ρ

theorem frame_mlaProjRef : Cert.quiescent_MlaProjRefIdeal := fun m ρ _ =>
  (θ_run Cert.MlaProjRefIdeal.defs _ _).mono (fun r h => ⟨fun c => (h c).2.2.2, sem_eq_zero_of_no_sems (by decide) r.2⟩)
    (Cert.MlaProjRefIdeal.Value.run (F := Ideal) m ρ)

theorem frame_mlaProjRef_pre : Cert.quiescent_MlaProjRefIdeal_pre_zero_padding := fun m ρ _ => frame_mlaProjRef m ρ trivial

theorem mlaProj_preserves : Cert.preserves_MlaProj_MlaProjIdeal :=
  IdealRules.named_const.statement Cert.MlaProjIdeal.κ "qk_scale" .f32 0x3DD53B95#32 (((Real.sqrt 192)⁻¹ * (Real.log 2)⁻¹ : ℝ) : EReal) rfl

theorem mlaProj_algebraic : Cert.algebraic_MlaProjIdeal_MlaProjRefIdeal_pre_zero_padding := by
  intro m ρ m' ρ' hpre hargs
  have hz (c : Dev Cert.MlaProjIdeal.nD) := Cert.Pre_zero_padding.zero _ _ _ _ _ _ (hpre c)
  refine ⟨fun c => Cert.MlaProjIdeal.Out.refQ m c, fun c => Cert.MlaProjIdeal.Out.refK m c, fun c => Cert.MlaProjIdeal.Out.refV m c, ?_, ?_⟩
  · refine (θ_run _ _ _).mono (fun r h c => ?_) (Cert.MlaProjIdeal.Value.run_blocks m ρ)
    obtain ⟨h0, h1, h2, h3⟩ := h c
    exact ⟨h0.trans (Cert.MlaProjIdeal.Out.finalQ m c), h1.trans (Cert.MlaProjIdeal.Out.finalK m c (hz c)), h2.trans (Cert.MlaProjIdeal.Out.finalV m c), h3⟩
  · refine (θ_run _ _ _).mono (fun r h c => ?_) (Cert.MlaProjRefIdeal.Value.run m' ρ')
    obtain ⟨h0, h1, h2, h3⟩ := h c
    obtain ⟨a0, a1, a2, a3, a4, a5⟩ := hargs c
    refine ⟨h0.trans ((Cert.MlaProjRefIdeal.Out.resQ m' c).trans ?_), h1.trans ((Cert.MlaProjRefIdeal.Out.resK m' c).trans ?_), h2.trans ?_, h3⟩
    · rw [a0, a1, a2, a3]
    · rw [a0, a1, a4, a5]
    · rw [a0, a4, a5]
      rfl

theorem frame_inConv : Cert.quiescent_InConv := fun m ρ _ => Cert.InConv.Gen.frame m ρ

theorem frame_inConvIdeal : Cert.quiescent_InConvIdeal := fun m ρ _ => Cert.InConvIdeal.Gen.frame m ρ

theorem frame_inConvRef : Cert.quiescent_InConvRefIdeal := fun m ρ _ =>
  (θ_run Cert.InConvRefIdeal.defs _ _).mono (fun r h => ⟨fun c => (h c).2.2, sem_eq_zero_of_no_sems (by decide) r.2⟩)
    (Cert.InConvRefIdeal.Value.run (F := Ideal) m ρ)

theorem inConv_algebraic : Cert.algebraic_InConvIdeal_InConvRefIdeal := by
  intro m ρ m' ρ' _ hargs
  refine ⟨fun c => Cert.InConvRefIdeal.Prod.rows (Cert.InConvIdeal.Prod.Xa m c) (Cert.InConvIdeal.Prod.Wa m c), fun c => Cert.InConvIdeal.Prod.result m c, ?_, ?_⟩
  · refine (θ_run _ _ _).mono (fun r h c => ?_) (Cert.InConvIdeal.Value.run_blocks m ρ)
    obtain ⟨h0, h1, h2⟩ := h c
    exact ⟨h0.trans (Cert.InConvIdeal.Prod.final m c), h1.trans (Cert.InConvIdeal.Prod.finalC m c), h2⟩
  · refine (θ_run _ _ _).mono (fun r h c => ?_) (Cert.InConvRefIdeal.Value.run m' ρ')
    obtain ⟨h0, h1, h2⟩ := h c
    obtain ⟨a0, a1, a2, a3, a4, a5⟩ := hargs c
    refine ⟨h0.trans ?_, h1.trans (Cert.InConvIdeal.Prod.reference m c (StableHlo.launchContents m' c) ?_), h2⟩
    · show Cert.InConvRefIdeal.Prod.rows (m' ((c.tc : Thread Cert.InConvRefIdeal.nD Cert.InConvRefIdeal.τ).loc Cert.InConvRefIdeal.main_arg0)) (m' ((c.tc : Thread Cert.InConvRefIdeal.nD Cert.InConvRefIdeal.τ).loc Cert.InConvRefIdeal.main_arg1)) = _
      rw [a0, a1]
    · show Cert.InConvRefIdeal.Branch.argsOf (m' ((c.tc : Thread Cert.InConvRefIdeal.nD Cert.InConvRefIdeal.τ).loc Cert.InConvRefIdeal.main_arg0)) (m' ((c.tc : Thread Cert.InConvRefIdeal.nD Cert.InConvRefIdeal.τ).loc Cert.InConvRefIdeal.main_arg1)) (m' ((c.tc : Thread Cert.InConvRefIdeal.nD Cert.InConvRefIdeal.τ).loc Cert.InConvRefIdeal.main_arg2)) (m' ((c.tc : Thread Cert.InConvRefIdeal.nD Cert.InConvRefIdeal.τ).loc Cert.InConvRefIdeal.main_arg3)) (m' ((c.tc : Thread Cert.InConvRefIdeal.nD Cert.InConvRefIdeal.τ).loc Cert.InConvRefIdeal.main_arg4)) (m' ((c.tc : Thread Cert.InConvRefIdeal.nD Cert.InConvRefIdeal.τ).loc Cert.InConvRefIdeal.main_arg5)) = _
      rw [a0, a1, a2, a3, a4, a5]

theorem claim : Cert.Claim := ⟨Cert.Kernel.Gen.facts, Cert.KernelIdeal.Gen.facts, Cert.ReferenceIdeal.Gen.facts,
  Cert.InProj.Gen.facts, Cert.InProjIdeal.Gen.facts, Cert.InProjRefIdeal.Gen.facts,
  Cert.Glu.Gen.facts, Cert.GluIdeal.Gen.facts, Cert.GluRefIdeal.Gen.facts,
  Cert.MemKv.Gen.facts, Cert.MemKvIdeal.Gen.facts, Cert.MemKvRefIdeal.Gen.facts,
  Cert.OddOut.Gen.facts, Cert.OddOutIdeal.Gen.facts, Cert.OddOutRefIdeal.Gen.facts,
  Cert.EvenOut.Gen.facts, Cert.EvenOutIdeal.Gen.facts, Cert.EvenOutRefIdeal.Gen.facts,
  Cert.MlaProj.Gen.facts, Cert.MlaProjIdeal.Gen.facts, Cert.MlaProjRefIdeal.Gen.facts,
  Cert.InConv.Gen.facts, Cert.InConvIdeal.Gen.facts, Cert.InConvRefIdeal.Gen.facts,
  Cert.Pre_finite_scores.facts, Cert.Pre_finite_memory_scores.facts, Cert.Pre_finite_memory_scores_even.facts, Cert.Pre_zero_padding.facts,
  frame_kernel, frame_kernelIdeal, frame_kernelIdeal_pre, frame_reference, frame_reference_pre,
  frame_inProj, frame_inProjIdeal, frame_inProjRef, frame_glu, frame_gluIdeal, frame_gluRef,
  frame_memKv, frame_memKvIdeal, frame_memKvRef,
  frame_oddOut, frame_oddOutIdeal, frame_oddOutIdeal_pre, frame_oddOutRef, frame_oddOutRef_pre,
  frame_evenOut, frame_evenOutIdeal, frame_evenOutIdeal_pre, frame_evenOutRef, frame_evenOutRef_pre,
  frame_mlaProj, frame_mlaProjIdeal, frame_mlaProjIdeal_pre, frame_mlaProjRef, frame_mlaProjRef_pre,
  frame_inConv, frame_inConvIdeal, frame_inConvRef,
  trivial, attention_algebraic, trivial, inProj_algebraic, trivial, glu_algebraic, trivial, memKv_algebraic,
  oddOut_preserves, oddOut_algebraic, evenOut_preserves, evenOut_algebraic,
  mlaProj_preserves, mlaProj_algebraic, trivial, inConv_algebraic⟩

end Cert.Proof

end
